-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_MoeUp [hPre_up_tables : Cert.Pre_up_tables.Facts] (m : (ℓ : Loc Cert.MoeUp.nD Cert.MoeUp.τ Cert.MoeUp.sig) → Buf (Elt Bits) ℓ) : Prop :=
  ∀ c : Dev Cert.MoeUp.nD,
    (Cert.Pre_up_tables.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))).1 = (fun _ => 1#1)
    ∧ (Cert.Pre_up_tables.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))).2 = (fun _ => 1#1)

def Pre_MoeUpIdeal [hPre_up_tables : Cert.Pre_up_tables.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_up_tables.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))).1 = (fun _ => 1#1)
    ∧ (Cert.Pre_up_tables.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))).2 = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_up_tables [hPre_up_tables : Cert.Pre_up_tables.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_up_tables.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4))).1 = (fun _ => 1#1)
    ∧ (Cert.Pre_up_tables.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4))).2 = (fun _ => 1#1)

def Pre_MoeDown [hPre_down_tables : Cert.Pre_down_tables.Facts] (m : (ℓ : Loc Cert.MoeDown.nD Cert.MoeDown.τ Cert.MoeDown.sig) → Buf (Elt Bits) ℓ) : Prop :=
  ∀ c : Dev Cert.MoeDown.nD,
    (Cert.Pre_down_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4))).1 = (fun _ => 1#1)
    ∧ (Cert.Pre_down_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4))).2 = (fun _ => 1#1)

def Pre_MoeDownIdeal [hPre_down_tables : Cert.Pre_down_tables.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_down_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4))).1 = (fun _ => 1#1)
    ∧ (Cert.Pre_down_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4))).2 = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_down_tables [hPre_down_tables : Cert.Pre_down_tables.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_down_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4))).1 = (fun _ => 1#1)
    ∧ (Cert.Pre_down_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4))).2 = (fun _ => 1#1)

def Pre_Combine [hPre_row_numbers : Cert.Pre_row_numbers.Facts] (m : (ℓ : Loc Cert.Combine.nD Cert.Combine.τ Cert.Combine.sig) → Buf (Elt Bits) ℓ) : Prop :=
  ∀ c : Dev Cert.Combine.nD,
    (Cert.Pre_row_numbers.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_row_numbers : Cert.Pre_row_numbers.Facts] (m : (ℓ : Loc Cert.CombineIdeal.nD Cert.CombineIdeal.τ Cert.CombineIdeal.sig) → Buf (Elt Ideal) ℓ) : Prop :=
  ∀ c : Dev Cert.CombineIdeal.nD,
    (Cert.Pre_row_numbers.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_row_numbers [hPre_row_numbers : Cert.Pre_row_numbers.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_row_numbers.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjKr (m : (ℓ : Loc Cert.InProjKr.nD Cert.InProjKr.τ Cert.InProjKr.sig) → Buf (Elt Bits) ℓ) : Prop :=
  True

def Pre_InProjKrIdeal (m : (ℓ : Loc Cert.InProjKrIdeal.nD Cert.InProjKrIdeal.τ Cert.InProjKrIdeal.sig) → Buf (Elt Ideal) ℓ) : Prop :=
  True

def Pre_InProjKrRefIdeal (m : (ℓ : Loc Cert.InProjKrRefIdeal.nD Cert.InProjKrRefIdeal.τ Cert.InProjKrRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_CrossQ (m : (ℓ : Loc Cert.CrossQ.nD Cert.CrossQ.τ Cert.CrossQ.sig) → Buf (Elt Bits) ℓ) : Prop :=
  True

def Pre_CrossQIdeal (m : (ℓ : Loc Cert.CrossQIdeal.nD Cert.CrossQIdeal.τ Cert.CrossQIdeal.sig) → Buf (Elt Ideal) ℓ) : Prop :=
  True

def Pre_CrossQRefIdeal (m : (ℓ : Loc Cert.CrossQRefIdeal.nD Cert.CrossQRefIdeal.τ Cert.CrossQRefIdeal.sig) → Buf (Elt Ideal) ℓ) : Prop :=
  True

def Pre_CrossO (m : (ℓ : Loc Cert.CrossO.nD Cert.CrossO.τ Cert.CrossO.sig) → Buf (Elt Bits) ℓ) : Prop :=
  True

def Pre_CrossOIdeal (m : (ℓ : Loc Cert.CrossOIdeal.nD Cert.CrossOIdeal.τ Cert.CrossOIdeal.sig) → Buf (Elt Ideal) ℓ) : Prop :=
  True

def Pre_CrossORefIdeal (m : (ℓ : Loc Cert.CrossORefIdeal.nD Cert.CrossORefIdeal.τ Cert.CrossORefIdeal.sig) → Buf (Elt Ideal) ℓ) : Prop :=
  True

def Pre_MixOdd (m : (ℓ : Loc Cert.MixOdd.nD Cert.MixOdd.τ Cert.MixOdd.sig) → Buf (Elt Bits) ℓ) : Prop :=
  True

def Pre_MixOddIdeal (m : (ℓ : Loc Cert.MixOddIdeal.nD Cert.MixOddIdeal.τ Cert.MixOddIdeal.sig) → Buf (Elt Ideal) ℓ) : Prop :=
  True

def Pre_MixOddRefIdeal (m : (ℓ : Loc Cert.MixOddRefIdeal.nD Cert.MixOddRefIdeal.τ Cert.MixOddRefIdeal.sig) → Buf (Elt Ideal) ℓ) : Prop :=
  True

def Pre_MixEven (m : (ℓ : Loc Cert.MixEven.nD Cert.MixEven.τ Cert.MixEven.sig) → Buf (Elt Bits) ℓ) : Prop :=
  True

def Pre_MixEvenIdeal (m : (ℓ : Loc Cert.MixEvenIdeal.nD Cert.MixEvenIdeal.τ Cert.MixEvenIdeal.sig) → Buf (Elt Ideal) ℓ) : Prop :=
  True

def Pre_MixEvenRefIdeal (m : (ℓ : Loc Cert.MixEvenRefIdeal.nD Cert.MixEvenRefIdeal.τ Cert.MixEvenRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQRefIdeal (m : (ℓ : Loc Cert.NormQRefIdeal.nD Cert.NormQRefIdeal.τ Cert.NormQRefIdeal.sig) → Buf (Elt Ideal) ℓ) : Prop :=
  True

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvRefIdeal (m : (ℓ : Loc Cert.NormKvRefIdeal.nD Cert.NormKvRefIdeal.τ Cert.NormKvRefIdeal.sig) → Buf (Elt Ideal) ℓ) : Prop :=
  True

def Pre_CrossCore (m : (ℓ : Loc Cert.CrossCore.nD Cert.CrossCore.τ Cert.CrossCore.sig) → Buf (Elt Bits) ℓ) : Prop :=
  True

def Pre_CrossCoreIdeal (m : (ℓ : Loc Cert.CrossCoreIdeal.nD Cert.CrossCoreIdeal.τ Cert.CrossCoreIdeal.sig) → Buf (Elt Ideal) ℓ) : Prop :=
  True

def Pre_CrossCoreRefIdeal (m : (ℓ : Loc Cert.CrossCoreRefIdeal.nD Cert.CrossCoreRefIdeal.τ Cert.CrossCoreRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_MoeUp [hMoeUp : Cert.MoeUp.Facts] [hPre_up_tables : Cert.Pre_up_tables.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_up_tables : Cert.Pre_up_tables.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeUpRefIdeal_pre_up_tables [hMoeUpRefIdeal : Cert.MoeUpRefIdeal.Facts] [hPre_up_tables : Cert.Pre_up_tables.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_up_tables m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeDown [hMoeDown : Cert.MoeDown.Facts] [hPre_down_tables : Cert.Pre_down_tables.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4))
      ∧ r.2.sem = fun _ => 0)

def quiescent_MoeDownIdeal [hMoeDownIdeal : Cert.MoeDownIdeal.Facts] [hPre_down_tables : Cert.Pre_down_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4))
      ∧ r.2.sem = fun _ => 0)

def quiescent_MoeDownRefIdeal_pre_down_tables [hMoeDownRefIdeal : Cert.MoeDownRefIdeal.Facts] [hPre_down_tables : Cert.Pre_down_tables.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_down_tables m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4))
      ∧ r.2.sem = fun _ => 0)

def quiescent_Combine [hCombine : Cert.Combine.Facts] [hPre_row_numbers : Cert.Pre_row_numbers.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_row_numbers : Cert.Pre_row_numbers.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_CombineRefIdeal_pre_row_numbers [hCombineRefIdeal : Cert.CombineRefIdeal.Facts] [hPre_row_numbers : Cert.Pre_row_numbers.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_row_numbers m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjKr [hInProjKr : Cert.InProjKr.Facts] : Prop :=
  ∀ (m : (ℓ : Loc Cert.InProjKr.nD Cert.InProjKr.τ Cert.InProjKr.sig) → Buf (Elt Bits) ℓ) (g : Dev Cert.InProjKr.nD → PrngReg), Pre_InProjKr m →
    θ_run (Cert.InProjKr.defs (F := Bits)) (onTc (τ := Cert.InProjKr.τ) (Cert.InProjKr.main (F := Bits))) ⟨m, fun _ => 0, g⟩ (fun r => (∀ c : Dev Cert.InProjKr.nD,
      r.2.mem ((c.tc : Thread Cert.InProjKr.nD Cert.InProjKr.τ).loc Cert.InProjKr.main_arg0) = m ((c.tc : Thread Cert.InProjKr.nD Cert.InProjKr.τ).loc Cert.InProjKr.main_arg0)
      ∧ r.2.mem ((c.tc : Thread Cert.InProjKr.nD Cert.InProjKr.τ).loc Cert.InProjKr.main_arg1) = m ((c.tc : Thread Cert.InProjKr.nD Cert.InProjKr.τ).loc Cert.InProjKr.main_arg1))
      ∧ r.2.sem = fun _ => 0)

def quiescent_InProjKrIdeal [hInProjKrIdeal : Cert.InProjKrIdeal.Facts] : Prop :=
  ∀ (m : (ℓ : Loc Cert.InProjKrIdeal.nD Cert.InProjKrIdeal.τ Cert.InProjKrIdeal.sig) → Buf (Elt Ideal) ℓ) (g : Dev Cert.InProjKrIdeal.nD → PrngReg), Pre_InProjKrIdeal m →
    θ_run (Cert.InProjKrIdeal.defs (F := Ideal)) (onTc (τ := Cert.InProjKrIdeal.τ) (Cert.InProjKrIdeal.main (F := Ideal))) ⟨m, fun _ => 0, g⟩ (fun r => (∀ c : Dev Cert.InProjKrIdeal.nD,
      r.2.mem ((c.tc : Thread Cert.InProjKrIdeal.nD Cert.InProjKrIdeal.τ).loc Cert.InProjKrIdeal.main_arg0) = m ((c.tc : Thread Cert.InProjKrIdeal.nD Cert.InProjKrIdeal.τ).loc Cert.InProjKrIdeal.main_arg0)
      ∧ r.2.mem ((c.tc : Thread Cert.InProjKrIdeal.nD Cert.InProjKrIdeal.τ).loc Cert.InProjKrIdeal.main_arg1) = m ((c.tc : Thread Cert.InProjKrIdeal.nD Cert.InProjKrIdeal.τ).loc Cert.InProjKrIdeal.main_arg1))
      ∧ r.2.sem = fun _ => 0)

def quiescent_InProjKrRefIdeal [hInProjKrRefIdeal : Cert.InProjKrRefIdeal.Facts] : Prop :=
  ∀ (m : (ℓ : Loc Cert.InProjKrRefIdeal.nD Cert.InProjKrRefIdeal.τ Cert.InProjKrRefIdeal.sig) → Buf (Elt Ideal) ℓ) (g : Dev Cert.InProjKrRefIdeal.nD → PrngReg), Pre_InProjKrRefIdeal m →
    θ_run (Cert.InProjKrRefIdeal.defs (F := Ideal)) (onTc (τ := Cert.InProjKrRefIdeal.τ) (Cert.InProjKrRefIdeal.main (F := Ideal))) ⟨m, fun _ => 0, g⟩ (fun r => (∀ c : Dev Cert.InProjKrRefIdeal.nD,
      r.2.mem ((c.tc : Thread Cert.InProjKrRefIdeal.nD Cert.InProjKrRefIdeal.τ).loc Cert.InProjKrRefIdeal.main_arg0) = m ((c.tc : Thread Cert.InProjKrRefIdeal.nD Cert.InProjKrRefIdeal.τ).loc Cert.InProjKrRefIdeal.main_arg0)
      ∧ r.2.mem ((c.tc : Thread Cert.InProjKrRefIdeal.nD Cert.InProjKrRefIdeal.τ).loc Cert.InProjKrRefIdeal.main_arg1) = m ((c.tc : Thread Cert.InProjKrRefIdeal.nD Cert.InProjKrRefIdeal.τ).loc Cert.InProjKrRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_CrossQ [hCrossQ : Cert.CrossQ.Facts] : Prop :=
  ∀ (m : (ℓ : Loc Cert.CrossQ.nD Cert.CrossQ.τ Cert.CrossQ.sig) → Buf (Elt Bits) ℓ) (g : Dev Cert.CrossQ.nD → PrngReg), Pre_CrossQ m →
    θ_run (Cert.CrossQ.defs (F := Bits)) (onTc (τ := Cert.CrossQ.τ) (Cert.CrossQ.main (F := Bits))) ⟨m, fun _ => 0, g⟩ (fun r => (∀ c : Dev Cert.CrossQ.nD,
      r.2.mem ((c.tc : Thread Cert.CrossQ.nD Cert.CrossQ.τ).loc Cert.CrossQ.main_arg0) = m ((c.tc : Thread Cert.CrossQ.nD Cert.CrossQ.τ).loc Cert.CrossQ.main_arg0)
      ∧ r.2.mem ((c.tc : Thread Cert.CrossQ.nD Cert.CrossQ.τ).loc Cert.CrossQ.main_arg1) = m ((c.tc : Thread Cert.CrossQ.nD Cert.CrossQ.τ).loc Cert.CrossQ.main_arg1))
      ∧ r.2.sem = fun _ => 0)

def quiescent_CrossQIdeal [hCrossQIdeal : Cert.CrossQIdeal.Facts] : Prop :=
  ∀ (m : (ℓ : Loc Cert.CrossQIdeal.nD Cert.CrossQIdeal.τ Cert.CrossQIdeal.sig) → Buf (Elt Ideal) ℓ) (g : Dev Cert.CrossQIdeal.nD → PrngReg), Pre_CrossQIdeal m →
    θ_run (Cert.CrossQIdeal.defs (F := Ideal)) (onTc (τ := Cert.CrossQIdeal.τ) (Cert.CrossQIdeal.main (F := Ideal))) ⟨m, fun _ => 0, g⟩ (fun r => (∀ c : Dev Cert.CrossQIdeal.nD,
      r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
      ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ r.2.sem = fun _ => 0)

def quiescent_CrossQRefIdeal [hCrossQRefIdeal : Cert.CrossQRefIdeal.Facts] : Prop :=
  ∀ (m : (ℓ : Loc Cert.CrossQRefIdeal.nD Cert.CrossQRefIdeal.τ Cert.CrossQRefIdeal.sig) → Buf (Elt Ideal) ℓ) (g : Dev Cert.CrossQRefIdeal.nD → PrngReg), Pre_CrossQRefIdeal m →
    θ_run (Cert.CrossQRefIdeal.defs (F := Ideal)) (onTc (τ := Cert.CrossQRefIdeal.τ) (Cert.CrossQRefIdeal.main (F := Ideal))) ⟨m, fun _ => 0, g⟩ (fun r => (∀ c : Dev Cert.CrossQRefIdeal.nD,
      r.2.mem ((c.tc : Thread Cert.CrossQRefIdeal.nD Cert.CrossQRefIdeal.τ).loc Cert.CrossQRefIdeal.main_arg0) = m ((c.tc : Thread Cert.CrossQRefIdeal.nD Cert.CrossQRefIdeal.τ).loc Cert.CrossQRefIdeal.main_arg0)
      ∧ r.2.mem ((c.tc : Thread Cert.CrossQRefIdeal.nD Cert.CrossQRefIdeal.τ).loc Cert.CrossQRefIdeal.main_arg1) = m ((c.tc : Thread Cert.CrossQRefIdeal.nD Cert.CrossQRefIdeal.τ).loc Cert.CrossQRefIdeal.main_arg1))
      ∧ r.2.sem = fun _ => 0)

def quiescent_CrossO [hCrossO : Cert.CrossO.Facts] : Prop :=
  ∀ (m : (ℓ : Loc Cert.CrossO.nD Cert.CrossO.τ Cert.CrossO.sig) → Buf (Elt Bits) ℓ) (g : Dev Cert.CrossO.nD → PrngReg), Pre_CrossO m →
    θ_run (Cert.CrossO.defs (F := Bits)) (onTc (τ := Cert.CrossO.τ) (Cert.CrossO.main (F := Bits))) ⟨m, fun _ => 0, g⟩ (fun r => (∀ c : Dev Cert.CrossO.nD,
      r.2.mem ((c.tc : Thread Cert.CrossO.nD Cert.CrossO.τ).loc Cert.CrossO.main_arg0) = m ((c.tc : Thread Cert.CrossO.nD Cert.CrossO.τ).loc Cert.CrossO.main_arg0)
      ∧ r.2.mem ((c.tc : Thread Cert.CrossO.nD Cert.CrossO.τ).loc Cert.CrossO.main_arg1) = m ((c.tc : Thread Cert.CrossO.nD Cert.CrossO.τ).loc Cert.CrossO.main_arg1)
      ∧ r.2.mem ((c.tc : Thread Cert.CrossO.nD Cert.CrossO.τ).loc Cert.CrossO.main_arg2) = m ((c.tc : Thread Cert.CrossO.nD Cert.CrossO.τ).loc Cert.CrossO.main_arg2))
      ∧ r.2.sem = fun _ => 0)

def quiescent_CrossOIdeal [hCrossOIdeal : Cert.CrossOIdeal.Facts] : Prop :=
  ∀ (m : (ℓ : Loc Cert.CrossOIdeal.nD Cert.CrossOIdeal.τ Cert.CrossOIdeal.sig) → Buf (Elt Ideal) ℓ) (g : Dev Cert.CrossOIdeal.nD → PrngReg), Pre_CrossOIdeal m →
    θ_run (Cert.CrossOIdeal.defs (F := Ideal)) (onTc (τ := Cert.CrossOIdeal.τ) (Cert.CrossOIdeal.main (F := Ideal))) ⟨m, fun _ => 0, g⟩ (fun r => (∀ c : Dev Cert.CrossOIdeal.nD,
      r.2.mem ((c.tc : Thread Cert.CrossOIdeal.nD Cert.CrossOIdeal.τ).loc Cert.CrossOIdeal.main_arg0) = m ((c.tc : Thread Cert.CrossOIdeal.nD Cert.CrossOIdeal.τ).loc Cert.CrossOIdeal.main_arg0)
      ∧ r.2.mem ((c.tc : Thread Cert.CrossOIdeal.nD Cert.CrossOIdeal.τ).loc Cert.CrossOIdeal.main_arg1) = m ((c.tc : Thread Cert.CrossOIdeal.nD Cert.CrossOIdeal.τ).loc Cert.CrossOIdeal.main_arg1)
      ∧ r.2.mem ((c.tc : Thread Cert.CrossOIdeal.nD Cert.CrossOIdeal.τ).loc Cert.CrossOIdeal.main_arg2) = m ((c.tc : Thread Cert.CrossOIdeal.nD Cert.CrossOIdeal.τ).loc Cert.CrossOIdeal.main_arg2))
      ∧ r.2.sem = fun _ => 0)

def quiescent_CrossORefIdeal [hCrossORefIdeal : Cert.CrossORefIdeal.Facts] : Prop :=
  ∀ (m : (ℓ : Loc Cert.CrossORefIdeal.nD Cert.CrossORefIdeal.τ Cert.CrossORefIdeal.sig) → Buf (Elt Ideal) ℓ) (g : Dev Cert.CrossORefIdeal.nD → PrngReg), Pre_CrossORefIdeal m →
    θ_run (Cert.CrossORefIdeal.defs (F := Ideal)) (onTc (τ := Cert.CrossORefIdeal.τ) (Cert.CrossORefIdeal.main (F := Ideal))) ⟨m, fun _ => 0, g⟩ (fun r => (∀ c : Dev Cert.CrossORefIdeal.nD,
      r.2.mem ((c.tc : Thread Cert.CrossORefIdeal.nD Cert.CrossORefIdeal.τ).loc Cert.CrossORefIdeal.main_arg0) = m ((c.tc : Thread Cert.CrossORefIdeal.nD Cert.CrossORefIdeal.τ).loc Cert.CrossORefIdeal.main_arg0)
      ∧ r.2.mem ((c.tc : Thread Cert.CrossORefIdeal.nD Cert.CrossORefIdeal.τ).loc Cert.CrossORefIdeal.main_arg1) = m ((c.tc : Thread Cert.CrossORefIdeal.nD Cert.CrossORefIdeal.τ).loc Cert.CrossORefIdeal.main_arg1)
      ∧ r.2.mem ((c.tc : Thread Cert.CrossORefIdeal.nD Cert.CrossORefIdeal.τ).loc Cert.CrossORefIdeal.main_arg2) = m ((c.tc : Thread Cert.CrossORefIdeal.nD Cert.CrossORefIdeal.τ).loc Cert.CrossORefIdeal.main_arg2))
      ∧ r.2.sem = fun _ => 0)

def quiescent_MixOdd [hMixOdd : Cert.MixOdd.Facts] : Prop :=
  ∀ (m : (ℓ : Loc Cert.MixOdd.nD Cert.MixOdd.τ Cert.MixOdd.sig) → Buf (Elt Bits) ℓ) (g : Dev Cert.MixOdd.nD → PrngReg), Pre_MixOdd m →
    θ_run (Cert.MixOdd.defs (F := Bits)) (onTc (τ := Cert.MixOdd.τ) (Cert.MixOdd.main (F := Bits))) ⟨m, fun _ => 0, g⟩ (fun r => (∀ c : Dev Cert.MixOdd.nD,
      r.2.mem ((c.tc : Thread Cert.MixOdd.nD Cert.MixOdd.τ).loc Cert.MixOdd.main_arg0) = m ((c.tc : Thread Cert.MixOdd.nD Cert.MixOdd.τ).loc Cert.MixOdd.main_arg0)
      ∧ r.2.mem ((c.tc : Thread Cert.MixOdd.nD Cert.MixOdd.τ).loc Cert.MixOdd.main_arg1) = m ((c.tc : Thread Cert.MixOdd.nD Cert.MixOdd.τ).loc Cert.MixOdd.main_arg1)
      ∧ r.2.mem ((c.tc : Thread Cert.MixOdd.nD Cert.MixOdd.τ).loc Cert.MixOdd.main_arg2) = m ((c.tc : Thread Cert.MixOdd.nD Cert.MixOdd.τ).loc Cert.MixOdd.main_arg2))
      ∧ r.2.sem = fun _ => 0)

def quiescent_MixOddIdeal [hMixOddIdeal : Cert.MixOddIdeal.Facts] : Prop :=
  ∀ (m : (ℓ : Loc Cert.MixOddIdeal.nD Cert.MixOddIdeal.τ Cert.MixOddIdeal.sig) → Buf (Elt Ideal) ℓ) (g : Dev Cert.MixOddIdeal.nD → PrngReg), Pre_MixOddIdeal m →
    θ_run (Cert.MixOddIdeal.defs (F := Ideal)) (onTc (τ := Cert.MixOddIdeal.τ) (Cert.MixOddIdeal.main (F := Ideal))) ⟨m, fun _ => 0, g⟩ (fun r => (∀ c : Dev Cert.MixOddIdeal.nD,
      r.2.mem ((c.tc : Thread Cert.MixOddIdeal.nD Cert.MixOddIdeal.τ).loc Cert.MixOddIdeal.main_arg0) = m ((c.tc : Thread Cert.MixOddIdeal.nD Cert.MixOddIdeal.τ).loc Cert.MixOddIdeal.main_arg0)
      ∧ r.2.mem ((c.tc : Thread Cert.MixOddIdeal.nD Cert.MixOddIdeal.τ).loc Cert.MixOddIdeal.main_arg1) = m ((c.tc : Thread Cert.MixOddIdeal.nD Cert.MixOddIdeal.τ).loc Cert.MixOddIdeal.main_arg1)
      ∧ r.2.mem ((c.tc : Thread Cert.MixOddIdeal.nD Cert.MixOddIdeal.τ).loc Cert.MixOddIdeal.main_arg2) = m ((c.tc : Thread Cert.MixOddIdeal.nD Cert.MixOddIdeal.τ).loc Cert.MixOddIdeal.main_arg2))
      ∧ r.2.sem = fun _ => 0)

def quiescent_MixOddRefIdeal [hMixOddRefIdeal : Cert.MixOddRefIdeal.Facts] : Prop :=
  ∀ (m : (ℓ : Loc Cert.MixOddRefIdeal.nD Cert.MixOddRefIdeal.τ Cert.MixOddRefIdeal.sig) → Buf (Elt Ideal) ℓ) (g : Dev Cert.MixOddRefIdeal.nD → PrngReg), Pre_MixOddRefIdeal m →
    θ_run (Cert.MixOddRefIdeal.defs (F := Ideal)) (onTc (τ := Cert.MixOddRefIdeal.τ) (Cert.MixOddRefIdeal.main (F := Ideal))) ⟨m, fun _ => 0, g⟩ (fun r => (∀ c : Dev Cert.MixOddRefIdeal.nD,
      r.2.mem ((c.tc : Thread Cert.MixOddRefIdeal.nD Cert.MixOddRefIdeal.τ).loc Cert.MixOddRefIdeal.main_arg0) = m ((c.tc : Thread Cert.MixOddRefIdeal.nD Cert.MixOddRefIdeal.τ).loc Cert.MixOddRefIdeal.main_arg0)
      ∧ r.2.mem ((c.tc : Thread Cert.MixOddRefIdeal.nD Cert.MixOddRefIdeal.τ).loc Cert.MixOddRefIdeal.main_arg1) = m ((c.tc : Thread Cert.MixOddRefIdeal.nD Cert.MixOddRefIdeal.τ).loc Cert.MixOddRefIdeal.main_arg1)
      ∧ r.2.mem ((c.tc : Thread Cert.MixOddRefIdeal.nD Cert.MixOddRefIdeal.τ).loc Cert.MixOddRefIdeal.main_arg2) = m ((c.tc : Thread Cert.MixOddRefIdeal.nD Cert.MixOddRefIdeal.τ).loc Cert.MixOddRefIdeal.main_arg2))
      ∧ r.2.sem = fun _ => 0)

def quiescent_MixEven [hMixEven : Cert.MixEven.Facts] : Prop :=
  ∀ (m : (ℓ : Loc Cert.MixEven.nD Cert.MixEven.τ Cert.MixEven.sig) → Buf (Elt Bits) ℓ) (g : Dev Cert.MixEven.nD → PrngReg), Pre_MixEven m →
    θ_run (Cert.MixEven.defs (F := Bits)) (onTc (τ := Cert.MixEven.τ) (Cert.MixEven.main (F := Bits))) ⟨m, fun _ => 0, g⟩ (fun r => (∀ c : Dev Cert.MixEven.nD,
      r.2.mem ((c.tc : Thread Cert.MixEven.nD Cert.MixEven.τ).loc Cert.MixEven.main_arg0) = m ((c.tc : Thread Cert.MixEven.nD Cert.MixEven.τ).loc Cert.MixEven.main_arg0)
      ∧ r.2.mem ((c.tc : Thread Cert.MixEven.nD Cert.MixEven.τ).loc Cert.MixEven.main_arg1) = m ((c.tc : Thread Cert.MixEven.nD Cert.MixEven.τ).loc Cert.MixEven.main_arg1)
      ∧ r.2.mem ((c.tc : Thread Cert.MixEven.nD Cert.MixEven.τ).loc Cert.MixEven.main_arg2) = m ((c.tc : Thread Cert.MixEven.nD Cert.MixEven.τ).loc Cert.MixEven.main_arg2)
      ∧ r.2.mem ((c.tc : Thread Cert.MixEven.nD Cert.MixEven.τ).loc Cert.MixEven.main_arg3) = m ((c.tc : Thread Cert.MixEven.nD Cert.MixEven.τ).loc Cert.MixEven.main_arg3))
      ∧ r.2.sem = fun _ => 0)

def quiescent_MixEvenIdeal [hMixEvenIdeal : Cert.MixEvenIdeal.Facts] : Prop :=
  ∀ (m : (ℓ : Loc Cert.MixEvenIdeal.nD Cert.MixEvenIdeal.τ Cert.MixEvenIdeal.sig) → Buf (Elt Ideal) ℓ) (g : Dev Cert.MixEvenIdeal.nD → PrngReg), Pre_MixEvenIdeal m →
    θ_run (Cert.MixEvenIdeal.defs (F := Ideal)) (onTc (τ := Cert.MixEvenIdeal.τ) (Cert.MixEvenIdeal.main (F := Ideal))) ⟨m, fun _ => 0, g⟩ (fun r => (∀ c : Dev Cert.MixEvenIdeal.nD,
      r.2.mem ((c.tc : Thread Cert.MixEvenIdeal.nD Cert.MixEvenIdeal.τ).loc Cert.MixEvenIdeal.main_arg0) = m ((c.tc : Thread Cert.MixEvenIdeal.nD Cert.MixEvenIdeal.τ).loc Cert.MixEvenIdeal.main_arg0)
      ∧ r.2.mem ((c.tc : Thread Cert.MixEvenIdeal.nD Cert.MixEvenIdeal.τ).loc Cert.MixEvenIdeal.main_arg1) = m ((c.tc : Thread Cert.MixEvenIdeal.nD Cert.MixEvenIdeal.τ).loc Cert.MixEvenIdeal.main_arg1)
      ∧ r.2.mem ((c.tc : Thread Cert.MixEvenIdeal.nD Cert.MixEvenIdeal.τ).loc Cert.MixEvenIdeal.main_arg2) = m ((c.tc : Thread Cert.MixEvenIdeal.nD Cert.MixEvenIdeal.τ).loc Cert.MixEvenIdeal.main_arg2)
      ∧ r.2.mem ((c.tc : Thread Cert.MixEvenIdeal.nD Cert.MixEvenIdeal.τ).loc Cert.MixEvenIdeal.main_arg3) = m ((c.tc : Thread Cert.MixEvenIdeal.nD Cert.MixEvenIdeal.τ).loc Cert.MixEvenIdeal.main_arg3))
      ∧ r.2.sem = fun _ => 0)

def quiescent_MixEvenRefIdeal [hMixEvenRefIdeal : Cert.MixEvenRefIdeal.Facts] : Prop :=
  ∀ (m : (ℓ : Loc Cert.MixEvenRefIdeal.nD Cert.MixEvenRefIdeal.τ Cert.MixEvenRefIdeal.sig) → Buf (Elt Ideal) ℓ) (g : Dev Cert.MixEvenRefIdeal.nD → PrngReg), Pre_MixEvenRefIdeal m →
    θ_run (Cert.MixEvenRefIdeal.defs (F := Ideal)) (onTc (τ := Cert.MixEvenRefIdeal.τ) (Cert.MixEvenRefIdeal.main (F := Ideal))) ⟨m, fun _ => 0, g⟩ (fun r => (∀ c : Dev Cert.MixEvenRefIdeal.nD,
      r.2.mem ((c.tc : Thread Cert.MixEvenRefIdeal.nD Cert.MixEvenRefIdeal.τ).loc Cert.MixEvenRefIdeal.main_arg0) = m ((c.tc : Thread Cert.MixEvenRefIdeal.nD Cert.MixEvenRefIdeal.τ).loc Cert.MixEvenRefIdeal.main_arg0)
      ∧ r.2.mem ((c.tc : Thread Cert.MixEvenRefIdeal.nD Cert.MixEvenRefIdeal.τ).loc Cert.MixEvenRefIdeal.main_arg1) = m ((c.tc : Thread Cert.MixEvenRefIdeal.nD Cert.MixEvenRefIdeal.τ).loc Cert.MixEvenRefIdeal.main_arg1)
      ∧ r.2.mem ((c.tc : Thread Cert.MixEvenRefIdeal.nD Cert.MixEvenRefIdeal.τ).loc Cert.MixEvenRefIdeal.main_arg2) = m ((c.tc : Thread Cert.MixEvenRefIdeal.nD Cert.MixEvenRefIdeal.τ).loc Cert.MixEvenRefIdeal.main_arg2)
      ∧ r.2.mem ((c.tc : Thread Cert.MixEvenRefIdeal.nD Cert.MixEvenRefIdeal.τ).loc Cert.MixEvenRefIdeal.main_arg3) = m ((c.tc : Thread Cert.MixEvenRefIdeal.nD Cert.MixEvenRefIdeal.τ).loc Cert.MixEvenRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1))
      ∧ r.2.sem = fun _ => 0)

def quiescent_CrossCore [hCrossCore : Cert.CrossCore.Facts] : Prop :=
  ∀ (m : (ℓ : Loc Cert.CrossCore.nD Cert.CrossCore.τ Cert.CrossCore.sig) → Buf (Elt Bits) ℓ) (g : Dev Cert.CrossCore.nD → PrngReg), Pre_CrossCore m →
    θ_run (Cert.CrossCore.defs (F := Bits)) (onTc (τ := Cert.CrossCore.τ) (Cert.CrossCore.main (F := Bits))) ⟨m, fun _ => 0, g⟩ (fun r => (∀ c : Dev Cert.CrossCore.nD,
      r.2.mem ((c.tc : Thread Cert.CrossCore.nD Cert.CrossCore.τ).loc Cert.CrossCore.main_arg0) = m ((c.tc : Thread Cert.CrossCore.nD Cert.CrossCore.τ).loc Cert.CrossCore.main_arg0)
      ∧ r.2.mem ((c.tc : Thread Cert.CrossCore.nD Cert.CrossCore.τ).loc Cert.CrossCore.main_arg1) = m ((c.tc : Thread Cert.CrossCore.nD Cert.CrossCore.τ).loc Cert.CrossCore.main_arg1)
      ∧ r.2.mem ((c.tc : Thread Cert.CrossCore.nD Cert.CrossCore.τ).loc Cert.CrossCore.main_arg2) = m ((c.tc : Thread Cert.CrossCore.nD Cert.CrossCore.τ).loc Cert.CrossCore.main_arg2)
      ∧ r.2.mem ((c.tc : Thread Cert.CrossCore.nD Cert.CrossCore.τ).loc Cert.CrossCore.main_arg3) = m ((c.tc : Thread Cert.CrossCore.nD Cert.CrossCore.τ).loc Cert.CrossCore.main_arg3))
      ∧ r.2.sem = fun _ => 0)

def quiescent_CrossCoreIdeal [hCrossCoreIdeal : Cert.CrossCoreIdeal.Facts] : Prop :=
  ∀ (m : (ℓ : Loc Cert.CrossCoreIdeal.nD Cert.CrossCoreIdeal.τ Cert.CrossCoreIdeal.sig) → Buf (Elt Ideal) ℓ) (g : Dev Cert.CrossCoreIdeal.nD → PrngReg), Pre_CrossCoreIdeal m →
    θ_run (Cert.CrossCoreIdeal.defs (F := Ideal)) (onTc (τ := Cert.CrossCoreIdeal.τ) (Cert.CrossCoreIdeal.main (F := Ideal))) ⟨m, fun _ => 0, g⟩ (fun r => (∀ c : Dev Cert.CrossCoreIdeal.nD,
      r.2.mem ((c.tc : Thread Cert.CrossCoreIdeal.nD Cert.CrossCoreIdeal.τ).loc Cert.CrossCoreIdeal.main_arg0) = m ((c.tc : Thread Cert.CrossCoreIdeal.nD Cert.CrossCoreIdeal.τ).loc Cert.CrossCoreIdeal.main_arg0)
      ∧ r.2.mem ((c.tc : Thread Cert.CrossCoreIdeal.nD Cert.CrossCoreIdeal.τ).loc Cert.CrossCoreIdeal.main_arg1) = m ((c.tc : Thread Cert.CrossCoreIdeal.nD Cert.CrossCoreIdeal.τ).loc Cert.CrossCoreIdeal.main_arg1)
      ∧ r.2.mem ((c.tc : Thread Cert.CrossCoreIdeal.nD Cert.CrossCoreIdeal.τ).loc Cert.CrossCoreIdeal.main_arg2) = m ((c.tc : Thread Cert.CrossCoreIdeal.nD Cert.CrossCoreIdeal.τ).loc Cert.CrossCoreIdeal.main_arg2)
      ∧ r.2.mem ((c.tc : Thread Cert.CrossCoreIdeal.nD Cert.CrossCoreIdeal.τ).loc Cert.CrossCoreIdeal.main_arg3) = m ((c.tc : Thread Cert.CrossCoreIdeal.nD Cert.CrossCoreIdeal.τ).loc Cert.CrossCoreIdeal.main_arg3))
      ∧ r.2.sem = fun _ => 0)

def quiescent_CrossCoreRefIdeal [hCrossCoreRefIdeal : Cert.CrossCoreRefIdeal.Facts] : Prop :=
  ∀ (m : (ℓ : Loc Cert.CrossCoreRefIdeal.nD Cert.CrossCoreRefIdeal.τ Cert.CrossCoreRefIdeal.sig) → Buf (Elt Ideal) ℓ) (g : Dev Cert.CrossCoreRefIdeal.nD → PrngReg), Pre_CrossCoreRefIdeal m →
    θ_run (Cert.CrossCoreRefIdeal.defs (F := Ideal)) (onTc (τ := Cert.CrossCoreRefIdeal.τ) (Cert.CrossCoreRefIdeal.main (F := Ideal))) ⟨m, fun _ => 0, g⟩ (fun r => (∀ c : Dev Cert.CrossCoreRefIdeal.nD,
      r.2.mem ((c.tc : Thread Cert.CrossCoreRefIdeal.nD Cert.CrossCoreRefIdeal.τ).loc Cert.CrossCoreRefIdeal.main_arg0) = m ((c.tc : Thread Cert.CrossCoreRefIdeal.nD Cert.CrossCoreRefIdeal.τ).loc Cert.CrossCoreRefIdeal.main_arg0)
      ∧ r.2.mem ((c.tc : Thread Cert.CrossCoreRefIdeal.nD Cert.CrossCoreRefIdeal.τ).loc Cert.CrossCoreRefIdeal.main_arg1) = m ((c.tc : Thread Cert.CrossCoreRefIdeal.nD Cert.CrossCoreRefIdeal.τ).loc Cert.CrossCoreRefIdeal.main_arg1)
      ∧ r.2.mem ((c.tc : Thread Cert.CrossCoreRefIdeal.nD Cert.CrossCoreRefIdeal.τ).loc Cert.CrossCoreRefIdeal.main_arg2) = m ((c.tc : Thread Cert.CrossCoreRefIdeal.nD Cert.CrossCoreRefIdeal.τ).loc Cert.CrossCoreRefIdeal.main_arg2)
      ∧ r.2.mem ((c.tc : Thread Cert.CrossCoreRefIdeal.nD Cert.CrossCoreRefIdeal.τ).loc Cert.CrossCoreRefIdeal.main_arg3) = m ((c.tc : Thread Cert.CrossCoreRefIdeal.nD Cert.CrossCoreRefIdeal.τ).loc Cert.CrossCoreRefIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v5) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_up_tables : Cert.Pre_up_tables.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v23) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_down_tables : Cert.Pre_down_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)
      ∧ m' ((c.tc : Thread Cert.MoeDownRefIdeal.nD Cert.MoeDownRefIdeal.τ).loc Cert.MoeDownRefIdeal.main_arg4) = m ((c.tc : Thread Cert.MoeDownIdeal.nD Cert.MoeDownIdeal.τ).loc Cert.MoeDownIdeal.main_arg4)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v21) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3)
          ∧ r.2.mem ((c.tc : Thread Cert.MoeDownRefIdeal.nD Cert.MoeDownRefIdeal.τ).loc Cert.MoeDownRefIdeal.main_arg4) = m' ((c.tc : Thread Cert.MoeDownRefIdeal.nD Cert.MoeDownRefIdeal.τ).loc Cert.MoeDownRefIdeal.main_arg4))

def preserves_Combine_CombineIdeal : Prop :=
  True

def algebraic_CombineIdeal_CombineRefIdeal [hCombineIdeal : Cert.CombineIdeal.Facts] [hCombineRefIdeal : Cert.CombineRefIdeal.Facts] [hPre_row_numbers : Cert.Pre_row_numbers.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v9) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjKr_InProjKrIdeal : Prop :=
  True

def algebraic_InProjKrIdeal_InProjKrRefIdeal [hInProjKrIdeal : Cert.InProjKrIdeal.Facts] [hInProjKrRefIdeal : Cert.InProjKrRefIdeal.Facts] : Prop :=
  ∀ (m : (ℓ : Loc Cert.InProjKrIdeal.nD Cert.InProjKrIdeal.τ Cert.InProjKrIdeal.sig) → Buf (Elt Ideal) ℓ) (g : Dev Cert.InProjKrIdeal.nD → PrngReg)
    (m' : (ℓ : Loc Cert.InProjKrRefIdeal.nD Cert.InProjKrRefIdeal.τ Cert.InProjKrRefIdeal.sig) → Buf (Elt Ideal) ℓ) (g' : Dev Cert.InProjKrRefIdeal.nD → PrngReg), Pre_InProjKrIdeal m →
    (∀ c : Dev Cert.InProjKrIdeal.nD,
      m' ((c.tc : Thread Cert.InProjKrRefIdeal.nD Cert.InProjKrRefIdeal.τ).loc Cert.InProjKrRefIdeal.main_arg0) = m ((c.tc : Thread Cert.InProjKrIdeal.nD Cert.InProjKrIdeal.τ).loc Cert.InProjKrIdeal.main_arg0)
      ∧ m' ((c.tc : Thread Cert.InProjKrRefIdeal.nD Cert.InProjKrRefIdeal.τ).loc Cert.InProjKrRefIdeal.main_arg1) = m ((c.tc : Thread Cert.InProjKrIdeal.nD Cert.InProjKrIdeal.τ).loc Cert.InProjKrIdeal.main_arg1)) →
    ∃ (v0 : (c : Dev Cert.InProjKrIdeal.nD) → Buf (Elt Ideal) ((c.tc : Thread Cert.InProjKrIdeal.nD Cert.InProjKrIdeal.τ).loc Cert.InProjKrIdeal.main_v0)),
      θ_run (Cert.InProjKrIdeal.defs (F := Ideal)) (onTc (τ := Cert.InProjKrIdeal.τ) (Cert.InProjKrIdeal.main (F := Ideal))) ⟨m, fun _ => 0, g⟩ (fun r => ∀ c : Dev Cert.InProjKrIdeal.nD,
          r.2.mem ((c.tc : Thread Cert.InProjKrIdeal.nD Cert.InProjKrIdeal.τ).loc Cert.InProjKrIdeal.main_v0) = v0 c
          ∧ r.2.mem ((c.tc : Thread Cert.InProjKrIdeal.nD Cert.InProjKrIdeal.τ).loc Cert.InProjKrIdeal.main_arg0) = m ((c.tc : Thread Cert.InProjKrIdeal.nD Cert.InProjKrIdeal.τ).loc Cert.InProjKrIdeal.main_arg0)
          ∧ r.2.mem ((c.tc : Thread Cert.InProjKrIdeal.nD Cert.InProjKrIdeal.τ).loc Cert.InProjKrIdeal.main_arg1) = m ((c.tc : Thread Cert.InProjKrIdeal.nD Cert.InProjKrIdeal.τ).loc Cert.InProjKrIdeal.main_arg1))
      ∧ θ_run (Cert.InProjKrRefIdeal.defs (F := Ideal)) (onTc (τ := Cert.InProjKrRefIdeal.τ) (Cert.InProjKrRefIdeal.main (F := Ideal))) ⟨m', fun _ => 0, g'⟩ (fun r => ∀ c : Dev Cert.InProjKrRefIdeal.nD,
          r.2.mem ((c.tc : Thread Cert.InProjKrRefIdeal.nD Cert.InProjKrRefIdeal.τ).loc Cert.InProjKrRefIdeal.main_v1) = v0 c
          ∧ r.2.mem ((c.tc : Thread Cert.InProjKrRefIdeal.nD Cert.InProjKrRefIdeal.τ).loc Cert.InProjKrRefIdeal.main_arg0) = m' ((c.tc : Thread Cert.InProjKrRefIdeal.nD Cert.InProjKrRefIdeal.τ).loc Cert.InProjKrRefIdeal.main_arg0)
          ∧ r.2.mem ((c.tc : Thread Cert.InProjKrRefIdeal.nD Cert.InProjKrRefIdeal.τ).loc Cert.InProjKrRefIdeal.main_arg1) = m' ((c.tc : Thread Cert.InProjKrRefIdeal.nD Cert.InProjKrRefIdeal.τ).loc Cert.InProjKrRefIdeal.main_arg1))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v1) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v1) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_CrossQ_CrossQIdeal : Prop :=
  True

def algebraic_CrossQIdeal_CrossQRefIdeal [hCrossQIdeal : Cert.CrossQIdeal.Facts] [hCrossQRefIdeal : Cert.CrossQRefIdeal.Facts] : Prop :=
  ∀ (m : (ℓ : Loc Cert.CrossQIdeal.nD Cert.CrossQIdeal.τ Cert.CrossQIdeal.sig) → Buf (Elt Ideal) ℓ) (g : Dev Cert.CrossQIdeal.nD → PrngReg)
    (m' : (ℓ : Loc Cert.CrossQRefIdeal.nD Cert.CrossQRefIdeal.τ Cert.CrossQRefIdeal.sig) → Buf (Elt Ideal) ℓ) (g' : Dev Cert.CrossQRefIdeal.nD → PrngReg), Pre_CrossQIdeal m →
    (∀ c : Dev Cert.CrossQIdeal.nD,
      m' ((c.tc : Thread Cert.CrossQRefIdeal.nD Cert.CrossQRefIdeal.τ).loc Cert.CrossQRefIdeal.main_arg0) = m ((c.tc : Thread Cert.CrossQIdeal.nD Cert.CrossQIdeal.τ).loc Cert.CrossQIdeal.main_arg0)
      ∧ m' ((c.tc : Thread Cert.CrossQRefIdeal.nD Cert.CrossQRefIdeal.τ).loc Cert.CrossQRefIdeal.main_arg1) = m ((c.tc : Thread Cert.CrossQIdeal.nD Cert.CrossQIdeal.τ).loc Cert.CrossQIdeal.main_arg1)) →
    ∃ (v0 : (c : Dev Cert.CrossQIdeal.nD) → Buf (Elt Ideal) ((c.tc : Thread Cert.CrossQIdeal.nD Cert.CrossQIdeal.τ).loc Cert.CrossQIdeal.main_v0)),
      θ_run (Cert.CrossQIdeal.defs (F := Ideal)) (onTc (τ := Cert.CrossQIdeal.τ) (Cert.CrossQIdeal.main (F := Ideal))) ⟨m, fun _ => 0, g⟩ (fun r => ∀ c : Dev Cert.CrossQIdeal.nD,
          r.2.mem ((c.tc : Thread Cert.CrossQIdeal.nD Cert.CrossQIdeal.τ).loc Cert.CrossQIdeal.main_v0) = v0 c
          ∧ r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
          ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ θ_run (Cert.CrossQRefIdeal.defs (F := Ideal)) (onTc (τ := Cert.CrossQRefIdeal.τ) (Cert.CrossQRefIdeal.main (F := Ideal))) ⟨m', fun _ => 0, g'⟩ (fun r => ∀ c : Dev Cert.CrossQRefIdeal.nD,
          r.2.mem ((c.tc : Thread Cert.CrossQRefIdeal.nD Cert.CrossQRefIdeal.τ).loc Cert.CrossQRefIdeal.main_v1) = v0 c
          ∧ r.2.mem ((c.tc : Thread Cert.CrossQRefIdeal.nD Cert.CrossQRefIdeal.τ).loc Cert.CrossQRefIdeal.main_arg0) = m' ((c.tc : Thread Cert.CrossQRefIdeal.nD Cert.CrossQRefIdeal.τ).loc Cert.CrossQRefIdeal.main_arg0)
          ∧ r.2.mem ((c.tc : Thread Cert.CrossQRefIdeal.nD Cert.CrossQRefIdeal.τ).loc Cert.CrossQRefIdeal.main_arg1) = m' ((c.tc : Thread Cert.CrossQRefIdeal.nD Cert.CrossQRefIdeal.τ).loc Cert.CrossQRefIdeal.main_arg1))

def preserves_CrossO_CrossOIdeal : Prop :=
  True

def algebraic_CrossOIdeal_CrossORefIdeal [hCrossOIdeal : Cert.CrossOIdeal.Facts] [hCrossORefIdeal : Cert.CrossORefIdeal.Facts] : Prop :=
  ∀ (m : (ℓ : Loc Cert.CrossOIdeal.nD Cert.CrossOIdeal.τ Cert.CrossOIdeal.sig) → Buf (Elt Ideal) ℓ) (g : Dev Cert.CrossOIdeal.nD → PrngReg)
    (m' : (ℓ : Loc Cert.CrossORefIdeal.nD Cert.CrossORefIdeal.τ Cert.CrossORefIdeal.sig) → Buf (Elt Ideal) ℓ) (g' : Dev Cert.CrossORefIdeal.nD → PrngReg), Pre_CrossOIdeal m →
    (∀ c : Dev Cert.CrossOIdeal.nD,
      m' ((c.tc : Thread Cert.CrossORefIdeal.nD Cert.CrossORefIdeal.τ).loc Cert.CrossORefIdeal.main_arg0) = m ((c.tc : Thread Cert.CrossOIdeal.nD Cert.CrossOIdeal.τ).loc Cert.CrossOIdeal.main_arg0)
      ∧ m' ((c.tc : Thread Cert.CrossORefIdeal.nD Cert.CrossORefIdeal.τ).loc Cert.CrossORefIdeal.main_arg1) = m ((c.tc : Thread Cert.CrossOIdeal.nD Cert.CrossOIdeal.τ).loc Cert.CrossOIdeal.main_arg1)
      ∧ m' ((c.tc : Thread Cert.CrossORefIdeal.nD Cert.CrossORefIdeal.τ).loc Cert.CrossORefIdeal.main_arg2) = m ((c.tc : Thread Cert.CrossOIdeal.nD Cert.CrossOIdeal.τ).loc Cert.CrossOIdeal.main_arg2)) →
    ∃ (v0 : (c : Dev Cert.CrossOIdeal.nD) → Buf (Elt Ideal) ((c.tc : Thread Cert.CrossOIdeal.nD Cert.CrossOIdeal.τ).loc Cert.CrossOIdeal.main_v0)),
      θ_run (Cert.CrossOIdeal.defs (F := Ideal)) (onTc (τ := Cert.CrossOIdeal.τ) (Cert.CrossOIdeal.main (F := Ideal))) ⟨m, fun _ => 0, g⟩ (fun r => ∀ c : Dev Cert.CrossOIdeal.nD,
          r.2.mem ((c.tc : Thread Cert.CrossOIdeal.nD Cert.CrossOIdeal.τ).loc Cert.CrossOIdeal.main_v0) = v0 c
          ∧ r.2.mem ((c.tc : Thread Cert.CrossOIdeal.nD Cert.CrossOIdeal.τ).loc Cert.CrossOIdeal.main_arg0) = m ((c.tc : Thread Cert.CrossOIdeal.nD Cert.CrossOIdeal.τ).loc Cert.CrossOIdeal.main_arg0)
          ∧ r.2.mem ((c.tc : Thread Cert.CrossOIdeal.nD Cert.CrossOIdeal.τ).loc Cert.CrossOIdeal.main_arg1) = m ((c.tc : Thread Cert.CrossOIdeal.nD Cert.CrossOIdeal.τ).loc Cert.CrossOIdeal.main_arg1)
          ∧ r.2.mem ((c.tc : Thread Cert.CrossOIdeal.nD Cert.CrossOIdeal.τ).loc Cert.CrossOIdeal.main_arg2) = m ((c.tc : Thread Cert.CrossOIdeal.nD Cert.CrossOIdeal.τ).loc Cert.CrossOIdeal.main_arg2))
      ∧ θ_run (Cert.CrossORefIdeal.defs (F := Ideal)) (onTc (τ := Cert.CrossORefIdeal.τ) (Cert.CrossORefIdeal.main (F := Ideal))) ⟨m', fun _ => 0, g'⟩ (fun r => ∀ c : Dev Cert.CrossORefIdeal.nD,
          r.2.mem ((c.tc : Thread Cert.CrossORefIdeal.nD Cert.CrossORefIdeal.τ).loc Cert.CrossORefIdeal.main_v2) = v0 c
          ∧ r.2.mem ((c.tc : Thread Cert.CrossORefIdeal.nD Cert.CrossORefIdeal.τ).loc Cert.CrossORefIdeal.main_arg0) = m' ((c.tc : Thread Cert.CrossORefIdeal.nD Cert.CrossORefIdeal.τ).loc Cert.CrossORefIdeal.main_arg0)
          ∧ r.2.mem ((c.tc : Thread Cert.CrossORefIdeal.nD Cert.CrossORefIdeal.τ).loc Cert.CrossORefIdeal.main_arg1) = m' ((c.tc : Thread Cert.CrossORefIdeal.nD Cert.CrossORefIdeal.τ).loc Cert.CrossORefIdeal.main_arg1)
          ∧ r.2.mem ((c.tc : Thread Cert.CrossORefIdeal.nD Cert.CrossORefIdeal.τ).loc Cert.CrossORefIdeal.main_arg2) = m' ((c.tc : Thread Cert.CrossORefIdeal.nD Cert.CrossORefIdeal.τ).loc Cert.CrossORefIdeal.main_arg2))

def preserves_MixOdd_MixOddIdeal : Prop :=
  True

def algebraic_MixOddIdeal_MixOddRefIdeal [hMixOddIdeal : Cert.MixOddIdeal.Facts] [hMixOddRefIdeal : Cert.MixOddRefIdeal.Facts] : Prop :=
  ∀ (m : (ℓ : Loc Cert.MixOddIdeal.nD Cert.MixOddIdeal.τ Cert.MixOddIdeal.sig) → Buf (Elt Ideal) ℓ) (g : Dev Cert.MixOddIdeal.nD → PrngReg)
    (m' : (ℓ : Loc Cert.MixOddRefIdeal.nD Cert.MixOddRefIdeal.τ Cert.MixOddRefIdeal.sig) → Buf (Elt Ideal) ℓ) (g' : Dev Cert.MixOddRefIdeal.nD → PrngReg), Pre_MixOddIdeal m →
    (∀ c : Dev Cert.MixOddIdeal.nD,
      m' ((c.tc : Thread Cert.MixOddRefIdeal.nD Cert.MixOddRefIdeal.τ).loc Cert.MixOddRefIdeal.main_arg0) = m ((c.tc : Thread Cert.MixOddIdeal.nD Cert.MixOddIdeal.τ).loc Cert.MixOddIdeal.main_arg0)
      ∧ m' ((c.tc : Thread Cert.MixOddRefIdeal.nD Cert.MixOddRefIdeal.τ).loc Cert.MixOddRefIdeal.main_arg1) = m ((c.tc : Thread Cert.MixOddIdeal.nD Cert.MixOddIdeal.τ).loc Cert.MixOddIdeal.main_arg1)
      ∧ m' ((c.tc : Thread Cert.MixOddRefIdeal.nD Cert.MixOddRefIdeal.τ).loc Cert.MixOddRefIdeal.main_arg2) = m ((c.tc : Thread Cert.MixOddIdeal.nD Cert.MixOddIdeal.τ).loc Cert.MixOddIdeal.main_arg2)) →
    ∃ (v0 : (c : Dev Cert.MixOddIdeal.nD) → Buf (Elt Ideal) ((c.tc : Thread Cert.MixOddIdeal.nD Cert.MixOddIdeal.τ).loc Cert.MixOddIdeal.main_v0)),
      θ_run (Cert.MixOddIdeal.defs (F := Ideal)) (onTc (τ := Cert.MixOddIdeal.τ) (Cert.MixOddIdeal.main (F := Ideal))) ⟨m, fun _ => 0, g⟩ (fun r => ∀ c : Dev Cert.MixOddIdeal.nD,
          r.2.mem ((c.tc : Thread Cert.MixOddIdeal.nD Cert.MixOddIdeal.τ).loc Cert.MixOddIdeal.main_v0) = v0 c
          ∧ r.2.mem ((c.tc : Thread Cert.MixOddIdeal.nD Cert.MixOddIdeal.τ).loc Cert.MixOddIdeal.main_arg0) = m ((c.tc : Thread Cert.MixOddIdeal.nD Cert.MixOddIdeal.τ).loc Cert.MixOddIdeal.main_arg0)
          ∧ r.2.mem ((c.tc : Thread Cert.MixOddIdeal.nD Cert.MixOddIdeal.τ).loc Cert.MixOddIdeal.main_arg1) = m ((c.tc : Thread Cert.MixOddIdeal.nD Cert.MixOddIdeal.τ).loc Cert.MixOddIdeal.main_arg1)
          ∧ r.2.mem ((c.tc : Thread Cert.MixOddIdeal.nD Cert.MixOddIdeal.τ).loc Cert.MixOddIdeal.main_arg2) = m ((c.tc : Thread Cert.MixOddIdeal.nD Cert.MixOddIdeal.τ).loc Cert.MixOddIdeal.main_arg2))
      ∧ θ_run (Cert.MixOddRefIdeal.defs (F := Ideal)) (onTc (τ := Cert.MixOddRefIdeal.τ) (Cert.MixOddRefIdeal.main (F := Ideal))) ⟨m', fun _ => 0, g'⟩ (fun r => ∀ c : Dev Cert.MixOddRefIdeal.nD,
          r.2.mem ((c.tc : Thread Cert.MixOddRefIdeal.nD Cert.MixOddRefIdeal.τ).loc Cert.MixOddRefIdeal.main_v2) = v0 c
          ∧ r.2.mem ((c.tc : Thread Cert.MixOddRefIdeal.nD Cert.MixOddRefIdeal.τ).loc Cert.MixOddRefIdeal.main_arg0) = m' ((c.tc : Thread Cert.MixOddRefIdeal.nD Cert.MixOddRefIdeal.τ).loc Cert.MixOddRefIdeal.main_arg0)
          ∧ r.2.mem ((c.tc : Thread Cert.MixOddRefIdeal.nD Cert.MixOddRefIdeal.τ).loc Cert.MixOddRefIdeal.main_arg1) = m' ((c.tc : Thread Cert.MixOddRefIdeal.nD Cert.MixOddRefIdeal.τ).loc Cert.MixOddRefIdeal.main_arg1)
          ∧ r.2.mem ((c.tc : Thread Cert.MixOddRefIdeal.nD Cert.MixOddRefIdeal.τ).loc Cert.MixOddRefIdeal.main_arg2) = m' ((c.tc : Thread Cert.MixOddRefIdeal.nD Cert.MixOddRefIdeal.τ).loc Cert.MixOddRefIdeal.main_arg2))

def preserves_MixEven_MixEvenIdeal : Prop :=
  True

def algebraic_MixEvenIdeal_MixEvenRefIdeal [hMixEvenIdeal : Cert.MixEvenIdeal.Facts] [hMixEvenRefIdeal : Cert.MixEvenRefIdeal.Facts] : Prop :=
  ∀ (m : (ℓ : Loc Cert.MixEvenIdeal.nD Cert.MixEvenIdeal.τ Cert.MixEvenIdeal.sig) → Buf (Elt Ideal) ℓ) (g : Dev Cert.MixEvenIdeal.nD → PrngReg)
    (m' : (ℓ : Loc Cert.MixEvenRefIdeal.nD Cert.MixEvenRefIdeal.τ Cert.MixEvenRefIdeal.sig) → Buf (Elt Ideal) ℓ) (g' : Dev Cert.MixEvenRefIdeal.nD → PrngReg), Pre_MixEvenIdeal m →
    (∀ c : Dev Cert.MixEvenIdeal.nD,
      m' ((c.tc : Thread Cert.MixEvenRefIdeal.nD Cert.MixEvenRefIdeal.τ).loc Cert.MixEvenRefIdeal.main_arg0) = m ((c.tc : Thread Cert.MixEvenIdeal.nD Cert.MixEvenIdeal.τ).loc Cert.MixEvenIdeal.main_arg0)
      ∧ m' ((c.tc : Thread Cert.MixEvenRefIdeal.nD Cert.MixEvenRefIdeal.τ).loc Cert.MixEvenRefIdeal.main_arg1) = m ((c.tc : Thread Cert.MixEvenIdeal.nD Cert.MixEvenIdeal.τ).loc Cert.MixEvenIdeal.main_arg1)
      ∧ m' ((c.tc : Thread Cert.MixEvenRefIdeal.nD Cert.MixEvenRefIdeal.τ).loc Cert.MixEvenRefIdeal.main_arg2) = m ((c.tc : Thread Cert.MixEvenIdeal.nD Cert.MixEvenIdeal.τ).loc Cert.MixEvenIdeal.main_arg2)
      ∧ m' ((c.tc : Thread Cert.MixEvenRefIdeal.nD Cert.MixEvenRefIdeal.τ).loc Cert.MixEvenRefIdeal.main_arg3) = m ((c.tc : Thread Cert.MixEvenIdeal.nD Cert.MixEvenIdeal.τ).loc Cert.MixEvenIdeal.main_arg3)) →
    ∃ (v0 : (c : Dev Cert.MixEvenIdeal.nD) → Buf (Elt Ideal) ((c.tc : Thread Cert.MixEvenIdeal.nD Cert.MixEvenIdeal.τ).loc Cert.MixEvenIdeal.main_v0)),
      θ_run (Cert.MixEvenIdeal.defs (F := Ideal)) (onTc (τ := Cert.MixEvenIdeal.τ) (Cert.MixEvenIdeal.main (F := Ideal))) ⟨m, fun _ => 0, g⟩ (fun r => ∀ c : Dev Cert.MixEvenIdeal.nD,
          r.2.mem ((c.tc : Thread Cert.MixEvenIdeal.nD Cert.MixEvenIdeal.τ).loc Cert.MixEvenIdeal.main_v0) = v0 c
          ∧ r.2.mem ((c.tc : Thread Cert.MixEvenIdeal.nD Cert.MixEvenIdeal.τ).loc Cert.MixEvenIdeal.main_arg0) = m ((c.tc : Thread Cert.MixEvenIdeal.nD Cert.MixEvenIdeal.τ).loc Cert.MixEvenIdeal.main_arg0)
          ∧ r.2.mem ((c.tc : Thread Cert.MixEvenIdeal.nD Cert.MixEvenIdeal.τ).loc Cert.MixEvenIdeal.main_arg1) = m ((c.tc : Thread Cert.MixEvenIdeal.nD Cert.MixEvenIdeal.τ).loc Cert.MixEvenIdeal.main_arg1)
          ∧ r.2.mem ((c.tc : Thread Cert.MixEvenIdeal.nD Cert.MixEvenIdeal.τ).loc Cert.MixEvenIdeal.main_arg2) = m ((c.tc : Thread Cert.MixEvenIdeal.nD Cert.MixEvenIdeal.τ).loc Cert.MixEvenIdeal.main_arg2)
          ∧ r.2.mem ((c.tc : Thread Cert.MixEvenIdeal.nD Cert.MixEvenIdeal.τ).loc Cert.MixEvenIdeal.main_arg3) = m ((c.tc : Thread Cert.MixEvenIdeal.nD Cert.MixEvenIdeal.τ).loc Cert.MixEvenIdeal.main_arg3))
      ∧ θ_run (Cert.MixEvenRefIdeal.defs (F := Ideal)) (onTc (τ := Cert.MixEvenRefIdeal.τ) (Cert.MixEvenRefIdeal.main (F := Ideal))) ⟨m', fun _ => 0, g'⟩ (fun r => ∀ c : Dev Cert.MixEvenRefIdeal.nD,
          r.2.mem ((c.tc : Thread Cert.MixEvenRefIdeal.nD Cert.MixEvenRefIdeal.τ).loc Cert.MixEvenRefIdeal.main_v3) = v0 c
          ∧ r.2.mem ((c.tc : Thread Cert.MixEvenRefIdeal.nD Cert.MixEvenRefIdeal.τ).loc Cert.MixEvenRefIdeal.main_arg0) = m' ((c.tc : Thread Cert.MixEvenRefIdeal.nD Cert.MixEvenRefIdeal.τ).loc Cert.MixEvenRefIdeal.main_arg0)
          ∧ r.2.mem ((c.tc : Thread Cert.MixEvenRefIdeal.nD Cert.MixEvenRefIdeal.τ).loc Cert.MixEvenRefIdeal.main_arg1) = m' ((c.tc : Thread Cert.MixEvenRefIdeal.nD Cert.MixEvenRefIdeal.τ).loc Cert.MixEvenRefIdeal.main_arg1)
          ∧ r.2.mem ((c.tc : Thread Cert.MixEvenRefIdeal.nD Cert.MixEvenRefIdeal.τ).loc Cert.MixEvenRefIdeal.main_arg2) = m' ((c.tc : Thread Cert.MixEvenRefIdeal.nD Cert.MixEvenRefIdeal.τ).loc Cert.MixEvenRefIdeal.main_arg2)
          ∧ r.2.mem ((c.tc : Thread Cert.MixEvenRefIdeal.nD Cert.MixEvenRefIdeal.τ).loc Cert.MixEvenRefIdeal.main_arg3) = m' ((c.tc : Thread Cert.MixEvenRefIdeal.nD Cert.MixEvenRefIdeal.τ).loc Cert.MixEvenRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v13) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_NormQ_NormQIdeal : Prop :=
  True

def algebraic_NormQIdeal_NormQRefIdeal [hNormQIdeal : Cert.NormQIdeal.Facts] [hNormQRefIdeal : Cert.NormQRefIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)) →
    ∃ (v0 : (c : Dev Cert.NormQIdeal.nD) → Buf (Elt Ideal) ((c.tc : Thread Cert.NormQIdeal.nD Cert.NormQIdeal.τ).loc Cert.NormQIdeal.main_v1)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v1) = v0 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v14) = v0 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1))

def preserves_NormKv_NormKvIdeal : Prop :=
  True

def algebraic_NormKvIdeal_NormKvRefIdeal [hNormKvIdeal : Cert.NormKvIdeal.Facts] [hNormKvRefIdeal : Cert.NormKvRefIdeal.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)) →
    ∃ (v0 : (c : Dev Cert.NormKvIdeal.nD) → Buf (Elt Ideal) ((c.tc : Thread Cert.NormKvIdeal.nD Cert.NormKvIdeal.τ).loc Cert.NormKvIdeal.main_v1)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v1) = v0 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v14) = v0 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1))

def preserves_CrossCore_CrossCoreIdeal : Prop :=
  True

def algebraic_CrossCoreIdeal_CrossCoreRefIdeal [hCrossCoreIdeal : Cert.CrossCoreIdeal.Facts] [hCrossCoreRefIdeal : Cert.CrossCoreRefIdeal.Facts] : Prop :=
  ∀ (m : (ℓ : Loc Cert.CrossCoreIdeal.nD Cert.CrossCoreIdeal.τ Cert.CrossCoreIdeal.sig) → Buf (Elt Ideal) ℓ) (g : Dev Cert.CrossCoreIdeal.nD → PrngReg)
    (m' : (ℓ : Loc Cert.CrossCoreRefIdeal.nD Cert.CrossCoreRefIdeal.τ Cert.CrossCoreRefIdeal.sig) → Buf (Elt Ideal) ℓ) (g' : Dev Cert.CrossCoreRefIdeal.nD → PrngReg), Pre_CrossCoreIdeal m →
    (∀ c : Dev Cert.CrossCoreIdeal.nD,
      m' ((c.tc : Thread Cert.CrossCoreRefIdeal.nD Cert.CrossCoreRefIdeal.τ).loc Cert.CrossCoreRefIdeal.main_arg0) = m ((c.tc : Thread Cert.CrossCoreIdeal.nD Cert.CrossCoreIdeal.τ).loc Cert.CrossCoreIdeal.main_arg0)
      ∧ m' ((c.tc : Thread Cert.CrossCoreRefIdeal.nD Cert.CrossCoreRefIdeal.τ).loc Cert.CrossCoreRefIdeal.main_arg1) = m ((c.tc : Thread Cert.CrossCoreIdeal.nD Cert.CrossCoreIdeal.τ).loc Cert.CrossCoreIdeal.main_arg1)
      ∧ m' ((c.tc : Thread Cert.CrossCoreRefIdeal.nD Cert.CrossCoreRefIdeal.τ).loc Cert.CrossCoreRefIdeal.main_arg2) = m ((c.tc : Thread Cert.CrossCoreIdeal.nD Cert.CrossCoreIdeal.τ).loc Cert.CrossCoreIdeal.main_arg2)
      ∧ m' ((c.tc : Thread Cert.CrossCoreRefIdeal.nD Cert.CrossCoreRefIdeal.τ).loc Cert.CrossCoreRefIdeal.main_arg3) = m ((c.tc : Thread Cert.CrossCoreIdeal.nD Cert.CrossCoreIdeal.τ).loc Cert.CrossCoreIdeal.main_arg3)) →
    ∃ (v0 : (c : Dev Cert.CrossCoreIdeal.nD) → Buf (Elt Ideal) ((c.tc : Thread Cert.CrossCoreIdeal.nD Cert.CrossCoreIdeal.τ).loc Cert.CrossCoreIdeal.main_v1)),
      θ_run (Cert.CrossCoreIdeal.defs (F := Ideal)) (onTc (τ := Cert.CrossCoreIdeal.τ) (Cert.CrossCoreIdeal.main (F := Ideal))) ⟨m, fun _ => 0, g⟩ (fun r => ∀ c : Dev Cert.CrossCoreIdeal.nD,
          r.2.mem ((c.tc : Thread Cert.CrossCoreIdeal.nD Cert.CrossCoreIdeal.τ).loc Cert.CrossCoreIdeal.main_v1) = v0 c
          ∧ r.2.mem ((c.tc : Thread Cert.CrossCoreIdeal.nD Cert.CrossCoreIdeal.τ).loc Cert.CrossCoreIdeal.main_arg0) = m ((c.tc : Thread Cert.CrossCoreIdeal.nD Cert.CrossCoreIdeal.τ).loc Cert.CrossCoreIdeal.main_arg0)
          ∧ r.2.mem ((c.tc : Thread Cert.CrossCoreIdeal.nD Cert.CrossCoreIdeal.τ).loc Cert.CrossCoreIdeal.main_arg1) = m ((c.tc : Thread Cert.CrossCoreIdeal.nD Cert.CrossCoreIdeal.τ).loc Cert.CrossCoreIdeal.main_arg1)
          ∧ r.2.mem ((c.tc : Thread Cert.CrossCoreIdeal.nD Cert.CrossCoreIdeal.τ).loc Cert.CrossCoreIdeal.main_arg2) = m ((c.tc : Thread Cert.CrossCoreIdeal.nD Cert.CrossCoreIdeal.τ).loc Cert.CrossCoreIdeal.main_arg2)
          ∧ r.2.mem ((c.tc : Thread Cert.CrossCoreIdeal.nD Cert.CrossCoreIdeal.τ).loc Cert.CrossCoreIdeal.main_arg3) = m ((c.tc : Thread Cert.CrossCoreIdeal.nD Cert.CrossCoreIdeal.τ).loc Cert.CrossCoreIdeal.main_arg3))
      ∧ θ_run (Cert.CrossCoreRefIdeal.defs (F := Ideal)) (onTc (τ := Cert.CrossCoreRefIdeal.τ) (Cert.CrossCoreRefIdeal.main (F := Ideal))) ⟨m', fun _ => 0, g'⟩ (fun r => ∀ c : Dev Cert.CrossCoreRefIdeal.nD,
          r.2.mem ((c.tc : Thread Cert.CrossCoreRefIdeal.nD Cert.CrossCoreRefIdeal.τ).loc Cert.CrossCoreRefIdeal.main_v37) = v0 c
          ∧ r.2.mem ((c.tc : Thread Cert.CrossCoreRefIdeal.nD Cert.CrossCoreRefIdeal.τ).loc Cert.CrossCoreRefIdeal.main_arg0) = m' ((c.tc : Thread Cert.CrossCoreRefIdeal.nD Cert.CrossCoreRefIdeal.τ).loc Cert.CrossCoreRefIdeal.main_arg0)
          ∧ r.2.mem ((c.tc : Thread Cert.CrossCoreRefIdeal.nD Cert.CrossCoreRefIdeal.τ).loc Cert.CrossCoreRefIdeal.main_arg1) = m' ((c.tc : Thread Cert.CrossCoreRefIdeal.nD Cert.CrossCoreRefIdeal.τ).loc Cert.CrossCoreRefIdeal.main_arg1)
          ∧ r.2.mem ((c.tc : Thread Cert.CrossCoreRefIdeal.nD Cert.CrossCoreRefIdeal.τ).loc Cert.CrossCoreRefIdeal.main_arg2) = m' ((c.tc : Thread Cert.CrossCoreRefIdeal.nD Cert.CrossCoreRefIdeal.τ).loc Cert.CrossCoreRefIdeal.main_arg2)
          ∧ r.2.mem ((c.tc : Thread Cert.CrossCoreRefIdeal.nD Cert.CrossCoreRefIdeal.τ).loc Cert.CrossCoreRefIdeal.main_arg3) = m' ((c.tc : Thread Cert.CrossCoreRefIdeal.nD Cert.CrossCoreRefIdeal.τ).loc Cert.CrossCoreRefIdeal.main_arg3))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hCombine : Cert.Combine.Facts) (hCombineIdeal : Cert.CombineIdeal.Facts) (hCombineRefIdeal : Cert.CombineRefIdeal.Facts) (hInProj : Cert.InProj.Facts) (hInProjIdeal : Cert.InProjIdeal.Facts) (hInProjRefIdeal : Cert.InProjRefIdeal.Facts) (hInProjKr : Cert.InProjKr.Facts) (hInProjKrIdeal : Cert.InProjKrIdeal.Facts) (hInProjKrRefIdeal : Cert.InProjKrRefIdeal.Facts) (hQUp : Cert.QUp.Facts) (hQUpIdeal : Cert.QUpIdeal.Facts) (hQUpRefIdeal : Cert.QUpRefIdeal.Facts) (hKvUp : Cert.KvUp.Facts) (hKvUpIdeal : Cert.KvUpIdeal.Facts) (hKvUpRefIdeal : Cert.KvUpRefIdeal.Facts) (hMemKv : Cert.MemKv.Facts) (hMemKvIdeal : Cert.MemKvIdeal.Facts) (hMemKvRefIdeal : Cert.MemKvRefIdeal.Facts) (hCrossQ : Cert.CrossQ.Facts) (hCrossQIdeal : Cert.CrossQIdeal.Facts) (hCrossQRefIdeal : Cert.CrossQRefIdeal.Facts) (hCrossO : Cert.CrossO.Facts) (hCrossOIdeal : Cert.CrossOIdeal.Facts) (hCrossORefIdeal : Cert.CrossORefIdeal.Facts) (hMixOdd : Cert.MixOdd.Facts) (hMixOddIdeal : Cert.MixOddIdeal.Facts) (hMixOddRefIdeal : Cert.MixOddRefIdeal.Facts) (hMixEven : Cert.MixEven.Facts) (hMixEvenIdeal : Cert.MixEvenIdeal.Facts) (hMixEvenRefIdeal : Cert.MixEvenRefIdeal.Facts) (hNorm : Cert.Norm.Facts) (hNormIdeal : Cert.NormIdeal.Facts) (hNormRefIdeal : Cert.NormRefIdeal.Facts) (hNormMem : Cert.NormMem.Facts) (hNormMemIdeal : Cert.NormMemIdeal.Facts) (hNormMemRefIdeal : Cert.NormMemRefIdeal.Facts) (hNormQ : Cert.NormQ.Facts) (hNormQIdeal : Cert.NormQIdeal.Facts) (hNormQRefIdeal : Cert.NormQRefIdeal.Facts) (hNormKv : Cert.NormKv.Facts) (hNormKvIdeal : Cert.NormKvIdeal.Facts) (hNormKvRefIdeal : Cert.NormKvRefIdeal.Facts) (hCrossCore : Cert.CrossCore.Facts) (hCrossCoreIdeal : Cert.CrossCoreIdeal.Facts) (hCrossCoreRefIdeal : Cert.CrossCoreRefIdeal.Facts) (hPre_finite_qk : Cert.Pre_finite_qk.Facts) (hPre_up_tables : Cert.Pre_up_tables.Facts) (hPre_down_tables : Cert.Pre_down_tables.Facts) (hPre_row_numbers : Cert.Pre_row_numbers.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_MoeUp (hMoeUp := hMoeUp) (hPre_up_tables := hPre_up_tables)
    ∧ quiescent_MoeUpIdeal (hMoeUpIdeal := hMoeUpIdeal) (hPre_up_tables := hPre_up_tables)
    ∧ quiescent_MoeUpRefIdeal (hMoeUpRefIdeal := hMoeUpRefIdeal)
    ∧ quiescent_MoeUpRefIdeal_pre_up_tables (hMoeUpRefIdeal := hMoeUpRefIdeal) (hPre_up_tables := hPre_up_tables)
    ∧ quiescent_MoeDown (hMoeDown := hMoeDown) (hPre_down_tables := hPre_down_tables)
    ∧ quiescent_MoeDownIdeal (hMoeDownIdeal := hMoeDownIdeal) (hPre_down_tables := hPre_down_tables)
    ∧ quiescent_MoeDownRefIdeal (hMoeDownRefIdeal := hMoeDownRefIdeal)
    ∧ quiescent_MoeDownRefIdeal_pre_down_tables (hMoeDownRefIdeal := hMoeDownRefIdeal) (hPre_down_tables := hPre_down_tables)
    ∧ quiescent_Combine (hCombine := hCombine) (hPre_row_numbers := hPre_row_numbers)
    ∧ quiescent_CombineIdeal (hCombineIdeal := hCombineIdeal) (hPre_row_numbers := hPre_row_numbers)
    ∧ quiescent_CombineRefIdeal (hCombineRefIdeal := hCombineRefIdeal)
    ∧ quiescent_CombineRefIdeal_pre_row_numbers (hCombineRefIdeal := hCombineRefIdeal) (hPre_row_numbers := hPre_row_numbers)
    ∧ quiescent_InProj (hInProj := hInProj)
    ∧ quiescent_InProjIdeal (hInProjIdeal := hInProjIdeal)
    ∧ quiescent_InProjRefIdeal (hInProjRefIdeal := hInProjRefIdeal)
    ∧ quiescent_InProjKr (hInProjKr := hInProjKr)
    ∧ quiescent_InProjKrIdeal (hInProjKrIdeal := hInProjKrIdeal)
    ∧ quiescent_InProjKrRefIdeal (hInProjKrRefIdeal := hInProjKrRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_CrossQ (hCrossQ := hCrossQ)
    ∧ quiescent_CrossQIdeal (hCrossQIdeal := hCrossQIdeal)
    ∧ quiescent_CrossQRefIdeal (hCrossQRefIdeal := hCrossQRefIdeal)
    ∧ quiescent_CrossO (hCrossO := hCrossO)
    ∧ quiescent_CrossOIdeal (hCrossOIdeal := hCrossOIdeal)
    ∧ quiescent_CrossORefIdeal (hCrossORefIdeal := hCrossORefIdeal)
    ∧ quiescent_MixOdd (hMixOdd := hMixOdd)
    ∧ quiescent_MixOddIdeal (hMixOddIdeal := hMixOddIdeal)
    ∧ quiescent_MixOddRefIdeal (hMixOddRefIdeal := hMixOddRefIdeal)
    ∧ quiescent_MixEven (hMixEven := hMixEven)
    ∧ quiescent_MixEvenIdeal (hMixEvenIdeal := hMixEvenIdeal)
    ∧ quiescent_MixEvenRefIdeal (hMixEvenRefIdeal := hMixEvenRefIdeal)
    ∧ quiescent_Norm (hNorm := hNorm)
    ∧ quiescent_NormIdeal (hNormIdeal := hNormIdeal)
    ∧ quiescent_NormRefIdeal (hNormRefIdeal := hNormRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_NormQ (hNormQ := hNormQ)
    ∧ quiescent_NormQIdeal (hNormQIdeal := hNormQIdeal)
    ∧ quiescent_NormQRefIdeal (hNormQRefIdeal := hNormQRefIdeal)
    ∧ quiescent_NormKv (hNormKv := hNormKv)
    ∧ quiescent_NormKvIdeal (hNormKvIdeal := hNormKvIdeal)
    ∧ quiescent_NormKvRefIdeal (hNormKvRefIdeal := hNormKvRefIdeal)
    ∧ quiescent_CrossCore (hCrossCore := hCrossCore)
    ∧ quiescent_CrossCoreIdeal (hCrossCoreIdeal := hCrossCoreIdeal)
    ∧ quiescent_CrossCoreRefIdeal (hCrossCoreRefIdeal := hCrossCoreRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_MoeUp_MoeUpIdeal
    ∧ algebraic_MoeUpIdeal_MoeUpRefIdeal (hMoeUpIdeal := hMoeUpIdeal) (hMoeUpRefIdeal := hMoeUpRefIdeal) (hPre_up_tables := hPre_up_tables)
    ∧ preserves_MoeDown_MoeDownIdeal
    ∧ algebraic_MoeDownIdeal_MoeDownRefIdeal (hMoeDownIdeal := hMoeDownIdeal) (hMoeDownRefIdeal := hMoeDownRefIdeal) (hPre_down_tables := hPre_down_tables)
    ∧ preserves_Combine_CombineIdeal
    ∧ algebraic_CombineIdeal_CombineRefIdeal (hCombineIdeal := hCombineIdeal) (hCombineRefIdeal := hCombineRefIdeal) (hPre_row_numbers := hPre_row_numbers)
    ∧ preserves_InProj_InProjIdeal
    ∧ algebraic_InProjIdeal_InProjRefIdeal (hInProjIdeal := hInProjIdeal) (hInProjRefIdeal := hInProjRefIdeal)
    ∧ preserves_InProjKr_InProjKrIdeal
    ∧ algebraic_InProjKrIdeal_InProjKrRefIdeal (hInProjKrIdeal := hInProjKrIdeal) (hInProjKrRefIdeal := hInProjKrRefIdeal)
    ∧ preserves_QUp_QUpIdeal
    ∧ algebraic_QUpIdeal_QUpRefIdeal (hQUpIdeal := hQUpIdeal) (hQUpRefIdeal := hQUpRefIdeal)
    ∧ preserves_KvUp_KvUpIdeal
    ∧ algebraic_KvUpIdeal_KvUpRefIdeal (hKvUpIdeal := hKvUpIdeal) (hKvUpRefIdeal := hKvUpRefIdeal)
    ∧ preserves_MemKv_MemKvIdeal
    ∧ algebraic_MemKvIdeal_MemKvRefIdeal (hMemKvIdeal := hMemKvIdeal) (hMemKvRefIdeal := hMemKvRefIdeal)
    ∧ preserves_CrossQ_CrossQIdeal
    ∧ algebraic_CrossQIdeal_CrossQRefIdeal (hCrossQIdeal := hCrossQIdeal) (hCrossQRefIdeal := hCrossQRefIdeal)
    ∧ preserves_CrossO_CrossOIdeal
    ∧ algebraic_CrossOIdeal_CrossORefIdeal (hCrossOIdeal := hCrossOIdeal) (hCrossORefIdeal := hCrossORefIdeal)
    ∧ preserves_MixOdd_MixOddIdeal
    ∧ algebraic_MixOddIdeal_MixOddRefIdeal (hMixOddIdeal := hMixOddIdeal) (hMixOddRefIdeal := hMixOddRefIdeal)
    ∧ preserves_MixEven_MixEvenIdeal
    ∧ algebraic_MixEvenIdeal_MixEvenRefIdeal (hMixEvenIdeal := hMixEvenIdeal) (hMixEvenRefIdeal := hMixEvenRefIdeal)
    ∧ preserves_Norm_NormIdeal
    ∧ algebraic_NormIdeal_NormRefIdeal (hNormIdeal := hNormIdeal) (hNormRefIdeal := hNormRefIdeal)
    ∧ preserves_NormMem_NormMemIdeal
    ∧ algebraic_NormMemIdeal_NormMemRefIdeal (hNormMemIdeal := hNormMemIdeal) (hNormMemRefIdeal := hNormMemRefIdeal)
    ∧ preserves_NormQ_NormQIdeal
    ∧ algebraic_NormQIdeal_NormQRefIdeal (hNormQIdeal := hNormQIdeal) (hNormQRefIdeal := hNormQRefIdeal)
    ∧ preserves_NormKv_NormKvIdeal
    ∧ algebraic_NormKvIdeal_NormKvRefIdeal (hNormKvIdeal := hNormKvIdeal) (hNormKvRefIdeal := hNormKvRefIdeal)
    ∧ preserves_CrossCore_CrossCoreIdeal
    ∧ algebraic_CrossCoreIdeal_CrossCoreRefIdeal (hCrossCoreIdeal := hCrossCoreIdeal) (hCrossCoreRefIdeal := hCrossCoreRefIdeal)
-- ==== Pre_down_tables.lean ====
abbrev S20480x4096 : Shape := ⟨2, ![20480, 4096]⟩
abbrev S8x4096x4096 : Shape := ⟨3, ![8, 4096, 4096]⟩
abbrev S20480x1 : Shape := ⟨2, ![20480, 1]⟩
abbrev S40 : Shape := ⟨1, ![40]⟩
abbrev S1 : Shape := ⟨1, ![1]⟩
abbrev S_ : Shape := ⟨0, ![]⟩

class Facts : Prop where
  bcast_S_S40 : S_.BroadcastsInDim S40 (![] : Fin 0 → Fin S40.rank)
  bcast_S_S1 : S_.BroadcastsInDim S1 (![] : Fin 0 → Fin S1.rank)

variable [Facts]

def fn {F : FTy → Type} [FloatOps F] (main_arg0 : FVec F S20480x4096 .bf16) (main_arg1 : FVec F S8x4096x4096 .f32) (main_arg2 : FVec F S20480x1 .f32) (main_arg3 : IVec S40 32) (main_arg4 : IVec S1 32) : IVec S40 1 × IVec S1 1 :=
  let main_c : IVec S_ 32 := constantI S_ 32 0#32
  let main_v0 : IVec S40 32 := broadcastInDim S40 ![] bcast_S_S40 main_c
  let main_v1 : IVec S40 1 := cmpi .sge main_arg3 main_v0
  let main_c_0 : IVec S_ 32 := constantI S_ 32 8#32
  let main_v2 : IVec S40 32 := broadcastInDim S40 ![] bcast_S_S40 main_c_0
  let main_v3 : IVec S40 1 := cmpi .slt main_arg3 main_v2
  let main_v4 : IVec S40 1 := andi main_v1 main_v3
  let main_c_1 : IVec S_ 32 := constantI S_ 32 1#32
  let main_v5 : IVec S1 32 := broadcastInDim S1 ![] bcast_S_S1 main_c_1
  let main_v6 : IVec S1 1 := cmpi .sge main_arg4 main_v5
  (main_v4, main_v6)
-- ==== Pre_finite_qk.lean ====
abbrev S8192x12288 : Shape := ⟨2, ![8192, 12288]⟩
abbrev S8192x8192 : Shape := ⟨2, ![8192, 8192]⟩
abbrev S_ : Shape := ⟨0, ![]⟩

class Facts : Prop where
  slices_S8192x12288_S8192x8192_0_0 : S8192x12288.Slices ![0, 0] S8192x8192
  bitsLt_bf16_f32 : FTy.bits .bf16 < FTy.bits .f32
  bcast_S_S8192x8192 : S_.BroadcastsInDim S8192x8192 (![] : Fin 0 → Fin S8192x8192.rank)

variable [Facts]

def fn {F : FTy → Type} [FloatOps F] (main_arg0 : FVec F S8192x12288 .bf16) : IVec S8192x8192 1 :=
  let main_v0 : FVec F S8192x8192 .bf16 := (extractStridedSlice S8192x8192 ![0, 0] · slices_S8192x12288_S8192x8192_0_0) main_arg0
  let main_v1 : FVec F S8192x8192 .f32 := (extf .f32 · bitsLt_bf16_f32) main_v0
  let main_v2 : FVec F S8192x8192 .f32 := Host.absf main_v1
  let main_cst : FVec F S_ .f32 := constant S_ .f32 0x7F800000#32
  let main_v3 : FVec F S8192x8192 .f32 := broadcastInDim S8192x8192 ![] bcast_S_S8192x8192 main_cst
  let main_v4 : IVec S8192x8192 1 := cmpf .olt main_v2 main_v3
  main_v4
-- ==== Pre_row_numbers.lean ====
abbrev S8192x4096 : Shape := ⟨2, ![8192, 4096]⟩
abbrev S20480x4096 : Shape := ⟨2, ![20480, 4096]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S8192x4096 .f32) (main_arg1 : FVec F S20480x4096 .f32) (main_arg2 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 20480#32
  let main_v2 : IVec S16384 32 := broadcastInDim S16384 ![] bcast_S_S16384 main_c_0
  let main_v3 : IVec S16384 1 := cmpi .slt main_arg2 main_v2
  let main_v4 : IVec S16384 1 := andi main_v1 main_v3
  main_v4
-- ==== Pre_up_tables.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S_ : Shape := ⟨0, ![]⟩

class Facts : Prop where
  bcast_S_S40 : S_.BroadcastsInDim S40 (![] : Fin 0 → Fin S40.rank)
  bcast_S_S1 : S_.BroadcastsInDim S1 (![] : Fin 0 → Fin S1.rank)

variable [Facts]

def fn {F : FTy → Type} [FloatOps F] (main_arg0 : FVec F S20480x4096 .bf16) (main_arg1 : FVec F S8x4096x4096 .f32) (main_arg2 : FVec F S8x4096x4096 .f32) (main_arg3 : IVec S40 32) (main_arg4 : IVec S1 32) : IVec S40 1 × IVec S1 1 :=
  let main_c : IVec S_ 32 := constantI S_ 32 0#32
  let main_v0 : IVec S40 32 := broadcastInDim S40 ![] bcast_S_S40 main_c
  let main_v1 : IVec S40 1 := cmpi .sge main_arg3 main_v0
  let main_c_0 : IVec S_ 32 := constantI S_ 32 8#32
  let main_v2 : IVec S40 32 := broadcastInDim S40 ![] bcast_S_S40 main_c_0
  let main_v3 : IVec S40 1 := cmpi .slt main_arg3 main_v2
  let main_v4 : IVec S40 1 := andi main_v1 main_v3
  let main_c_1 : IVec S_ 32 := constantI S_ 32 1#32
  let main_v5 : IVec S1 32 := broadcastInDim S1 ![] bcast_S_S1 main_c_1
  let main_v6 : IVec S1 1 := cmpi .sge main_arg4 main_v5
  (main_v4, main_v6)
-- ==== Kernel.lean ====
abbrev S8192x12288 : Shape := ⟨2, ![8192, 12288]⟩
abbrev S8192x4096 : Shape := ⟨2, ![8192, 4096]⟩
abbrev S256x128 : Shape := ⟨2, ![256, 128]⟩
abbrev S2048x128 : Shape := ⟨2, ![2048, 128]⟩
abbrev S256x1 : Shape := ⟨2, ![256, 1]⟩
abbrev S256x256 : Shape := ⟨2, ![256, 256]⟩
abbrev S1x256 : Shape := ⟨2, ![1, 256]⟩
abbrev S256 : Shape := ⟨1, ![256]⟩

abbrev nBuf : Space → Nat
  | .hbm => 2
  | .vmem => 10
  | .smem => 0
  | _ => 0

abbrev bufTy : (tb : Table) → Fin (tcTables nBuf tb) → BufTy
  | .hbm, ⟨0, _⟩ => ⟨S8192x12288, .bf16⟩
  | .hbm, ⟨1, _⟩ => ⟨S8192x4096, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x1, .f32⟩
  | .local _ .vmem, ⟨9, _⟩ => ⟨S256x128, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 32, 8], ![false, false, false]⟩

@[reducible] def k0_t1_loop (i : grid0.Coords) : Scf.Loop 32 :=
  let c0_i32_7 : BitVec 32 := 0#32
  let arg2 : BitVec 32 := BitVec.ofNat 32 (i 2).val
  let c1_i32 : BitVec 32 := 1#32
  let v19 : BitVec 32 := Scalar.addi arg2 c1_i32
  let c1_i32_6 : BitVec 32 := 1#32
  let v20 : BitVec 32 := Scalar.muli v19 c1_i32_6
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_9 : BitVec 32 := 1#32
  ⟨c0_i32_7, v25, c1_i32_9⟩
def k0_mult1 (i : grid0.Coords) (k0_t1 : Fin (k0_t1_loop i).trips) : BitVec 32 :=
  let arg2 : BitVec 32 := BitVec.ofNat 32 (i 2).val
  let c1_i32 : BitVec 32 := 1#32
  let v19 : BitVec 32 := Scalar.addi arg2 c1_i32
  let c1_i32_6 : BitVec 32 := 1#32
  let v20 : BitVec 32 := Scalar.muli v19 c1_i32_6
  let c1_i32_15 : BitVec 32 := 1#32
  let v29 : BitVec 32 := Scalar.subi v20 c1_i32_15
  let c0_i32_7 : BitVec 32 := 0#32
  let c1_i32_9 : BitVec 32 := 1#32
  let arg9 : BitVec 32 := Scf.iv c0_i32_7 c1_i32_9 k0_t1
  let v30 : BitVec 32 := Scalar.subi v29 arg9
  let c256_i32_16 : BitVec 32 := 256#32
  let v31 : BitVec 32 := Scalar.muli v30 c256_i32_16
  v31
def k0_off1 (i : grid0.Coords) (k0_t1 : Fin (k0_t1_loop i).trips) : Fin 2 → Nat :=
  let arg2 : BitVec 32 := BitVec.ofNat 32 (i 2).val
  let c1_i32 : BitVec 32 := 1#32
  let v19 : BitVec 32 := Scalar.addi arg2 c1_i32
  let c1_i32_6 : BitVec 32 := 1#32
  let v20 : BitVec 32 := Scalar.muli v19 c1_i32_6
  let c1_i32_15 : BitVec 32 := 1#32
  let v29 : BitVec 32 := Scalar.subi v20 c1_i32_15
  let c0_i32_7 : BitVec 32 := 0#32
  let c1_i32_9 : BitVec 32 := 1#32
  let arg9 : BitVec 32 := Scf.iv c0_i32_7 c1_i32_9 k0_t1
  let v30 : BitVec 32 := Scalar.subi v29 arg9
  let c256_i32_16 : BitVec 32 := 256#32
  let v31 : BitVec 32 := Scalar.muli v30 c256_i32_16
  let v32 : BitVec 32 := v31
  let v33 : Index := Scalar.indexCast v32
  let c0_17 : Index := 0#32
  ![v33.toNat, 0]
@[reducible] def k0_t2_loop (i : grid0.Coords) : Scf.Loop 32 :=
  let c0_i32_7 : BitVec 32 := 0#32
  let arg2 : BitVec 32 := BitVec.ofNat 32 (i 2).val
  let c1_i32 : BitVec 32 := 1#32
  let v19 : BitVec 32 := Scalar.addi arg2 c1_i32
  let c1_i32_6 : BitVec 32 := 1#32
  let v20 : BitVec 32 := Scalar.muli v19 c1_i32_6
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let v22 : BitVec 32 := Scalar.addi c0_i32_7 v21
  let c1_i32_10 : BitVec 32 := 1#32
  ⟨v25, v22, c1_i32_10⟩
def k0_mult2 (i : grid0.Coords) (k0_t2 : Fin (k0_t2_loop i).trips) : BitVec 32 :=
  let arg2 : BitVec 32 := BitVec.ofNat 32 (i 2).val
  let c1_i32 : BitVec 32 := 1#32
  let v19 : BitVec 32 := Scalar.addi arg2 c1_i32
  let c1_i32_6 : BitVec 32 := 1#32
  let v20 : BitVec 32 := Scalar.muli v19 c1_i32_6
  let c1_i32_15 : BitVec 32 := 1#32
  let v29 : BitVec 32 := Scalar.subi v20 c1_i32_15
  let c0_i32_7 : BitVec 32 := 0#32
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg9 : BitVec 32 := Scf.iv v25 c1_i32_10 k0_t2
  let v30 : BitVec 32 := Scalar.subi v29 arg9
  let c256_i32_16 : BitVec 32 := 256#32
  let v31 : BitVec 32 := Scalar.muli v30 c256_i32_16
  v31
def k0_off2 (i : grid0.Coords) (k0_t2 : Fin (k0_t2_loop i).trips) : Fin 2 → Nat :=
  let arg2 : BitVec 32 := BitVec.ofNat 32 (i 2).val
  let c1_i32 : BitVec 32 := 1#32
  let v19 : BitVec 32 := Scalar.addi arg2 c1_i32
  let c1_i32_6 : BitVec 32 := 1#32
  let v20 : BitVec 32 := Scalar.muli v19 c1_i32_6
  let c1_i32_15 : BitVec 32 := 1#32
  let v29 : BitVec 32 := Scalar.subi v20 c1_i32_15
  let c0_i32_7 : BitVec 32 := 0#32
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg9 : BitVec 32 := Scf.iv v25 c1_i32_10 k0_t2
  let v30 : BitVec 32 := Scalar.subi v29 arg9
  let c256_i32_16 : BitVec 32 := 256#32
  let v31 : BitVec 32 := Scalar.muli v30 c256_i32_16
  let v32 : BitVec 32 := v31
  let v33 : Index := Scalar.indexCast v32
  let c0_17 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8192x12288 : Shape := ⟨2, ![8192, 12288]⟩
abbrev S4x2048x3x32x128 : Shape := ⟨5, ![4, 2048, 3, 32, 128]⟩
abbrev S4x2048x1x32x128 : Shape := ⟨5, ![4, 2048, 1, 32, 128]⟩
abbrev S4x2048x32x128 : Shape := ⟨4, ![4, 2048, 32, 128]⟩
abbrev S4x32x2048x2048 : Shape := ⟨4, ![4, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x128x2048 : Shape := ⟨4, ![4, 32, 128, 2048]⟩
abbrev S8192x4096 : Shape := ⟨2, ![8192, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S8192x12288, .f32⟩
  | .hbm, ⟨2, _⟩ => ⟨S4x2048x3x32x128, .f32⟩
  | .hbm, ⟨3, _⟩ => ⟨S4x2048x1x32x128, .f32⟩
  | .hbm, ⟨4, _⟩ => ⟨S4x2048x32x128, .f32⟩
  | .hbm, ⟨5, _⟩ => ⟨S4x2048x1x32x128, .f32⟩
  | .hbm, ⟨6, _⟩ => ⟨S4x2048x32x128, .f32⟩
  | .hbm, ⟨7, _⟩ => ⟨S4x2048x1x32x128, .f32⟩
  | .hbm, ⟨8, _⟩ => ⟨S4x2048x32x128, .f32⟩
  | .hbm, ⟨9, _⟩ => ⟨S4x32x2048x2048, .f32⟩
  | .hbm, ⟨10, _⟩ => ⟨S_, .f32⟩
  | .hbm, ⟨11, _⟩ => ⟨S4x32x2048x2048, .f32⟩
  | .hbm, ⟨12, _⟩ => ⟨S4x32x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S4x32x2048x2048, .f32⟩
  | .hbm, ⟨20, _⟩ => ⟨S_, .f32⟩
  | .hbm, ⟨21, _⟩ => ⟨S4x32x2048x2048, .f32⟩
  | .hbm, ⟨22, _⟩ => ⟨S4x32x2048x2048, .f32⟩
  | .hbm, ⟨23, _⟩ => ⟨S4x32x2048x2048, .f32⟩
  | .hbm, ⟨24, _⟩ => ⟨S4x32x2048x2048, .f32⟩
  | .hbm, ⟨25, _⟩ => ⟨S4x32x2048x2048, .i1⟩
  | .hbm, ⟨26, _⟩ => ⟨S4x32x2048x2048, .f32⟩
  | .hbm, ⟨27, _⟩ => ⟨S4x32x2048x2048, .f32⟩
  | .hbm, ⟨28, _⟩ => ⟨S4x32x2048x2048, .f32⟩
  | .hbm, ⟨29, _⟩ => ⟨S4x32x2048x2048, .f32⟩
  | .hbm, ⟨30, _⟩ => ⟨S4x32x2048x2048, .f32⟩
  | .hbm, ⟨31, _⟩ => ⟨S4x32x2048x2048, .f32⟩
  | .hbm, ⟨32, _⟩ => ⟨S4x32x2048x2048, .f32⟩
  | .hbm, ⟨33, _⟩ => ⟨S4x32x2048x2048, .f32⟩
  | .hbm, ⟨34, _⟩ => ⟨S4x32x2048x2048, .f32⟩
  | .hbm, ⟨35, _⟩ => ⟨S4x32x2048x2048, .f32⟩
  | .hbm, ⟨36, _⟩ => ⟨S4x32x2048x2048, .f32⟩
  | .hbm, ⟨37, _⟩ => ⟨S_, .f32⟩
  | .hbm, ⟨38, _⟩ => ⟨S4x32x2048x2048, .f32⟩
  | .hbm, ⟨39, _⟩ => ⟨S4x32x2048x2048, .f32⟩
  | .hbm, ⟨40, _⟩ => ⟨S4x32x2048x2048, .f32⟩
  | .hbm, ⟨41, _⟩ => ⟨S4x32x2048x2048, .f32⟩
  | .hbm, ⟨42, _⟩ => ⟨S4x32x2048x2048, .i1⟩
  | .hbm, ⟨43, _⟩ => ⟨S4x32x2048x2048, .f32⟩
  | .hbm, ⟨44, _⟩ => ⟨S4x32x2048x2048, .f32⟩
  | .hbm, ⟨45, _⟩ => ⟨S4x32x2048x2048, .f32⟩
  | .hbm, ⟨46, _⟩ => ⟨S4x32x2048x2048, .f32⟩
  | .hbm, ⟨47, _⟩ => ⟨S4x32x2048x2048, .f32⟩
  | .hbm, ⟨48, _⟩ => ⟨S4x32x2048x2048, .f32⟩
  | .hbm, ⟨49, _⟩ => ⟨S4x32x2048x2048, .f32⟩
  | .hbm, ⟨50, _⟩ => ⟨S4x32x2048x2048, .f32⟩
  | .hbm, ⟨51, _⟩ => ⟨S4x32x2048x2048, .f32⟩
  | .hbm, ⟨52, _⟩ => ⟨S_, .f32⟩
  | .hbm, ⟨53, _⟩ => ⟨S_, .f32⟩
  | .hbm, ⟨54, _⟩ => ⟨S4x32x2048x2048, .i1⟩
  | .hbm, ⟨55, _⟩ => ⟨S4x32x2048x2048, .f32⟩
  | .hbm, ⟨56, _⟩ => ⟨S4x32x2048x2048, .f32⟩
  | .hbm, ⟨57, _⟩ => ⟨S_, .f32⟩
  | .hbm, ⟨58, _⟩ => ⟨S_, .f32⟩
  | .hbm, ⟨59, _⟩ => ⟨S4x32x2048x2048, .f32⟩
  | .hbm, ⟨60, _⟩ => ⟨S4x32x2048x2048, .f32⟩
  | .hbm, ⟨61, _⟩ => ⟨S4x32x2048x2048, .f32⟩
  | .hbm, ⟨62, _⟩ => ⟨S4x32x2048x2048, .f32⟩
  | .hbm, ⟨63, _⟩ => ⟨S_, .f32⟩
  | .hbm, ⟨64, _⟩ => ⟨S_, .f32⟩
  | .hbm, ⟨65, _⟩ => ⟨S4x32x2048x2048, .i1⟩
  | .hbm, ⟨66, _⟩ => ⟨S4x32x2048x2048, .f32⟩
  | .hbm, ⟨67, _⟩ => ⟨S4x32x2048x2048, .f32⟩
  | .hbm, ⟨68, _⟩ => ⟨S4x32x128x2048, .f32⟩
  | .hbm, ⟨69, _⟩ => ⟨S4x2048x32x128, .f32⟩
  | .hbm, ⟨70, _⟩ => ⟨S8192x4096, .f32⟩
  | .hbm, ⟨71, _⟩ => ⟨S8192x4096, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v19 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v20 : Ref sig .tc := ⟨.hbm, 56, rfl⟩
abbrev main_call3_cst : Ref sig .tc := ⟨.hbm, 57, rfl⟩
abbrev main_call3_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== GateUp.lean ====
abbrev S8192x4096 : Shape := ⟨2, ![8192, 4096]⟩
abbrev S4096x14336 : Shape := ⟨2, ![4096, 14336]⟩
abbrev S8192x14336 : Shape := ⟨2, ![8192, 14336]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S4096x14336, .f32⟩
  | .hbm, ⟨3, _⟩ => ⟨S8192x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x256, .bf16⟩
  | .local _ .vmem, ⟨7, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S8192x4096 : Shape := ⟨2, ![8192, 4096]⟩
abbrev S4096x14336 : Shape := ⟨2, ![4096, 14336]⟩
abbrev S8192x14336 : Shape := ⟨2, ![8192, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S4096x14336, .f32⟩
  | .hbm, ⟨3, _⟩ => ⟨S8192x4096, .f32⟩
  | .hbm, ⟨4, _⟩ => ⟨S8192x14336, .f32⟩
  | .hbm, ⟨5, _⟩ => ⟨S8192x14336, .f32⟩
  | .hbm, ⟨6, _⟩ => ⟨S8192x14336, .f32⟩
  | .hbm, ⟨7, _⟩ => ⟨S_, .f32⟩
  | .hbm, ⟨8, _⟩ => ⟨S8192x14336, .f32⟩
  | .hbm, ⟨9, _⟩ => ⟨S8192x14336, .f32⟩
  | .hbm, ⟨10, _⟩ => ⟨S_, .f32⟩
  | .hbm, ⟨11, _⟩ => ⟨S8192x14336, .f32⟩
  | .hbm, ⟨12, _⟩ => ⟨S8192x14336, .f32⟩
  | .hbm, ⟨13, _⟩ => ⟨S8192x14336, .f32⟩
  | .hbm, ⟨14, _⟩ => ⟨S8192x14336, .f32⟩
  | .hbm, ⟨15, _⟩ => ⟨S8192x14336, .f32⟩
  | .hbm, ⟨16, _⟩ => ⟨S8192x14336, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S8192x14336 : Shape := ⟨2, ![8192, 14336]⟩
abbrev S14336x4096 : Shape := ⟨2, ![14336, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x14336, .bf16⟩
  | .hbm, ⟨1, _⟩ => ⟨S14336x4096, .f32⟩
  | .hbm, ⟨2, _⟩ => ⟨S8192x4096, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 7], ![false, false, false]⟩

def k0_cond3 (i : grid0.Coords) : BitVec 1 :=
  let arg2 : BitVec 32 := BitVec.ofNat 32 (i 2).val
  let c6_i32_6 : BitVec 32 := 6#32
  let v12 : BitVec 1 := Scalar.cmpi .eq arg2 c6_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x14336 : Shape := ⟨2, ![8192, 14336]⟩
abbrev S14336x4096 : Shape := ⟨2, ![14336, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S14336x4096, .f32⟩
  | .hbm, ⟨2, _⟩ => ⟨S8192x4096, .f32⟩
  | .hbm, ⟨3, _⟩ => ⟨S8192x14336, .f32⟩
  | .hbm, ⟨4, _⟩ => ⟨S8192x4096, .f32⟩
  | .hbm, ⟨5, _⟩ => ⟨S8192x4096, .f32⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Qkv.lean ====
abbrev S8192x4096 : Shape := ⟨2, ![8192, 4096]⟩
abbrev S4096x12288 : Shape := ⟨2, ![4096, 12288]⟩
abbrev S8192x12288 : Shape := ⟨2, ![8192, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S8192x4096 : Shape := ⟨2, ![8192, 4096]⟩
abbrev S4096x12288 : Shape := ⟨2, ![4096, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x4096, .f32⟩
  | .hbm, ⟨3, _⟩ => ⟨S8192x12288, .f32⟩
  | .hbm, ⟨4, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MoeUp.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 10
  | .smem => 2
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S8x4096x4096, .f32⟩
  | .hbm, ⟨3, _⟩ => ⟨S20480x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpRefIdeal.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S20480x8x4096 : Shape := ⟨3, ![20480, 8, 4096]⟩
abbrev S_ : Shape := ⟨0, ![]⟩
abbrev S40x512 : Shape := ⟨2, ![40, 512]⟩
abbrev S20480 : Shape := ⟨1, ![20480]⟩
abbrev S20480x1 : Shape := ⟨2, ![20480, 1]⟩
abbrev S8 : Shape := ⟨1, ![8]⟩
abbrev S1x8 : Shape := ⟨2, ![1, 8]⟩
abbrev S20480x8 : Shape := ⟨2, ![20480, 8]⟩
abbrev S20480x8x1 : Shape := ⟨3, ![20480, 8, 1]⟩

abbrev nBuf : Space → Nat
  | .hbm => 46
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S8x4096x4096, .f32⟩
  | .hbm, ⟨3, _⟩ => ⟨S40, .i32⟩
  | .hbm, ⟨4, _⟩ => ⟨S1, .i32⟩
  | .hbm, ⟨5, _⟩ => ⟨S20480x4096, .f32⟩
  | .hbm, ⟨6, _⟩ => ⟨S20480x8x4096, .f32⟩
  | .hbm, ⟨7, _⟩ => ⟨S20480x8x4096, .f32⟩
  | .hbm, ⟨8, _⟩ => ⟨S20480x8x4096, .f32⟩
  | .hbm, ⟨9, _⟩ => ⟨S20480x8x4096, .f32⟩
  | .hbm, ⟨10, _⟩ => ⟨S_, .f32⟩
  | .hbm, ⟨11, _⟩ => ⟨S20480x8x4096, .f32⟩
  | .hbm, ⟨12, _⟩ => ⟨S20480x8x4096, .f32⟩
  | .hbm, ⟨13, _⟩ => ⟨S_, .f32⟩
  | .hbm, ⟨14, _⟩ => ⟨S20480x8x4096, .f32⟩
  | .hbm, ⟨15, _⟩ => ⟨S20480x8x4096, .f32⟩
  | .hbm, ⟨16, _⟩ => ⟨S20480x8x4096, .f32⟩
  | .hbm, ⟨17, _⟩ => ⟨S20480x8x4096, .f32⟩
  | .hbm, ⟨18, _⟩ => ⟨S40x512, .i32⟩
  | .hbm, ⟨19, _⟩ => ⟨S20480, .i32⟩
  | .hbm, ⟨20, _⟩ => ⟨S20480x1, .i32⟩
  | .hbm, ⟨21, _⟩ => ⟨S8, .i32⟩
  | .hbm, ⟨22, _⟩ => ⟨S1x8, .i32⟩
  | .hbm, ⟨23, _⟩ => ⟨S20480x8, .i32⟩
  | .hbm, ⟨24, _⟩ => ⟨S20480x8, .i32⟩
  | .hbm, ⟨25, _⟩ => ⟨S20480x8, .i1⟩
  | .hbm, ⟨26, _⟩ => ⟨S20480x8x1, .i1⟩
  | .hbm, ⟨27, _⟩ => ⟨S_, .f32⟩
  | .hbm, ⟨28, _⟩ => ⟨S_, .f32⟩
  | .hbm, ⟨29, _⟩ => ⟨S20480x8x4096, .i1⟩
  | .hbm, ⟨30, _⟩ => ⟨S20480x8x4096, .f32⟩
  | .hbm, ⟨31, _⟩ => ⟨S20480x8x4096, .f32⟩
  | .hbm, ⟨32, _⟩ => ⟨S_, .f32⟩
  | .hbm, ⟨33, _⟩ => ⟨S20480x4096, .f32⟩
  | .hbm, ⟨34, _⟩ => ⟨S40, .i32⟩
  | .hbm, ⟨35, _⟩ => ⟨S40x512, .i32⟩
  | .hbm, ⟨36, _⟩ => ⟨S20480, .i32⟩
  | .hbm, ⟨37, _⟩ => ⟨S20480, .i32⟩
  | .hbm, ⟨38, _⟩ => ⟨S20480, .i1⟩
  | .hbm, ⟨39, _⟩ => ⟨S20480x1, .i1⟩
  | .hbm, ⟨40, _⟩ => ⟨S_, .f32⟩
  | .hbm, ⟨41, _⟩ => ⟨S_, .f32⟩
  | .hbm, ⟨42, _⟩ => ⟨S20480x4096, .i1⟩
  | .hbm, ⟨43, _⟩ => ⟨S20480x4096, .f32⟩
  | .hbm, ⟨44, _⟩ => ⟨S20480x4096, .f32⟩
  | .hbm, ⟨45, _⟩ => ⟨S20480x4096, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== MoeDown.lean ====
abbrev S20480x4096 : Shape := ⟨2, ![20480, 4096]⟩
abbrev S8x4096x4096 : Shape := ⟨3, ![8, 4096, 4096]⟩
abbrev S20480x1 : Shape := ⟨2, ![20480, 1]⟩
abbrev S40 : Shape := ⟨1, ![40]⟩
abbrev S1 : Shape := ⟨1, ![1]⟩
abbrev S512x4096 : Shape := ⟨2, ![512, 4096]⟩
abbrev S1x4096x512 : Shape := ⟨3, ![1, 4096, 512]⟩
abbrev S512x1 : Shape := ⟨2, ![512, 1]⟩
abbrev S512x512 : Shape := ⟨2, ![512, 512]⟩
abbrev S4096x512 : Shape := ⟨2, ![4096, 512]⟩

abbrev nBuf : Space → Nat
  | .hbm => 4
  | .vmem => 9
  | .smem => 2
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S20480x1, .f32⟩
  | .hbm, ⟨3, _⟩ => ⟨S20480x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x1, .f32⟩
  | .local _ .vmem, ⟨5, _⟩ => ⟨S512x1, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeDownRefIdeal.lean ====
abbrev S20480x4096 : Shape := ⟨2, ![20480, 4096]⟩
abbrev S8x4096x4096 : Shape := ⟨3, ![8, 4096, 4096]⟩
abbrev S20480x1 : Shape := ⟨2, ![20480, 1]⟩
abbrev S40 : Shape := ⟨1, ![40]⟩
abbrev S1 : Shape := ⟨1, ![1]⟩
abbrev S20480x8x4096 : Shape := ⟨3, ![20480, 8, 4096]⟩
abbrev S40x512 : Shape := ⟨2, ![40, 512]⟩
abbrev S20480 : Shape := ⟨1, ![20480]⟩
abbrev S8 : Shape := ⟨1, ![8]⟩
abbrev S1x8 : Shape := ⟨2, ![1, 8]⟩
abbrev S20480x8 : Shape := ⟨2, ![20480, 8]⟩
abbrev S20480x8x1 : Shape := ⟨3, ![20480, 8, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S20480x1, .f32⟩
  | .hbm, ⟨3, _⟩ => ⟨S40, .i32⟩
  | .hbm, ⟨4, _⟩ => ⟨S1, .i32⟩
  | .hbm, ⟨5, _⟩ => ⟨S20480x4096, .f32⟩
  | .hbm, ⟨6, _⟩ => ⟨S20480x8x4096, .f32⟩
  | .hbm, ⟨7, _⟩ => ⟨S40x512, .i32⟩
  | .hbm, ⟨8, _⟩ => ⟨S20480, .i32⟩
  | .hbm, ⟨9, _⟩ => ⟨S20480x1, .i32⟩
  | .hbm, ⟨10, _⟩ => ⟨S8, .i32⟩
  | .hbm, ⟨11, _⟩ => ⟨S1x8, .i32⟩
  | .hbm, ⟨12, _⟩ => ⟨S20480x8, .i32⟩
  | .hbm, ⟨13, _⟩ => ⟨S20480x8, .i32⟩
  | .hbm, ⟨14, _⟩ => ⟨S20480x8, .i1⟩
  | .hbm, ⟨15, _⟩ => ⟨S20480x8x1, .i1⟩
  | .hbm, ⟨16, _⟩ => ⟨S_, .f32⟩
  | .hbm, ⟨17, _⟩ => ⟨S_, .f32⟩
  | .hbm, ⟨18, _⟩ => ⟨S20480x8x4096, .i1⟩
  | .hbm, ⟨19, _⟩ => ⟨S20480x8x4096, .f32⟩
  | .hbm, ⟨20, _⟩ => ⟨S20480x8x4096, .f32⟩
  | .hbm, ⟨21, _⟩ => ⟨S_, .f32⟩
  | .hbm, ⟨22, _⟩ => ⟨S20480x4096, .f32⟩
  | .hbm, ⟨23, _⟩ => ⟨S20480x4096, .f32⟩
  | .hbm, ⟨24, _⟩ => ⟨S20480x4096, .f32⟩
  | .hbm, ⟨25, _⟩ => ⟨S40, .i32⟩
  | .hbm, ⟨26, _⟩ => ⟨S40x512, .i32⟩
  | .hbm, ⟨27, _⟩ => ⟨S20480, .i32⟩
  | .hbm, ⟨28, _⟩ => ⟨S20480, .i32⟩
  | .hbm, ⟨29, _⟩ => ⟨S20480, .i1⟩
  | .hbm, ⟨30, _⟩ => ⟨S20480x1, .i1⟩
  | .hbm, ⟨31, _⟩ => ⟨S_, .f32⟩
  | .hbm, ⟨32, _⟩ => ⟨S_, .f32⟩
  | .hbm, ⟨33, _⟩ => ⟨S20480x4096, .i1⟩
  | .hbm, ⟨34, _⟩ => ⟨S20480x4096, .f32⟩
  | .hbm, ⟨35, _⟩ => ⟨S20480x4096, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Combine.lean ====
abbrev S8192x4096 : Shape := ⟨2, ![8192, 4096]⟩
abbrev S20480x4096 : Shape := ⟨2, ![20480, 4096]⟩
abbrev S16384 : Shape := ⟨1, ![16384]⟩
abbrev S128x4096 : Shape := ⟨2, ![128, 4096]⟩
abbrev S2x128x4096 : Shape := ⟨3, ![2, 128, 4096]⟩
abbrev S_ : Shape := ⟨0, ![]⟩
abbrev S1 : Shape := ⟨1, ![1]⟩
abbrev S1x1x4096 : Shape := ⟨3, ![1, 1, 4096]⟩
abbrev S1x4096 : Shape := ⟨2, ![1, 4096]⟩
abbrev S1x128x4096 : Shape := ⟨3, ![1, 128, 4096]⟩

abbrev nBuf : Space → Nat
  | .hbm => 3
  | .vmem => 5
  | .smem => 1
  | _ => 0

abbrev bufTy : (tb : Table) → Fin (tcTables nBuf tb) → BufTy
  | .hbm, ⟨0, _⟩ => ⟨S8192x4096, .f32⟩
  | .hbm, ⟨1, _⟩ => ⟨S20480x4096, .f32⟩
  | .hbm, ⟨2, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S2x128x4096, .f32⟩
  | .local _ .smem, ⟨0, _⟩ => ⟨S16384, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c128_i32_13 : BitVec 32 := 128#32
  let v10 : BitVec 32 := Scalar.muli arg0 c128_i32_13
  let c0_i32 : BitVec 32 := 0#32
  let c1_i32 : BitVec 32 := 1#32
  let arg7 : BitVec 32 := Scf.iv c0_i32 c1_i32 k0_t1
  let v11 : BitVec 32 := Scalar.addi v10 arg7
  let c2_i32 : BitVec 32 := 2#32
  let v12 : BitVec 32 := Scalar.muli v11 c2_i32
  let c0_i32_14 : BitVec 32 := 0#32
  let v13 : BitVec 32 := Scalar.addi v12 c0_i32_14
  let v14 : Index := Scalar.indexCast v13
  ![v14.toNat]
def k0_off2 (k0_t1 : Fin k0_t1_loop.trips) : Fin 3 → Nat :=
  let c0_i32_15 : BitVec 32 := 0#32
  let c0_i32 : BitVec 32 := 0#32
  let c1_i32 : BitVec 32 := 1#32
  let arg7 : BitVec 32 := Scf.iv c0_i32 c1_i32 k0_t1
  let c0_i32_16 : BitVec 32 := 0#32
  ![0, arg7.toNat, 0]
def k0_off3 (v15 : BitVec 32) : Fin 2 → Nat :=
  let c0_i32_17 : BitVec 32 := 0#32
  ![v15.toNat, 0]

def k0_chk1 (v15 : BitVec 32) : Prop :=
  (∀ a, (k0_off3 v15) a + S1x4096.size a ≤ S20480x4096.size a)
theorem k0_off3_inb : ∀ (v15 : BitVec 32) (k0_hw1 : k0_chk1 v15), ∀ a, (k0_off3 v15) a + S1x4096.size a ≤ S20480x4096.size a := fun v15 k0_hw1 => k0_hw1

def k0_off4 (i : grid0.Coords) (k0_t1 : Fin k0_t1_loop.trips) : Fin 1 → Nat :=
  let arg0 : BitVec 32 := BitVec.ofNat 32 (i 0).val
  let c128_i32_13 : BitVec 32 := 128#32
  let v10 : BitVec 32 := Scalar.muli arg0 c128_i32_13
  let c0_i32 : BitVec 32 := 0#32
  let c1_i32 : BitVec 32 := 1#32
  let arg7 : BitVec 32 := Scf.iv c0_i32 c1_i32 k0_t1
  let v11 : BitVec 32 := Scalar.addi v10 arg7
  let c2_i32 : BitVec 32 := 2#32
  let v12 : BitVec 32 := Scalar.muli v11 c2_i32
  let c1_i32_18 : BitVec 32 := 1#32
  let v19 : BitVec 32 := Scalar.addi v12 c1_i32_18
  let v20 : Index := Scalar.indexCast v19
  ![v20.toNat]
def k0_off5 (k0_t1 : Fin k0_t1_loop.trips) : Fin 3 → Nat :=
  let c1_i32_19 : BitVec 32 := 1#32
  let c0_i32 : BitVec 32 := 0#32
  let c1_i32 : BitVec 32 := 1#32
  let arg7 : BitVec 32 := Scf.iv c0_i32 c1_i32 k0_t1
  let c0_i32_20 : BitVec 32 := 0#32
  ![1, arg7.toNat, 0]
def k0_off6 (v21 : BitVec 32) : Fin 2 → Nat :=
  let c0_i32_21 : BitVec 32 := 0#32
  ![v21.toNat, 0]

def k0_chk2 (v21 : BitVec 32) : Prop :=
  (∀ a, (k0_off6 v21) a + S1x4096.size a ≤ S20480x4096.size a)
theorem k0_off6_inb : ∀ (v21 : BitVec 32) (k0_hw2 : k0_chk2 v21), ∀ a, (k0_off6 v21) a + S1x4096.size a ≤ S20480x4096.size a := fun v21 k0_hw2 => k0_hw2

@[reducible] def k0_t2_loop : Scf.Loop 32 :=
  let c0_i32_1 : BitVec 32 := 0#32
  let c128_i32_2 : BitVec 32 := 128#32
  let v1 : BitVec 32 := Scalar.addi c0_i32_1 c128_i32_2
  let c1_i32_3 : BitVec 32 := 1#32
  ⟨c0_i32_1, v1, c1_i32_3⟩
def k0_off7 (k0_t2 : Fin k0_t2_loop.trips) : Fin 3 → Nat :=
  let c0_i32_13 : BitVec 32 := 0#32
  let c0_i32_1 : BitVec 32 := 0#32
  let c1_i32_3 : BitVec 32 := 1#32
  let arg7 : BitVec 32 := Scf.iv c0_i32_1 c1_i32_3 k0_t2
  let c0_i32_14 : BitVec 32 := 0#32
  ![0, arg7.toNat, 0]
def k0_off8 (k0_t2 : Fin k0_t2_loop.trips) : Fin 3 → Nat :=
  let c1_i32_17 : BitVec 32 := 1#32
  let c0_i32_1 : BitVec 32 := 0#32
  let c1_i32_3 : BitVec 32 := 1#32
  let arg7 : BitVec 32 := Scf.iv c0_i32_1 c1_i32_3 k0_t2
  let c0_i32_18 : BitVec 32 := 0#32
  ![1, arg7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CombineRefIdeal.lean ====
abbrev S8192x4096 : Shape := ⟨2, ![8192, 4096]⟩
abbrev S20480x4096 : Shape := ⟨2, ![20480, 4096]⟩
abbrev S16384 : Shape := ⟨1, ![16384]⟩
abbrev S8192x2 : Shape := ⟨2, ![8192, 2]⟩
abbrev S_ : Shape := ⟨0, ![]⟩
abbrev S8192x2x1 : Shape := ⟨3, ![8192, 2, 1]⟩
abbrev S8192x2x4096 : Shape := ⟨3, ![8192, 2, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S20480x4096, .f32⟩
  | .hbm, ⟨2, _⟩ => ⟨S16384, .i32⟩
  | .hbm, ⟨3, _⟩ => ⟨S8192x2, .i32⟩
  | .hbm, ⟨4, _⟩ => ⟨S_, .i32⟩
  | .hbm, ⟨5, _⟩ => ⟨S8192x2, .i32⟩
  | .hbm, ⟨6, _⟩ => ⟨S8192x2, .i1⟩
  | .hbm, ⟨7, _⟩ => ⟨S_, .i32⟩
  | .hbm, ⟨8, _⟩ => ⟨S8192x2, .i32⟩
  | .hbm, ⟨9, _⟩ => ⟨S8192x2, .i32⟩
  | .hbm, ⟨10, _⟩ => ⟨S8192x2, .i32⟩
  | .hbm, ⟨11, _⟩ => ⟨S8192x2x1, .i32⟩
  | .hbm, ⟨12, _⟩ => ⟨S8192x2x4096, .f32⟩
  | .hbm, ⟨13, _⟩ => ⟨S_, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== InProj.lean ====
abbrev S8192x4096 : Shape := ⟨2, ![8192, 4096]⟩
abbrev S4096x8256 : Shape := ⟨2, ![4096, 8256]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x8256, .f32⟩
  | .hbm, ⟨2, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x4096 : Shape := ⟨2, ![8192, 4096]⟩
abbrev S4096x8256 : Shape := ⟨2, ![4096, 8256]⟩
abbrev S8192x8256 : Shape := ⟨2, ![8192, 8256]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8256, .f32⟩
  | .hbm, ⟨2, _⟩ => ⟨S8192x4096, .f32⟩
  | .hbm, ⟨3, _⟩ => ⟨S8192x8256, .f32⟩
  | .hbm, ⟨4, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjKr.lean ====
abbrev S8192x4096 : Shape := ⟨2, ![8192, 4096]⟩
abbrev S4096x128 : Shape := ⟨2, ![4096, 128]⟩
abbrev S8192x128 : Shape := ⟨2, ![8192, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .f32⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjKrRefIdeal.lean ====
abbrev S8192x4096 : Shape := ⟨2, ![8192, 4096]⟩
abbrev S4096x128 : Shape := ⟨2, ![4096, 128]⟩
abbrev S8192x128 : Shape := ⟨2, ![8192, 128]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S8192x4096, .f32⟩
  | .hbm, ⟨3, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QUp.lean ====
abbrev S8192x1536 : Shape := ⟨2, ![8192, 1536]⟩
abbrev S1536x4096 : Shape := ⟨2, ![1536, 4096]⟩
abbrev S8192x4096 : Shape := ⟨2, ![8192, 4096]⟩
abbrev S1024x1536 : Shape := ⟨2, ![1024, 1536]⟩
abbrev S1536x512 : Shape := ⟨2, ![1536, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S1536x4096, .f32⟩
  | .hbm, ⟨2, _⟩ => ⟨S8192x4096, .f32⟩
  | .local _ .vmem, ⟨0, _⟩ => ⟨S1024x1536, .bf16⟩
  | .local _ .vmem, ⟨1, _⟩ => ⟨S1024x1536, .bf16⟩
  | .local _ .vmem, ⟨2, _⟩ => ⟨S1536x512, .f32⟩
  | .local _ .vmem, ⟨3, _⟩ => ⟨S1536x512, .f32⟩
  | .local _ .vmem, ⟨4, _⟩ => ⟨S1024x512, .f32⟩
  | .local _ .vmem, ⟨5, _⟩ => ⟨S1024x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpRefIdeal.lean ====
abbrev S8192x1536 : Shape := ⟨2, ![8192, 1536]⟩
abbrev S1536x4096 : Shape := ⟨2, ![1536, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x4096, .f32⟩
  | .hbm, ⟨2, _⟩ => ⟨S8192x1536, .f32⟩
  | .hbm, ⟨3, _⟩ => ⟨S8192x4096, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KvUp.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpRefIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x512, .f32⟩
  | .hbm, ⟨3, _⟩ => ⟨S8192x4096, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKv.lean ====
abbrev S1024x4096 : Shape := ⟨2, ![1024, 4096]⟩
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .f32⟩
  | .hbm, ⟨2, _⟩ => ⟨S1024x1024, .f32⟩
  | .local _ .vmem, ⟨0, _⟩ => ⟨S1024x4096, .bf16⟩
  | .local _ .vmem, ⟨1, _⟩ => ⟨S4096x512, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvRefIdeal.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .f32⟩
  | .hbm, ⟨2, _⟩ => ⟨S1024x4096, .f32⟩
  | .hbm, ⟨3, _⟩ => ⟨S1024x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CrossQ.lean ====
abbrev S8192x4096 : Shape := ⟨2, ![8192, 4096]⟩
abbrev S4096x512 : Shape := ⟨2, ![4096, 512]⟩
abbrev S8192x512 : Shape := ⟨2, ![8192, 512]⟩
abbrev S1024x4096 : Shape := ⟨2, ![1024, 4096]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x512, .f32⟩
  | .hbm, ⟨2, _⟩ => ⟨S8192x512, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossQRefIdeal.lean ====
abbrev S8192x4096 : Shape := ⟨2, ![8192, 4096]⟩
abbrev S4096x512 : Shape := ⟨2, ![4096, 512]⟩
abbrev S8192x512 : Shape := ⟨2, ![8192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x512, .f32⟩
  | .hbm, ⟨2, _⟩ => ⟨S8192x4096, .f32⟩
  | .hbm, ⟨3, _⟩ => ⟨S8192x512, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CrossO.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x4096, .f32⟩
  | .hbm, ⟨3, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CrossORefIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x4096, .f32⟩
  | .hbm, ⟨3, _⟩ => ⟨S8192x512, .f32⟩
  | .hbm, ⟨4, _⟩ => ⟨S8192x4096, .f32⟩
  | .hbm, ⟨5, _⟩ => ⟨S8192x4096, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixOdd.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOddRefIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixEven.lean ====
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v5 : BitVec 1 := Scalar.cmpi .eq arg2 c1_i32
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MixEvenRefIdeal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S8192x4096, .f32⟩
  | .hbm, ⟨7, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMem.lean ====
abbrev S1024x4096 : Shape := ⟨2, ![1024, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S1x4096, .f32⟩
  | .hbm, ⟨3, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMemRefIdeal.lean ====
abbrev S1024x4096 : Shape := ⟨2, ![1024, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S1024x4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .f32⟩
  | .hbm, ⟨15, _⟩ => ⟨S1x4096, .f32⟩
  | .hbm, ⟨16, _⟩ => ⟨S1024x4096, .f32⟩
  | .hbm, ⟨17, _⟩ => ⟨S1024x4096, .f32⟩
  | .hbm, ⟨18, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormQ.lean ====
abbrev S8192x8192 : Shape := ⟨2, ![8192, 8192]⟩
abbrev S1536 : Shape := ⟨1, ![1536]⟩
abbrev S1x1536 : Shape := ⟨2, ![1, 1536]⟩
abbrev S8192x1536 : Shape := ⟨2, ![8192, 1536]⟩
abbrev S256x1536 : Shape := ⟨2, ![256, 1536]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S1536, .f32⟩
  | .hbm, ⟨2, _⟩ => ⟨S1x1536, .f32⟩
  | .hbm, ⟨3, _⟩ => ⟨S8192x1536, .bf16⟩
  | .local _ .vmem, ⟨0, _⟩ => ⟨S256x1536, .f32⟩
  | .local _ .vmem, ⟨1, _⟩ => ⟨S256x1536, .f32⟩
  | .local _ .vmem, ⟨2, _⟩ => ⟨S1x1536, .f32⟩
  | .local _ .vmem, ⟨3, _⟩ => ⟨S256x1536, .bf16⟩
  | .local _ .vmem, ⟨4, _⟩ => ⟨S256x1536, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormQRefIdeal.lean ====
abbrev S8192x8192 : Shape := ⟨2, ![8192, 8192]⟩
abbrev S1536 : Shape := ⟨1, ![1536]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1x1536 : Shape := ⟨2, ![1, 1536]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1536, .f32⟩
  | .hbm, ⟨2, _⟩ => ⟨S8192x1536, .f32⟩
  | .hbm, ⟨3, _⟩ => ⟨S8192x1536, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1536, .f32⟩
  | .hbm, ⟨15, _⟩ => ⟨S8192x1536, .f32⟩
  | .hbm, ⟨16, _⟩ => ⟨S1x1536, .f32⟩
  | .hbm, ⟨17, _⟩ => ⟨S8192x1536, .f32⟩
  | .hbm, ⟨18, _⟩ => ⟨S8192x1536, .f32⟩
  | .hbm, ⟨19, _⟩ => ⟨S8192x1536, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormKv.lean ====
abbrev S8192x8192 : Shape := ⟨2, ![8192, 8192]⟩
abbrev S512 : Shape := ⟨1, ![512]⟩
abbrev S1x512 : Shape := ⟨2, ![1, 512]⟩
abbrev S8192x512 : Shape := ⟨2, ![8192, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S512, .f32⟩
  | .hbm, ⟨2, _⟩ => ⟨S1x512, .f32⟩
  | .hbm, ⟨3, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormKvRefIdeal.lean ====
abbrev S8192x8192 : Shape := ⟨2, ![8192, 8192]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S8192x512, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== CrossCore.lean ====
abbrev S8192x512 : Shape := ⟨2, ![8192, 512]⟩
abbrev S1024x512 : Shape := ⟨2, ![1024, 512]⟩
abbrev S128 : Shape := ⟨1, ![128]⟩
abbrev S1x128 : Shape := ⟨2, ![1, 128]⟩
abbrev S512x512 : Shape := ⟨2, ![512, 512]⟩
abbrev S256x512 : Shape := ⟨2, ![256, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩

abbrev nBuf : Space → Nat
  | .hbm => 6
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S1024x512, .bf16⟩
  | .hbm, ⟨3, _⟩ => ⟨S128, .f32⟩
  | .hbm, ⟨4, _⟩ => ⟨S1x128, .f32⟩
  | .hbm, ⟨5, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CrossCoreRefIdeal.lean ====
abbrev S8192x512 : Shape := ⟨2, ![8192, 512]⟩
abbrev S1024x512 : Shape := ⟨2, ![1024, 512]⟩
abbrev S128 : Shape := ⟨1, ![128]⟩
abbrev S4x2048x4x128 : Shape := ⟨4, ![4, 2048, 4, 128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S1024x512, .bf16⟩
  | .hbm, ⟨3, _⟩ => ⟨S128, .f32⟩
  | .hbm, ⟨4, _⟩ => ⟨S4x2048x4x128, .f32⟩
  | .hbm, ⟨5, _⟩ => ⟨S4x2048x4x128, .f32⟩
  | .hbm, ⟨6, _⟩ => ⟨S_, .f32⟩
  | .hbm, ⟨7, _⟩ => ⟨S4x2048x4, .f32⟩
  | .hbm, ⟨8, _⟩ => ⟨S4x2048x4x1, .f32⟩
  | .hbm, ⟨9, _⟩ => ⟨S_, .f32⟩
  | .hbm, ⟨10, _⟩ => ⟨S4x2048x4x1, .f32⟩
  | .hbm, ⟨11, _⟩ => ⟨S4x2048x4x1, .f32⟩
  | .hbm, ⟨12, _⟩ => ⟨S_, .f32⟩
  | .hbm, ⟨13, _⟩ => ⟨S4x2048x4x1, .f32⟩
  | .hbm, ⟨14, _⟩ => ⟨S4x2048x4x1, .f32⟩
  | .hbm, ⟨15, _⟩ => ⟨S4x2048x4x1, .f32⟩
  | .hbm, ⟨16, _⟩ => ⟨S4x2048x4x128, .f32⟩
  | .hbm, ⟨17, _⟩ => ⟨S4x2048x4x128, .f32⟩
  | .hbm, ⟨18, _⟩ => ⟨S1x1x1x128, .f32⟩
  | .hbm, ⟨19, _⟩ => ⟨S4x2048x4x128, .f32⟩
  | .hbm, ⟨20, _⟩ => ⟨S4x2048x4x128, .f32⟩
  | .hbm, ⟨21, _⟩ => ⟨S4x2048x4x128, .bf16⟩
  | .hbm, ⟨22, _⟩ => ⟨S4x2048x4x128, .f32⟩
  | .hbm, ⟨23, _⟩ => ⟨S4x256x4x128, .bf16⟩
  | .hbm, ⟨24, _⟩ => ⟨S4x256x4x128, .f32⟩
  | .hbm, ⟨25, _⟩ => ⟨S4x256x4x128, .bf16⟩
  | .hbm, ⟨26, _⟩ => ⟨S4x256x4x128, .f32⟩
  | .hbm, ⟨27, _⟩ => ⟨S4x4x2048x256, .f32⟩
  | .hbm, ⟨28, _⟩ => ⟨S_, .f32⟩
  | .hbm, ⟨29, _⟩ => ⟨S4x4x2048x256, .f32⟩
  | .hbm, ⟨30, _⟩ => ⟨S4x4x2048x256, .f32⟩
  | .hbm, ⟨31, _⟩ => ⟨S_, .f32⟩
  | .hbm, ⟨32, _⟩ => ⟨S4x4x2048, .f32⟩
  | .hbm, ⟨33, _⟩ => ⟨S_, .f32⟩
  | .hbm, ⟨34, _⟩ => ⟨S4x4x2048, .f32⟩
  | .hbm, ⟨35, _⟩ => ⟨S4x4x2048, .f32⟩
  | .hbm, ⟨36, _⟩ => ⟨S4x4x2048x1, .f32⟩
  | .hbm, ⟨37, _⟩ => ⟨S4x4x2048x256, .f32⟩
  | .hbm, ⟨38, _⟩ => ⟨S4x4x2048x256, .f32⟩
  | .hbm, ⟨39, _⟩ => ⟨S4x4x2048x256, .f32⟩
  | .hbm, ⟨40, _⟩ => ⟨S_, .f32⟩
  | .hbm, ⟨41, _⟩ => ⟨S4x4x2048, .f32⟩
  | .hbm, ⟨42, _⟩ => ⟨S4x4x2048x1, .f32⟩
  | .hbm, ⟨43, _⟩ => ⟨S4x4x2048x256, .f32⟩
  | .hbm, ⟨44, _⟩ => ⟨S4x4x2048x256, .f32⟩
  | .hbm, ⟨45, _⟩ => ⟨S4x4x128x2048, .f32⟩
  | .hbm, ⟨46, _⟩ => ⟨S4x2048x4x128, .f32⟩
  | .hbm, ⟨47, _⟩ => ⟨S8192x512, .f32⟩
  | .hbm, ⟨48, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Block.lean ====
/- What one grid point of the stick-breaking kernel computes, as a term: the loop over the key chunks carries two
   buffers, the column of running log-sums and the block of weighted values, and each trip replaces both whole.
   `state` is that recursion without any buffer, and the point leaves its second component, rounded, in the output block. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- The number of chunks the point visits, as the kernel's word. -/
abbrev nch (i : grid0.Coords) : BitVec 32 := Scalar.muli (Scalar.addi (BitVec.ofNat 32 (i 2).val) 1#32) 1#32

/-- The rows of a key or value block that trip `k` visits. -/
def chunk (i : grid0.Coords) (k : Fin (k0_t1_loop i).trips) (x : Vec F S2048x128 .bf16) : Vec F S256x128 .bf16 :=
  View.ld x (Rect.unit (s := S2048x128) (k0_off1 i k) S256x128.size (k0_off1_inb i k))

/-- The running log-sums after trip `k`, from those before it. -/
def stepC (i : grid0.Coords) (k : Fin (k0_t1_loop i).trips) (q : Vec F S256x128 .bf16) (x1 : Vec F S2048x128 .bf16)
    (s : Vec F S256x1 .f32) : Vec F S256x1 .f32 :=
  k0_pay6 (k0_pay13 i q (k0_pay3 i) (nch i) 0#32 1#32 k (chunk i k x1)) s

/-- The weighted values after trip `k`, from both buffers before it. -/
def stepA (i : grid0.Coords) (k : Fin (k0_t1_loop i).trips) (q : Vec F S256x128 .bf16) (x1 x2 : Vec F S2048x128 .bf16)
    (s : Vec F S256x1 .f32) (a : Vec F S256x128 .f32) : Vec F S256x128 .f32 :=
  k0_pay5 (k0_pay14 i q (k0_pay3 i) k0_pay4 (nch i) 0#32 1#32 k (chunk i k x1) s) a (chunk i k x2)

/-- Both buffers before trip `n`. -/
def state (i : grid0.Coords) (q : Vec F S256x128 .bf16) (x1 x2 : Vec F S2048x128 .bf16) :
    ℕ → Vec F S256x1 .f32 × Vec F S256x128 .f32
  | 0 => (k0_pay1, k0_pay2)
  | n + 1 =>
    if h : n < (k0_t1_loop i).trips then
      (stepC i ⟨n, h⟩ q x1 (state i q x1 x2 n).1, stepA i ⟨n, h⟩ q x1 x2 (state i q x1 x2 n).1 (state i q x1 x2 n).2)
    else state i q x1 x2 n

/-- A read after a write of the whole buffer is the value written. -/
theorem read_cons_whole {S : Shape} {e : EltTy} {sp : Space} (v : View sig .tc sp S e) (f : v.ty.Contents (Elt F))
    {off : Fin S.rank → ℕ} (h : ∀ a, off a = 0) (inb : ∀ a, off a + S.size a ≤ S.size a) (w : S.Idx → Elt F e)
    (L : List (View.Piece (Elt F) S e)) :
    v.read (Elt F) (v.writes (Elt F) f (⟨Rect.unit off S.size inb, w⟩ :: L)) = w := by
  have h' : off = fun _ => 0 := funext h
  subst h'
  funext y
  have e := View.read_writes_cons_emb v f (Rect.whole S) w L y
  rwa [Rect.emb_whole_apply] at e

section Loop

variable (𝒱 : Variants) (c : Dev nD) (bd : Option 𝒱.V) (i : grid0.Coords)
  (arg3 : Memref sig .tc .vmem S256x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S256x128 .bf16) (harg6 : arg6.IsWhole)
  (arg7 : Memref sig .tc .vmem S256x1 .f32) (harg7 : arg7.IsWhole)
  (arg8 : Memref sig .tc .vmem S256x128 .f32) (harg8 : arg8.IsWhole)
  (q : Vec F S256x128 .bf16) (x1 x2 : Vec F S2048x128 .bf16)

/-- One trip writes each carried buffer once, whole. -/
theorem trip_eq (k : Fin (k0_t1_loop i).trips) (f7 : BufTy.Contents (Elt F) arg7.view.ty) (f8 : BufTy.Contents (Elt F) arg8.view.ty) :
    tripL_k0_t1 𝒱 c bd i arg3 harg3 arg4 harg4 arg5 harg5 arg6 harg6 arg7 harg7 arg8 harg8 q (nch i) (harg4.unread x1) (harg5.unread x2) k f7 f8
      = ([⟨Rect.unit ![0, 0] S256x1.size inb_S256x1_S256x1_0_0, stepC i k q x1 (arg7.view.read (Elt F) f7)⟩],
         [⟨Rect.unit ![0, 0] S256x128.size inb_S256x128_S256x128_0_0,
           stepA i k q x1 x2 (arg7.view.read (Elt F) f7) (arg8.view.read (Elt F) f8)⟩]) := by
  unfold tripL_k0_t1 trip_k0_t1
  dsimp only
  sl_unfold_words
  simp only [View.readAt_eq_ld, harg4.read_unread, harg5.read_unread]
  have e7 : View.ld (arg7.view.read (Elt F) f7) (Rect.unit ![0, 0] S256x1.size inb_S256x1_S256x1_0_0)
      = arg7.view.read (Elt F) f7 := View.ld_unit_lit _ _ (by decide)
  have e8 : View.ld (arg8.view.read (Elt F) f8) (Rect.unit ![0, 0] S256x128.size inb_S256x128_S256x128_0_0)
      = arg8.view.read (Elt F) f8 := View.ld_unit_lit _ _ (by decide)
  conv_rhs => rw [← e7, ← e8]
  rfl

/-- Before trip `n` the carried buffers hold `state n`. -/
theorem read_pb (G7 : BufTy.Contents (Elt F) arg7.view.ty) (G8 : BufTy.Contents (Elt F) arg8.view.ty)
    (h7 : arg7.view.read (Elt F) G7 = k0_pay1) (h8 : arg8.view.read (Elt F) G8 = k0_pay2) :
    ∀ n, n ≤ (k0_t1_loop i).trips →
      arg7.view.read (Elt F) (arg7.view.writes (Elt F) G7
        (pb_k0_t1 𝒱 c bd i arg3 harg3 arg4 harg4 arg5 harg5 arg6 harg6 arg7 harg7 arg8 harg8 q (nch i) (harg4.unread x1) (harg5.unread x2) G7 G8 n).1)
        = (state i q x1 x2 n).1
      ∧ arg8.view.read (Elt F) (arg8.view.writes (Elt F) G8
        (pb_k0_t1 𝒱 c bd i arg3 harg3 arg4 harg4 arg5 harg5 arg6 harg6 arg7 harg7 arg8 harg8 q (nch i) (harg4.unread x1) (harg5.unread x2) G7 G8 n).2)
        = (state i q x1 x2 n).2
  | 0, _ => ⟨h7, h8⟩
  | n + 1, hn => by
    obtain ⟨i7, i8⟩ := read_pb G7 G8 h7 h8 n (Nat.le_of_succ_le hn)
    have hs : state i q x1 x2 (n + 1) = (stepC i ⟨n, hn⟩ q x1 (state i q x1 x2 n).1,
        stepA i ⟨n, hn⟩ q x1 x2 (state i q x1 x2 n).1 (state i q x1 x2 n).2) := by
      rw [state, dif_pos (Nat.lt_of_succ_le hn)]
    rw [pb_k0_t1_succ (F := F) 𝒱 c bd i arg3 harg3 arg4 harg4 arg5 harg5 arg6 harg6 arg7 harg7 arg8 harg8 q (nch i)
      (harg4.unread x1) (harg5.unread x2) G7 G8 ⟨n, hn⟩, hs]
    rw [trip_eq, i7, i8]
    exact ⟨read_cons_whole _ _ (by decide) _ _ _, read_cons_whole _ _ (by decide) _ _ _⟩

/-- The point leaves the last state's weighted values, rounded, in its output block. -/
theorem out_eq (x0 : Vec F S256x128 .bf16) :
    out0_A_3 c i arg3 harg3 arg4 harg4 arg5 harg5 arg6 harg6 arg7 harg7 arg8 harg8 x0 x1 x2
      = k0_pay9 (state i x0 x1 x2 (k0_t1_loop i).trips).2 := by
  unfold out0_A_3
  rw [View.read_writes_eq_canon _ _ _ (cover0_A_3 c i arg3 harg3 arg4 harg4 arg5 harg5 arg6 harg6 arg7 harg7 arg8 harg8 x0 x1 x2)]
  unfold kernelRun0_A
  dsimp only
  sl_unfold_words
  have hz : Scf.trips (k0_t2_loop i).lb (k0_t2_loop i).ub (k0_t2_loop i).st = 0 := Nat.le_zero.mp (k0_t2_abs i).2.1
  rw [hz]
  have e3 : View.readAt (Elt F) arg3.view (Rect.unit ![0, 0] S256x128.size inb_S256x128_S256x128_0_0).toLoadRect (harg3.unread x0) = x0 := by
    rw [View.readAt_eq_ld, harg3.read_unread]; exact View.ld_unit_lit _ _ (by decide)
  simp only [e3]
  unfold pb_k0_t2
  refine (View.canon_cons_unit_lit _ _ _ (by decide)).trans (congrArg k0_pay9 ?_)
  unfold View.readCov
  rw [List.nil_append, View.writes_append, View.readAt_eq_ld,
    (read_pb Variants.none c none i arg3 harg3 arg4 harg4 arg5 harg5 arg6 harg6 arg7 harg7 arg8 harg8 x0 x1 x2 _ _
      (read_cons_whole _ _ (by decide) _ _ _) (read_cons_whole _ _ (by decide) _ _ _) _ le_rfl).2]
  exact View.ld_unit_lit _ _ (by decide)

end Loop

end Cert.KernelIdeal.Block

end
-- ==== Proof.StickMath.lean ====
/- The mathematics of stick-breaking attention, one query row at a time, over the real scores `z` of that row:
   the weight of key `s` for query `t` is exp of log σ(z s) plus the sum of log(1 - σ(z s')) over the later keys
   s < s' < t. The kernel walks the keys in chunks of 256 from the last chunk back, carrying the sum of
   the log(1 - σ) terms and the weighted sum of the value rows; the lemmas here say how both sums grow by one chunk. -/
module

public import Mathlib.Analysis.SpecialFunctions.Log.Basic
public import Mathlib.Data.EReal.Operations
public import Mathlib.Algebra.BigOperators.Intervals
public import Mathlib.Algebra.BigOperators.Fin

@[expose] public section

noncomputable section

namespace Cert.Stick

open scoped BigOperators

/-- softplus(z) = log(1 + exp z), in the form that does not overflow. -/
def sp (z : ℝ) : ℝ := max z 0 + Real.log (1 + Real.exp (-|z|))

/-- log(1 - σ(z)) for the keys before the query, zero for the others. -/
def lk (z : ℕ → ℝ) (t s : ℕ) : ℝ := if s < t then -(sp (z s)) else 0

/-- The sum of `lk` over the keys from `n` on. -/
def after (z : ℕ → ℝ) (t n : ℕ) : ℝ := ∑ s ∈ Finset.Ico n 2048, lk z t s

/-- The weight of key `s` for query `t`. -/
def wt (z : ℕ → ℝ) (t s : ℕ) : ℝ :=
  if s < t then Real.exp (z s - sp (z s) + after z t (s + 1)) else 0

/-- The weighted sum of the values (one column of them) over the keys from `n` on. -/
def out (z : ℕ → ℝ) (t : ℕ) (v : ℕ → EReal) (n : ℕ) : EReal :=
  ∑ s ∈ Finset.Ico n 2048, (wt z t s : EReal) * v s

/-- softplus(-z) = softplus(z) - z. -/
theorem sp_neg (z : ℝ) : sp (-z) = sp z - z := by
  unfold sp
  rw [abs_neg]
  rcases le_total 0 z with h | h
  · rw [max_eq_right (by linarith : -z ≤ 0), max_eq_left h]; ring
  · rw [max_eq_left (by linarith : (0 : ℝ) ≤ -z), max_eq_right h]; ring

/-- From the query on, no key adds anything to the carried sum. -/
theorem after_of_le (z : ℕ → ℝ) {t n : ℕ} (h : t ≤ n) : after z t n = 0 := by
  refine Finset.sum_eq_zero fun s hs => ?_
  have := (Finset.mem_Ico.mp hs).1
  exact if_neg (by omega)

/-- From the query on, no key adds anything to the output. -/
theorem out_of_le (z : ℕ → ℝ) (v : ℕ → EReal) {t n : ℕ} (h : t ≤ n) : out z t v n = 0 := by
  refine Finset.sum_eq_zero fun s hs => ?_
  have := (Finset.mem_Ico.mp hs).1
  rw [wt, if_neg (by omega), EReal.coe_zero, zero_mul]

/-- A sum over an interval of `b` numbers from `n` as a sum over `Fin b`. -/
theorem sum_Ico_fin {M : Type*} [AddCommMonoid M] (f : ℕ → M) (n b : ℕ) :
    ∑ s ∈ Finset.Ico n (n + b), f s = ∑ k : Fin b, f (n + k.val) := by
  rw [Finset.sum_Ico_eq_sum_range, Nat.add_sub_cancel_left, Finset.sum_range]

/-- The carried sum after one more chunk. -/
theorem after_step (z : ℕ → ℝ) (t n : ℕ) (h : n + 256 ≤ 2048) :
    after z t n = after z t (n + 256) + ∑ k : Fin 256, lk z t (n + k.val) := by
  unfold after
  rw [← Finset.sum_Ico_consecutive _ (Nat.le_add_right n 256) h, sum_Ico_fin, add_comm]

/-- The output after one more chunk. -/
theorem out_step (z : ℕ → ℝ) (t : ℕ) (v : ℕ → EReal) (n : ℕ) (h : n + 256 ≤ 2048) :
    out z t v n = out z t v (n + 256) + ∑ k : Fin 256, (wt z t (n + k.val) : EReal) * v (n + k.val) := by
  unfold out
  rw [← Finset.sum_Ico_consecutive _ (Nat.le_add_right n 256) h, sum_Ico_fin, add_comm]

/-- Within a chunk, the sum over its keys later than the `x`-th, plus the sum carried from the later chunks, is the sum
    over all keys later than the `x`-th. -/
theorem after_within (z : ℕ → ℝ) (t n : ℕ) (h : n + 256 ≤ 2048) (x : Fin 256) :
    (∑ k : Fin 256, lk z t (n + k.val) * (if x.val < k.val then 1 else 0)) + after z t (n + 256)
      = after z t (n + x.val + 1) := by
  unfold after
  rw [← Finset.sum_Ico_consecutive _ (by omega : n + x.val + 1 ≤ n + 256) h]
  congr 1
  have e : ∀ k : Fin 256, lk z t (n + k.val) * (if x.val < k.val then 1 else 0)
      = (fun s => if n + x.val + 1 ≤ s then lk z t s else 0) (n + k.val) := fun k => by
    by_cases hk : x.val < k.val
    · simp only [if_pos hk, mul_one, if_pos (show n + x.val + 1 ≤ n + k.val by omega)]
    · simp only [if_neg hk, mul_zero, if_neg (show ¬ n + x.val + 1 ≤ n + k.val by omega)]
  rw [Finset.sum_congr rfl fun k _ => e k, ← sum_Ico_fin (fun s => if n + x.val + 1 ≤ s then lk z t s else 0),
    ← Finset.sum_filter]
  refine Finset.sum_congr (Finset.ext fun k => ?_) fun _ _ => rfl
  simp only [Finset.mem_Ico, Finset.mem_filter]; omega

/-- All keys from `s` on less the key `s` itself are the keys after it. -/
theorem after_sub (z : ℕ → ℝ) (t : ℕ) {s : ℕ} (h : s < 2048) : after z t s - lk z t s = after z t (s + 1) := by
  unfold after
  rw [Finset.sum_eq_sum_Ico_succ_bot h, add_sub_cancel_left]

/-- The sum over all 2048 keys of the terms from the key `s` on. -/
theorem after_eq_sum (z : ℕ → ℝ) (t s : ℕ) :
    after z t s = ∑ k : Fin 2048, if s ≤ k.val then lk z t k.val else 0 := by
  rw [← Finset.sum_range (fun k => if s ≤ k then lk z t k else 0), ← Finset.sum_filter]
  unfold after
  refine Finset.sum_congr (Finset.ext fun k => ?_) fun _ _ => rfl
  simp only [Finset.mem_Ico, Finset.mem_filter, Finset.mem_range]; tauto

/-- The output over all keys, as a sum over `Fin 2048`. -/
theorem out_zero (z : ℕ → ℝ) (t : ℕ) (v : ℕ → EReal) :
    out z t v 0 = ∑ k : Fin 2048, (wt z t k.val : EReal) * v k.val := by
  unfold out
  rw [← Finset.range_eq_Ico, Finset.sum_range]

end Cert.Stick

end
-- ==== Proof.StickIdeal.lean ====
/- The ideal float operations of stick-breaking attention at real arguments: softplus as both the kernel and the reference spell it,
   and sums of reals among the extended reals. -/
module

public import proofs.«01_k».proof.Proof.StickMath
public import Idealize.ShloMosaic.PureOps.Ideal.Laws

@[expose] public section

noncomputable section

namespace Cert.Stick

open Idealize.ShloMosaic
open scoped BigOperators

/-- A finite sum of reals, among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, among the extended reals. -/
theorem coe_max (x y : ℝ) : ((max x y : ℝ) : EReal) = max (x : EReal) (y : EReal) :=
  (EReal.coe_strictMono.monotone).map_max

/-- The magnitude of a real. -/
theorem abs_coe (z : ℝ) : max (z : EReal) (-(z : EReal)) = ((|z| : ℝ) : EReal) := by
  rw [← EReal.coe_neg, ← coe_max]; rfl

/-- log1p of exp(-|z|) is a real logarithm. -/
theorem log1p_exp (x : ℝ) : Ideal.log1p (Ideal.exp (x : EReal)) = ((Real.log (1 + Real.exp x) : ℝ) : EReal) := by
  have h : 0 < 1 + Real.exp x := by positivity
  rw [Ideal.exp_coe, Ideal.log1p, ← EReal.coe_one, ← EReal.coe_add, Ideal.log_coe, if_neg (not_le.mpr h)]

/-- The kernel's softplus. -/
theorem sp_kernel (z : ℝ) :
    max (z : EReal) 0 + Ideal.log1p (Ideal.exp (0 - max (z : EReal) (-(z : EReal)))) = ((sp z : ℝ) : EReal) := by
  rw [abs_coe, ← EReal.coe_zero, ← EReal.coe_sub, log1p_exp, ← coe_max, ← EReal.coe_add, zero_sub]; rfl

/-- The reference's softplus. -/
theorem sp_ref (z : ℝ) :
    max (z : EReal) 0 + Ideal.log1p (Ideal.exp (-(max (z : EReal) (-(z : EReal))))) = ((sp z : ℝ) : EReal) := by
  rw [abs_coe, ← EReal.coe_neg, log1p_exp, ← EReal.coe_zero, ← coe_max, ← EReal.coe_add]; rfl

end Cert.Stick

end
-- ==== Proof.Trip.lean ====
/- One trip of the stick-breaking kernel's loop at a query row whose scores are reals: the running log-sum
   and the weighted values move from the keys of the later chunks to the keys of this chunk as well. After the last trip
   the weighted values are those over all keys. -/
module

public import proofs.«01_k».proof.Proof.Block
public import proofs.«01_k».proof.Proof.StickIdeal
public import Idealize.ShloMosaic.Lib.WordCmp

@[expose] public section

set_option maxRecDepth 16384

noncomputable section

namespace Cert.KernelIdeal.Block

open Cert.KernelIdeal Cert.KernelIdeal.Gen Idealize.ShloMosaic Idealize.ShloMosaic.TcCoe Idealize.SL.Sem
open Cert.Stick
open scoped BigOperators

/-- The loop visits the chunks up to and with the query block's own. -/
theorem trips_eq : ∀ i : grid0.Coords, (k0_t1_loop i).trips = (i 2).val + 1 := by decide +kernel

/-- Trip `k` visits the `k`-th chunk from the last. -/
theorem off1 : ∀ (i : grid0.Coords) (k : Fin (k0_t1_loop i).trips), k0_off1 i k = ![256 * ((i 2).val - k.val), 0] := by
  decide +kernel

/-- The word of the first key position of trip `k`'s chunk. -/
theorem base_word : ∀ (i : grid0.Coords) (k : Fin (k0_t1_loop i).trips),
    Scalar.muli (Scalar.subi (Scalar.subi (nch i) 1#32) (Scf.iv 0#32 1#32 k.val)) 256#32
      = BitVec.ofNat 32 (256 * ((i 2).val - k.val)) := by decide +kernel

/-- The word of the query block's first position. -/
theorem query_word : ∀ i : grid0.Coords, Scalar.muli (BitVec.ofNat 32 (i 2).val) 256#32 = BitVec.ofNat 32 (256 * (i 2).val) := by
  decide +kernel

variable (i : grid0.Coords) (k : Fin (k0_t1_loop i).trips) (q : Vec Ideal S256x128 .bf16) (x1 x2 : Vec Ideal S2048x128 .bf16)

theorem i2_lt : (i 2).val < 8 := (i 2).isLt

theorem base_le : 256 * ((i 2).val - k.val) + 256 ≤ 2048 := by have := i2_lt i; omega

theorem k_le : k.val ≤ (i 2).val := by have := k.isLt; have := trips_eq i; omega

/-- Row `r` of the chunk is the key row at its position. -/
theorem chunk_at (r : Fin 256) (d : Fin 128) :
    chunk i k x1 (ix2 r d) = x1 (ix2 ⟨256 * ((i 2).val - k.val) + r.val, by have := base_le i k; omega⟩ d) := by
  pointwise [chunk]
  refine congrArg x1 ?_
  have h0 : k0_off1 i k 0 = 256 * ((i 2).val - k.val) := congrFun (off1 i k) 0
  have h1 : k0_off1 i k 1 = 0 := congrFun (off1 i k) 1
  funext a
  match a with
  | ⟨0, _⟩ => exact Fin.ext (congrArg (· + r.val) h0)
  | ⟨1, _⟩ => exact Fin.ext ((congrArg (· + d.val) h1).trans (Nat.zero_add _))

/-- The causal mask: the key comes before the query. -/
theorem mask_at (r x : Fin 256) : k0_pay11 i (k0_pay3 i) (nch i) 0#32 1#32 k (ix2 r x)
    = BitVec.ofBool (decide (256 * ((i 2).val - k.val) + x.val < 256 * (i 2).val + r.val)) := by
  have h := i2_lt i
  pointwise [k0_pay11, k0_pay3]
  rw [base_word, query_word]
  unfold IntOp.addi
  rw [← BitVec.ofNat_add, ← BitVec.ofNat_add]
  exact WordCmp.cmpi_slt_ofNat (by omega) (by omega)

/-- The strict lower-triangular matrix of ones. -/
theorem strict_at (r x : Fin 256) : k0_pay4 (F := Ideal) (ix2 r x) = (((if x.val < r.val then 1 else 0 : ℝ)) : EReal) := by
  pointwise [k0_pay4]
  rw [WordCmp.cmpi_sgt_ofNat (by omega) (by omega)]
  by_cases h : x.val < r.val
  · simp only [h, decide_true, if_true]
    show (((BitVec.setWidth 32 (BitVec.ofBool true)).toInt : ℝ) : EReal) = _
    rw [show (BitVec.setWidth 32 (BitVec.ofBool true)).toInt = 1 by decide, Int.cast_one]
  · simp only [h, decide_false, if_false]
    show (((BitVec.setWidth 32 (BitVec.ofBool false)).toInt : ℝ) : EReal) = _
    rw [show (BitVec.setWidth 32 (BitVec.ofBool false)).toInt = 0 by decide, Int.cast_zero]

variable (r : Fin 256) (z : ℕ → ℝ)
  (hz : ∀ (s : ℕ) (hs : s < 2048), (∑ d : Fin 128, q (ix2 r d) * x1 (ix2 ⟨s, hs⟩ d)) * Ideal.ofBits .f32 0x3DB504F3#32 = (z s : EReal))

include hz

/-- The chunk's scores are the row's scores at its positions. -/
theorem score_at (x : Fin 256) : k0_pay10 q (chunk i k x1) (ix2 r x) = (z (256 * ((i 2).val - k.val) + x.val) : EReal) := by
  pointwise [k0_pay10]
  rw [← hz _ (by have := base_le i k; omega)]
  congr 1
  exact Finset.sum_congr rfl fun d _ => congrArg (q (ix2 r d) * ·) (chunk_at i k x1 x d)

/-- Their softplus. -/
theorem sp_at (x : Fin 256) : k0_pay12 q (chunk i k x1) (ix2 r x) = (sp (z (256 * ((i 2).val - k.val) + x.val)) : EReal) := by
  pointwise [k0_pay12]
  rw [score_at i k q x1 r z hz]
  exact sp_kernel _

/-- The masked log(1 - σ) terms. -/
theorem lk_at (x : Fin 256) : k0_pay13 i q (k0_pay3 i) (nch i) 0#32 1#32 k (chunk i k x1) (ix2 r x)
    = (lk z (256 * (i 2).val + r.val) (256 * ((i 2).val - k.val) + x.val) : EReal) := by
  pointwise [k0_pay13]
  rw [sp_at i k q x1 r z hz, mask_at, Scalar.select_decide, lk]
  split
  · rw [zero_sub, EReal.coe_neg]
  · rfl

/-- The chunk's weights, when the running log-sum holds the later chunks' keys. -/
theorem wt_at (s : Vec Ideal S256x1 .f32)
    (hs : s (ix2 r 0) = (after z (256 * (i 2).val + r.val) (256 * ((i 2).val - k.val) + 256) : EReal)) (x : Fin 256) :
    k0_pay14 i q (k0_pay3 i) k0_pay4 (nch i) 0#32 1#32 k (chunk i k x1) s (ix2 r x)
      = (wt z (256 * (i 2).val + r.val) (256 * ((i 2).val - k.val) + x.val) : EReal) := by
  pointwise [k0_pay14]
  rw [score_at i k q x1 r z hz, sp_at i k q x1 r z hz, hs, mask_at, Scalar.select_decide, wt]
  simp only [lk_at i k q x1 r z hz, strict_at]
  split
  · simp only [← EReal.coe_sub, ← EReal.coe_mul, ← coe_sum, ← EReal.coe_add, sub_self, zero_mul, Finset.sum_const_zero,
      add_zero]
    rw [after_within z _ _ (base_le i k), Ideal.exp_coe]
  · rfl

/-- The running log-sum after the trip. -/
theorem stepC_at (s : Vec Ideal S256x1 .f32)
    (hs : s (ix2 r 0) = (after z (256 * (i 2).val + r.val) (256 * ((i 2).val - k.val) + 256) : EReal)) :
    stepC i k q x1 s (ix2 r 0) = (after z (256 * (i 2).val + r.val) (256 * ((i 2).val - k.val)) : EReal) := by
  pointwise [stepC, k0_pay6]
  rw [hs, after_step z _ _ (base_le i k), EReal.coe_add, coe_sum]
  congr 1
  exact Finset.sum_congr rfl fun x _ => lk_at i k q x1 r z hz x

/-- A column of the values, by key position. -/
def col (x2 : Vec Ideal S2048x128 .bf16) (d : Fin 128) (s : ℕ) : EReal := if h : s < 2048 then x2 (ix2 ⟨s, h⟩ d) else 0

/-- The weighted values after the trip. -/
theorem stepA_at (s : Vec Ideal S256x1 .f32) (a : Vec Ideal S256x128 .f32) (d : Fin 128)
    (hs : s (ix2 r 0) = (after z (256 * (i 2).val + r.val) (256 * ((i 2).val - k.val) + 256) : EReal))
    (ha : a (ix2 r d) = out z (256 * (i 2).val + r.val) (col x2 d) (256 * ((i 2).val - k.val) + 256)) :
    stepA i k q x1 x2 s a (ix2 r d) = out z (256 * (i 2).val + r.val) (col x2 d) (256 * ((i 2).val - k.val)) := by
  pointwise [stepA, k0_pay5]
  rw [ha, out_step z _ _ _ (base_le i k)]
  congr 1
  refine Finset.sum_congr rfl fun x _ => ?_
  rw [wt_at i k q x1 r z hz s hs x, chunk_at, col, dif_pos]

/-- Before trip `n` the two carried buffers hold the sums over the keys of the `n` last chunks up to the query block's. -/
theorem state_at (d : Fin 128) : ∀ n, n ≤ (k0_t1_loop i).trips →
    (state i q x1 x2 n).1 (ix2 r 0) = (after z (256 * (i 2).val + r.val) (256 * ((i 2).val + 1 - n)) : EReal)
      ∧ (state i q x1 x2 n).2 (ix2 r d) = out z (256 * (i 2).val + r.val) (col x2 d) (256 * ((i 2).val + 1 - n))
  | 0, _ => by
    constructor
    · rw [after_of_le z (by omega)]; pointwise [state, k0_pay1]; rfl
    · rw [out_of_le z _ (by omega)]; pointwise [state, k0_pay2]
  | n + 1, hn => by
    obtain ⟨h1, h2⟩ := state_at d n (Nat.le_of_succ_le hn)
    have hk := k_le i ⟨n, hn⟩
    have e : 256 * ((i 2).val + 1 - n) = 256 * ((i 2).val - n) + 256 := by dsimp only at hk; omega
    have e' : 256 * ((i 2).val + 1 - (n + 1)) = 256 * ((i 2).val - n) := by omega
    rw [e] at h1 h2
    rw [e', state, dif_pos (Nat.lt_of_succ_le hn)]
    exact ⟨stepC_at i ⟨n, hn⟩ q x1 r z hz _ h1, stepA_at i ⟨n, hn⟩ q x1 x2 r z hz _ _ d h1 h2⟩

/-- What the point writes at row `r`: the values weighted over all keys. -/
theorem block_at (d : Fin 128) :
    k0_pay9 (state i q x1 x2 (k0_t1_loop i).trips).2 (ix2 r d) = out z (256 * (i 2).val + r.val) (col x2 d) 0 := by
  pointwise [k0_pay9]
  rw [(state_at i q x1 x2 r z hz d _ le_rfl).2, trips_eq]
  simp

end Cert.KernelIdeal.Block

end
-- ==== Proof.Packed.lean ====
/- The packed array of queries, keys and values: the score of a query against a key and the column of values, read off it by position. Where
   the queries and the keys are finite each score is a real number. -/
module

public import proofs.«01_k».proof.Proof.StickIdeal
public import Idealize.ShloMosaic.Lib.Pointwise

@[expose] public section

set_option maxRecDepth 16384

noncomputable section

namespace Cert.Stick

open Idealize.ShloMosaic
open scoped BigOperators

local notation "QKV" => FVec Ideal (⟨2, ![8192, 12288]⟩ : Shape) FTy.bf16

/-- The scaled score of query `t` against key `s` of batch `b` and head `h`. -/
def score (X : QKV) (b : Fin 4) (h : Fin 32) (t s : Fin 2048) : EReal :=
  (∑ d : Fin 128, X (ix2 (⟨b.val * 2048 + t.val, by omega⟩ : Fin 8192) (⟨h.val * 128 + d.val, by omega⟩ : Fin 12288))
      * X (ix2 (⟨b.val * 2048 + s.val, by omega⟩ : Fin 8192) (⟨4096 + h.val * 128 + d.val, by omega⟩ : Fin 12288)) : EReal)
    * Ideal.ofBits .f32 0x3DB504F3#32

/-- Column `d` of the values of batch `b` and head `h`. -/
def valueCol (X : QKV) (b : Fin 4) (h : Fin 32) (d : Fin 128) (s : ℕ) : EReal :=
  if hs : s < 2048 then X (ix2 (⟨b.val * 2048 + s, by omega⟩ : Fin 8192) (⟨8192 + h.val * 128 + d.val, by omega⟩ : Fin 12288)) else 0

/-- The scores of a query as reals. -/
def realScore (X : QKV) (b : Fin 4) (h : Fin 32) (t : Fin 2048) (s : ℕ) : ℝ :=
  if hs : s < 2048 then (score X b h t ⟨s, hs⟩).toReal else 0

/-- The attention's result at a row and a column. -/
def attention (X : QKV) (r : Fin 8192) (c : Fin 4096) : EReal :=
  out (realScore X ⟨r.val / 2048, by omega⟩ ⟨c.val / 128, by omega⟩ ⟨r.val % 2048, by omega⟩) (r.val % 2048)
    (valueCol X ⟨r.val / 2048, by omega⟩ ⟨c.val / 128, by omega⟩ ⟨c.val % 128, by omega⟩) 0

/-- The attention at row `t` of batch `b` and column `d` of head `h`. -/
theorem attention_of (X : QKV) (b : Fin 4) (h : Fin 32) (t : Fin 2048) (d : Fin 128) (r : Fin 8192) (c : Fin 4096)
    (hr : r.val = b.val * 2048 + t.val) (hc : c.val = h.val * 128 + d.val) :
    attention X r c = out (realScore X b h t) t.val (valueCol X b h d) 0 := by
  have e₁ : (⟨r.val / 2048, by omega⟩ : Fin 4) = b := Fin.ext (by show r.val / 2048 = b.val; omega)
  have e₂ : (⟨c.val / 128, by omega⟩ : Fin 32) = h := Fin.ext (by show c.val / 128 = h.val; omega)
  have e₃ : (⟨r.val % 2048, by omega⟩ : Fin 2048) = t := Fin.ext (by show r.val % 2048 = t.val; omega)
  have e₄ : (⟨c.val % 128, by omega⟩ : Fin 128) = d := Fin.ext (by show c.val % 128 = d.val; omega)
  have e₅ : r.val % 2048 = t.val := by omega
  unfold attention
  rw [e₁, e₂, e₃, e₄, e₅]

/-- The scale is a real number. -/
theorem scale_real : ∃ r : ℝ, Ideal.ofBits .f32 0x3DB504F3#32 = (r : EReal) := by
  show ∃ r : ℝ, Ideal.ieee 8 23 0x3DB504F3#32 = (r : EReal)
  unfold Ideal.ieee
  dsimp only
  rw [if_neg (by decide)]
  split <;> exact ⟨_, rfl⟩

/-- Where every query entry and every key entry is real, so is every score. -/
theorem score_eq (X : QKV) (hX : ∀ (r : Fin 8192) (c : Fin 12288), c.val < 8192 → ∃ a : ℝ, X (ix2 r c) = (a : EReal))
    (b : Fin 4) (h : Fin 32) (t s : Fin 2048) : score X b h t s = (realScore X b h t s.val : EReal) := by
  obtain ⟨k, hk⟩ := scale_real
  choose f hf using hX
  have hr : ∃ a : ℝ, score X b h t s = (a : EReal) := by
    unfold score
    rw [hk]
    refine ⟨(∑ d : Fin 128, f (⟨b.val * 2048 + t.val, by omega⟩ : Fin 8192) (⟨h.val * 128 + d.val, by omega⟩ : Fin 12288) (by show h.val * 128 + d.val < 8192; omega)
      * f (⟨b.val * 2048 + s.val, by omega⟩ : Fin 8192) (⟨4096 + h.val * 128 + d.val, by omega⟩ : Fin 12288) (by show 4096 + h.val * 128 + d.val < 8192; omega)) * k, ?_⟩
    rw [EReal.coe_mul, coe_sum]
    refine congrArg (· * (k : EReal)) (Finset.sum_congr rfl fun d _ => ?_)
    rw [EReal.coe_mul, ← hf, ← hf]
  obtain ⟨a, ha⟩ := hr
  rw [realScore, dif_pos s.isLt, ha, EReal.toReal_coe]

end Cert.Stick

end
-- ==== Proof.Array.lean ====
/- The array the stick-breaking kernel leaves: at each row and column the attention of the packed array, where the queries and the keys are
   real. -/
module

public import proofs.«01_k».proof.Proof.Trip
public import proofs.«01_k».proof.Proof.Packed
public import Idealize.ShloMosaic.Lib.Pipeline.Covers

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)
open Cert.Stick Cert.KernelIdeal.Block

/-! The block each window reads or writes at a grid point. -/

theorem idx0 : ∀ t : Fin cfg0.N, win0_0.index t = ![(grid0.coords t 0).val * 8 + (grid0.coords t 2).val, (grid0.coords t 1).val] :=
  (by decide +kernel : ∀ t : Fin grid0.N, win0_0.index t = ![(grid0.coords t 0).val * 8 + (grid0.coords t 2).val, (grid0.coords t 1).val])
theorem idx1 : ∀ t : Fin cfg0.N, win0_1.index t = ![(grid0.coords t 0).val, 32 + (grid0.coords t 1).val] :=
  (by decide +kernel : ∀ t : Fin grid0.N, win0_1.index t = ![(grid0.coords t 0).val, 32 + (grid0.coords t 1).val])
theorem idx2 : ∀ t : Fin cfg0.N, win0_2.index t = ![(grid0.coords t 0).val, 64 + (grid0.coords t 1).val] :=
  (by decide +kernel : ∀ t : Fin grid0.N, win0_2.index t = ![(grid0.coords t 0).val, 64 + (grid0.coords t 1).val])
theorem idx3 : ∀ t : Fin cfg0.N, win0_3.index t = ![(grid0.coords t 0).val * 8 + (grid0.coords t 2).val, (grid0.coords t 1).val] :=
  (by decide +kernel : ∀ t : Fin grid0.N, win0_3.index t = ![(grid0.coords t 0).val * 8 + (grid0.coords t 2).val, (grid0.coords t 1).val])

/-- The output blocks fill the array. -/
theorem covers : (cfg0.win 3).Covers := by decide +kernel

variable (m : (ℓ : Loc nD τ sig) → Buf (Elt Ideal) ℓ) (c : Dev nD)

/-- The packed array on a device. -/
abbrev packed : FVec Ideal S8192x12288 .bf16 := m ((c.tc : Thread nD τ).loc main_arg0)

/-- The ranges of the grid's coordinates. -/
theorem coord_bounds (t : Fin cfg0.N) : (grid0.coords t 0).val < 4 ∧ (grid0.coords t 1).val < 32 ∧ (grid0.coords t 2).val < 8 :=
  ⟨(grid0.coords t 0).isLt, (grid0.coords t 1).isLt, (grid0.coords t 2).isLt⟩

/-- The array after the run. -/
theorem final (hX : ∀ (r : Fin 8192) (k : Fin 12288), k.val < 8192 → ∃ a : ℝ, packed m c (ix2 r k) = (a : EReal)) :
    (dats m 0 c).arrAt 3 cfg0.N = fun i => attention (packed m c) (i 0) (i 1) := by
  refine (dats m 0 c).arrAt_eq_of_covers 3 _ covers fun t hf y => ?_
  obtain ⟨hb, hh, hi⟩ := coord_bounds t
  blk_simp
  rw [after0_3, outsAt0, out_eq]
  obtain ⟨r, d, rfl⟩ : ∃ (r : Fin 256) (d : Fin 128), y = ix2 r d := ⟨y 0, y 1, eq_ix2 y⟩
  refine Eq.trans (block_at _ _ _ _ r (realScore (packed m c) (grid0.coords t 0) (grid0.coords t 1) ⟨256 * (grid0.coords t 2).val + r.val, by omega⟩) ?_ d)
    (Eq.trans ?_ (attention_of (packed m c) (grid0.coords t 0) (grid0.coords t 1) ⟨256 * (grid0.coords t 2).val + r.val, by omega⟩ d _ _ ?_ ?_).symm)
  rotate_left
  · refine congrArg (fun v => out _ _ v 0) (funext fun s => ?_)
    unfold col valueCol
    by_cases hs : s < 2048
    · rw [dif_pos hs, dif_pos hs]
      blk_ext [iblk, V, idx2]
    · rw [dif_neg hs, dif_neg hs]
  · blk_simp [idx3]
    dsimp only
    omega
  · blk_simp [idx3]
  · intro s hs
    refine Eq.trans ?_ (score_eq _ hX (grid0.coords t 0) (grid0.coords t 1) ⟨256 * (grid0.coords t 2).val + r.val, by omega⟩ ⟨s, hs⟩)
    unfold score
    refine congrArg (· * _) (Finset.sum_congr rfl fun k _ => ?_)
    congr 1 <;> blk_ext [iblk, V, idx0, idx1]

end Cert.KernelIdeal.Array

end
-- ==== Proof.Suffix.lean ====
/- A window sum that runs to the end of the last axis: at each place it is the sum of the entries from that place on. -/
module

public import Idealize.ShloMosaic.Lib.Pointwise
public import Idealize.ShloMosaic.PureOps.Ideal
public import proofs.«01_k».proof.Proof.StickIdeal

@[expose] public section

set_option maxRecDepth 16384

noncomputable section

namespace Cert.Stick

open Idealize.ShloMosaic

/-- Adding up a list from the left is the start plus the sum. -/
theorem foldl_add {N : Nat} (g : Fin N → EReal) (v : EReal) :
    (List.finRange N).foldl (fun r n => r + g n) v = v + ∑ n, g n := by
  have key : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [key, ← List.ofFn_eq_map, List.sum_ofFn]

/-- A sum over the indices of a row of length `n` laid out as a four-dimensional array. -/
theorem sum_row {n : Nat} (g : (⟨4, ![1, 1, 1, n]⟩ : Shape).Idx → EReal) :
    (∑ w, g w) = ∑ k : Fin n, g (ix4 (0 : Fin 1) (0 : Fin 1) (0 : Fin 1) k) := by
  refine (Function.Bijective.sum_comp (e := fun k : Fin n => (ix4 (0 : Fin 1) (0 : Fin 1) (0 : Fin 1) k)) ⟨fun a b hab => ?_, fun w => ?_⟩ g).symm
  · exact congrFun hab 3
  · refine ⟨w 3, funext fun a => ?_⟩
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A sum over the places from `s` on, counted from `s` or from the start. -/
theorem sum_shift (f : ℕ → EReal) (s : ℕ) :
    (∑ k : Fin 2048, if s + k.val < 2048 then f (s + k.val) else 0) = ∑ k : Fin 2048, if s ≤ k.val then f k.val else 0 := by
  rw [← Finset.sum_range (fun k => if s + k < 2048 then f (s + k) else 0), ← Finset.sum_range (fun k => if s ≤ k then f k else 0),
    ← Finset.sum_filter, ← Finset.sum_filter]
  refine Finset.sum_nbij' (fun k => s + k) (fun k => k - s) ?_ ?_ ?_ ?_ ?_
  all_goals intro k hk; simp only [Finset.mem_filter, Finset.mem_range] at *
  · omega
  · omega
  · omega
  · omega

/-- The entry the window at `(b, hd, t, s)` finds at its own place `w`, zero past the end. -/
def window {B H T : Nat} (x : FVec Ideal ⟨4, ![B, H, T, 2048]⟩ .f32) (b : Fin B) (hd : Fin H) (t : Fin T) (s : Fin 2048)
    (w : (⟨4, ![1, 1, 1, 2048]⟩ : Shape).Idx) : EReal :=
  if hin : ∀ a : Fin 4, (![0, 0, 0, 0] : Fin 4 → Nat) a ≤ (ix4 b hd t s (Fin.cast rfl a)).val * (![1, 1, 1, 1] : Fin 4 → Nat) a + (w a).val
      ∧ (ix4 b hd t s (Fin.cast rfl a)).val * (![1, 1, 1, 1] : Fin 4 → Nat) a + (w a).val - (![0, 0, 0, 0] : Fin 4 → Nat) a < (![B, H, T, 2048] : Fin 4 → Nat) a then
    x fun a => ⟨(ix4 b hd t s (Fin.cast rfl a)).val * (![1, 1, 1, 1] : Fin 4 → Nat) a + (w a).val - (![0, 0, 0, 0] : Fin 4 → Nat) a, (hin a).2⟩
  else 0

/-- The window sum of the last axis, padded high by one less than its length: at `s` the sum of the entries `k ≥ s`. -/
theorem suffix_sum {B H T : Nat} (x : FVec Ideal ⟨4, ![B, H, T, 2048]⟩ .f32) {u : Shape} (v : FVec Ideal u .f32) (hv : ∀ i, v i = (0 : EReal))
    (h : Shape.ReduceWindows ⟨4, ![B, H, T, 2048]⟩ (![1, 1, 1, 2048] : Fin 4 → Nat) ![1, 1, 1, 1] ![0, 0, 0, 0] ![0, 0, 0, 2047] ⟨4, ![B, H, T, 2048]⟩)
    (hu : 0 < u.numel) (b : Fin B) (hd : Fin H) (t : Fin T) (s : Fin 2048) :
    Host.reduceWindowAdd ![1, 1, 1, 2048] ![1, 1, 1, 1] ![0, 0, 0, 0] ![0, 0, 0, 2047] x v h hu (ix4 b hd t s)
      = ∑ k : Fin 2048, if s ≤ k then (x (ix4 b hd t k) : EReal) else 0 := by
  unfold Host.reduceWindowAdd
  rw [Ideal.hostReduceWindowAdd_def]
  unfold Ideal.hostReduceWindowAdd Host.reduceWindow
  dsimp only
  rw [foldl_add, hv]
  rw [zero_add]
  refine (Finset.sum_congr rfl fun n _ =>
    (?_ : _ = window x b hd t s ((⟨4, ![1, 1, 1, 2048]⟩ : Shape).rowMajor.symm n))).trans ?_
  · unfold window
    split <;> rfl
  refine (Equiv.sum_comp (⟨4, ![1, 1, 1, 2048]⟩ : Shape).rowMajor.symm (window x b hd t s)).trans ((sum_row _).trans ?_)
  refine Eq.trans ?_ ((sum_shift (fun k => if hk : k < 2048 then (x (ix4 b hd t ⟨k, hk⟩) : EReal) else 0) s.val).trans (Finset.sum_congr rfl fun k _ => ?_))
  · refine Finset.sum_congr rfl fun k _ => ?_
    unfold window
    by_cases hk : s.val + k.val < 2048
    · rw [if_pos hk, dif_pos hk]
      refine (dif_pos (fun a => ?_)).trans (congrArg x (funext fun a => Fin.ext ?_))
      · match a with
        | ⟨0, _⟩ => exact ⟨Nat.zero_le _, by show b.val * 1 + 0 - 0 < B; have := b.isLt; omega⟩
        | ⟨1, _⟩ => exact ⟨Nat.zero_le _, by show hd.val * 1 + 0 - 0 < H; have := hd.isLt; omega⟩
        | ⟨2, _⟩ => exact ⟨Nat.zero_le _, by show t.val * 1 + 0 - 0 < T; have := t.isLt; omega⟩
        | ⟨3, _⟩ => exact ⟨Nat.zero_le _, by show s.val * 1 + k.val - 0 < 2048; omega⟩
      · match a with
        | ⟨0, _⟩ => show b.val * 1 + 0 - 0 = b.val; omega
        | ⟨1, _⟩ => show hd.val * 1 + 0 - 0 = hd.val; omega
        | ⟨2, _⟩ => show t.val * 1 + 0 - 0 = t.val; omega
        | ⟨3, _⟩ => show s.val * 1 + k.val - 0 = s.val + k.val; omega
    · rw [if_neg hk]
      refine dif_neg fun hin => hk ?_
      have h3 : s.val * 1 + k.val - 0 < 2048 := (hin 3).2
      omega
  · rw [dif_pos k.isLt]
    rfl

end Cert.Stick
end
-- ==== Proof.Ref.lean ====
/- What the stick-breaking reference computes, entry by entry: the scores of a query against the keys, the two log-sigmoids, the sum of the
   log(1 - σ) terms after a key, the weights and the weighted sum of the values. -/
module

public import proofs.«01_k».proof.Proof.Gen.ReferenceIdeal.Run
public import proofs.«01_k».proof.Proof.Suffix
public import proofs.«01_k».proof.Proof.Packed
public import Idealize.ShloMosaic.Lib.WordCmp

@[expose] public section

set_option maxRecDepth 16384

noncomputable section

namespace Cert.ReferenceIdeal.Stick

open Cert.ReferenceIdeal Cert.ReferenceIdeal.Gen Idealize.ShloMosaic Idealize.ShloMosaic.TcCoe Idealize.SL.Sem
open Cert.Stick Facts
open scoped BigOperators

local notation "QKV" => FVec Ideal S8192x12288 FTy.bf16
local notation "Scores" => FVec Ideal S4x32x2048x2048 FTy.f32
local notation "Heads" => FVec Ideal S4x2048x32x128 FTy.f32

/-- The packed array with its columns split into queries, keys and values by head. -/
def split (X : QKV) : FVec Ideal S4x2048x3x32x128 .f32 :=
  shapeCast _ (extf .f32 X bitsLt_bf16_f32) shapeCasts_S8192x12288_S4x2048x3x32x128

/-- The queries. -/
def queries (X : QKV) : Heads :=
  shapeCast _ (extractStridedSlice S4x2048x1x32x128 ![0, 0, 0, 0, 0] (split X) slices_S4x2048x3x32x128_S4x2048x1x32x128_0_0_0_0_0) shapeCasts_S4x2048x1x32x128_S4x2048x32x128

/-- The keys. -/
def keys (X : QKV) : Heads :=
  shapeCast _ (extractStridedSlice S4x2048x1x32x128 ![0, 0, 1, 0, 0] (split X) slices_S4x2048x3x32x128_S4x2048x1x32x128_0_0_1_0_0) shapeCasts_S4x2048x1x32x128_S4x2048x32x128

/-- The values. -/
def values (X : QKV) : Heads :=
  shapeCast _ (extractStridedSlice S4x2048x1x32x128 ![0, 0, 2, 0, 0] (split X) slices_S4x2048x3x32x128_S4x2048x1x32x128_0_0_2_0_0) shapeCasts_S4x2048x1x32x128_S4x2048x32x128

/-- The scaled scores. -/
def scores (X : QKV) : Scores :=
  mulf (Host.dotGeneral dot_S4x2048x32x128_S4x2048x32x128_S4x32x2048x2048_3_3_1_1_02_02 none (queries X) (keys X))
    (broadcastInDim S4x32x2048x2048 ![] bcast_S_S4x32x2048x2048 (constant S_ .f32 0x3DB504F3#32))

/-- An array of zeros. -/
def zeros : Scores := broadcastInDim S4x32x2048x2048 ![] bcast_S_S4x32x2048x2048 (constant S_ .f32 0x00000000#32)

/-- The array of zeros a choice falls back on. -/
def blank : Scores := broadcastInDim S4x32x2048x2048 ![] bcast_S_S4x32x2048x2048 (id (constant S_ .f32 0x00000000#32))

/-- Minus the softplus of `w`. -/
def negSoftplus (w : Scores) : Scores :=
  Host.negf (select (cmpf .une (subf w zeros) (subf w zeros)) (addf w zeros)
    (addf (maximumf w zeros) (Host.log1p (Host.exp (Host.negf (Host.absf (subf w zeros)))))))

/-- Where the key comes before the query. -/
def before : IVec S4x32x2048x2048 1 :=
  broadcastInDim S4x32x2048x2048 ![2, 3] bcast_S2048x2048_S4x32x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- log(1 - σ) for the keys before the query. -/
def logKeep (z : Scores) : Scores := select before (negSoftplus (Host.negf (Host.negf z))) blank

/-- The sum of `logKeep` over the keys after each key. -/
def later (z : Scores) : Scores :=
  subf (Host.reduceWindowAdd ![1, 1, 1, 2048] ![1, 1, 1, 1] ![0, 0, 0, 0] ![0, 0, 0, 2047] (logKeep z)
    (broadcastInDim S_ ![] bcast_S_S_ (constant S_ .f32 0x00000000#32))
    reduceWindows_S4x32x2048x2048_S4x32x2048x2048_w1s1p0_0_w1s1p0_0_w1s1p0_0_w2048s1p0_2047 h_S_) (logKeep z)

/-- The weights. -/
def weights (z : Scores) : Scores := select before (Host.exp (addf (negSoftplus (Host.negf z)) (later z))) blank

/-- The result, laid out by rows. -/
def attend (v : Heads) (a : Scores) : FVec Ideal S8192x4096 .bf16 :=
  truncf .bf16 (shapeCast _ (transpose S4x2048x32x128 [0, 3, 1, 2] (Host.dotGeneral dot_S4x2048x32x128_S4x32x2048x2048_S4x32x128x2048_1_3_3_2_02_01 none v a)
    transposes_S4x32x128x2048_S4x2048x32x128_0_3_1_2) shapeCasts_S4x2048x32x128_S8192x4096) bitsLt_bf16_f32

/-- The reference's result is the composition of these stages. -/
theorem result_eq (m : (ℓ : Loc nD τ sig) → Buf (Elt Ideal) ℓ) (c : Dev nD) :
    Value.res_main_v29 m c = attend (values (m ((c.tc : Thread nD τ).loc main_arg0))) (weights (scores (m ((c.tc : Thread nD τ).loc main_arg0)))) := rfl

/-- Each score is the scaled product of a query and a key. -/
theorem scores_at (X : QKV) (b : Fin 4) (h : Fin 32) (t s : Fin 2048) :
    scores X (ix4 b h t s) = score X b h t s := by
  unfold score
  pointwise [scores, queries, keys, split]

/-- Each value is an entry of the last third of the columns. -/
theorem values_at (X : QKV) (b : Fin 4) (s : Fin 2048) (h : Fin 32) (d : Fin 128) :
    values X (ix4 b s h d) = X (ix2 (⟨b.val * 2048 + s.val, by omega⟩ : Fin 8192) (⟨8192 + h.val * 128 + d.val, by omega⟩ : Fin 12288)) := by
  pointwise [values, split]

/-- At a real entry, `negSoftplus` is minus the softplus. -/
theorem negSoftplus_at (w : Scores) (i) (x : ℝ) (hx : w i = (x : EReal)) : negSoftplus w i = ((-(sp x) : ℝ) : EReal) := by
  pointwise [negSoftplus, zeros]
  rw [if_neg (not_not.mpr rfl), show FloatOps.absf (w i) = max (w i) (-(w i)) from rfl, hx, sp_ref, EReal.coe_neg]

/-- A choice by `before` is a choice by the order of the two places. -/
theorem select_before (x y : Scores) (b : Fin 4) (h : Fin 32) (t s : Fin 2048) :
    select before x y (ix4 b h t s) = if s.val < t.val then x (ix4 b h t s) else y (ix4 b h t s) := by
  pointwise [before]
  rw [WordCmp.cmpi_slt_ofNat, Scalar.select_decide]
  all_goals omega

/-- The fallback is zero. -/
theorem blank_at (i) : blank i = (0 : EReal) := by
  show (constant S_ FTy.f32 0x00000000#32 : FVec Ideal S_ .f32) ix0 = (0 : EReal)
  pointwise

section
variable (z : Scores) (b : Fin 4) (h : Fin 32) (t : Fin 2048) (x : ℕ → ℝ)
  (hz : ∀ s : Fin 2048, z (ix4 b h t s) = (x s.val : EReal))
include hz

/-- The log(1 - σ) terms of a query's row. -/
theorem logKeep_at (s : Fin 2048) : logKeep z (ix4 b h t s) = (lk x t.val s.val : EReal) := by
  unfold logKeep lk
  rw [select_before, blank_at, negSoftplus_at _ _ (x s.val)]
  · split <;> rfl
  · show (-(-(z (ix4 b h t s))) : EReal) = _
    rw [neg_neg, hz]

/-- The sum of those terms over the later keys. -/
theorem later_at (s : Fin 2048) : later z (ix4 b h t s) = (after x t.val (s.val + 1) : EReal) := by
  unfold later
  rw [show ∀ (u v : Scores) (i : S4x32x2048x2048.Idx), subf u v i = (u i - v i : EReal) from fun _ _ _ => rfl, suffix_sum _ _ (fun i => ?_), logKeep_at z b h t x hz, ← after_sub x t.val s.isLt, EReal.coe_sub, after_eq_sum, coe_sum]
  · refine congrArg₂ _ (Finset.sum_congr rfl fun k _ => ?_) rfl
    rw [logKeep_at z b h t x hz]
    by_cases hk : s ≤ k
    · rw [if_pos hk, if_pos (show s.val ≤ k.val from hk)]
    · rw [if_neg hk, if_neg (show ¬ s.val ≤ k.val from hk)]; rfl
  · pointwise

/-- The weights of a query's row. -/
theorem weights_at (s : Fin 2048) : weights z (ix4 b h t s) = (wt x t.val s.val : EReal) := by
  unfold weights wt
  rw [select_before, blank_at]
  show (if _ then Ideal.exp (negSoftplus (Host.negf z) (ix4 b h t s) + later z (ix4 b h t s)) else (0 : EReal)) = _
  rw [negSoftplus_at _ _ (-(x s.val)), later_at z b h t x hz, ← EReal.coe_add, Ideal.exp_coe, sp_neg, neg_sub]
  · split <;> rfl
  · show (-(z (ix4 b h t s)) : EReal) = _
    rw [hz, EReal.coe_neg]

end

/-- The result at a row and a column is the weighted sum of a column of values. -/
theorem attend_at (v : Heads) (a : Scores) (r : Fin 8192) (c : Fin 4096) :
    attend v a (ix2 r c)
      = (∑ s : Fin 2048, v (ix4 (⟨r.val / 2048, by omega⟩ : Fin 4) s (⟨c.val / 128, by omega⟩ : Fin 32) (⟨c.val % 128, by omega⟩ : Fin 128))
          * a (ix4 (⟨r.val / 2048, by omega⟩ : Fin 4) (⟨c.val / 128, by omega⟩ : Fin 32) (⟨r.val % 2048, by omega⟩ : Fin 2048) s) : EReal) := by
  pointwise [attend]

/-- The reference at a row and a column, where the queries and the keys are real. -/
theorem result_at (X : QKV) (hX : ∀ (r : Fin 8192) (c : Fin 12288), c.val < 8192 → ∃ a : ℝ, X (ix2 r c) = (a : EReal))
    (r : Fin 8192) (c : Fin 4096) :
    attend (values X) (weights (scores X)) (ix2 r c) = attention X r c := by
  rw [attend_at, attention, out_zero]
  refine Finset.sum_congr rfl fun s _ => ?_
  rw [values_at, weights_at _ _ _ _ (realScore X ⟨r.val / 2048, by omega⟩ ⟨c.val / 128, by omega⟩ ⟨r.val % 2048, by omega⟩)
    (fun s => (scores_at X _ _ _ s).trans (score_eq X hX _ _ _ s)), mul_comm, valueCol, dif_pos s.isLt]

end Cert.ReferenceIdeal.Stick
end
-- ==== Proof.Pre.lean ====
/- The precondition on the packed array: every query entry and every key entry is a real number. -/
module

public import proofs.«01_k».proof.Pre_finite_qk
public import Idealize.ShloMosaic.Lib.Pointwise

@[expose] public section

set_option maxRecDepth 16384

noncomputable section

namespace Cert.Pre_finite_qk

open Idealize.ShloMosaic Facts

/-- The side conditions of the precondition's operations. -/
theorem facts : Facts where
  slices_S8192x12288_S8192x8192_0_0 := by decide
  bitsLt_bf16_f32 := by decide
  bcast_S_S8192x8192 := by decide

/-- The bound of the precondition is the largest extended real. -/
theorem inf_top : Ideal.ofBits .f32 0x7F800000#32 = (⊤ : EReal) := by
  show Ideal.ieee 8 23 0x7F800000#32 = _
  unfold Ideal.ieee
  dsimp only
  rw [if_pos (by decide), if_pos (by decide), if_neg (by decide)]

/-- A set bit says that what it decides holds. -/
theorem of_bit {p : Prop} [Decidable p] (h : BitVec.ofBool (decide p) = 1#1) : p := by
  by_contra hn
  rw [decide_eq_false hn] at h
  exact absurd h (by decide)

/-- Where the precondition holds, the first 8192 columns are real. -/
theorem real_of_fn [Facts] (X : FVec Ideal S8192x12288 .bf16) (h : fn (F := Ideal) X = fun _ => 1#1)
    (r : Fin 8192) (c : Fin 12288) (hc : c.val < 8192) : ∃ a : ℝ, X (ix2 r c) = (a : EReal) := by
  have h1 := congrFun h (ix2 r (⟨c.val, hc⟩ : Fin 8192))
  pointwise [fn] at h1
  have h2 : max (X (ix2 r c) : EReal) (-(X (ix2 r c) : EReal)) < Ideal.ofBits .f32 0x7F800000#32 := of_bit h1
  rw [inf_top] at h2
  refine ⟨(X (ix2 r c) : EReal).toReal, (EReal.coe_toReal ?_ ?_).symm⟩
  · exact ((le_max_left _ _).trans_lt h2).ne
  · intro hb
    have h3 := (le_max_right (X (ix2 r c) : EReal) (-(X (ix2 r c) : EReal))).trans_lt h2
    rw [hb, EReal.neg_bot] at h3
    exact lt_irrefl _ h3

end Cert.Pre_finite_qk

end
-- ==== Proof.Dense.lean ====
/- Sums of products of extended reals, and the gated product of a feed-forward layer as a function of the gate and the up value. -/
module

public import Idealize.ShloMosaic.Lib.Pointwise

@[expose] public section

noncomputable section

namespace Cert.Dense

open Idealize.ShloMosaic
open scoped BigOperators

/-- A row times a column, factor by factor. -/
theorem dot_congr {n : ℕ} {x y x' y' : Fin n → EReal} (hx : ∀ k, x k = x' k) (hy : ∀ k, y k = y' k) :
    ∑ k, x k * y k = ∑ k, x' k * y' k :=
  Finset.sum_congr rfl fun k _ => by rw [hx k, hy k]

/-- The gate value times its logistic, times the up value. -/
def gated (g u : EReal) : EReal := g * Ideal.logistic g * u

end Cert.Dense

end
-- ==== Proof.GateUpArray.lean ====
/- The array the gate and up kernel leaves: each entry the gated product of a row with a column of the gate and of the up weights. -/
module

public import proofs.«01_k».proof.Proof.Gen.GateUpIdeal.Value
public import proofs.«01_k».proof.Proof.Dense
public import Idealize.ShloMosaic.Lib.Pipeline.ValueKit

@[expose] public section

set_option maxRecDepth 16384

noncomputable section

namespace Cert.GateUpIdeal.Gated

open Cert.GateUpIdeal Cert.GateUpIdeal.Gen Idealize.ShloMosaic Idealize.ShloMosaic.TcCoe Idealize.SL.Sem
open Idealize.ShloMosaic.Pipeline (Dat)
open Cert.Dense
open scoped BigOperators

/-- One entry of an output block: the gated product of the row of the left block with the columns of the two weight blocks. -/
theorem block_at (x : Vec Ideal S1024x4096 .bf16) (wg wu : Vec Ideal S4096x256 .f32) (r : Fin 1024) (d : Fin 256) :
    out0_3 x wg wu (ix2 r d) = gated (∑ k : Fin 4096, x (ix2 r k) * wg (ix2 k d)) (∑ k : Fin 4096, x (ix2 r k) * wu (ix2 k d)) := by
  unfold out0_3
  rw [View.canon_cons_unit_lit _ _ _ (by decide), View.ld_unit_lit _ _ (by decide), View.ld_unit_lit _ _ (by decide), View.ld_unit_lit _ _ (by decide)]
  pointwise [k0_pay1]
  rfl

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![0, (grid0.coords t 1).val] :=
  (by decide +kernel : ∀ t : Fin grid0.N, win0_2.index t = ![0, (grid0.coords t 1).val])
theorem idx3 : ∀ t : Fin cfg0.N, win0_3.index t = ![(grid0.coords t 0).val, (grid0.coords t 1).val] :=
  (by decide +kernel : ∀ t : Fin grid0.N, win0_3.index t = ![(grid0.coords t 0).val, (grid0.coords t 1).val])

/-- The output blocks fill the array. -/
theorem covers : (cfg0.win 3).Covers := by decide +kernel

variable (m : (ℓ : Loc nD τ sig) → Buf (Elt Ideal) ℓ) (c : Dev nD)

/-- The rows on a device. -/
abbrev rows : FVec Ideal S8192x4096 .bf16 := m ((c.tc : Thread nD τ).loc main_arg0)
/-- The gate weights on a device. -/
abbrev gateWeights : FVec Ideal S4096x14336 .f32 := m ((c.tc : Thread nD τ).loc main_arg1)
/-- The up weights on a device. -/
abbrev upWeights : FVec Ideal S4096x14336 .f32 := m ((c.tc : Thread nD τ).loc main_arg2)

/-- The array after the run: each entry is the gated product of a row with a column of either weight matrix. -/
theorem final : (dats m 0 c).arrAt 3 cfg0.N = fun i =>
    gated (∑ k : Fin 4096, rows m c (ix2 (i 0) k) * gateWeights m c (ix2 k (i 1))) (∑ k : Fin 4096, rows m c (ix2 (i 0) k) * upWeights m c (ix2 k (i 1))) := by
  refine (dats m 0 c).arrAt_eq_of_covers 3 _ covers fun t hf y => ?_
  blk_simp
  rw [after0_3]
  obtain ⟨r, d, rfl⟩ : ∃ (r : Fin 1024) (d : Fin 256), y = ix2 r d := ⟨y 0, y 1, eq_ix2 y⟩
  refine Eq.trans (block_at _ _ _ r d) (congrArg₂ gated (dot_congr (fun k => ?_) fun k => ?_) (dot_congr (fun k => ?_) fun k => ?_))
  · blk_ext [iblk, V, idx0, idx3]
  · blk_ext [iblk, V, idx1, idx3]
  · blk_ext [iblk, V, idx0, idx3]
  · blk_ext [iblk, V, idx2, idx3]

end Cert.GateUpIdeal.Gated

end
-- ==== Proof.GateUpRef.lean ====
/- The reference's gate and up products, entry by entry: the gate product times its logistic times the up product. -/
module

public import proofs.«01_k».proof.Proof.Gen.GateUpRefIdeal.Run
public import Idealize.ShloMosaic.Lib.Pointwise
public import proofs.«01_k».proof.Proof.Dense

@[expose] public section

set_option maxRecDepth 16384

noncomputable section

namespace Cert.GateUpRefIdeal.Gated

open Cert.GateUpRefIdeal Cert.GateUpRefIdeal.Gen Idealize.ShloMosaic Idealize.ShloMosaic.TcCoe Idealize.SL.Sem
open Cert.Dense Facts
open scoped BigOperators

/-- A product of the rows with a weight matrix. -/
def product (x : FVec Ideal S8192x4096 .bf16) (w : FVec Ideal S4096x14336 .f32) : FVec Ideal S8192x14336 .f32 :=
  Host.dotGeneral dot_S8192x4096_S4096x14336_S8192x14336_1_0_0_1_n_n none (extf .f32 x bitsLt_bf16_f32) w

/-- An array of ones. -/
def ones : FVec Ideal S8192x14336 .f32 := broadcastInDim S8192x14336 ![] bcast_S_S8192x14336 (constant S_ .f32 0x3F800000#32)

/-- The result from the two products. -/
def result (x : FVec Ideal S8192x4096 .bf16) (wg wu : FVec Ideal S4096x14336 .f32) : FVec Ideal S8192x14336 .bf16 :=
  truncf .bf16 (mulf (mulf (product x wg) (Host.divf ones (addf ones (Host.exp (Host.negf (product x wg)))))) (product x wu)) bitsLt_bf16_f32

/-- One entry of a product. -/
theorem product_at (x : FVec Ideal S8192x4096 .bf16) (w : FVec Ideal S4096x14336 .f32) (r : Fin 8192) (d : Fin 14336) :
    product x w (ix2 r d) = ∑ k : Fin 4096, x (ix2 r k) * w (ix2 k d) := by
  pointwise [product]

/-- One entry of the result. -/
theorem result_at (x : FVec Ideal S8192x4096 .bf16) (wg wu : FVec Ideal S4096x14336 .f32) (r : Fin 8192) (d : Fin 14336) :
    result x wg wu (ix2 r d) = gated (∑ k : Fin 4096, x (ix2 r k) * wg (ix2 k d)) (∑ k : Fin 4096, x (ix2 r k) * wu (ix2 k d)) := by
  rw [← product_at, ← product_at]
  generalize hg : product x wg = g
  generalize hu : product x wu = u
  pointwise [result, ones, hg, hu]
  rfl

end Cert.GateUpRefIdeal.Gated

end
-- ==== Proof.DownBlock.lean ====
/- What one grid point of the down projection leaves: the product of its blocks, added to the running sum at every step but the first of a
   row and column of blocks, and at the last step added to the residual. -/
module

public import proofs.«01_k».proof.Proof.Gen.DownIdeal.Value
public import Idealize.ShloMosaic.Lib.Pipeline.ValueKit
public import Idealize.ShloMosaic.Lib.Tactic
public import proofs.«01_k».proof.Proof.Dense

@[expose] public section

set_option maxRecDepth 16384

noncomputable section

namespace Cert.DownIdeal.Step

open Cert.DownIdeal Cert.DownIdeal.Gen Idealize.ShloMosaic Idealize.ShloMosaic.TcCoe Idealize.SL.Sem
open Cert.Dense
open scoped BigOperators

section
variable {F : FTy → Type} [FloatOps F]
variable (c : Dev nD) (i : grid0.Coords) (a3 : Memref sig .tc .vmem S1024x2048 .bf16) (h3 : a3.IsWhole) (a4 : Memref sig .tc .vmem S2048x1024 .f32)
  (h4 : a4.IsWhole) (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x2048 .bf16) (w : Vec F S2048x1024 .f32) (res acc : Vec F S1024x1024 .f32)

/-- The first step stores the product of the blocks as the running sum. -/
theorem first (hc0 : cond0_0 i) (hc1 : ¬cond0_1 i) (hc2 : ¬cond0_2 i) :
    sout0_A_0 c i a3 h3 a4 h4 a5 h5 a6 h6 a7 h7 hc0 hc1 hc2 x w res = k0_pay2 w x := by
  unfold sout0_A_0
  rw [View.read_writes_eq_canon _ _ _ (scover0_A_0 c i a3 h3 a4 h4 a5 h5 a6 h6 a7 h7 hc0 hc1 hc2 x w res)]
  unfold kernelRun0_A
  dsimp only
  sl_unfold_words
  rw [View.canon_cons_unit_lit _ _ _ (by decide)]
  simp only [View.readAt_eq_ld, h3.read_unread, h4.read_unread]
  rw [View.ld_unit_lit _ _ (by decide), View.ld_unit_lit _ _ (by decide)]

/-- A middle step adds the product of the blocks to the running sum. -/
theorem middle (hc0 : ¬cond0_0 i) (hc1 : cond0_1 i) (hc2 : ¬cond0_2 i) :
    sout0_B_0 c i a3 h3 a4 h4 a5 h5 a6 h6 a7 h7 hc0 hc1 hc2 x w res acc = k0_pay3 w x acc := by
  unfold sout0_B_0
  rw [View.read_writes_eq_canon _ _ _ (scover0_B_0 c i a3 h3 a4 h4 a5 h5 a6 h6 a7 h7 hc0 hc1 hc2 x w res acc)]
  unfold kernelRun0_B
  dsimp only
  sl_unfold_words
  rw [View.canon_cons_unit_lit _ _ _ (by decide)]
  simp only [View.readAt_eq_ld, h3.read_unread, h4.read_unread, h7.read_unread]
  rw [View.ld_unit_lit _ _ (by decide), View.ld_unit_lit _ _ (by decide), View.ld_unit_lit _ _ (by decide)]

/-- The last step leaves the finished sum plus the residual in the output block. -/
theorem last (hc0 : ¬cond0_0 i) (hc1 : ¬cond0_1 i) (hc2 : cond0_2 i) :
    out0_C_3 c i a3 h3 a4 h4 a5 h5 a6 h6 a7 h7 hc0 hc1 hc2 x w res acc = k0_pay4 w x acc res := by
  unfold out0_C_3
  rw [View.read_writes_eq_canon _ _ _ (cover0_C_3 c i a3 h3 a4 h4 a5 h5 a6 h6 a7 h7 hc0 hc1 hc2 x w res acc)]
  unfold kernelRun0_C
  dsimp only
  sl_unfold_words
  rw [View.canon_cons_unit_lit _ _ _ (by decide)]
  simp only [View.readAt_eq_ld, h3.read_unread, h4.read_unread, h5.read_unread, h7.read_unread]
  rw [View.ld_unit_lit _ _ (by decide), View.ld_unit_lit _ _ (by decide), View.ld_unit_lit _ _ (by decide), View.ld_unit_lit _ _ (by decide)]

end

/-! The steps' values, entry by entry. -/

variable (x : Vec Ideal S1024x2048 .bf16) (w : Vec Ideal S2048x1024 .f32) (res acc : Vec Ideal S1024x1024 .f32) (r d : Fin 1024)

theorem first_at : k0_pay2 w x (ix2 r d) = ∑ k : Fin 2048, x (ix2 r k) * w (ix2 k d) := by
  pointwise [k0_pay2, k0_pay1]

theorem middle_at : k0_pay3 w x acc (ix2 r d) = acc (ix2 r d) + ∑ k : Fin 2048, x (ix2 r k) * w (ix2 k d) := by
  pointwise [k0_pay3, k0_pay1]

theorem last_at : k0_pay4 w x acc res (ix2 r d) = acc (ix2 r d) + (∑ k : Fin 2048, x (ix2 r k) * w (ix2 k d)) + res (ix2 r d) := by
  pointwise [k0_pay4, k0_pay1]

end Cert.DownIdeal.Step

end
-- ==== Proof.DownArray.lean ====
/- The array the down projection leaves: each entry the residual plus a row times a column. The running sum after step `k` of a block is the
   part of that product over the first `2048 (k + 1)` terms. -/
module

public import proofs.«01_k».proof.Proof.DownBlock
public import Idealize.ShloMosaic.Lib.Pipeline.Covers

@[expose] public section

set_option maxRecDepth 16384

noncomputable section

namespace Cert.DownIdeal.Array

open Cert.DownIdeal Cert.DownIdeal.Gen Idealize.ShloMosaic Idealize.ShloMosaic.TcCoe Idealize.SL.Sem
open Idealize.ShloMosaic.Pipeline (Dat)
open Cert.Dense Cert.DownIdeal.Step
open scoped BigOperators

/-! The block each window reads or writes at a grid point. -/

theorem idx0 : ∀ t : Fin cfg0.N, win0_0.index t = ![t.val / 28, t.val % 7] :=
  (by decide +kernel : ∀ t : Fin grid0.N, win0_0.index t = ![t.val / 28, t.val % 7])
theorem idx1 : ∀ t : Fin cfg0.N, win0_1.index t = ![t.val % 7, t.val / 7 % 4] :=
  (by decide +kernel : ∀ t : Fin grid0.N, win0_1.index t = ![t.val % 7, t.val / 7 % 4])
theorem idx2 : ∀ t : Fin cfg0.N, win0_2.index t = ![t.val / 28, t.val / 7 % 4] :=
  (by decide +kernel : ∀ t : Fin grid0.N, win0_2.index t = ![t.val / 28, t.val / 7 % 4])
theorem idx3 : ∀ t : Fin cfg0.N, win0_3.index t = ![t.val / 28, t.val / 7 % 4] :=
  (by decide +kernel : ∀ t : Fin grid0.N, win0_3.index t = ![t.val / 28, t.val / 7 % 4])

/-- The output blocks fill the array. -/
theorem covers : (cfg0.win 3).Covers := by decide +kernel

variable (m : (ℓ : Loc nD τ sig) → Buf (Elt Ideal) ℓ) (c : Dev nD)

/-- The hidden rows on a device. -/
abbrev rows : FVec Ideal S8192x14336 .bf16 := m ((c.tc : Thread nD τ).loc main_arg0)
/-- The weights on a device. -/
abbrev weights : FVec Ideal S14336x4096 .f32 := m ((c.tc : Thread nD τ).loc main_arg1)
/-- The residual on a device. -/
abbrev residual : FVec Ideal S8192x4096 .f32 := m ((c.tc : Thread nD τ).loc main_arg2)

/-- Term `s` of the product of row `r` and column `d`. -/
def term (r : Fin 8192) (d : Fin 4096) (s : ℕ) : EReal :=
  if h : s < 14336 then rows m c (ix2 r ⟨s, h⟩) * weights m c (ix2 ⟨s, h⟩ d) else 0

/-- All the terms together are the product. -/
theorem term_sum (r : Fin 8192) (d : Fin 4096) :
    ∑ s ∈ Finset.range 14336, term m c r d s = ∑ k : Fin 14336, rows m c (ix2 r k) * weights m c (ix2 k d) := by
  rw [Finset.sum_range]
  exact Finset.sum_congr rfl fun k _ => dif_pos k.isLt

/-- The row of the array that row `r` of the block at point `t` is. -/
def rowOf (t : Fin cfg0.N) (r : Fin 1024) : Fin 8192 :=
  ⟨1024 * (t.val / 28) + r.val, by have := t.isLt; have : cfg0.N = 224 := N_0; omega⟩
/-- The column of the array that column `d` of the block at point `t` is. -/
def colOf (t : Fin cfg0.N) (d : Fin 1024) : Fin 4096 := ⟨1024 * (t.val / 7 % 4) + d.val, by omega⟩

/-- The terms of one more step. -/
theorem extend (f : ℕ → EReal) (k : ℕ) :
    ∑ s ∈ Finset.range (2048 * k), f s + ∑ s ∈ Finset.range 2048, f (2048 * k + s) = ∑ s ∈ Finset.range (2048 * (k + 1)), f s := by
  rw [Nat.mul_add_one, Finset.sum_range_add]

/-- The block of rows at a point. -/
abbrev rowBlock (t : Fin cfg0.N) : Vec Ideal S1024x2048 .bf16 := iblk m c 0 t
/-- The block of weights at a point. -/
abbrev weightBlock (t : Fin cfg0.N) : Vec Ideal S2048x1024 .f32 := iblk m c 1 t

/-- The product of the blocks at a point: its step's terms. -/
theorem step_sum (t : Fin cfg0.N) (r d : Fin 1024) :
    ∑ k : Fin 2048, rowBlock m c t (ix2 r k) * weightBlock m c t (ix2 k d)
      = ∑ s ∈ Finset.range 2048, term m c (rowOf t r) (colOf t d) (2048 * (t.val % 7) + s) := by
  rw [Finset.sum_range]
  refine Finset.sum_congr rfl fun k _ => ?_
  unfold term
  rw [dif_pos (by omega)]
  congr 1
  · blk_ext [iblk, V, idx0, rowOf]
  · blk_ext [iblk, V, idx1, colOf]

/-- At the first step those are the first terms. -/
theorem first_sum (t : Fin cfg0.N) (h : t.val % 7 = 0) (r d : Fin 1024) :
    ∑ k : Fin 2048, rowBlock m c t (ix2 r k) * weightBlock m c t (ix2 k d)
      = ∑ s ∈ Finset.range (2048 * (t.val % 7 + 1)), term m c (rowOf t r) (colOf t d) s := by
  rw [step_sum, h]
  simp only [Nat.mul_zero, Nat.zero_add, Nat.mul_one]

/-- The running sum after a point that is not the last of its block. -/
theorem running : ∀ (n : ℕ) (h : n < cfg0.N), n % 7 < 6 → ∀ r d : Fin 1024,
    (outsAt0 m c n h).2 (ix2 r d)
      = ∑ s ∈ Finset.range (2048 * (n % 7 + 1)), term m c (rowOf ⟨n, h⟩ r) (colOf ⟨n, h⟩ d) s := by
  intro n
  induction n with
  | zero =>
    intro h _ r d
    rw [show outsAt0 m c 0 h = _ from outsAt0_A m c ⟨0, h⟩ (by simp) (by simp) (by simp)]
    dsimp only
    rw [first]
    exact (first_at _ _ r d).trans (first_sum m c ⟨0, h⟩ (Nat.zero_mod 7) r d)
  | succ n ih =>
    intro h hk r d
    by_cases h0 : (n + 1) % 7 = 0
    · rw [show outsAt0 m c (n + 1) h = _ from outsAt0_A m c ⟨n + 1, h⟩ h0 (by dsimp only; omega) (by dsimp only; omega)]
      dsimp only
      rw [first]
      exact (first_at _ _ r d).trans (first_sum m c ⟨n + 1, h⟩ h0 r d)
    · rw [show outsAt0 m c (n + 1) h = _ from outsAt0_B m c ⟨n + 1, h⟩ h0 (by dsimp only; omega) (by dsimp only; omega)]
      dsimp only
      rw [middle]
      refine (middle_at _ _ _ r d).trans ?_
      rw [step_sum m c ⟨n + 1, h⟩ r d]
      have hrow : rowOf ⟨n, Nat.lt_of_succ_lt h⟩ r = rowOf ⟨n + 1, h⟩ r := Fin.ext (by simp only [rowOf]; omega)
      have hcol : colOf ⟨n, Nat.lt_of_succ_lt h⟩ d = colOf ⟨n + 1, h⟩ d := Fin.ext (by simp only [colOf]; omega)
      have e := ih (Nat.lt_of_succ_lt h) (by omega) r d
      rw [hrow, hcol] at e
      refine (congrArg (· + _) e).trans ?_
      rw [show n % 7 + 1 = (n + 1) % 7 by omega]
      exact extend _ _

/-- The array after the run. -/
theorem final : (dats m 0 c).arrAt 3 cfg0.N = fun i =>
    residual m c (ix2 (i 0) (i 1)) + ∑ k : Fin 14336, rows m c (ix2 (i 0) k) * weights m c (ix2 k (i 1)) := by
  refine (dats m 0 c).arrAt_eq_of_covers 3 _ covers fun t hf y => ?_
  have hk : t.val % 7 = 6 := (flush0_3 t).mp hf
  have ht := t.isLt
  blk_simp
  rw [after0_3]
  obtain ⟨r, d, rfl⟩ : ∃ (r : Fin 1024) (d : Fin 1024), y = ix2 r d := ⟨y 0, y 1, eq_ix2 y⟩
  rw [outsAt0_C m c t (by omega) (by omega) hk]
  dsimp only
  rw [last]
  refine (last_at _ _ _ _ r d).trans ?_
  rw [step_sum m c t r d]
  have hrow : rowOf ⟨t.val - 1, lt_of_le_of_lt (Nat.sub_le _ _) t.isLt⟩ r = rowOf t r := Fin.ext (by simp only [rowOf]; omega)
  have hcol : colOf ⟨t.val - 1, lt_of_le_of_lt (Nat.sub_le _ _) t.isLt⟩ d = colOf t d := Fin.ext (by simp only [colOf]; omega)
  have e := running m c (t.val - 1) (lt_of_le_of_lt (Nat.sub_le _ _) t.isLt) (by omega) r d
  rw [hrow, hcol, show (t.val - 1) % 7 + 1 = t.val % 7 by omega] at e
  refine (congrArg (fun v => v + _ + _) e).trans ?_
  rw [extend, hk, term_sum, add_comm]
  refine congrArg₂ (· + ·) ?_ (dot_congr (fun k => ?_) fun k => ?_)
  · blk_ext [iblk, V, idx2, idx3]
  · blk_ext [rowOf, idx3]
  · blk_ext [colOf, idx3]

end Cert.DownIdeal.Array

end
-- ==== Proof.DownRef.lean ====
/- The reference's down projection, entry by entry: the residual plus a row times a column. -/
module

public import proofs.«01_k».proof.Proof.Gen.DownRefIdeal.Run
public import Idealize.ShloMosaic.Lib.Pointwise

@[expose] public section

set_option maxRecDepth 16384

noncomputable section

namespace Cert.DownRefIdeal.Product

open Cert.DownRefIdeal Cert.DownRefIdeal.Gen Idealize.ShloMosaic Idealize.ShloMosaic.TcCoe Idealize.SL.Sem
open Facts
open scoped BigOperators

/-- One entry of the result. -/
theorem result_at (x : FVec Ideal S8192x14336 .bf16) (w : FVec Ideal S14336x4096 .f32) (res : FVec Ideal S8192x4096 .f32) (r : Fin 8192) (d : Fin 4096) :
    addf res (Host.dotGeneral dot_S8192x14336_S14336x4096_S8192x4096_1_0_0_1_n_n none (extf .f32 x bitsLt_bf16_f32) w) (ix2 r d)
      = res (ix2 r d) + ∑ k : Fin 14336, x (ix2 r k) * w (ix2 k d) := by
  pointwise []

end Cert.DownRefIdeal.Product

end
-- ==== Proof.QkvArray.lean ====
/- The product with the packed weights of queries, keys and values: the array the kernel leaves. -/
module

public import proofs.«01_k».proof.Proof.Gen.QkvIdeal.Value
public import proofs.«01_k».proof.Proof.Dense
public import Idealize.ShloMosaic.Lib.Pipeline.ValueKit

@[expose] public section

set_option maxRecDepth 16384

noncomputable section

namespace Cert.QkvIdeal.Product

open Cert.QkvIdeal Cert.QkvIdeal.Gen Idealize.ShloMosaic Idealize.ShloMosaic.TcCoe Idealize.SL.Sem
open Idealize.ShloMosaic.Pipeline (Dat)
open Cert.Dense
open scoped BigOperators

/-- One entry of an output block: the row of the left block times the column of the weight block. -/
theorem block_at (x : Vec Ideal S1024x4096 .bf16) (w : Vec Ideal S4096x512 .f32) (r : Fin 1024) (d : Fin 512) :
    out0_2 x w (ix2 r d) = ∑ k : Fin 4096, x (ix2 r k) * w (ix2 k d) := by
  unfold out0_2
  rw [View.canon_cons_unit_lit _ _ _ (by decide), View.ld_unit_lit _ _ (by decide), View.ld_unit_lit _ _ (by decide)]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])

/-- The output blocks fill the array. -/
theorem covers : (cfg0.win 2).Covers := by decide +kernel

variable (m : (ℓ : Loc nD τ sig) → Buf (Elt Ideal) ℓ) (c : Dev nD)

/-- The left factor on a device. -/
abbrev rows : FVec Ideal S8192x4096 .bf16 := m ((c.tc : Thread nD τ).loc main_arg0)
/-- The weights on a device. -/
abbrev weights : FVec Ideal S4096x12288 .f32 := m ((c.tc : Thread nD τ).loc main_arg1)

/-- The array after the run: each entry is a row times a column. -/
theorem final : (dats m 0 c).arrAt 2 cfg0.N = fun i => ∑ k : Fin 4096, rows m c (ix2 (i 0) k) * weights m c (ix2 k (i 1)) := by
  refine (dats m 0 c).arrAt_eq_of_covers 2 _ covers fun t hf y => ?_
  blk_simp
  rw [after0_2]
  obtain ⟨r, d, rfl⟩ : ∃ (r : Fin 1024) (d : Fin 512), y = ix2 r d := ⟨y 0, y 1, eq_ix2 y⟩
  refine Eq.trans (block_at _ _ r d) (dot_congr (fun k => ?_) fun k => ?_)
  · blk_ext [iblk, V, idx0, idx2]
  · blk_ext [iblk, V, idx1, idx2]

end Cert.QkvIdeal.Product

end
-- ==== Proof.QkvRef.lean ====
/- The reference's product with the packed weights of queries, keys and values, entry by entry. -/
module

public import proofs.«01_k».proof.Proof.Gen.QkvRefIdeal.Run
public import Idealize.ShloMosaic.Lib.Pointwise

@[expose] public section

set_option maxRecDepth 16384

noncomputable section

namespace Cert.QkvRefIdeal.Product

open Cert.QkvRefIdeal Cert.QkvRefIdeal.Gen Idealize.ShloMosaic Idealize.ShloMosaic.TcCoe Idealize.SL.Sem
open Facts
open scoped BigOperators

/-- One entry of the result: a row times a column. -/
theorem result_at (x : FVec Ideal S8192x4096 .bf16) (w : FVec Ideal S4096x12288 .f32) (r : Fin 8192) (d : Fin 12288) :
    truncf .bf16 (Host.dotGeneral dot_S8192x4096_S4096x12288_S8192x12288_1_0_0_1_n_n none (extf .f32 x bitsLt_bf16_f32) w) bitsLt_bf16_f32 (ix2 r d)
      = ∑ k : Fin 4096, x (ix2 r k) * w (ix2 k d) := by
  pointwise []

end Cert.QkvRefIdeal.Product

end
-- ==== Proof.Store.lean ====
/- A store that covers a whole block decides what the block holds afterwards. -/
module

public import Idealize.ShloMosaic.Lib.WritesUnit
public import Idealize.ShloMosaic.Lib.Pipeline.ValueKit

@[expose] public section

namespace Cert.Store

open Idealize.ShloMosaic

/-- After a store of `w` at zero offsets over the whole shape, the block reads `w`, whatever it held and whatever was stored before. -/
theorem read_stored {sig : RefSig} {κ : Kind} {sp : Space} {S : Shape} {e : EltTy} {Val : EltTy → Type} [∀ e, Nonempty (Val e)]
    (v : View sig κ sp S e) (f : v.ty.Contents Val) {off : Fin S.rank → Nat} (inb : ∀ a, off a + S.size a ≤ S.size a) (w : S.Idx → Val e)
    (L : List (View.Piece Val S e)) (h : ∀ a, off a = 0) :
    v.read Val (v.writes Val f ((⟨Rect.unit off S.size inb, w⟩ : View.Piece Val S e) :: L)) = w :=
  funext fun y => View.read_writes_cons_unit_of_mem v f inb w L y y rfl fun a => by rw [h a, Nat.zero_add]

end Cert.Store

end
-- ==== Proof.MoeTables.lean ====
/- The precondition on the expert tables: every block of rows names one of the eight experts, and at least one block is in use; and the
   arithmetic of the words it bounds. -/
module

public import proofs.«01_k».proof.Pre_up_tables
public import Idealize.ShloMosaic.Lib.Pointwise

@[expose] public section

set_option maxRecDepth 16384

noncomputable section

namespace Cert.Tables

open Idealize.ShloMosaic

/-- A word between zero and seven, as signed words, is an expert's number. -/
theorem expert_of_bits (b : BitVec 32) (h : IntOp.andi (IntOp.cmpi .sge b 0#32) (IntOp.cmpi .slt b 8#32) = 1#1) :
    ∃ e : Fin 8, b = BitVec.ofNat 32 e.val := by
  have hb : ∀ p q : Bool, BitVec.ofBool p &&& BitVec.ofBool q = 1#1 → p = true ∧ q = true := by decide
  obtain ⟨h0, h8⟩ := hb ((0#32).sle b) (b.slt 8#32) h
  rw [BitVec.sle_iff_toInt_le] at h0
  rw [BitVec.slt_iff_toInt_lt] at h8
  have h0' : (0 : ℤ) ≤ b.toInt := h0
  have h8' : b.toInt < 8 := h8
  have hlt := b.isLt
  rw [BitVec.toInt_eq_toNat_cond] at h0' h8'
  have hn : b.toNat < 8 := by split at h0' <;> omega
  exact ⟨⟨b.toNat, hn⟩, (BitVec.ofNat_toNat 32 b ▸ (BitVec.setWidth_eq b).symm)⟩

/-- A word that is at least one, as a signed word. -/
theorem positive_of_bit (b : BitVec 32) (h : IntOp.cmpi .sge b 1#32 = 1#1) : 1 ≤ b.toInt := by
  have hb : ∀ p : Bool, BitVec.ofBool p = 1#1 → p = true := by decide
  have h1 := hb ((1#32).sle b) h
  rw [BitVec.sle_iff_toInt_le] at h1
  exact h1

/-- One less than a count that is at least one, and the number of a block, whichever is smaller, is below forty; -/
theorem clamp_lt (n : Fin 40) (b : BitVec 32) (hb : 1 ≤ b.toInt) :
    (Scalar.minsi (BitVec.ofNat 32 n.val) (Scalar.subi b 1#32)).toNat < 40 := by
  have hn : (BitVec.ofNat 32 n.val).toNat = n.val := by rw [BitVec.toNat_ofNat]; omega
  have hlt := b.isLt
  rw [BitVec.toInt_eq_toNat_cond] at hb
  have hs : (b - 1#32).toNat = b.toNat - 1 := by
    split at hb
    · have : 1 ≤ b.toNat := by omega
      bv_omega
    · omega
  unfold Scalar.minsi IntOp.minsi Scalar.subi IntOp.subi
  split
  · rw [hn]; exact n.isLt
  · rename_i h
    rw [BitVec.slt_iff_toInt_lt, BitVec.toInt_eq_toNat_cond, BitVec.toInt_eq_toNat_cond, hn, hs] at h
    rw [hs]
    have := n.isLt
    split at hb
    · rw [if_pos (by omega), if_pos (by omega)] at h; omega
    · omega

/-- it is the number of the block where that is below the count. -/
theorem clamp_eq (n : Fin 40) (b : BitVec 32) (hb : (n.val : ℤ) < b.toInt) :
    (Scalar.minsi (BitVec.ofNat 32 n.val) (Scalar.subi b 1#32)).toNat = n.val := by
  have hn : (BitVec.ofNat 32 n.val).toNat = n.val := by rw [BitVec.toNat_ofNat]; omega
  have hlt := b.isLt
  rw [BitVec.toInt_eq_toNat_cond] at hb
  have hs : (b - 1#32).toNat = b.toNat - 1 := by
    split at hb
    · have : 1 ≤ b.toNat := by omega
      bv_omega
    · omega
  unfold Scalar.minsi IntOp.minsi Scalar.subi IntOp.subi
  split
  · exact hn
  · rename_i h
    rw [BitVec.slt_iff_toInt_lt, BitVec.toInt_eq_toNat_cond, BitVec.toInt_eq_toNat_cond, hn, hs] at h
    rw [hs]
    have := n.isLt
    split at hb
    · rw [if_pos (by omega), if_pos (by omega)] at h; omega
    · omega

/-- What the precondition says of the two tables. -/
def Good (be : (⟨1, ![40]⟩ : Shape).Idx → BitVec 32) (nu : (⟨1, ![1]⟩ : Shape).Idx → BitVec 32) : Prop :=
  (∀ n : Fin 40, ∃ e : Fin 8, be (ix1 n) = BitVec.ofNat 32 e.val) ∧ 1 ≤ (nu (ix1 0)).toInt

variable {F : FTy → Type} [FloatOps F]

theorem up_facts : Pre_up_tables.Facts where
  bcast_S_S40 := by decide
  bcast_S_S1 := by decide

open Pre_up_tables in
/-- The precondition of the gate and up projections. -/
theorem good_of_up [Pre_up_tables.Facts] (x : FVec F S20480x4096 .bf16) (wg wu : FVec F S8x4096x4096 .f32) (be : IVec S40 32) (nu : IVec S1 32)
    (h : (Pre_up_tables.fn (F := F) x wg wu be nu).1 = (fun _ => 1#1) ∧ (Pre_up_tables.fn (F := F) x wg wu be nu).2 = fun _ => 1#1) : Good be nu :=
  ⟨fun n => expert_of_bits _ (congrFun h.1 (ix1 n)), positive_of_bit _ (congrFun h.2 (ix1 0))⟩

end Cert.Tables

end
-- ==== Proof.MoeUpIdealRun.lean ====
/- The expert gate and up projections' kernel body, run at one grid point for any contents of the two prefetched tables: which expert each
   block of rows belongs to, and how many blocks hold rows at all. When the expert changes the body rounds the expert's two weight blocks into
   its scratch buffers; a block of rows in use is then multiplied with them, and one not in use is left zero. -/
module

public import proofs.«01_k».proof.Proof.Gen.MoeUpIdeal.Launch
public import proofs.«01_k».proof.Proof.Gen.MoeUpIdeal.Skeleton
public import Idealize.ShloMosaic.Lib.Pipeline.FrameBody
public import Idealize.ShloMosaic.Lib.Pipeline.ValueKit
public import Idealize.ShloMosaic.Lib.Tactic
public import Idealize.ShloMosaic.Lib.WordCmp
public import proofs.«01_k».proof.Proof.Store

@[expose] public section

set_option maxRecDepth 16384
set_option Elab.async false

noncomputable section

namespace Cert.MoeUpIdeal.Steps

open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts and the one-word table of the number of blocks in use, as the body is handed them. -/
abbrev experts : Memref sig .tc .smem S40 .i32 := Memref.whole main_arg3
abbrev inUse : Memref sig .tc .smem S1 .i32 := Memref.whole main_arg4
theorem wholeExperts : experts.IsWhole := Memref.isWhole_whole _
theorem wholeInUse : inUse.IsWhole := Memref.isWhole_whole _

/-- A table held at half the full share: the other half stays with the pipeline, which reads the tables for its block indices. -/
abbrev Half (c : Dev nD) {S : Shape} {e : EltTy} (M : Memref sig .tc .smem S e) (f : Buf (Elt F) (M.view.loc (c : Thread nD τ))) : sProp 𝕄 :=
  M.view.loc (c : Thread nD τ) ↦{fullShare.right} f

/-- The expert of the point's own block of rows, and of the block before it (its own at the first block). -/
abbrev own (i : grid0.Coords) (T : S40.Idx → BitVec 32) : BitVec 32 :=
  View.readAt (Elt F) experts.view (Rect.unit (s := S40) (k0_off1 i) S1.size (k0_off1_inb i)).toLoadRect T
    (Shape.Idx.first (numel1_S1.symm ▸ Nat.one_pos))
abbrev prev (i : grid0.Coords) (T : S40.Idx → BitVec 32) : BitVec 32 :=
  View.readAt (Elt F) experts.view (Rect.unit (s := S40) (k0_off2 i) S1.size (k0_off2_inb i)).toLoadRect T
    (Shape.Idx.first (numel1_S1.symm ▸ Nat.one_pos))
/-- The number of blocks of rows in use. -/
abbrev count (T : S1.Idx → BitVec 32) : BitVec 32 :=
  View.readAt (Elt F) inUse.view (Rect.unit (s := S1) ![0] S1.size inb_S1_S1_0).toLoadRect T
    (Shape.Idx.first (numel1_S1.symm ▸ Nat.one_pos))

/-- The point is the first of its column of weights, or its expert is not the one of the block before. -/
abbrev Changed (i : grid0.Coords) (T : S40.Idx → BitVec 32) : Prop :=
  Scalar.cmpi .ne (Scalar.extui (Scalar.ori (Scalar.cmpi .eq (BitVec.ofNat 32 (i 1).val) 0#32)
    (Scalar.cmpi .ne (own (F := F) i T) (prev (F := F) i T)))) 0#32 = 1#1
/-- The point's block of rows is in use, and it is not. -/
abbrev Used (i : grid0.Coords) (T : S1.Idx → BitVec 32) : Prop := k0_cond2 i (count (F := F) T) = 1#1
abbrev Unused (i : grid0.Coords) (T : S1.Idx → BitVec 32) : Prop := k0_cond3 i (count (F := F) T) = 1#1

/-! The table words a point reads, and the three conditions, in closed form. -/

/-- The point's block of rows, the block before it (itself at the first), and the only word of the count table. -/
abbrev row (i : grid0.Coords) : Fin 40 := ⟨(i 1).val, (i 1).isLt⟩
abbrev before (n : Fin 40) : Fin 40 := ⟨n.val - 1, Nat.lt_of_le_of_lt (Nat.sub_le _ _) n.isLt⟩

/-- The offset at which the body reads the expert of the block before. -/
theorem off2 (i : grid0.Coords) : k0_off2 i = ![(before (row i)).val] := by
  have h : ∀ n : Fin 40, (Scalar.indexCast (Scalar.maxsi (Scalar.subi (BitVec.ofNat 32 n.val) 1#32) 0#32)).toNat = n.val - 1 := by decide
  unfold k0_off2
  exact congrArg (fun z => ![z]) (h (row i))

theorem own_eq (i : grid0.Coords) (T : S40.Idx → BitVec 32) : own (F := F) i T = T (ix1 (row i)) := by
  refine congrArg T (funext fun a => Fin.ext ?_)
  obtain rfl : a = 0 := Subsingleton.elim (α := Fin 1) _ _
  show k0_off1 i 0 + 1 * 0 = (i 1).val
  rw [k0_off1_eq]; simp

theorem prev_eq (i : grid0.Coords) (T : S40.Idx → BitVec 32) : prev (F := F) i T = T (ix1 (before (row i))) := by
  refine congrArg T (funext fun a => Fin.ext ?_)
  obtain rfl : a = 0 := Subsingleton.elim (α := Fin 1) _ _
  show k0_off2 i 0 + 1 * 0 = (before (row i)).val
  rw [off2]; simp

theorem count_eq (T : S1.Idx → BitVec 32) : count (F := F) T = T (ix1 0) := by
  refine congrArg T (funext fun a => Fin.ext ?_)
  obtain rfl : a = 0 := Subsingleton.elim (α := Fin 1) _ _
  rfl

/-- A bit widened to a word and compared with zero is the bit. -/
theorem test_bit (b : BitVec 1) : Scalar.cmpi .ne (Scalar.extui b) 0#32 = b := by revert b; decide

/-- The weights change at the first block of rows and wherever the expert is not the one of the block before. -/
theorem changed_iff (i : grid0.Coords) (T : S40.Idx → BitVec 32) :
    Changed (F := F) i T ↔ (row i).val = 0 ∨ T (ix1 (row i)) ≠ T (ix1 (before (row i))) := by
  have hz : ∀ n : Fin 40, Scalar.cmpi .eq (BitVec.ofNat 32 n.val) 0#32 = BitVec.ofBool (decide (n.val = 0)) := by decide
  have ho : ∀ p q : Bool, Scalar.ori (BitVec.ofBool p) (BitVec.ofBool q) = 1#1 ↔ (p = true ∨ q = true) := by decide
  unfold Changed
  rw [own_eq, prev_eq, test_bit, hz (row i)]
  show Scalar.ori _ (BitVec.ofBool (T (ix1 (row i)) != T (ix1 (before (row i))))) = 1#1 ↔ _
  rw [ho]
  simp

/-- A block of rows is in use when its number is below the count, as signed words, -/
theorem used_iff (i : grid0.Coords) (T : S1.Idx → BitVec 32) : Used (F := F) i T ↔ ((row i).val : ℤ) < (T (ix1 0)).toInt := by
  have hb : ∀ b : Bool, BitVec.ofBool b = 1#1 ↔ b = true := by decide
  have hn : ∀ n : Fin 40, (BitVec.ofNat 32 n.val).toInt = (n.val : ℤ) := by decide
  unfold Used k0_cond2
  dsimp only
  rw [count_eq, test_bit]
  show BitVec.ofBool ((BitVec.ofNat 32 (row i).val).slt (T (ix1 0))) = 1#1 ↔ _
  rw [hb, BitVec.slt_iff_toInt_lt, hn]

/-- and not in use when it is not. -/
theorem unused_iff (i : grid0.Coords) (T : S1.Idx → BitVec 32) : Unused (F := F) i T ↔ ¬((row i).val : ℤ) < (T (ix1 0)).toInt := by
  have hb : ∀ b : Bool, BitVec.ofBool b = 1#1 ↔ b = true := by decide
  have hn : ∀ n : Fin 40, (BitVec.ofNat 32 n.val).toInt = (n.val : ℤ) := by decide
  unfold Unused k0_cond3
  dsimp only
  rw [count_eq, test_bit]
  show BitVec.ofBool ((T (ix1 0)).sle (BitVec.ofNat 32 (row i).val)) = 1#1 ↔ _
  rw [hb, BitVec.sle_iff_toInt_le, hn, not_lt]

section
variable (c : Dev nD) (i : grid0.Coords) (a4 : Memref sig .tc .vmem S512x4096 .bf16) (h4 : a4.IsWhole) (a5 : Memref sig .tc .vmem S1x4096x512 .f32)
  (h5 : a5.IsWhole) (a6 : Memref sig .tc .vmem S1x4096x512 .f32) (h6 : a6.IsWhole) (a7 : Memref sig .tc .vmem S512x512 .bf16) (h7 : a7.IsWhole)
  (a8 : Memref sig .tc .vmem S4096x512 .bf16) (h8 : a8.IsWhole) (a9 : Memref sig .tc .vmem S4096x512 .bf16) (h9 : a9.IsWhole)
  (x : Vec F S512x4096 .bf16) (wg wu : Vec F S1x4096x512 .f32) (sg su : Vec F S4096x512 .bf16)
  (T0 : Buf (Elt F) (experts.view.loc (c : Thread nD τ))) (T1 : Buf (Elt F) (inUse.view.loc (c : Thread nD τ)))

/-- The body's triple: from the three input blocks, any output block, the scratch buffers at `sg` and `su`, and the tables, it runs to the
    same inputs and tables with the scratch buffers at `sg'` and `su'` and the output block at `o`. -/
def Runs (sg' su' : Vec F S4096x512 .bf16) (o : Vec F S512x512 .bf16) : Prop :=
  ∀ (E : Set ℕ) (K : PUnit → sProp 𝕄),
    iprop(owns (c : Thread nD τ) a4 fullShare x ∗ owns (c : Thread nD τ) a5 fullShare wg ∗ owns (c : Thread nD τ) a6 fullShare wu
        ∗ (∃ d, owns (c : Thread nD τ) a7 fullShare d) ∗ owns (c : Thread nD τ) a8 fullShare sg ∗ owns (c : Thread nD τ) a9 fullShare su
        ∗ Half c experts T0 ∗ Half c inUse T1
        ∗ (iprop(owns (c : Thread nD τ) a4 fullShare x ∗ owns (c : Thread nD τ) a5 fullShare wg ∗ owns (c : Thread nD τ) a6 fullShare wu
          ∗ owns (c : Thread nD τ) a7 fullShare o ∗ owns (c : Thread nD τ) a8 fullShare sg' ∗ owns (c : Thread nD τ) a9 fullShare su'
          ∗ Half c experts T0 ∗ Half c inUse T1) -∗ K ⟨⟩))
      ⊢ wp frame (wpE (defs₀ (F := F)) Variants.none c none) E
          (cc0_moe_gateup i experts wholeExperts inUse wholeInUse a4 h4 a5 h5 a6 h6 a7 h7 a8 h8 a9 h9) K

set_option maxHeartbeats 2000000 in
/-- A changed expert and a block in use: both scratch buffers take the rounded weights, the output their gated product with the rows. -/
theorem changed_used (hc : Changed (F := F) i T0) (hu : Used (F := F) i T1) (hn : ¬Unused (F := F) i T1) :
    Runs c i a4 h4 a5 h5 a6 h6 a7 h7 a8 h8 a9 h9 x wg wu sg su T0 T1 (k0_pay1 wg) (k0_pay2 wu) (k0_pay3 x (k0_pay1 wg) (k0_pay2 wu)) := by
  intro E K
  simp only [cc0_moe_gateup_eq_skeleton]; unfold cc0_moe_gateup_skel
  unfold owns
  iintro ⟨⟨%f4, %e4, H4⟩, ⟨%f5, %e5, H5⟩, ⟨%f6, %e6, H6⟩, ⟨%d7, %f7, -, H7⟩, ⟨%f8, %e8, H8⟩, ⟨%f9, %e9, H9⟩, HT0, HT1, Hk⟩
  obtain rfl := h4.eq_unread e4; obtain rfl := h5.eq_unread e5; obtain rfl := h6.eq_unread e6
  obtain rfl := h8.eq_unread e8; obtain rfl := h9.eq_unread e9
  sl_exec (disch := first | sl_exact hc | sl_exact hu | sl_exact hn)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words
    rw [Cert.Store.read_stored _ _ _ _ _ (by decide)]
    simp only [View.readAt_eq_ld, h4.read_unread, h5.read_unread, h6.read_unread]
    rw [View.readCov_unit_lit _ _ _ (by decide), View.readCov_unit_lit _ _ _ (by decide), View.ld_unit_lit _ _ (by decide),
      View.ld_unit_lit _ _ (by decide), View.ld_unit_lit _ _ (by decide)]
  isplitl [H8]
  · iexists _; isplitr; swap; · iexact H8
    ipureintro
    sl_unfold_words
    rw [Cert.Store.read_stored _ _ _ _ _ (by decide)]
    simp only [View.readAt_eq_ld, h5.read_unread]
    rw [View.ld_unit_lit _ _ (by decide)]
  isplitl [H9]
  · iexists _; isplitr; swap; · iexact H9
    ipureintro
    sl_unfold_words
    rw [Cert.Store.read_stored _ _ _ _ _ (by decide)]
    simp only [View.readAt_eq_ld, h6.read_unread]
    rw [View.ld_unit_lit _ _ (by decide)]
  isplitl [HT0]; · iexact HT0
  iexact HT1

set_option maxHeartbeats 2000000 in
/-- A changed expert and a block not in use: both scratch buffers take the rounded weights, the output is zero. -/
theorem changed_unused (hc : Changed (F := F) i T0) (hu : ¬Used (F := F) i T1) (hn : Unused (F := F) i T1) :
    Runs c i a4 h4 a5 h5 a6 h6 a7 h7 a8 h8 a9 h9 x wg wu sg su T0 T1 (k0_pay1 wg) (k0_pay2 wu) k0_pay4 := by
  intro E K
  simp only [cc0_moe_gateup_eq_skeleton]; unfold cc0_moe_gateup_skel
  unfold owns
  iintro ⟨⟨%f4, %e4, H4⟩, ⟨%f5, %e5, H5⟩, ⟨%f6, %e6, H6⟩, ⟨%d7, %f7, -, H7⟩, ⟨%f8, %e8, H8⟩, ⟨%f9, %e9, H9⟩, HT0, HT1, Hk⟩
  obtain rfl := h4.eq_unread e4; obtain rfl := h5.eq_unread e5; obtain rfl := h6.eq_unread e6
  obtain rfl := h8.eq_unread e8; obtain rfl := h9.eq_unread e9
  sl_exec (disch := first | sl_exact hc | sl_exact hu | sl_exact hn)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    exact Cert.Store.read_stored _ _ _ _ _ (by decide)
  isplitl [H8]
  · iexists _; isplitr; swap; · iexact H8
    ipureintro
    sl_unfold_words
    rw [Cert.Store.read_stored _ _ _ _ _ (by decide)]
    simp only [View.readAt_eq_ld, h5.read_unread]
    rw [View.ld_unit_lit _ _ (by decide)]
  isplitl [H9]
  · iexists _; isplitr; swap; · iexact H9
    ipureintro
    sl_unfold_words
    rw [Cert.Store.read_stored _ _ _ _ _ (by decide)]
    simp only [View.readAt_eq_ld, h6.read_unread]
    rw [View.ld_unit_lit _ _ (by decide)]
  isplitl [HT0]; · iexact HT0
  iexact HT1

set_option maxHeartbeats 2000000 in
/-- The expert of the block before and a block in use: the output is the gated product of the rows with the weights kept in scratch. -/
theorem same_used (hc : ¬Changed (F := F) i T0) (hu : Used (F := F) i T1) (hn : ¬Unused (F := F) i T1) :
    Runs c i a4 h4 a5 h5 a6 h6 a7 h7 a8 h8 a9 h9 x wg wu sg su T0 T1 sg su (k0_pay3 x sg su) := by
  intro E K
  simp only [cc0_moe_gateup_eq_skeleton]; unfold cc0_moe_gateup_skel
  unfold owns
  iintro ⟨⟨%f4, %e4, H4⟩, ⟨%f5, %e5, H5⟩, ⟨%f6, %e6, H6⟩, ⟨%d7, %f7, -, H7⟩, ⟨%f8, %e8, H8⟩, ⟨%f9, %e9, H9⟩, HT0, HT1, Hk⟩
  obtain rfl := h4.eq_unread e4; obtain rfl := h5.eq_unread e5; obtain rfl := h6.eq_unread e6
  obtain rfl := h8.eq_unread e8; obtain rfl := h9.eq_unread e9
  sl_exec (disch := first | sl_exact hc | sl_exact hu | sl_exact hn)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words
    rw [Cert.Store.read_stored _ _ _ _ _ (by decide)]
    simp only [View.readAt_eq_ld, h4.read_unread, h8.read_unread, h9.read_unread]
    rw [View.ld_unit_lit _ _ (by decide), View.ld_unit_lit _ _ (by decide), View.ld_unit_lit _ _ (by decide)]
  isplitl [H8]
  · iexists _; isplitr; swap; · iexact H8
    ipureintro
    exact h8.read_unread _
  isplitl [H9]
  · iexists _; isplitr; swap; · iexact H9
    ipureintro
    exact h9.read_unread _
  isplitl [HT0]; · iexact HT0
  iexact HT1

set_option maxHeartbeats 2000000 in
/-- The expert of the block before and a block not in use: the output is zero, the scratch buffers stay. -/
theorem same_unused (hc : ¬Changed (F := F) i T0) (hu : ¬Used (F := F) i T1) (hn : Unused (F := F) i T1) :
    Runs c i a4 h4 a5 h5 a6 h6 a7 h7 a8 h8 a9 h9 x wg wu sg su T0 T1 sg su k0_pay4 := by
  intro E K
  simp only [cc0_moe_gateup_eq_skeleton]; unfold cc0_moe_gateup_skel
  unfold owns
  iintro ⟨⟨%f4, %e4, H4⟩, ⟨%f5, %e5, H5⟩, ⟨%f6, %e6, H6⟩, ⟨%d7, %f7, -, H7⟩, ⟨%f8, %e8, H8⟩, ⟨%f9, %e9, H9⟩, HT0, HT1, Hk⟩
  obtain rfl := h4.eq_unread e4; obtain rfl := h5.eq_unread e5; obtain rfl := h6.eq_unread e6
  obtain rfl := h8.eq_unread e8; obtain rfl := h9.eq_unread e9
  sl_exec (disch := first | sl_exact hc | sl_exact hu | sl_exact hn)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    exact Cert.Store.read_stored _ _ _ _ _ (by decide)
  isplitl [H8]
  · iexists _; isplitr; swap; · iexact H8
    ipureintro
    exact h8.read_unread _
  isplitl [H9]
  · iexists _; isplitr; swap; · iexact H9
    ipureintro
    exact h9.read_unread _
  isplitl [HT0]; · iexact HT0
  iexact HT1

/-- All four paths in one: a point whose expert changes, or whose scratch buffers already hold its expert's rounded weights, leaves them there,
    and the output at their gated product with the rows or, the block not in use, at zero. -/
theorem runs (hk : Changed (F := F) i T0 ∨ (sg = k0_pay1 wg ∧ su = k0_pay2 wu)) :
    Runs c i a4 h4 a5 h5 a6 h6 a7 h7 a8 h8 a9 h9 x wg wu sg su T0 T1 (k0_pay1 wg) (k0_pay2 wu)
      (if ((row i).val : ℤ) < ((show S1.Idx → BitVec 32 from T1) (ix1 0)).toInt then k0_pay3 x (k0_pay1 wg) (k0_pay2 wu) else k0_pay4) := by
  by_cases hu : ((row i).val : ℤ) < ((show S1.Idx → BitVec 32 from T1) (ix1 0)).toInt
  · have hu' : Used (F := F) i T1 := (used_iff i T1).mpr hu
    have hn' : ¬Unused (F := F) i T1 := fun h => (unused_iff i T1).mp h hu
    rw [if_pos hu]
    by_cases hc : Changed (F := F) i T0
    · exact changed_used c i a4 h4 a5 h5 a6 h6 a7 h7 a8 h8 a9 h9 x wg wu sg su T0 T1 hc hu' hn'
    · obtain ⟨rfl, rfl⟩ := hk.resolve_left hc
      exact same_used c i a4 h4 a5 h5 a6 h6 a7 h7 a8 h8 a9 h9 x wg wu _ _ T0 T1 hc hu' hn'
  · have hu' : ¬Used (F := F) i T1 := fun h => hu ((used_iff i T1).mp h)
    have hn' : Unused (F := F) i T1 := (unused_iff i T1).mpr hu
    rw [if_neg hu]
    by_cases hc : Changed (F := F) i T0
    · exact changed_unused c i a4 h4 a5 h5 a6 h6 a7 h7 a8 h8 a9 h9 x wg wu sg su T0 T1 hc hu' hn'
    · obtain ⟨rfl, rfl⟩ := hk.resolve_left hc
      exact same_unused c i a4 h4 a5 h5 a6 h6 a7 h7 a8 h8 a9 h9 x wg wu _ _ T0 T1 hc hu' hn'

end

end Cert.MoeUpIdeal.Steps

end
-- ==== Proof.MoeUpIdealFrame.lean ====
/- The expert gate and up projections' launch, for any contents of the two tables that name blocks inside the arrays: what every grid point
   finds and leaves, the run of the whole kernel, and that the arguments end unchanged with every semaphore at zero. -/
module

public import proofs.«01_k».proof.Proof.MoeUpIdealRun
public import Idealize.ShloMosaic.Lib.Claim

@[expose] public section

set_option maxRecDepth 16384

noncomputable section

namespace Cert.MoeUpIdeal.Steps

open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the kernel's start, and the tables in it -/

/-- A core's buffers when the kernel starts: as launched, nothing runs before it. -/
abbrev V (c : Dev nD) (b : Ref sig .tc) : Buf (Elt F) ((c : Thread nD τ).loc b) := m ((c : Thread nD τ).loc b)

set_option maxHeartbeats 800000 in
/-- The program up to the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents at the kernel's start, the same on every device: there is one. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The two tables at their shapes: the expert of every block of rows, and the number of blocks in use. -/
def expertT : S40.Idx → BitVec 32 := tbl m 0
def inUseT : S1.Idx → BitVec 32 := tbl m 1

/-- Every block the tables name lies inside its array; and the kernel at tables of which that holds. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, one by one. -/
theorem PhiT_eq (c : Dev nD) : (Pipeline.ΦT pre0 (tbl m) c : sProp 𝕄) = iprop(Half c experts (expertT m) ∗ Half c inUse (inUseT m)) := by
  unfold Pipeline.ΦT Pipeline.prefHeld
  rw [show (Finset.univ : Finset (Fin 2)) = insert (0 : Fin 2) {(1 : Fin 2)} from by decide, bigSep_insert (by decide), bigSep_singleton]
  rfl

/-- The scratch buffers for the rounded gate and up weights, and what the launch hands the kernel of them. -/
abbrev gateW : Memref sig .tc .vmem S4096x512 .bf16 := Memref.whole cc0_scratch0
abbrev upW : Memref sig .tc .vmem S4096x512 .bf16 := Memref.whole cc0_scratch1
theorem PhiA_eq (c : Dev nD) :
    (Pipeline.ΦA spec0 c : sProp 𝕄)
      = iprop(iprop((∃ d, owns (c : Thread nD τ) gateW fullShare d) ∗ (∃ d, owns (c : Thread nD τ) upW fullShare d)) ∗ (∃ r, prngReg c r)) := by
  unfold Pipeline.ΦA; rw [scopedRest0_eq]; simp only [gateW, upW, owns_whole]; try rfl

/-! ## The windows -/

/-- Window `w`'s block at point `t`, as the kernel finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The three input blocks of a point at their shapes: rows, gate weights and up weights. -/
abbrev rowsAt (hO : Ok m) (c : Dev nD) (t : Fin (cfgM m hO).N) : Vec F S512x4096 .bf16 := iblk m hO c 0 t
abbrev gateAt (hO : Ok m) (c : Dev nD) (t : Fin (cfgM m hO).N) : Vec F S1x4096x512 .f32 := iblk m hO c 1 t
abbrev upAt (hO : Ok m) (c : Dev nD) (t : Fin (cfgM m hO).N) : Vec F S1x4096x512 .f32 := iblk m hO c 2 t

/-- The block a point leaves in the result: the gated product of its rows with its expert's rounded weights, or zero. -/
def leaves (hO : Ok m) (c : Dev nD) (t : Fin (cfgM m hO).N) : Vec F S512x512 .bf16 :=
  if ((row (grid0.coords t)).val : ℤ) < (inUseT m (ix1 0)).toInt then
    k0_pay3 (rowsAt m hO c t) (k0_pay1 (gateAt m hO c t)) (k0_pay2 (upAt m hO c t))
  else k0_pay4

/-- The result window has a point's block stored at every point: a block of rows is in use or it is not. -/
theorem stored (hO : Ok m) (t : Fin (cfgM m hO).N) : (cfgM m hO).idle 3 (grid0.coords t) = false := by
  have hd : (tbl m).atD 1 ![0] = count (F := F) (inUseT m) := by
    refine Eq.trans ?_ (count_eq (F := F) (inUseT m)).symm
    unfold Pipeline.Prefetch.Contents.atD
    refine (dif_pos (by decide)).trans ?_
    refine congrArg (inUseT m) (funext fun a => Fin.ext ?_)
    obtain rfl : a = (0 : Fin 1) := Subsingleton.elim (α := Fin 1) _ _
    rfl
  show (!(k0_cond2 (grid0.coords t) ((tbl m).atD 1 ![0]) == 1#1) && !(k0_cond3 (grid0.coords t) ((tbl m).atD 1 ![0]) == 1#1)) = false
  rw [hd]
  by_cases hu : ((row (grid0.coords t)).val : ℤ) < (inUseT m (ix1 0)).toInt
  · rw [show k0_cond2 (grid0.coords t) (count (F := F) (inUseT m)) = 1#1 from (used_iff (F := F) _ _).mpr hu]; rfl
  · rw [show k0_cond3 (grid0.coords t) (count (F := F) (inUseT m)) = 1#1 from (unused_iff (F := F) _ _).mpr hu, Bool.and_comm]; rfl

/-- The block indices of the weight windows: the expert of the block of rows, and the column of blocks. -/
theorem weight_index (i : grid0.Coords) :
    cc0_transform_1 k0_off1_inb numel1_S1 (tbl m) i = ![(expertT m (ix1 (row i))).toNat, 0, (i 0).val]
    ∧ cc0_transform_2 k0_off1_inb numel1_S1 (tbl m) i = ![(expertT m (ix1 (row i))).toNat, 0, (i 0).val] := by
  have h0 : (BitVec.ofNat 32 (i 0).val).toNat = (i 0).val := (by decide : ∀ n : Fin 8, (BitVec.ofNat 32 n.val).toNat = n.val) ⟨(i 0).val, (i 0).isLt⟩
  have e : ![(own (F := F) i (expertT m)).toNat, 0, (BitVec.ofNat 32 (i 0).val).toNat] = ![(expertT m (ix1 (row i))).toNat, 0, (i 0).val] := by
    rw [own_eq, h0]
  exact ⟨e, e⟩

/-! ## What every point finds and leaves -/

/-- Between points the scratch buffers hold the rounded weights of the point before; before the first they hold anything. -/
def kept (hO : Ok m) (c : Dev nD) : (n : ℕ) → n ≤ (cfgM m hO).N → sProp 𝕄
  | 0, _ => Pipeline.ΦA spec0 c
  | n + 1, hn => iprop(iprop(owns (c : Thread nD τ) gateW fullShare (k0_pay1 (gateAt m hO c ⟨n, hn⟩))
      ∗ owns (c : Thread nD τ) upW fullShare (k0_pay2 (upAt m hO c ⟨n, hn⟩))) ∗ (∃ r, prngReg c r))

theorem kept_zero (hO : Ok m) (c : Dev nD) (n : ℕ) (h : n ≤ (cfgM m hO).N) (hz : n = 0) : kept m hO c n h = Pipeline.ΦA spec0 c := by
  subst hz; rfl
theorem kept_succ (hO : Ok m) (c : Dev nD) (n : ℕ) (hn : n < (cfgM m hO).N) :
    kept m hO c (n + 1) hn = iprop(iprop(owns (c : Thread nD τ) gateW fullShare (k0_pay1 (gateAt m hO c ⟨n, hn⟩))
      ∗ owns (c : Thread nD τ) upW fullShare (k0_pay2 (upAt m hO c ⟨n, hn⟩))) ∗ (∃ r, prngReg c r)) := rfl
/-- The point before one that is not the first. -/
abbrev pred (hO : Ok m) (t : Fin (cfgM m hO).N) : Fin (cfgM m hO).N := ⟨t.val - 1, Nat.lt_of_le_of_lt (Nat.sub_le _ _) t.isLt⟩
theorem kept_pos (hO : Ok m) (c : Dev nD) (t : Fin (cfgM m hO).N) (hz : t.val ≠ 0) :
    kept m hO c t.val (Nat.le_of_lt t.isLt) = iprop(iprop(owns (c : Thread nD τ) gateW fullShare (k0_pay1 (gateAt m hO c (pred m hO t)))
      ∗ owns (c : Thread nD τ) upW fullShare (k0_pay2 (upAt m hO c (pred m hO t)))) ∗ (∃ r, prngReg c r)) := by
  obtain ⟨n, hn⟩ := t
  cases n with
  | zero => exact absurd rfl hz
  | succ n => rfl

/-- The invariant between points: what is kept, and the tables. -/
def Phi (hO : Ok m) (c : Dev nD) (n : ℕ) (hn : n ≤ (cfgM m hO).N) : sProp 𝕄 := iprop(kept m hO c n hn ∗ Pipeline.ΦT pre0 (tbl m) c)

/-- The proof data: every input block stays, the result block is `leaves`, the scratch buffers are `kept`, the tables are held. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => leaves m hO c t
  Φ t := Phi m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = leaves m hO c t := by dsimp only [dats]; try rfl

/-- What a fetch of an input window puts in its buffer is the point's block, -/
theorem fetched_1 (hO : Ok m) (c : Dev nD) (t : Fin (cfgM m hO).N) (d) : (dats m hO 0 c).fetched 1 t d = iblk m hO c 1 t := by
  unfold Dat.fetched Dat.blockOf iblk; rw [A_eq]; try rfl
theorem fetched_2 (hO : Ok m) (c : Dev nD) (t : Fin (cfgM m hO).N) (d) : (dats m hO 0 c).fetched 2 t d = iblk m hO c 2 t := by
  unfold Dat.fetched Dat.blockOf iblk; rw [A_eq]; try rfl

/-- and an input window's buffer holds the point's block at every point, fetched there or before. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans (fetched_1 m hO c t d)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans (fetched_2 m hO c t d)

/-- Where the expert does not change, the weight blocks are those of the point before. -/
theorem same_weights (hO : Ok m) (c : Dev nD) (t : Fin (cfgM m hO).N) (hc : ¬Changed (F := F) (grid0.coords t) (expertT m)) :
    gateAt m hO c (pred m hO t) = gateAt m hO c t ∧ upAt m hO c (pred m hO t) = upAt m hO c t := by
  rw [changed_iff, not_or, not_not] at hc
  obtain ⟨hz, he⟩ := hc
  have e0 : ∀ s : Fin grid0.N, (grid0.coords s 0).val = s.val / 40 % 8 := fun s => Pipeline.Grid.coords_val s 0 (by decide) rfl
  have e1 : ∀ s : Fin grid0.N, (grid0.coords s 1).val = s.val / 1 % 40 := fun s => Pipeline.Grid.coords_val s 1 (by decide) rfl
  have hz' : t.val / 1 % 40 ≠ 0 := by rw [← e1 t]; exact hz
  have hr : row (grid0.coords (pred m hO t)) = before (row (grid0.coords t)) := Fin.ext (by
    show (grid0.coords (pred m hO t) 1).val = (grid0.coords t 1).val - 1
    rw [e1, e1]
    show (t.val - 1) / 1 % 40 = t.val / 1 % 40 - 1
    omega)
  have hj : (grid0.coords (pred m hO t) 0).val = (grid0.coords t 0).val := by
    rw [e0, e0]
    show (t.val - 1) / 40 % 8 = t.val / 40 % 8
    omega
  have i1 : ((cfgM m hO).win 1).index (pred m hO t) = ((cfgM m hO).win 1).index t := by
    refine (weight_index m (grid0.coords (pred m hO t))).1.trans (Eq.trans ?_ (weight_index m (grid0.coords t)).1.symm)
    rw [hr, hj, he]
  have i2 : ((cfgM m hO).win 2).index (pred m hO t) = ((cfgM m hO).win 2).index t := by
    refine (weight_index m (grid0.coords (pred m hO t))).2.trans (Eq.trans ?_ (weight_index m (grid0.coords t)).2.symm)
    rw [hr, hj, he]
  exact ⟨(fetched_1 m hO c _ (fun _ => Classical.arbitrary _)).symm.trans (((dats m hO 0 c).fetched_congr 1 i1 rfl _).trans (fetched_1 m hO c t _)),
    (fetched_2 m hO c _ (fun _ => Classical.arbitrary _)).symm.trans (((dats m hO 0 c).fetched_congr 2 i2 rfl _).trans (fetched_2 m hO c t _))⟩

/-! ## Every point's obligation -/

/-- The buffers in use at a point, at their shapes. -/
abbrev ms0 (hO : Ok m) (t : Fin (cfgM m hO).N) : Memref sig .tc .vmem S512x4096 .bf16 := spec0_0.stage ((cfgM m hO).slots t 0)
abbrev ms1 (hO : Ok m) (t : Fin (cfgM m hO).N) : Memref sig .tc .vmem S1x4096x512 .f32 := spec0_1.stage ((cfgM m hO).slots t 1)
abbrev ms2 (hO : Ok m) (t : Fin (cfgM m hO).N) : Memref sig .tc .vmem S1x4096x512 .f32 := spec0_2.stage ((cfgM m hO).slots t 2)
abbrev ms3 (hO : Ok m) (t : Fin (cfgM m hO).N) : Memref sig .tc .vmem S512x512 .bf16 := spec0_3.stage ((cfgM m hO).slots t 3)

/-- The body as a point runs it. -/
abbrev bodyAt (hO : Ok m) (t : Fin (cfgM m hO).N) : Prog (TpuEff nD τ sig (Elt F) Λ₀ .tc) PUnit :=
  cc0_moe_gateup (grid0.coords t) experts wholeExperts inUse wholeInUse
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    gateW (Memref.isWhole_whole _) upW (Memref.isWhole_whole _)

/-- What the body is called with at a point, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))
/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t)

theorem leaves_0 (hO : Ok m) (c : Dev nD) (t : Fin (cfgM m hO).N) :
    (dats m hO 0 c).leavesExact 0 t = owns (c : Thread nD τ) (ms0 m hO t) fullShare (rowsAt m hO c t) := by
  unfold Dat.leavesExact; rw [show (cfgM m hO).idle 0 (grid0.coords t) = false from rfl]
  exact congrArg (owns (c : Thread nD τ) (ms0 m hO t) fullShare) (after_0 m hO c t)
theorem leaves_1 (hO : Ok m) (c : Dev nD) (t : Fin (cfgM m hO).N) :
    (dats m hO 0 c).leavesExact 1 t = owns (c : Thread nD τ) (ms1 m hO t) fullShare (gateAt m hO c t) := by
  unfold Dat.leavesExact; rw [show (cfgM m hO).idle 1 (grid0.coords t) = false from rfl]
  exact congrArg (owns (c : Thread nD τ) (ms1 m hO t) fullShare) (after_1 m hO c t)
theorem leaves_2 (hO : Ok m) (c : Dev nD) (t : Fin (cfgM m hO).N) :
    (dats m hO 0 c).leavesExact 2 t = owns (c : Thread nD τ) (ms2 m hO t) fullShare (upAt m hO c t) := by
  unfold Dat.leavesExact; rw [show (cfgM m hO).idle 2 (grid0.coords t) = false from rfl]
  exact congrArg (owns (c : Thread nD τ) (ms2 m hO t) fullShare) (after_2 m hO c t)
theorem leaves_3 (hO : Ok m) (c : Dev nD) (t : Fin (cfgM m hO).N) :
    (dats m hO 0 c).leavesExact 3 t = owns (c : Thread nD τ) (ms3 m hO t) fullShare (leaves m hO c t) := by
  unfold Dat.leavesExact; rw [stored m hO t]
  exact congrArg (owns (c : Thread nD τ) (ms3 m hO t) fullShare) (after_3 m hO c t)

/-- The invariant before and after a point. -/
theorem Phi_before (hO : Ok m) (c : Dev nD) (t : Fin (cfgM m hO).N) :
    (dats m hO 0 c).Φ t.castSucc = iprop(kept m hO c t.val (Nat.le_of_lt t.isLt) ∗ Pipeline.ΦT pre0 (tbl m) c) := by
  dsimp only [dats]; exact Pipeline.Dat.Φ_castSucc (Phi m hO c) t
theorem Phi_after (hO : Ok m) (c : Dev nD) (t : Fin (cfgM m hO).N) :
    (dats m hO 0 c).Φ t.succ = iprop(iprop(iprop(owns (c : Thread nD τ) gateW fullShare (k0_pay1 (gateAt m hO c t))
      ∗ owns (c : Thread nD τ) upW fullShare (k0_pay2 (upAt m hO c t))) ∗ (∃ r, prngReg c r)) ∗ Pipeline.ΦT pre0 (tbl m) c) := by
  dsimp only [dats]; rfl

/-- The first point's expert counts as changed. -/
theorem first_changed (t : Fin grid0.N) (hz : t.val = 0) : Changed (F := F) (grid0.coords t) (expertT m) := by
  rw [changed_iff]
  have e1 : (grid0.coords t 1).val = t.val / 1 % 40 := Pipeline.Grid.coords_val t 1 (by decide) rfl
  exact Or.inl (e1.trans (by rw [hz]))

set_option maxHeartbeats 1600000 in
/-- The body at any point: it finds its blocks and what the point before kept, and leaves the point's result and its weights. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2]
  rw [show (dats m hO 0 c).owesAt () t.succ = (dats m hO 0 c).owesAt () t.castSucc from rfl,
    leaves_0, leaves_1, leaves_2, leaves_3, Phi_before, Phi_after, PhiT_eq]
  by_cases hz : t.val = 0
  · rw [kept_zero m hO c _ _ hz, PhiA_eq]
    iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩⟩
    iapply (runs c (grid0.coords t) _ _ _ _ _ _ _ _ _ _ _ _ (rowsAt m hO c t) (gateAt m hO c t) (upAt m hO c t) s0 s1 (expertT m) (inUseT m)
      (Or.inl (first_changed m t hz)) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, H3, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]; · iexact HT0
      iexact HT1
    isplitl [Ho]; · iexact Ho
    isplitl [H0]; · iexact H0
    isplitl [H1]; · iexact H1
    isplitl [H2]; · iexact H2
    iexact H3
  · have hk : Changed (F := F) (grid0.coords t) (expertT m)
        ∨ (k0_pay1 (gateAt m hO c (pred m hO t)) = k0_pay1 (gateAt m hO c t) ∧ k0_pay2 (upAt m hO c (pred m hO t)) = k0_pay2 (upAt m hO c t)) := by
      by_cases hc : Changed (F := F) (grid0.coords t) (expertT m)
      · exact Or.inl hc
      · obtain ⟨h1, h2⟩ := same_weights m hO c t hc
        exact Or.inr ⟨congrArg k0_pay1 h1, congrArg k0_pay2 h2⟩
    rw [kept_pos m hO c t hz]
    iintro ⟨⟨⟨⟨HS0, HS1⟩, Hg⟩, ⟨HT0, HT1⟩⟩, Ho, ⟨%d0, H0⟩, ⟨%d1, H1⟩, ⟨%d2, H2⟩, ⟨%d3, H3⟩⟩
    iapply (runs c (grid0.coords t) _ _ _ _ _ _ _ _ _ _ _ _ (rowsAt m hO c t) (gateAt m hO c t) (upAt m hO c t) _ _ (expertT m) (inUseT m)
      hk Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, H3, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]; · iexact HT0
      iexact HT1
    isplitl [Ho]; · iexact Ho
    isplitl [H0]; · iexact H0
    isplitl [H1]; · iexact H1
    isplitl [H2]; · iexact H2
    iexact H3

/-- The pipeline's row of the body table at a point is the body as the point runs it. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; try rfl

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

/-- What the launch hands the kernel is the invariant before the first point, and the one after the last gives it back. -/
theorem hin (hO : Ok m) (c : Dev nD) : iprop(Pipeline.ΦA spec0 c ∗ Pipeline.ΦT pre0 (tbl m) c) ⊢ (dats m hO 0 c).Φ 0 :=
  Idealize.SL.BI.Entails.refl _
theorem hout (hO : Ok m) (c : Dev nD) : (dats m hO 0 c).Φ (Fin.last (cfgM m hO).N) ⊢ Pipeline.ΦA spec0 c := by
  have hN : (cfgM m hO).N = 319 + 1 := N_0
  have e : (dats m hO 0 c).Φ (Fin.last (cfgM m hO).N) = iprop(kept m hO c (cfgM m hO).N le_rfl ∗ Pipeline.ΦT pre0 (tbl m) c) := by
    dsimp only [dats]; rfl
  have e' : kept m hO c (cfgM m hO).N le_rfl = kept m hO c (319 + 1) (Nat.le_of_eq hN.symm) := by congr 1
  rw [e, e', kept_succ m hO c 319 (lt_of_lt_of_eq (by decide) hN.symm), PhiA_eq]
  iintro ⟨⟨⟨HS0, HS1⟩, Hg⟩, -⟩
  isplitl [HS0 HS1]
  · isplitl [HS0]
    · iexists _; iexact HS0
    iexists _; iexact HS1
  iexact Hg

/-- What a run ends with: every array at the blocks its points left, everything else as it was. -/
abbrev Ends (hO : Ok m) (r : PUnit × MemSt nD τ sig (Elt F)) : Prop :=
  Pipeline.FramePost (Pipeline.pin pcfgs fun _ => adm m hO) (dats m hO) 0 (V m) r

set_option backward.isDefEq.respectTransparency.types false in
/-- The whole kernel, from any memory whose tables name blocks inside the arrays. -/
theorem run_main (hO : Ok m) : θ_run defs (onTc (τ := τ) (main (F := F))) (s₀ m ρ) (fun r => Ends m hO r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The arguments at a run's end: unchanged. -/
theorem kept_args (hO : Ok m) (r : PUnit × MemSt nD τ sig (Elt F)) (h : Ends m hO r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m hO 0 c).arrAt_in 0 rfl _).trans (A_eq m hO c 0)),
    ((h c).1 1).trans (((dats m hO 0 c).arrAt_in 1 rfl _).trans (A_eq m hO c 1)),
    ((h c).1 2).trans (((dats m hO 0 c).arrAt_in 2 rfl _).trans (A_eq m hO c 2)),
    (h c).2 main_arg3 (by decide : main_arg3 ∈ Pipeline.restRefs sig spec0),
    (h c).2 main_arg4 (by decide : main_arg4 ∈ Pipeline.restRefs sig spec0)⟩

/-- The frame: the arguments end unchanged, with every semaphore at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept_args m hO r h.1 c, h.2⟩) (run_main m ρ hO)

/-- The value: the result array at a run's end is the blocks the points left in it, and the arguments are unchanged. -/
theorem value_run (hO : Ok m) : θ_run defs (onTc (τ := τ) (main (F := F))) ⟨m, fun _ => 0, ρ⟩ (fun r => ∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 3, kept_args m hO r h.1 c⟩) (run_main m ρ hO)

end Cert.MoeUpIdeal.Steps

end
-- ==== Proof.MoeUpIdealOk.lean ====
/- Tables that meet the precondition name blocks inside the expert gate and up projections' arrays. -/
module

public import proofs.«01_k».proof.Proof.MoeUpIdealFrame
public import proofs.«01_k».proof.Proof.MoeTables

@[expose] public section

set_option maxRecDepth 16384

noncomputable section

namespace Cert.MoeUpIdeal.Steps

open Cert.MoeUpIdeal Cert.MoeUpIdeal.Gen
open Idealize.ShloMosaic Idealize.ShloMosaic.TcCoe
open Cert.Tables

variable {F : FTy → Type} [FloatOps F]
variable (m : (ℓ : Loc nD τ sig) → Buf (Elt F) ℓ)

/-- The block index of the rows' window: the block of rows, or the last one in use where that is not in use. -/
theorem rows_index (i : grid0.Coords) :
    cc0_transform_0 inb_S1_S1_0 numel1_S1 (tbl m) i
      = ![(Scalar.minsi (BitVec.ofNat 32 (row i).val) (Scalar.subi (inUseT m (ix1 0)) 1#32)).toNat, 0] := by
  have e : ![(Scalar.minsi (BitVec.ofNat 32 (row i).val) (Scalar.subi (count (F := F) (inUseT m)) 1#32)).toNat, 0]
      = ![(Scalar.minsi (BitVec.ofNat 32 (row i).val) (Scalar.subi (inUseT m (ix1 0)) 1#32)).toNat, 0] := by rw [count_eq]
  exact e

/-- The tables that meet the precondition. -/
theorem ok_of_good (h : Good (expertT m) (inUseT m)) : Ok m := by
  have hlast : ∀ i : grid0.Coords, (i 0).val < 8 := fun i => (i 0).isLt
  refine ⟨fun i => ?_, fun i => ?_, fun i => ?_⟩
  · have hb : ∀ a, (cc0_transform_0 inb_S1_S1_0 numel1_S1 (tbl m) i a + 1) * S512x4096.size a ≤ S20480x4096.size a := by
      rw [rows_index]
      have hc := clamp_lt (row i) _ h.2
      intro a
      fin_cases a
      · show ((Scalar.minsi (BitVec.ofNat 32 (row i).val) (Scalar.subi (inUseT m (ix1 0)) 1#32)).toNat + 1) * 512 ≤ 20480
        omega
      · show (0 + 1) * 4096 ≤ 4096
        omega
    exact ⟨hb, .inr (Affine.block_words_dvd (of_decide_eq_true rfl) (by decide))⟩
  · have hb : ∀ a, (cc0_transform_1 k0_off1_inb numel1_S1 (tbl m) i a + 1) * S1x4096x512.size a ≤ S8x4096x4096.size a := by
      rw [(weight_index m i).1]
      obtain ⟨e, he⟩ := h.1 (row i)
      have hn : (BitVec.ofNat 32 e.val).toNat = e.val := by rw [BitVec.toNat_ofNat]; omega
      rw [he, hn]
      have := hlast i
      intro a
      fin_cases a
      · show (e.val + 1) * 1 ≤ 8
        omega
      · show (0 + 1) * 4096 ≤ 4096
        omega
      · show ((i 0).val + 1) * 512 ≤ 4096
        omega
    exact ⟨hb, .inl rfl⟩
  · have hb : ∀ a, (cc0_transform_2 k0_off1_inb numel1_S1 (tbl m) i a + 1) * S1x4096x512.size a ≤ S8x4096x4096.size a := by
      rw [(weight_index m i).2]
      obtain ⟨e, he⟩ := h.1 (row i)
      have hn : (BitVec.ofNat 32 e.val).toNat = e.val := by rw [BitVec.toNat_ofNat]; omega
      rw [he, hn]
      have := hlast i
      intro a
      fin_cases a
      · show (e.val + 1) * 1 ≤ 8
        omega
      · show (0 + 1) * 4096 ≤ 4096
        omega
      · show ((i 0).val + 1) * 512 ≤ 4096
        omega
    exact ⟨hb, .inl rfl⟩

end Cert.MoeUpIdeal.Steps

end
-- ==== Proof.MoeUpArray.lean ====
/- The kernel's expert gate and up products, entry by entry: at a row in use, the gated product with its expert's weights; else zero. -/
module

public import proofs.«01_k».proof.Proof.MoeUpIdealOk
public import proofs.«01_k».proof.Proof.Dense
public import Idealize.ShloMosaic.Lib.Pointwise

@[expose] public section

set_option maxRecDepth 16384

noncomputable section

namespace Cert.MoeUpIdeal.Gated

open Cert.MoeUpIdeal Cert.MoeUpIdeal.Gen Cert.MoeUpIdeal.Steps
open Idealize.ShloMosaic Idealize.ShloMosaic.TcCoe Idealize.ShloMosaic.Tactic
open Idealize.ShloMosaic.Pipeline (Dat)
open Cert.Dense Cert.Tables
open scoped BigOperators

/-- One entry of the block a point with rows in use leaves. -/
theorem block_at (x : Vec Ideal S512x4096 .bf16) (wg wu : Vec Ideal S1x4096x512 .f32) (r d : Fin 512) :
    k0_pay3 x (k0_pay1 wg) (k0_pay2 wu) (ix2 r d)
      = gated (∑ k : Fin 4096, x (ix2 r k) * wg (ix3 0 k d)) (∑ k : Fin 4096, x (ix2 r k) * wu (ix3 0 k d)) := by
  pointwise [k0_pay1, k0_pay2, k0_pay3]
  rfl

/-- One entry of the block any other point leaves. -/
theorem zero_at (r d : Fin 512) : k0_pay4 (F := Ideal) (ix2 r d) = 0 := by
  pointwise [k0_pay4]

variable (m : (ℓ : Loc nD τ sig) → Buf (Elt Ideal) ℓ) (c : Dev nD)

/-- The rows, the gate weights and the up weights on a device. -/
abbrev rows : FVec Ideal S20480x4096 .bf16 := m ((c.tc : Thread nD τ).loc main_arg0)
abbrev gateWeights : FVec Ideal S8x4096x4096 .f32 := m ((c.tc : Thread nD τ).loc main_arg1)
abbrev upWeights : FVec Ideal S8x4096x4096 .f32 := m ((c.tc : Thread nD τ).loc main_arg2)

/-- The expert of a block of rows, as a number below eight, and the block of a row. -/
def expert (n : Fin 40) : Fin 8 := ⟨(expertT m (ix1 n)).toNat % 8, Nat.mod_lt _ (by decide)⟩
abbrev block (r : Fin 20480) : Fin 40 := ⟨r.val / 512, by omega⟩

/-- An entry of the result. -/
def entry (r : Fin 20480) (d : Fin 4096) : EReal :=
  if ((block r).val : ℤ) < (inUseT m (ix1 0)).toInt then
    gated (∑ k : Fin 4096, rows m c (ix2 r k) * gateWeights m c (ix3 (expert m (block r)) k d))
      (∑ k : Fin 4096, rows m c (ix2 r k) * upWeights m c (ix3 (expert m (block r)) k d))
  else 0

variable (hO : Ok m)

/-! The block each window reads or writes at a grid point. -/

theorem coord0 (t : Fin grid0.N) : (grid0.coords t 0).val = t.val / 40 % 8 := Pipeline.Grid.coords_val t 0 (by decide) rfl
theorem coord1 (t : Fin grid0.N) : (grid0.coords t 1).val = t.val % 40 := by
  have h : (grid0.coords t 1).val = t.val / 1 % 40 := Pipeline.Grid.coords_val t 1 (by decide) rfl
  rw [h, Nat.div_one]

theorem idx0 (t : Fin (cfgM m hO).N) (hu : ((row (grid0.coords t)).val : ℤ) < (inUseT m (ix1 0)).toInt) :
    ((cfgM m hO).win 0).index t = ![t.val % 40, 0] := by
  refine (rows_index m (grid0.coords t)).trans ?_
  rw [clamp_eq _ _ hu]
  exact congrArg (fun z => ![z, 0]) (coord1 t)
theorem idx1 (hg : Good (expertT m) (inUseT m)) (t : Fin (cfgM m hO).N) :
    ((cfgM m hO).win 1).index t = ![(expert m (row (grid0.coords t))).val, 0, t.val / 40 % 8] := by
  refine (weight_index m (grid0.coords t)).1.trans ?_
  rw [coord0 t]
  obtain ⟨e, he⟩ := hg.1 (row (grid0.coords t))
  have hn : (BitVec.ofNat 32 e.val).toNat = e.val := by rw [BitVec.toNat_ofNat]; omega
  have hlt : (expertT m (ix1 (row (grid0.coords t)))).toNat < 8 := by rw [he, hn]; exact e.isLt
  exact congrArg (fun z => ![z, 0, t.val / 40 % 8]) (Nat.mod_eq_of_lt hlt).symm
theorem idx2 (hg : Good (expertT m) (inUseT m)) (t : Fin (cfgM m hO).N) :
    ((cfgM m hO).win 2).index t = ![(expert m (row (grid0.coords t))).val, 0, t.val / 40 % 8] := by
  refine (weight_index m (grid0.coords t)).2.trans ?_
  exact (weight_index m (grid0.coords t)).1.symm.trans (idx1 m hO hg t)
theorem idx3 (t : Fin (cfgM m hO).N) : ((cfgM m hO).win 3).index t = ![t.val % 40, t.val / 40 % 8] := by
  have h : ∀ i : grid0.Coords, cc0_transform_3 i = ![(i 1).val, (i 0).val] := fun i => by
    have h0 := (i 0).isLt
    have h1 := (i 1).isLt
    unfold cc0_transform_3
    dsimp only
    rw [BitVec.toNat_ofNat, BitVec.toNat_ofNat, Nat.mod_eq_of_lt (lt_trans h0 (by decide)), Nat.mod_eq_of_lt (lt_trans h1 (by decide))]
  refine (h (grid0.coords t)).trans ?_
  rw [coord0 t, coord1 t]

/-- Every point's block is written back: the next point's is another. -/
theorem flushes (t : Fin (cfgM m hO).N) : ((cfgM m hO).win 3).flush t = true :=
  ((fun t => (Pipeline.Window.flushOf_reads cc0_transform_3 reads0_3 hreads0_3 1 (by decide) (by decide)
    (Pipeline.Window.sep_of_coord cc0_transform_3 1 0 (fun _ => rfl) (by decide)) (P := 1) (m := 0) (by decide) rfl t).mpr (Nat.mod_one _)
    : ∀ t : Fin grid0.N, Pipeline.Window.flushOf grid0 true cc0_transform_3 t = true) t)

/-- The output blocks fill the array. -/
theorem covers : ((cfgM m hO).win 3).Covers := by
  refine ⟨fun (a : Fin 2) => ?_, fun β => ?_⟩
  · fin_cases a <;> exact (by decide : 0 < 512)
  · obtain ⟨b0, h0⟩ : ∃ b : Fin 40, b.val = (β (0 : Fin 2)).val :=
      ⟨⟨(β (0 : Fin 2)).val, lt_of_lt_of_eq (β (0 : Fin 2)).isLt (show (20480 + 512 - 1) / 512 = 40 from by decide)⟩, rfl⟩
    obtain ⟨b1, h1⟩ : ∃ b : Fin 8, b.val = (β (1 : Fin 2)).val :=
      ⟨⟨(β (1 : Fin 2)).val, lt_of_lt_of_eq (β (1 : Fin 2)).isLt (show (4096 + 512 - 1) / 512 = 8 from by decide)⟩, rfl⟩
    have hN : (cfgM m hO).N = 320 := N_0
    refine ⟨⟨b1.val * 40 + b0.val, lt_of_lt_of_eq (show b1.val * 40 + b0.val < 320 by omega) hN⟩, flushes m hO _, fun (a : Fin 2) => ⟨?_, .inl rfl⟩⟩
    rw [idx3]
    fin_cases a
    · refine Eq.trans ?_ h0
      show (b1.val * 40 + b0.val) % 40 = b0.val
      omega
    · refine Eq.trans ?_ h1
      show (b1.val * 40 + b0.val) / 40 % 8 = b1.val
      omega

/-- The whole result. -/
def whole : S20480x4096.Idx → EReal := fun i => entry m c (i 0) (i 1)

/-- The array after the run. -/
theorem final (hg : Good (expertT m) (inUseT m)) : (dats m hO 0 c).arrAt 3 (cfgM m hO).N = whole m c := by
  refine (dats m hO 0 c).arrAt_eq_of_covers 3 _ (covers m hO) fun t hf y => ?_
  blk_simp
  rw [after_3]
  obtain ⟨r, d, rfl⟩ : ∃ (r : Fin 512) (d : Fin 512), y = ix2 r d := ⟨(show S512x512.Idx from y) 0, (show S512x512.Idx from y) 1, eq_ix2 (show S512x512.Idx from y)⟩
  have hN : t.val < 320 := lt_of_lt_of_eq t.isLt N_0
  obtain ⟨R, hR⟩ : ∃ R : Fin 20480, R.val = t.val % 40 * 512 + r.val := ⟨⟨t.val % 40 * 512 + r.val, by omega⟩, rfl⟩
  obtain ⟨D, hD⟩ : ∃ D : Fin 4096, D.val = t.val / 40 % 8 * 512 + d.val := ⟨⟨t.val / 40 % 8 * 512 + d.val, by omega⟩, rfl⟩
  have hemb : (((cfgM m hO).win 3).blk t).view.emb (ix2 r d) = ix2 R D := by
    blk_ext [idx3 m hO t, hR, hD]
  have hb : row (grid0.coords t) = block R := Fin.ext ((coord1 t).trans (by show t.val % 40 = R.val / 512; omega))
  refine Eq.trans ?_ (congrArg (whole m c) hemb).symm
  show leaves m hO c t (ix2 r d) = entry m c R D
  unfold entry leaves
  rw [← hb]
  by_cases hu : ((row (grid0.coords t)).val : ℤ) < (inUseT m (ix1 0)).toInt
  · rw [if_pos hu, if_pos hu]
    refine Eq.trans (block_at _ _ _ r d) (congrArg₂ gated (dot_congr (fun k => ?_) fun k => ?_) (dot_congr (fun k => ?_) fun k => ?_))
    · blk_ext [rowsAt, iblk, V, idx0 m hO t hu, hR]
    · blk_ext [gateAt, iblk, V, idx1 m hO hg t, hD]
    · blk_ext [rowsAt, iblk, V, idx0 m hO t hu, hR]
    · blk_ext [upAt, iblk, V, idx2 m hO hg t, hD]
  · rw [if_neg hu, if_neg hu]
    exact zero_at r d

end Cert.MoeUpIdeal.Gated

end
-- ==== Proof.MoeUpRef.lean ====
/- The reference's expert gate and up products, entry by entry: at a row in use, the gated product with its expert's weights; else zero. -/
module

public import proofs.«01_k».proof.Proof.Gen.MoeUpRefIdeal.Run
public import Idealize.ShloMosaic.Lib.Pointwise
public import proofs.«01_k».proof.Proof.Dense

@[expose] public section

set_option maxRecDepth 16384

noncomputable section

namespace Cert.MoeUpRefIdeal.Gated

open Cert.MoeUpRefIdeal Cert.MoeUpRefIdeal.Gen Idealize.ShloMosaic Idealize.ShloMosaic.TcCoe Idealize.SL.Sem
open Cert.Dense Facts
open scoped BigOperators

/-- The product of the rows with every expert's weights. -/
def product (x : FVec Ideal S20480x4096 .bf16) (w : FVec Ideal S8x4096x4096 .f32) : FVec Ideal S20480x8x4096 .f32 :=
  Host.dotGeneral dot_S20480x4096_S8x4096x4096_S20480x8x4096_1_1_0_02_n_n none (extf .f32 x bitsLt_bf16_f32) w

/-- Arrays of ones and of zeros. -/
def ones : FVec Ideal S20480x8x4096 .f32 := broadcastInDim S20480x8x4096 ![] bcast_S_S20480x8x4096 (constant S_ .f32 0x3F800000#32)
def zeros : FVec Ideal S20480x8x4096 .f32 := broadcastInDim S20480x8x4096 ![] bcast_S_S20480x8x4096 (id (constant S_ .f32 0x00000000#32))

/-- Every expert's gated product. -/
def every (g u : FVec Ideal S20480x8x4096 .f32) : FVec Ideal S20480x8x4096 .f32 :=
  mulf (mulf g (Host.divf ones (addf ones (Host.exp (Host.negf g))))) u

/-- The number of every row's block. -/
def blockOf : IVec S20480 32 := shapeCast _ (broadcastInDim S40x512 ![0] bcast_S40_S40x512_0 (iotaInDim S40 32 0)) shapeCasts_S40x512_S20480
/-- The expert of every row. -/
def expertOf (be : IVec S40 32) : IVec S20480 32 := shapeCast _ (broadcastInDim S40x512 ![0] bcast_S40_S40x512_0 be) shapeCasts_S40x512_S20480

/-- Where an expert is the row's. -/
def mine (be : IVec S40 32) : IVec S20480x8x4096 1 :=
  broadcastInDim S20480x8x4096 ![0, 1, 2] bcast_S20480x8x1_S20480x8x4096_0_1_2 (broadcastInDim S20480x8x1 ![0, 1] bcast_S20480x8_S20480x8x1_0_1
    (cmpi .eq (broadcastInDim S20480x8 ![0, 1] bcast_S20480x1_S20480x8_0_1 (broadcastInDim S20480x1 ![0] bcast_S20480_S20480x1_0 (expertOf be)))
      (broadcastInDim S20480x8 ![0, 1] bcast_S1x8_S20480x8_0_1 (broadcastInDim S1x8 ![1] bcast_S8_S1x8_1 (iotaInDim S8 32 0)))))

/-- Where a row's block is in use. -/
def used (nu : IVec S1 32) : IVec S20480x4096 1 :=
  broadcastInDim S20480x4096 ![0, 1] bcast_S20480x1_S20480x4096_0_1 (broadcastInDim S20480x1 ![0] bcast_S20480_S20480x1_0
    (cmpi .slt blockOf (broadcastInDim S20480 ![0] bcast_S1_S20480_0 nu)))

/-- The sum over the experts of the chosen entries. -/
def chosen (y : FVec Ideal S20480x8x4096 .f32) (be : IVec S40 32) : FVec Ideal S20480x4096 .f32 :=
  Host.reduceAdd (select (mine be) y zeros) (constant S_ .f32 0x00000000#32) reducesTo_S20480x8x4096_S20480x4096_d1 h_S_

/-- The result. -/
def result (x : FVec Ideal S20480x4096 .bf16) (wg wu : FVec Ideal S8x4096x4096 .f32) (be : IVec S40 32) (nu : IVec S1 32) : FVec Ideal S20480x4096 .bf16 :=
  truncf .bf16 (select (used nu) (chosen (every (product x wg) (product x wu)) be)
    (broadcastInDim S20480x4096 ![] bcast_S_S20480x4096 (id (constant S_ .f32 0x00000000#32)))) bitsLt_bf16_f32

/-- The block of a row. -/
abbrev block (r : Fin 20480) : Fin 40 := ⟨r.val / 512, by omega⟩

/-- One entry of a product. -/
theorem product_at (x : FVec Ideal S20480x4096 .bf16) (w : FVec Ideal S8x4096x4096 .f32) (r : Fin 20480) (e : Fin 8) (d : Fin 4096) :
    product x w (ix3 r e d) = ∑ k : Fin 4096, x (ix2 r k) * w (ix3 e k d) := by
  pointwise [product]

/-- One entry of an expert's gated product. -/
theorem every_at (g u : FVec Ideal S20480x8x4096 .f32) (r : Fin 20480) (e : Fin 8) (d : Fin 4096) :
    every g u (ix3 r e d) = gated (g (ix3 r e d)) (u (ix3 r e d)) := by
  pointwise [every, ones]
  rfl

theorem expertOf_at (be : IVec S40 32) (r : Fin 20480) : expertOf be (ix1 r) = be (ix1 (block r)) := by
  pointwise [expertOf]

theorem blockOf_at (r : Fin 20480) : blockOf (ix1 r) = BitVec.ofNat 32 (block r).val := by
  pointwise [blockOf]

theorem mine_at (be : IVec S40 32) (r : Fin 20480) (e : Fin 8) (d : Fin 4096) :
    mine be (ix3 r e d) = BitVec.ofBool (be (ix1 (block r)) == BitVec.ofNat 32 e.val) := by
  rw [← expertOf_at be r]
  pointwise [mine]
  rfl

theorem used_at (nu : IVec S1 32) (r : Fin 20480) (d : Fin 4096) :
    used nu (ix2 r d) = BitVec.ofBool ((BitVec.ofNat 32 (block r).val).slt (nu (ix1 0))) := by
  rw [← blockOf_at]
  pointwise [used]
  rfl

theorem chosen_at (y : FVec Ideal S20480x8x4096 .f32) (be : IVec S40 32) (r : Fin 20480) (d : Fin 4096) :
    chosen y be (ix2 r d) = ∑ e : Fin 8, (if be (ix1 (block r)) = BitVec.ofNat 32 e.val then y (ix3 r e d) else 0) := by
  pointwise [chosen, mine_at, zeros, id_eq]
  exact Finset.sum_congr rfl fun e _ => if_congr beq_iff_eq rfl rfl

/-- One entry of the result, the experts' numbers being below eight: the gated product with the row's own expert at a row in use, else zero. -/
theorem result_at (x : FVec Ideal S20480x4096 .bf16) (wg wu : FVec Ideal S8x4096x4096 .f32) (be : IVec S40 32) (nu : IVec S1 32)
    (r : Fin 20480) (d : Fin 4096) (e : Fin 8) (he : be (ix1 (block r)) = BitVec.ofNat 32 e.val) :
    result x wg wu be nu (ix2 r d) = if ((block r).val : ℤ) < (nu (ix1 0)).toInt then
      gated (∑ k : Fin 4096, x (ix2 r k) * wg (ix3 e k d)) (∑ k : Fin 4096, x (ix2 r k) * wu (ix3 e k d)) else 0 := by
  have hn : ∀ n : Fin 40, (BitVec.ofNat 32 n.val).toInt = (n.val : ℤ) := by decide
  have inj : ∀ a b : Fin 8, BitVec.ofNat 32 a.val = BitVec.ofNat 32 b.val ↔ a = b := by decide
  have hc : chosen (every (product x wg) (product x wu)) be (ix2 r d)
      = gated (∑ k : Fin 4096, x (ix2 r k) * wg (ix3 e k d)) (∑ k : Fin 4096, x (ix2 r k) * wu (ix3 e k d)) := by
    rw [chosen_at, he]
    refine (Finset.sum_congr rfl fun e' _ => if_congr (inj e e') rfl rfl).trans ?_
    rw [Finset.sum_ite_eq, if_pos (Finset.mem_univ _), every_at, product_at, product_at]
  rw [← hc, ← hn]
  refine Eq.trans ?_ (if_congr BitVec.slt_iff_toInt_lt rfl rfl)
  pointwise [result, used_at, id_eq]

end Cert.MoeUpRefIdeal.Gated

end
-- ==== Proof.MoeUpClaims.lean ====
/- What is claimed of the expert gate and up projections, where the tables meet the precondition: the kernel runs and leaves its arguments as
   they were, and its result, over the extended reals, is the reference's. -/
module

public import proofs.«01_k».proof.Defs
public import proofs.«01_k».proof.Proof.MoeUpOk
public import proofs.«01_k».proof.Proof.MoeUpArray
public import proofs.«01_k».proof.Proof.MoeUpRef
public import Idealize.ShloMosaic.Lib.Quiescent

@[expose] public section

noncomputable section

namespace Cert.Proof

open Idealize.ShloMosaic Idealize.ShloMosaic.TcCoe Idealize.SL.Sem
open Cert.Tables

section
attribute [local instance] Cert.MoeUp.Gen.facts Cert.MoeUpIdeal.Gen.facts Cert.MoeUpRefIdeal.Gen.facts Cert.Tables.up_facts

/-- A memory that meets the precondition holds good tables. -/
theorem good_moeup (m : (ℓ : Loc Cert.MoeUp.nD Cert.MoeUp.τ Cert.MoeUp.sig) → Buf (Elt Bits) ℓ) (h : Cert.Pre_MoeUp m) :
    Good (Cert.MoeUp.Steps.expertT m) (Cert.MoeUp.Steps.inUseT m) := good_of_up _ _ _ _ _ (h 0)
theorem good_moeup_ideal (m : (ℓ : Loc Cert.MoeUpIdeal.nD Cert.MoeUpIdeal.τ Cert.MoeUpIdeal.sig) → Buf (Elt Ideal) ℓ) (h : Cert.Pre_MoeUpIdeal m) :
    Good (Cert.MoeUpIdeal.Steps.expertT m) (Cert.MoeUpIdeal.Steps.inUseT m) := good_of_up _ _ _ _ _ (h 0)

theorem moeup_frame : Cert.quiescent_MoeUp := fun m g h =>
  Cert.MoeUp.Steps.frame_run m g (Cert.MoeUp.Steps.ok_of_good m (good_moeup m h))
theorem moeup_ideal_frame : Cert.quiescent_MoeUpIdeal := fun m g h =>
  Cert.MoeUpIdeal.Steps.frame_run m g (Cert.MoeUpIdeal.Steps.ok_of_good m (good_moeup_ideal m h))
theorem moeup_reference_frame : Cert.quiescent_MoeUpRefIdeal := fun m g _ =>
  (θ_run Cert.MoeUpRefIdeal.defs _ _).mono (fun r h => ⟨fun c => (h c).2, sem_eq_zero_of_no_sems (by decide) r.2⟩)
    (Cert.MoeUpRefIdeal.Value.run (F := Ideal) m g)
theorem moeup_reference_frame_pre : Cert.quiescent_MoeUpRefIdeal_pre_up_tables := fun m g _ => moeup_reference_frame m g trivial

/-- Over the extended reals the expert gate and up kernel's result is its reference's. -/
theorem moeup_value : Cert.algebraic_MoeUpIdeal_MoeUpRefIdeal := by
  intro m g m' g' hpre hagree
  have hg := good_moeup_ideal m hpre
  refine ⟨_, Cert.MoeUpIdeal.Steps.value_run m g (Cert.MoeUpIdeal.Steps.ok_of_good m hg),
    (θ_run Cert.MoeUpRefIdeal.defs _ _).mono (fun r h c => ⟨(h c).1.trans ?_, (h c).2⟩) (Cert.MoeUpRefIdeal.Value.run (F := Ideal) m' g')⟩
  obtain rfl : c = 0 := Subsingleton.elim _ _
  rw [(hagree 0).1, (hagree 0).2.1, (hagree 0).2.2.1, (hagree 0).2.2.2.1, (hagree 0).2.2.2.2, Cert.MoeUpIdeal.Gated.final m 0 _ hg]
  funext i
  obtain ⟨r, d, rfl⟩ : ∃ (r : Fin 20480) (d : Fin 4096), i = ix2 r d := ⟨i 0, i 1, eq_ix2 i⟩
  refine Cert.MoeUpRefIdeal.Gated.result_at _ _ _ _ _ r d (Cert.MoeUpIdeal.Gated.expert m (Cert.MoeUpIdeal.Gated.block r)) ?_
  obtain ⟨e, he⟩ := hg.1 (Cert.MoeUpIdeal.Gated.block r)
  have hn : (BitVec.ofNat 32 e.val).toNat = e.val := by rw [BitVec.toNat_ofNat]; omega
  have hx : Cert.MoeUpIdeal.Gated.expert m (Cert.MoeUpIdeal.Gated.block r) = e := Fin.ext (by
    show (Cert.MoeUpIdeal.Steps.expertT m (ix1 (Cert.MoeUpIdeal.Gated.block r))).toNat % 8 = e.val
    rw [he, hn, Nat.mod_eq_of_lt e.isLt])
  rw [hx]
  exact he

end

end Cert.Proof

end
-- ==== Proof.MoeDownTables.lean ====
/- The precondition of the expert down projection: the same two tables. -/
module

public import proofs.«01_k».proof.Pre_down_tables
public import proofs.«01_k».proof.Proof.MoeTables

@[expose] public section

set_option maxRecDepth 16384

noncomputable section

namespace Cert.Tables

open Idealize.ShloMosaic

variable {F : FTy → Type} [FloatOps F]

theorem down_facts : Pre_down_tables.Facts where
  bcast_S_S40 := by decide
  bcast_S_S1 := by decide

open Pre_down_tables in
/-- The precondition of the down projection. -/
theorem good_of_down [Pre_down_tables.Facts] (x : FVec F S20480x4096 .bf16) (w : FVec F S8x4096x4096 .f32) (g : FVec F S20480x1 .f32)
    (be : IVec S40 32) (nu : IVec S1 32)
    (h : (Pre_down_tables.fn (F := F) x w g be nu).1 = (fun _ => 1#1) ∧ (Pre_down_tables.fn (F := F) x w g be nu).2 = fun _ => 1#1) : Good be nu :=
  ⟨fun n => expert_of_bits _ (congrFun h.1 (ix1 n)), positive_of_bit _ (congrFun h.2 (ix1 0))⟩

end Cert.Tables

end
-- ==== Proof.MoeDownIdealRun.lean ====
/- The expert down projection's kernel body, run at one grid point for any contents of the two prefetched tables: which expert each block of
   rows belongs to, and how many blocks hold rows at all. When the expert changes the body rounds the expert's weight block into its scratch
   buffer; a block of rows in use is then multiplied with it and scaled row by row, and one not in use is left zero. -/
module

public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Pipeline.ValueKit
public import Idealize.ShloMosaic.Lib.Tactic
public import Idealize.ShloMosaic.Lib.WordCmp
public import proofs.«01_k».proof.Proof.Store

@[expose] public section

set_option maxRecDepth 16384
set_option Elab.async false

noncomputable section

namespace Cert.MoeDownIdeal.Steps

open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts and the one-word table of the number of blocks in use, as the body is handed them. -/
abbrev experts : Memref sig .tc .smem S40 .i32 := Memref.whole main_arg3
abbrev inUse : Memref sig .tc .smem S1 .i32 := Memref.whole main_arg4
theorem wholeExperts : experts.IsWhole := Memref.isWhole_whole _
theorem wholeInUse : inUse.IsWhole := Memref.isWhole_whole _

/-- A table held at half the full share: the other half stays with the pipeline, which reads the tables for its block indices. -/
abbrev Half (c : Dev nD) {S : Shape} {e : EltTy} (M : Memref sig .tc .smem S e) (f : Buf (Elt F) (M.view.loc (c : Thread nD τ))) : sProp 𝕄 :=
  M.view.loc (c : Thread nD τ) ↦{fullShare.right} f

/-- The expert of the point's own block of rows, and of the block before it (its own at the first block). -/
abbrev own (i : grid0.Coords) (T : S40.Idx → BitVec 32) : BitVec 32 :=
  View.readAt (Elt F) experts.view (Rect.unit (s := S40) (k0_off1 i) S1.size (k0_off1_inb i)).toLoadRect T
    (Shape.Idx.first (numel1_S1.symm ▸ Nat.one_pos))
abbrev prev (i : grid0.Coords) (T : S40.Idx → BitVec 32) : BitVec 32 :=
  View.readAt (Elt F) experts.view (Rect.unit (s := S40) (k0_off2 i) S1.size (k0_off2_inb i)).toLoadRect T
    (Shape.Idx.first (numel1_S1.symm ▸ Nat.one_pos))
/-- The number of blocks of rows in use. -/
abbrev count (T : S1.Idx → BitVec 32) : BitVec 32 :=
  View.readAt (Elt F) inUse.view (Rect.unit (s := S1) ![0] S1.size inb_S1_S1_0).toLoadRect T
    (Shape.Idx.first (numel1_S1.symm ▸ Nat.one_pos))

/-- The point is the first of its column of weights, or its expert is not the one of the block before. -/
abbrev Changed (i : grid0.Coords) (T : S40.Idx → BitVec 32) : Prop :=
  Scalar.cmpi .ne (Scalar.extui (Scalar.ori (Scalar.cmpi .eq (BitVec.ofNat 32 (i 1).val) 0#32)
    (Scalar.cmpi .ne (own (F := F) i T) (prev (F := F) i T)))) 0#32 = 1#1
/-- The point's block of rows is in use, and it is not. -/
abbrev Used (i : grid0.Coords) (T : S1.Idx → BitVec 32) : Prop := k0_cond2 i (count (F := F) T) = 1#1
abbrev Unused (i : grid0.Coords) (T : S1.Idx → BitVec 32) : Prop := k0_cond3 i (count (F := F) T) = 1#1

/-! The table words a point reads, and the three conditions, in closed form. -/

/-- The point's block of rows, the block before it (itself at the first), and the only word of the count table. -/
abbrev row (i : grid0.Coords) : Fin 40 := ⟨(i 1).val, (i 1).isLt⟩
abbrev before (n : Fin 40) : Fin 40 := ⟨n.val - 1, Nat.lt_of_le_of_lt (Nat.sub_le _ _) n.isLt⟩

/-- The offset at which the body reads the expert of the block before. -/
theorem off2 (i : grid0.Coords) : k0_off2 i = ![(before (row i)).val] := by
  have h : ∀ n : Fin 40, (Scalar.indexCast (Scalar.maxsi (Scalar.subi (BitVec.ofNat 32 n.val) 1#32) 0#32)).toNat = n.val - 1 := by decide
  unfold k0_off2
  exact congrArg (fun z => ![z]) (h (row i))

theorem own_eq (i : grid0.Coords) (T : S40.Idx → BitVec 32) : own (F := F) i T = T (ix1 (row i)) := by
  refine congrArg T (funext fun a => Fin.ext ?_)
  obtain rfl : a = 0 := Subsingleton.elim (α := Fin 1) _ _
  show k0_off1 i 0 + 1 * 0 = (i 1).val
  rw [k0_off1_eq]; simp

theorem prev_eq (i : grid0.Coords) (T : S40.Idx → BitVec 32) : prev (F := F) i T = T (ix1 (before (row i))) := by
  refine congrArg T (funext fun a => Fin.ext ?_)
  obtain rfl : a = 0 := Subsingleton.elim (α := Fin 1) _ _
  show k0_off2 i 0 + 1 * 0 = (before (row i)).val
  rw [off2]; simp

theorem count_eq (T : S1.Idx → BitVec 32) : count (F := F) T = T (ix1 0) := by
  refine congrArg T (funext fun a => Fin.ext ?_)
  obtain rfl : a = 0 := Subsingleton.elim (α := Fin 1) _ _
  rfl

/-- A bit widened to a word and compared with zero is the bit. -/
theorem test_bit (b : BitVec 1) : Scalar.cmpi .ne (Scalar.extui b) 0#32 = b := by revert b; decide

/-- The weights change at the first block of rows and wherever the expert is not the one of the block before. -/
theorem changed_iff (i : grid0.Coords) (T : S40.Idx → BitVec 32) :
    Changed (F := F) i T ↔ (row i).val = 0 ∨ T (ix1 (row i)) ≠ T (ix1 (before (row i))) := by
  have hz : ∀ n : Fin 40, Scalar.cmpi .eq (BitVec.ofNat 32 n.val) 0#32 = BitVec.ofBool (decide (n.val = 0)) := by decide
  have ho : ∀ p q : Bool, Scalar.ori (BitVec.ofBool p) (BitVec.ofBool q) = 1#1 ↔ (p = true ∨ q = true) := by decide
  unfold Changed
  rw [own_eq, prev_eq, test_bit, hz (row i)]
  show Scalar.ori _ (BitVec.ofBool (T (ix1 (row i)) != T (ix1 (before (row i))))) = 1#1 ↔ _
  rw [ho]
  simp

/-- A block of rows is in use when its number is below the count, as signed words, -/
theorem used_iff (i : grid0.Coords) (T : S1.Idx → BitVec 32) : Used (F := F) i T ↔ ((row i).val : ℤ) < (T (ix1 0)).toInt := by
  have hb : ∀ b : Bool, BitVec.ofBool b = 1#1 ↔ b = true := by decide
  have hn : ∀ n : Fin 40, (BitVec.ofNat 32 n.val).toInt = (n.val : ℤ) := by decide
  unfold Used k0_cond2
  dsimp only
  rw [count_eq, test_bit]
  show BitVec.ofBool ((BitVec.ofNat 32 (row i).val).slt (T (ix1 0))) = 1#1 ↔ _
  rw [hb, BitVec.slt_iff_toInt_lt, hn]

/-- and not in use when it is not. -/
theorem unused_iff (i : grid0.Coords) (T : S1.Idx → BitVec 32) : Unused (F := F) i T ↔ ¬((row i).val : ℤ) < (T (ix1 0)).toInt := by
  have hb : ∀ b : Bool, BitVec.ofBool b = 1#1 ↔ b = true := by decide
  have hn : ∀ n : Fin 40, (BitVec.ofNat 32 n.val).toInt = (n.val : ℤ) := by decide
  unfold Unused k0_cond3
  dsimp only
  rw [count_eq, test_bit]
  show BitVec.ofBool ((T (ix1 0)).sle (BitVec.ofNat 32 (row i).val)) = 1#1 ↔ _
  rw [hb, BitVec.sle_iff_toInt_le, hn, not_lt]

section
variable (c : Dev nD) (i : grid0.Coords) (a4 : Memref sig .tc .vmem S512x4096 .bf16) (h4 : a4.IsWhole) (a5 : Memref sig .tc .vmem S1x4096x512 .f32)
  (h5 : a5.IsWhole) (a6 : Memref sig .tc .vmem S512x1 .f32) (h6 : a6.IsWhole) (a7 : Memref sig .tc .vmem S512x512 .f32) (h7 : a7.IsWhole)
  (a8 : Memref sig .tc .vmem S4096x512 .bf16) (h8 : a8.IsWhole)
  (x : Vec F S512x4096 .bf16) (w : Vec F S1x4096x512 .f32) (g : Vec F S512x1 .f32) (s : Vec F S4096x512 .bf16)
  (T0 : Buf (Elt F) (experts.view.loc (c : Thread nD τ))) (T1 : Buf (Elt F) (inUse.view.loc (c : Thread nD τ)))

/-- The body's triple: from the three input blocks, any output block, the scratch buffer at `s`, and the tables, it runs to the same inputs and
    tables with the scratch buffer at `s'` and the output block at `o`. -/
def Runs (s' : Vec F S4096x512 .bf16) (o : Vec F S512x512 .f32) : Prop :=
  ∀ (E : Set ℕ) (K : PUnit → sProp 𝕄),
    iprop(owns (c : Thread nD τ) a4 fullShare x ∗ owns (c : Thread nD τ) a5 fullShare w ∗ owns (c : Thread nD τ) a6 fullShare g
        ∗ (∃ d, owns (c : Thread nD τ) a7 fullShare d) ∗ owns (c : Thread nD τ) a8 fullShare s
        ∗ Half c experts T0 ∗ Half c inUse T1
        ∗ (iprop(owns (c : Thread nD τ) a4 fullShare x ∗ owns (c : Thread nD τ) a5 fullShare w ∗ owns (c : Thread nD τ) a6 fullShare g
          ∗ owns (c : Thread nD τ) a7 fullShare o ∗ owns (c : Thread nD τ) a8 fullShare s'
          ∗ Half c experts T0 ∗ Half c inUse T1) -∗ K ⟨⟩))
      ⊢ wp frame (wpE (defs₀ (F := F)) Variants.none c none) E
          (cc0_moe_down i experts wholeExperts inUse wholeInUse a4 h4 a5 h5 a6 h6 a7 h7 a8 h8) K

set_option maxHeartbeats 2000000 in
/-- A changed expert and a block in use: the scratch buffer takes the rounded weights, the output their scaled product with the rows. -/
theorem changed_used (hc : Changed (F := F) i T0) (hu : Used (F := F) i T1) (hn : ¬Unused (F := F) i T1) :
    Runs c i a4 h4 a5 h5 a6 h6 a7 h7 a8 h8 x w g s T0 T1 (k0_pay1 w) (k0_pay2 x (k0_pay1 w) g) := by
  intro E K
  simp only [cc0_moe_down_eq_skeleton]; unfold cc0_moe_down_skel
  unfold owns
  iintro ⟨⟨%f4, %e4, H4⟩, ⟨%f5, %e5, H5⟩, ⟨%f6, %e6, H6⟩, ⟨%d7, %f7, -, H7⟩, ⟨%f8, %e8, H8⟩, HT0, HT1, Hk⟩
  obtain rfl := h4.eq_unread e4; obtain rfl := h5.eq_unread e5; obtain rfl := h6.eq_unread e6; obtain rfl := h8.eq_unread e8
  sl_exec (disch := first | sl_exact hc | sl_exact hu | sl_exact hn)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words
    rw [Cert.Store.read_stored _ _ _ _ _ (by decide)]
    simp only [View.readAt_eq_ld, h4.read_unread, h5.read_unread, h6.read_unread]
    rw [View.readCov_unit_lit _ _ _ (by decide), View.ld_unit_lit _ _ (by decide), View.ld_unit_lit _ _ (by decide),
      View.ld_unit_lit _ _ (by decide)]
  isplitl [H8]
  · iexists _; isplitr; swap; · iexact H8
    ipureintro
    sl_unfold_words
    rw [Cert.Store.read_stored _ _ _ _ _ (by decide)]
    simp only [View.readAt_eq_ld, h5.read_unread]
    rw [View.ld_unit_lit _ _ (by decide)]
  isplitl [HT0]; · iexact HT0
  iexact HT1

set_option maxHeartbeats 2000000 in
/-- A changed expert and a block not in use: the scratch buffer takes the rounded weights, the output is zero. -/
theorem changed_unused (hc : Changed (F := F) i T0) (hu : ¬Used (F := F) i T1) (hn : Unused (F := F) i T1) :
    Runs c i a4 h4 a5 h5 a6 h6 a7 h7 a8 h8 x w g s T0 T1 (k0_pay1 w) k0_pay3 := by
  intro E K
  simp only [cc0_moe_down_eq_skeleton]; unfold cc0_moe_down_skel
  unfold owns
  iintro ⟨⟨%f4, %e4, H4⟩, ⟨%f5, %e5, H5⟩, ⟨%f6, %e6, H6⟩, ⟨%d7, %f7, -, H7⟩, ⟨%f8, %e8, H8⟩, HT0, HT1, Hk⟩
  obtain rfl := h4.eq_unread e4; obtain rfl := h5.eq_unread e5; obtain rfl := h6.eq_unread e6; obtain rfl := h8.eq_unread e8
  sl_exec (disch := first | sl_exact hc | sl_exact hu | sl_exact hn)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    exact Cert.Store.read_stored _ _ _ _ _ (by decide)
  isplitl [H8]
  · iexists _; isplitr; swap; · iexact H8
    ipureintro
    sl_unfold_words
    rw [Cert.Store.read_stored _ _ _ _ _ (by decide)]
    simp only [View.readAt_eq_ld, h5.read_unread]
    rw [View.ld_unit_lit _ _ (by decide)]
  isplitl [HT0]; · iexact HT0
  iexact HT1

set_option maxHeartbeats 2000000 in
/-- The expert of the block before and a block in use: the output is the scaled product of the rows with the weights kept in scratch. -/
theorem same_used (hc : ¬Changed (F := F) i T0) (hu : Used (F := F) i T1) (hn : ¬Unused (F := F) i T1) :
    Runs c i a4 h4 a5 h5 a6 h6 a7 h7 a8 h8 x w g s T0 T1 s (k0_pay2 x s g) := by
  intro E K
  simp only [cc0_moe_down_eq_skeleton]; unfold cc0_moe_down_skel
  unfold owns
  iintro ⟨⟨%f4, %e4, H4⟩, ⟨%f5, %e5, H5⟩, ⟨%f6, %e6, H6⟩, ⟨%d7, %f7, -, H7⟩, ⟨%f8, %e8, H8⟩, HT0, HT1, Hk⟩
  obtain rfl := h4.eq_unread e4; obtain rfl := h5.eq_unread e5; obtain rfl := h6.eq_unread e6; obtain rfl := h8.eq_unread e8
  sl_exec (disch := first | sl_exact hc | sl_exact hu | sl_exact hn)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words
    rw [Cert.Store.read_stored _ _ _ _ _ (by decide)]
    simp only [View.readAt_eq_ld, h4.read_unread, h6.read_unread, h8.read_unread]
    rw [View.ld_unit_lit _ _ (by decide), View.ld_unit_lit _ _ (by decide), View.ld_unit_lit _ _ (by decide)]
  isplitl [H8]
  · iexists _; isplitr; swap; · iexact H8
    ipureintro
    exact h8.read_unread _
  isplitl [HT0]; · iexact HT0
  iexact HT1

set_option maxHeartbeats 2000000 in
/-- The expert of the block before and a block not in use: the output is zero, the scratch buffer stays. -/
theorem same_unused (hc : ¬Changed (F := F) i T0) (hu : ¬Used (F := F) i T1) (hn : Unused (F := F) i T1) :
    Runs c i a4 h4 a5 h5 a6 h6 a7 h7 a8 h8 x w g s T0 T1 s k0_pay3 := by
  intro E K
  simp only [cc0_moe_down_eq_skeleton]; unfold cc0_moe_down_skel
  unfold owns
  iintro ⟨⟨%f4, %e4, H4⟩, ⟨%f5, %e5, H5⟩, ⟨%f6, %e6, H6⟩, ⟨%d7, %f7, -, H7⟩, ⟨%f8, %e8, H8⟩, HT0, HT1, Hk⟩
  obtain rfl := h4.eq_unread e4; obtain rfl := h5.eq_unread e5; obtain rfl := h6.eq_unread e6; obtain rfl := h8.eq_unread e8
  sl_exec (disch := first | sl_exact hc | sl_exact hu | sl_exact hn)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    exact Cert.Store.read_stored _ _ _ _ _ (by decide)
  isplitl [H8]
  · iexists _; isplitr; swap; · iexact H8
    ipureintro
    exact h8.read_unread _
  isplitl [HT0]; · iexact HT0
  iexact HT1

/-- All four paths in one: a point whose expert changes, or whose scratch buffer already holds its expert's rounded weights, leaves them there,
    and the output at their scaled product with the rows or, the block not in use, at zero. -/
theorem runs (hk : Changed (F := F) i T0 ∨ s = k0_pay1 w) :
    Runs c i a4 h4 a5 h5 a6 h6 a7 h7 a8 h8 x w g s T0 T1 (k0_pay1 w)
      (if ((row i).val : ℤ) < ((show S1.Idx → BitVec 32 from T1) (ix1 0)).toInt then k0_pay2 x (k0_pay1 w) g else k0_pay3) := by
  by_cases hu : ((row i).val : ℤ) < ((show S1.Idx → BitVec 32 from T1) (ix1 0)).toInt
  · have hu' : Used (F := F) i T1 := (used_iff i T1).mpr hu
    have hn' : ¬Unused (F := F) i T1 := fun h => (unused_iff i T1).mp h hu
    rw [if_pos hu]
    by_cases hc : Changed (F := F) i T0
    · exact changed_used c i a4 h4 a5 h5 a6 h6 a7 h7 a8 h8 x w g s T0 T1 hc hu' hn'
    · obtain rfl := hk.resolve_left hc
      exact same_used c i a4 h4 a5 h5 a6 h6 a7 h7 a8 h8 x w g _ T0 T1 hc hu' hn'
  · have hu' : ¬Used (F := F) i T1 := fun h => hu ((used_iff i T1).mp h)
    have hn' : Unused (F := F) i T1 := (unused_iff i T1).mpr hu
    rw [if_neg hu]
    by_cases hc : Changed (F := F) i T0
    · exact changed_unused c i a4 h4 a5 h5 a6 h6 a7 h7 a8 h8 x w g s T0 T1 hc hu' hn'
    · obtain rfl := hk.resolve_left hc
      exact same_unused c i a4 h4 a5 h5 a6 h6 a7 h7 a8 h8 x w g _ T0 T1 hc hu' hn'

end

end Cert.MoeDownIdeal.Steps

end
-- ==== Proof.MoeDownIdealFrame.lean ====
/- The expert down projection's launch, for any contents of the two tables that name blocks inside the arrays: what every grid point
   finds and leaves, the run of the whole kernel, and that the arguments end unchanged with every semaphore at zero. -/
module

public import proofs.«01_k».proof.Proof.MoeDownIdealRun
public import Idealize.ShloMosaic.Lib.Claim

@[expose] public section

set_option maxRecDepth 16384

noncomputable section

namespace Cert.MoeDownIdeal.Steps

open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the kernel's start, and the tables in it -/

/-- A core's buffers when the kernel starts: as launched, nothing runs before it. -/
abbrev V (c : Dev nD) (b : Ref sig .tc) : Buf (Elt F) ((c : Thread nD τ).loc b) := m ((c : Thread nD τ).loc b)

set_option maxHeartbeats 800000 in
/-- The program up to the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents at the kernel's start, the same on every device: there is one. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The two tables at their shapes: the expert of every block of rows, and the number of blocks in use. -/
def expertT : S40.Idx → BitVec 32 := tbl m 0
def inUseT : S1.Idx → BitVec 32 := tbl m 1

/-- Every block the tables name lies inside its array; and the kernel at tables of which that holds. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, one by one. -/
theorem PhiT_eq (c : Dev nD) : (Pipeline.ΦT pre0 (tbl m) c : sProp 𝕄) = iprop(Half c experts (expertT m) ∗ Half c inUse (inUseT m)) := by
  unfold Pipeline.ΦT Pipeline.prefHeld
  rw [show (Finset.univ : Finset (Fin 2)) = insert (0 : Fin 2) {(1 : Fin 2)} from by decide, bigSep_insert (by decide), bigSep_singleton]
  rfl

/-- The scratch buffer for the rounded weights, and what the launch hands the kernel of it. -/
abbrev scratch : Memref sig .tc .vmem S4096x512 .bf16 := Memref.whole cc0_scratch0
theorem PhiA_eq (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; try rfl

/-! ## The windows -/

/-- Window `w`'s block at point `t`, as the kernel finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The three input blocks of a point at their shapes: rows, weights and the rows' scales. -/
abbrev rowsAt (hO : Ok m) (c : Dev nD) (t : Fin (cfgM m hO).N) : Vec F S512x4096 .bf16 := iblk m hO c 0 t
abbrev weightsAt (hO : Ok m) (c : Dev nD) (t : Fin (cfgM m hO).N) : Vec F S1x4096x512 .f32 := iblk m hO c 1 t
abbrev scalesAt (hO : Ok m) (c : Dev nD) (t : Fin (cfgM m hO).N) : Vec F S512x1 .f32 := iblk m hO c 2 t

/-- The block a point leaves in the result: the scaled product of its rows with its expert's rounded weights, or zero. -/
def leaves (hO : Ok m) (c : Dev nD) (t : Fin (cfgM m hO).N) : Vec F S512x512 .f32 :=
  if ((row (grid0.coords t)).val : ℤ) < (inUseT m (ix1 0)).toInt then
    k0_pay2 (rowsAt m hO c t) (k0_pay1 (weightsAt m hO c t)) (scalesAt m hO c t)
  else k0_pay3

/-- The result window has a point's block stored at every point: a block of rows is in use or it is not. -/
theorem stored (hO : Ok m) (t : Fin (cfgM m hO).N) : (cfgM m hO).idle 3 (grid0.coords t) = false := by
  have hd : (tbl m).atD 1 ![0] = count (F := F) (inUseT m) := by
    refine Eq.trans ?_ (count_eq (F := F) (inUseT m)).symm
    unfold Pipeline.Prefetch.Contents.atD
    refine (dif_pos (by decide)).trans ?_
    refine congrArg (inUseT m) (funext fun a => Fin.ext ?_)
    obtain rfl : a = (0 : Fin 1) := Subsingleton.elim (α := Fin 1) _ _
    rfl
  show (!(k0_cond2 (grid0.coords t) ((tbl m).atD 1 ![0]) == 1#1) && !(k0_cond3 (grid0.coords t) ((tbl m).atD 1 ![0]) == 1#1)) = false
  rw [hd]
  by_cases hu : ((row (grid0.coords t)).val : ℤ) < (inUseT m (ix1 0)).toInt
  · rw [show k0_cond2 (grid0.coords t) (count (F := F) (inUseT m)) = 1#1 from (used_iff (F := F) _ _).mpr hu]; rfl
  · rw [show k0_cond3 (grid0.coords t) (count (F := F) (inUseT m)) = 1#1 from (unused_iff (F := F) _ _).mpr hu, Bool.and_comm]; rfl

/-- The block index of the weights' window: the expert of the block of rows, and the column of blocks. -/
theorem weight_index (i : grid0.Coords) :
    cc0_transform_1 k0_off1_inb numel1_S1 (tbl m) i = ![(expertT m (ix1 (row i))).toNat, 0, (i 0).val] := by
  have h0 : (BitVec.ofNat 32 (i 0).val).toNat = (i 0).val := (by decide : ∀ n : Fin 8, (BitVec.ofNat 32 n.val).toNat = n.val) ⟨(i 0).val, (i 0).isLt⟩
  have e : ![(own (F := F) i (expertT m)).toNat, 0, (BitVec.ofNat 32 (i 0).val).toNat] = ![(expertT m (ix1 (row i))).toNat, 0, (i 0).val] := by
    rw [own_eq, h0]
  exact e

/-! ## What every point finds and leaves -/

/-- Between points the scratch buffer holds the rounded weights of the point before; before the first it holds anything. -/
def kept (hO : Ok m) (c : Dev nD) : (n : ℕ) → n ≤ (cfgM m hO).N → sProp 𝕄
  | 0, _ => Pipeline.ΦA spec0 c
  | n + 1, hn => iprop(owns (c : Thread nD τ) scratch fullShare (k0_pay1 (weightsAt m hO c ⟨n, hn⟩)) ∗ (∃ r, prngReg c r))

theorem kept_zero (hO : Ok m) (c : Dev nD) (n : ℕ) (h : n ≤ (cfgM m hO).N) (hz : n = 0) : kept m hO c n h = Pipeline.ΦA spec0 c := by
  subst hz; rfl
theorem kept_succ (hO : Ok m) (c : Dev nD) (n : ℕ) (hn : n < (cfgM m hO).N) :
    kept m hO c (n + 1) hn = iprop(owns (c : Thread nD τ) scratch fullShare (k0_pay1 (weightsAt m hO c ⟨n, hn⟩)) ∗ (∃ r, prngReg c r)) := rfl
/-- The point before one that is not the first. -/
abbrev pred (hO : Ok m) (t : Fin (cfgM m hO).N) : Fin (cfgM m hO).N := ⟨t.val - 1, Nat.lt_of_le_of_lt (Nat.sub_le _ _) t.isLt⟩
theorem kept_pos (hO : Ok m) (c : Dev nD) (t : Fin (cfgM m hO).N) (hz : t.val ≠ 0) :
    kept m hO c t.val (Nat.le_of_lt t.isLt) = iprop(owns (c : Thread nD τ) scratch fullShare (k0_pay1 (weightsAt m hO c (pred m hO t))) ∗ (∃ r, prngReg c r)) := by
  obtain ⟨n, hn⟩ := t
  cases n with
  | zero => exact absurd rfl hz
  | succ n => rfl

/-- The invariant between points: what is kept, and the tables. -/
def Phi (hO : Ok m) (c : Dev nD) (n : ℕ) (hn : n ≤ (cfgM m hO).N) : sProp 𝕄 := iprop(kept m hO c n hn ∗ Pipeline.ΦT pre0 (tbl m) c)

/-- The proof data: every input block stays, the result block is `leaves`, the scratch buffer is `kept`, the tables are held. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => leaves m hO c t
  Φ t := Phi m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = leaves m hO c t := by dsimp only [dats]; try rfl

/-- What a fetch of an input window puts in its buffer is the point's block, -/
theorem fetched_1 (hO : Ok m) (c : Dev nD) (t : Fin (cfgM m hO).N) (d) : (dats m hO 0 c).fetched 1 t d = iblk m hO c 1 t := by
  unfold Dat.fetched Dat.blockOf iblk; rw [A_eq]; try rfl
theorem fetched_2 (hO : Ok m) (c : Dev nD) (t : Fin (cfgM m hO).N) (d) : (dats m hO 0 c).fetched 2 t d = iblk m hO c 2 t := by
  unfold Dat.fetched Dat.blockOf iblk; rw [A_eq]; try rfl

/-- and an input window's buffer holds the point's block at every point, fetched there or before. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans (fetched_1 m hO c t d)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans (fetched_2 m hO c t d)

/-- Where the expert does not change, the weights' block is that of the point before. -/
theorem same_weights (hO : Ok m) (c : Dev nD) (t : Fin (cfgM m hO).N) (hc : ¬Changed (F := F) (grid0.coords t) (expertT m)) :
    weightsAt m hO c (pred m hO t) = weightsAt m hO c t := by
  rw [changed_iff, not_or, not_not] at hc
  obtain ⟨hz, he⟩ := hc
  have e0 : ∀ s : Fin grid0.N, (grid0.coords s 0).val = s.val / 40 % 8 := fun s => Pipeline.Grid.coords_val s 0 (by decide) rfl
  have e1 : ∀ s : Fin grid0.N, (grid0.coords s 1).val = s.val / 1 % 40 := fun s => Pipeline.Grid.coords_val s 1 (by decide) rfl
  have hz' : t.val / 1 % 40 ≠ 0 := by rw [← e1 t]; exact hz
  have hr : row (grid0.coords (pred m hO t)) = before (row (grid0.coords t)) := Fin.ext (by
    show (grid0.coords (pred m hO t) 1).val = (grid0.coords t 1).val - 1
    rw [e1, e1]
    show (t.val - 1) / 1 % 40 = t.val / 1 % 40 - 1
    omega)
  have hj : (grid0.coords (pred m hO t) 0).val = (grid0.coords t 0).val := by
    rw [e0, e0]
    show (t.val - 1) / 40 % 8 = t.val / 40 % 8
    omega
  have i1 : ((cfgM m hO).win 1).index (pred m hO t) = ((cfgM m hO).win 1).index t := by
    refine (weight_index m (grid0.coords (pred m hO t))).trans (Eq.trans ?_ (weight_index m (grid0.coords t)).symm)
    rw [hr, hj, he]
  exact (fetched_1 m hO c _ (fun _ => Classical.arbitrary _)).symm.trans (((dats m hO 0 c).fetched_congr 1 i1 rfl _).trans (fetched_1 m hO c t _))

/-! ## Every point's obligation -/

/-- The buffers in use at a point, at their shapes. -/
abbrev ms0 (hO : Ok m) (t : Fin (cfgM m hO).N) : Memref sig .tc .vmem S512x4096 .bf16 := spec0_0.stage ((cfgM m hO).slots t 0)
abbrev ms1 (hO : Ok m) (t : Fin (cfgM m hO).N) : Memref sig .tc .vmem S1x4096x512 .f32 := spec0_1.stage ((cfgM m hO).slots t 1)
abbrev ms2 (hO : Ok m) (t : Fin (cfgM m hO).N) : Memref sig .tc .vmem S512x1 .f32 := spec0_2.stage ((cfgM m hO).slots t 2)
abbrev ms3 (hO : Ok m) (t : Fin (cfgM m hO).N) : Memref sig .tc .vmem S512x512 .f32 := spec0_3.stage ((cfgM m hO).slots t 3)

/-- The body as a point runs it. -/
abbrev bodyAt (hO : Ok m) (t : Fin (cfgM m hO).N) : Prog (TpuEff nD τ sig (Elt F) Λ₀ .tc) PUnit :=
  cc0_moe_down (grid0.coords t) experts wholeExperts inUse wholeInUse
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    scratch (Memref.isWhole_whole _)

/-- What the body is called with at a point, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))
/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t)

theorem leaves_0 (hO : Ok m) (c : Dev nD) (t : Fin (cfgM m hO).N) :
    (dats m hO 0 c).leavesExact 0 t = owns (c : Thread nD τ) (ms0 m hO t) fullShare (rowsAt m hO c t) := by
  unfold Dat.leavesExact; rw [show (cfgM m hO).idle 0 (grid0.coords t) = false from rfl]
  exact congrArg (owns (c : Thread nD τ) (ms0 m hO t) fullShare) (after_0 m hO c t)
theorem leaves_1 (hO : Ok m) (c : Dev nD) (t : Fin (cfgM m hO).N) :
    (dats m hO 0 c).leavesExact 1 t = owns (c : Thread nD τ) (ms1 m hO t) fullShare (weightsAt m hO c t) := by
  unfold Dat.leavesExact; rw [show (cfgM m hO).idle 1 (grid0.coords t) = false from rfl]
  exact congrArg (owns (c : Thread nD τ) (ms1 m hO t) fullShare) (after_1 m hO c t)
theorem leaves_2 (hO : Ok m) (c : Dev nD) (t : Fin (cfgM m hO).N) :
    (dats m hO 0 c).leavesExact 2 t = owns (c : Thread nD τ) (ms2 m hO t) fullShare (scalesAt m hO c t) := by
  unfold Dat.leavesExact; rw [show (cfgM m hO).idle 2 (grid0.coords t) = false from rfl]
  exact congrArg (owns (c : Thread nD τ) (ms2 m hO t) fullShare) (after_2 m hO c t)
theorem leaves_3 (hO : Ok m) (c : Dev nD) (t : Fin (cfgM m hO).N) :
    (dats m hO 0 c).leavesExact 3 t = owns (c : Thread nD τ) (ms3 m hO t) fullShare (leaves m hO c t) := by
  unfold Dat.leavesExact; rw [stored m hO t]
  exact congrArg (owns (c : Thread nD τ) (ms3 m hO t) fullShare) (after_3 m hO c t)

/-- The invariant before and after a point. -/
theorem Phi_before (hO : Ok m) (c : Dev nD) (t : Fin (cfgM m hO).N) :
    (dats m hO 0 c).Φ t.castSucc = iprop(kept m hO c t.val (Nat.le_of_lt t.isLt) ∗ Pipeline.ΦT pre0 (tbl m) c) := by
  dsimp only [dats]; exact Pipeline.Dat.Φ_castSucc (Phi m hO c) t
theorem Phi_after (hO : Ok m) (c : Dev nD) (t : Fin (cfgM m hO).N) :
    (dats m hO 0 c).Φ t.succ = iprop(iprop(owns (c : Thread nD τ) scratch fullShare (k0_pay1 (weightsAt m hO c t)) ∗ (∃ r, prngReg c r)) ∗ Pipeline.ΦT pre0 (tbl m) c) := by
  dsimp only [dats]; rfl

/-- The first point's expert counts as changed. -/
theorem first_changed (t : Fin grid0.N) (hz : t.val = 0) : Changed (F := F) (grid0.coords t) (expertT m) := by
  rw [changed_iff]
  have e1 : (grid0.coords t 1).val = t.val / 1 % 40 := Pipeline.Grid.coords_val t 1 (by decide) rfl
  exact Or.inl (e1.trans (by rw [hz]))

set_option maxHeartbeats 1600000 in
/-- The body at any point: it finds its blocks and what the point before kept, and leaves the point's result and its weights. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2]
  rw [show (dats m hO 0 c).owesAt () t.succ = (dats m hO 0 c).owesAt () t.castSucc from rfl,
    leaves_0, leaves_1, leaves_2, leaves_3, Phi_before, Phi_after, PhiT_eq]
  by_cases hz : t.val = 0
  · rw [kept_zero m hO c _ _ hz, PhiA_eq]
    iintro ⟨⟨⟨⟨%s0, HS0⟩, Hg⟩, ⟨HT0, HT1⟩⟩, Ho, ⟨%d0, H0⟩, ⟨%d1, H1⟩, ⟨%d2, H2⟩, ⟨%d3, H3⟩⟩
    iapply (runs c (grid0.coords t) _ _ _ _ _ _ _ _ _ _ (rowsAt m hO c t) (weightsAt m hO c t) (scalesAt m hO c t) s0 (expertT m) (inUseT m)
      (Or.inl (first_changed m t hz)) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, H3, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    isplitl [H2]; · iexact H2
    iexact H3
  · have hk : Changed (F := F) (grid0.coords t) (expertT m)
        ∨ k0_pay1 (weightsAt m hO c (pred m hO t)) = k0_pay1 (weightsAt m hO c t) := by
      by_cases hc : Changed (F := F) (grid0.coords t) (expertT m)
      · exact Or.inl hc
      · exact Or.inr (congrArg k0_pay1 (same_weights m hO c t hc))
    rw [kept_pos m hO c t hz]
    iintro ⟨⟨⟨HS0, Hg⟩, ⟨HT0, HT1⟩⟩, Ho, ⟨%d0, H0⟩, ⟨%d1, H1⟩, ⟨%d2, H2⟩, ⟨%d3, H3⟩⟩
    iapply (runs c (grid0.coords t) _ _ _ _ _ _ _ _ _ _ (rowsAt m hO c t) (weightsAt m hO c t) (scalesAt m hO c t) _ (expertT m) (inUseT m)
      hk Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, H3, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    isplitl [H2]; · iexact H2
    iexact H3

/-- The pipeline's row of the body table at a point is the body as the point runs it. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; try rfl

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

/-- What the launch hands the kernel is the invariant before the first point, and the one after the last gives it back. -/
theorem hin (hO : Ok m) (c : Dev nD) : iprop(Pipeline.ΦA spec0 c ∗ Pipeline.ΦT pre0 (tbl m) c) ⊢ (dats m hO 0 c).Φ 0 :=
  Idealize.SL.BI.Entails.refl _
theorem hout (hO : Ok m) (c : Dev nD) : (dats m hO 0 c).Φ (Fin.last (cfgM m hO).N) ⊢ Pipeline.ΦA spec0 c := by
  have hN : (cfgM m hO).N = 319 + 1 := N_0
  have e : (dats m hO 0 c).Φ (Fin.last (cfgM m hO).N) = iprop(kept m hO c (cfgM m hO).N le_rfl ∗ Pipeline.ΦT pre0 (tbl m) c) := by
    dsimp only [dats]; rfl
  have e' : kept m hO c (cfgM m hO).N le_rfl = kept m hO c (319 + 1) (Nat.le_of_eq hN.symm) := by congr 1
  rw [e, e', kept_succ m hO c 319 (lt_of_lt_of_eq (by decide) hN.symm), PhiA_eq]
  iintro ⟨⟨HS0, Hg⟩, -⟩
  isplitl [HS0]
  · iexists _; iexact HS0
  iexact Hg

/-- What a run ends with: every array at the blocks its points left, everything else as it was. -/
abbrev Ends (hO : Ok m) (r : PUnit × MemSt nD τ sig (Elt F)) : Prop :=
  Pipeline.FramePost (Pipeline.pin pcfgs fun _ => adm m hO) (dats m hO) 0 (V m) r

set_option backward.isDefEq.respectTransparency.types false in
/-- The whole kernel, from any memory whose tables name blocks inside the arrays. -/
theorem run_main (hO : Ok m) : θ_run defs (onTc (τ := τ) (main (F := F))) (s₀ m ρ) (fun r => Ends m hO r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The arguments at a run's end: unchanged. -/
theorem kept_args (hO : Ok m) (r : PUnit × MemSt nD τ sig (Elt F)) (h : Ends m hO r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m hO 0 c).arrAt_in 0 rfl _).trans (A_eq m hO c 0)),
    ((h c).1 1).trans (((dats m hO 0 c).arrAt_in 1 rfl _).trans (A_eq m hO c 1)),
    ((h c).1 2).trans (((dats m hO 0 c).arrAt_in 2 rfl _).trans (A_eq m hO c 2)),
    (h c).2 main_arg3 (by decide : main_arg3 ∈ Pipeline.restRefs sig spec0),
    (h c).2 main_arg4 (by decide : main_arg4 ∈ Pipeline.restRefs sig spec0)⟩

/-- The frame: the arguments end unchanged, with every semaphore at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept_args m hO r h.1 c, h.2⟩) (run_main m ρ hO)

/-- The value: the result array at a run's end is the blocks the points left in it, and the arguments are unchanged. -/
theorem value_run (hO : Ok m) : θ_run defs (onTc (τ := τ) (main (F := F))) ⟨m, fun _ => 0, ρ⟩ (fun r => ∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 3, kept_args m hO r h.1 c⟩) (run_main m ρ hO)

end Cert.MoeDownIdeal.Steps

end
-- ==== Proof.MoeDownIdealOk.lean ====
/- Tables that meet the precondition name blocks inside the expert down projection's arrays. -/
module

public import proofs.«01_k».proof.Proof.MoeDownIdealFrame
public import proofs.«01_k».proof.Proof.MoeDownTables

@[expose] public section

set_option maxRecDepth 16384

noncomputable section

namespace Cert.MoeDownIdeal.Steps

open Cert.MoeDownIdeal Cert.MoeDownIdeal.Gen
open Idealize.ShloMosaic Idealize.ShloMosaic.TcCoe
open Cert.Tables

variable {F : FTy → Type} [FloatOps F]
variable (m : (ℓ : Loc nD τ sig) → Buf (Elt F) ℓ)

/-- The block index of the windows of the rows and of their scales: the block of rows, or the last one in use where that is not in use. -/
theorem rows_index (i : grid0.Coords) :
    cc0_transform_0 inb_S1_S1_0 numel1_S1 (tbl m) i
      = ![(Scalar.minsi (BitVec.ofNat 32 (row i).val) (Scalar.subi (inUseT m (ix1 0)) 1#32)).toNat, 0]
    ∧ cc0_transform_2 inb_S1_S1_0 numel1_S1 (tbl m) i
      = ![(Scalar.minsi (BitVec.ofNat 32 (row i).val) (Scalar.subi (inUseT m (ix1 0)) 1#32)).toNat, 0] := by
  have e : ![(Scalar.minsi (BitVec.ofNat 32 (row i).val) (Scalar.subi (count (F := F) (inUseT m)) 1#32)).toNat, 0]
      = ![(Scalar.minsi (BitVec.ofNat 32 (row i).val) (Scalar.subi (inUseT m (ix1 0)) 1#32)).toNat, 0] := by rw [count_eq]
  exact ⟨e, e⟩

/-- The tables that meet the precondition. -/
theorem ok_of_good (h : Good (expertT m) (inUseT m)) : Ok m := by
  have hlast : ∀ i : grid0.Coords, (i 0).val < 8 := fun i => (i 0).isLt
  refine ⟨fun i => ?_, fun i => ?_, fun i => ?_⟩
  · have hb : ∀ a, (cc0_transform_0 inb_S1_S1_0 numel1_S1 (tbl m) i a + 1) * S512x4096.size a ≤ S20480x4096.size a := by
      rw [(rows_index m i).1]
      have hc := clamp_lt (row i) _ h.2
      intro a
      fin_cases a
      · show ((Scalar.minsi (BitVec.ofNat 32 (row i).val) (Scalar.subi (inUseT m (ix1 0)) 1#32)).toNat + 1) * 512 ≤ 20480
        omega
      · show (0 + 1) * 4096 ≤ 4096
        omega
    exact ⟨hb, .inr (Affine.block_words_dvd (of_decide_eq_true rfl) (by decide))⟩
  · have hb : ∀ a, (cc0_transform_1 k0_off1_inb numel1_S1 (tbl m) i a + 1) * S1x4096x512.size a ≤ S8x4096x4096.size a := by
      rw [weight_index m i]
      obtain ⟨e, he⟩ := h.1 (row i)
      have hn : (BitVec.ofNat 32 e.val).toNat = e.val := by rw [BitVec.toNat_ofNat]; omega
      rw [he, hn]
      have := hlast i
      intro a
      fin_cases a
      · show (e.val + 1) * 1 ≤ 8
        omega
      · show (0 + 1) * 4096 ≤ 4096
        omega
      · show ((i 0).val + 1) * 512 ≤ 4096
        omega
    exact ⟨hb, .inl rfl⟩
  · have hb : ∀ a, (cc0_transform_2 inb_S1_S1_0 numel1_S1 (tbl m) i a + 1) * S512x1.size a ≤ S20480x1.size a := by
      rw [(rows_index m i).2]
      have hc := clamp_lt (row i) _ h.2
      intro a
      fin_cases a
      · show ((Scalar.minsi (BitVec.ofNat 32 (row i).val) (Scalar.subi (inUseT m (ix1 0)) 1#32)).toNat + 1) * 512 ≤ 20480
        omega
      · show (0 + 1) * 1 ≤ 1
        omega
    exact ⟨hb, .inl rfl⟩

end Cert.MoeDownIdeal.Steps

end
-- ==== Proof.MoeDownArray.lean ====
/- The kernel's expert down products, entry by entry: at a row in use, the product with its expert's weights times the row's scale; else
   zero. -/
module

public import proofs.«01_k».proof.Proof.MoeDownIdealOk
public import proofs.«01_k».proof.Proof.Dense
public import Idealize.ShloMosaic.Lib.Pointwise

@[expose] public section

set_option maxRecDepth 16384

noncomputable section

namespace Cert.MoeDownIdeal.Scaled

open Cert.MoeDownIdeal Cert.MoeDownIdeal.Gen Cert.MoeDownIdeal.Steps
open Idealize.ShloMosaic Idealize.ShloMosaic.TcCoe Idealize.ShloMosaic.Tactic
open Idealize.ShloMosaic.Pipeline (Dat)
open Cert.Dense Cert.Tables
open scoped BigOperators

/-- One entry of the block a point with rows in use leaves. -/
theorem block_at (x : Vec Ideal S512x4096 .bf16) (w : Vec Ideal S1x4096x512 .f32) (g : Vec Ideal S512x1 .f32) (r d : Fin 512) :
    k0_pay2 x (k0_pay1 w) g (ix2 r d) = (∑ k : Fin 4096, x (ix2 r k) * w (ix3 0 k d)) * g (ix2 r 0) := by
  pointwise [k0_pay1, k0_pay2]

/-- One entry of the block any other point leaves. -/
theorem zero_at (r d : Fin 512) : k0_pay3 (F := Ideal) (ix2 r d) = 0 := by
  pointwise [k0_pay3]

variable (m : (ℓ : Loc nD τ sig) → Buf (Elt Ideal) ℓ) (c : Dev nD)

/-- The rows, the weights and the rows' scales on a device. -/
abbrev rows : FVec Ideal S20480x4096 .bf16 := m ((c.tc : Thread nD τ).loc main_arg0)
abbrev weights : FVec Ideal S8x4096x4096 .f32 := m ((c.tc : Thread nD τ).loc main_arg1)
abbrev scales : FVec Ideal S20480x1 .f32 := m ((c.tc : Thread nD τ).loc main_arg2)

/-- The expert of a block of rows, as a number below eight, and the block of a row. -/
def expert (n : Fin 40) : Fin 8 := ⟨(expertT m (ix1 n)).toNat % 8, Nat.mod_lt _ (by decide)⟩
abbrev block (r : Fin 20480) : Fin 40 := ⟨r.val / 512, by omega⟩

/-- An entry of the result. -/
def entry (r : Fin 20480) (d : Fin 4096) : EReal :=
  if ((block r).val : ℤ) < (inUseT m (ix1 0)).toInt then
    (∑ k : Fin 4096, rows m c (ix2 r k) * weights m c (ix3 (expert m (block r)) k d)) * scales m c (ix2 r 0)
  else 0

variable (hO : Ok m)

/-! The block each window reads or writes at a grid point. -/

theorem coord0 (t : Fin grid0.N) : (grid0.coords t 0).val = t.val / 40 % 8 := Pipeline.Grid.coords_val t 0 (by decide) rfl
theorem coord1 (t : Fin grid0.N) : (grid0.coords t 1).val = t.val % 40 := by
  have h : (grid0.coords t 1).val = t.val / 1 % 40 := Pipeline.Grid.coords_val t 1 (by decide) rfl
  rw [h, Nat.div_one]

theorem idx0 (t : Fin (cfgM m hO).N) (hu : ((row (grid0.coords t)).val : ℤ) < (inUseT m (ix1 0)).toInt) :
    ((cfgM m hO).win 0).index t = ![t.val % 40, 0] := by
  refine (rows_index m (grid0.coords t)).1.trans ?_
  rw [clamp_eq _ _ hu]
  exact congrArg (fun z => ![z, 0]) (coord1 t)
theorem idx1 (hg : Good (expertT m) (inUseT m)) (t : Fin (cfgM m hO).N) :
    ((cfgM m hO).win 1).index t = ![(expert m (row (grid0.coords t))).val, 0, t.val / 40 % 8] := by
  refine (weight_index m (grid0.coords t)).trans ?_
  rw [coord0 t]
  obtain ⟨e, he⟩ := hg.1 (row (grid0.coords t))
  have hn : (BitVec.ofNat 32 e.val).toNat = e.val := by rw [BitVec.toNat_ofNat]; omega
  have hlt : (expertT m (ix1 (row (grid0.coords t)))).toNat < 8 := by rw [he, hn]; exact e.isLt
  exact congrArg (fun z => ![z, 0, t.val / 40 % 8]) (Nat.mod_eq_of_lt hlt).symm
theorem idx2 (t : Fin (cfgM m hO).N) (hu : ((row (grid0.coords t)).val : ℤ) < (inUseT m (ix1 0)).toInt) :
    ((cfgM m hO).win 2).index t = ![t.val % 40, 0] := by
  refine (rows_index m (grid0.coords t)).2.trans ?_
  rw [clamp_eq _ _ hu]
  exact congrArg (fun z => ![z, 0]) (coord1 t)
theorem idx3 (t : Fin (cfgM m hO).N) : ((cfgM m hO).win 3).index t = ![t.val % 40, t.val / 40 % 8] := by
  have h : ∀ i : grid0.Coords, cc0_transform_3 i = ![(i 1).val, (i 0).val] := fun i => by
    have h0 := (i 0).isLt
    have h1 := (i 1).isLt
    unfold cc0_transform_3
    dsimp only
    rw [BitVec.toNat_ofNat, BitVec.toNat_ofNat, Nat.mod_eq_of_lt (lt_trans h0 (by decide)), Nat.mod_eq_of_lt (lt_trans h1 (by decide))]
  refine (h (grid0.coords t)).trans ?_
  rw [coord0 t, coord1 t]

/-- Every point's block is written back: the next point's is another. -/
theorem flushes (t : Fin (cfgM m hO).N) : ((cfgM m hO).win 3).flush t = true :=
  ((fun t => (Pipeline.Window.flushOf_reads cc0_transform_3 reads0_3 hreads0_3 1 (by decide) (by decide)
    (Pipeline.Window.sep_of_coord cc0_transform_3 1 0 (fun _ => rfl) (by decide)) (P := 1) (m := 0) (by decide) rfl t).mpr (Nat.mod_one _)
    : ∀ t : Fin grid0.N, Pipeline.Window.flushOf grid0 true cc0_transform_3 t = true) t)

/-- The output blocks fill the array. -/
theorem covers : ((cfgM m hO).win 3).Covers := by
  refine ⟨fun (a : Fin 2) => ?_, fun β => ?_⟩
  · fin_cases a <;> exact (by decide : 0 < 512)
  · obtain ⟨b0, h0⟩ : ∃ b : Fin 40, b.val = (β (0 : Fin 2)).val :=
      ⟨⟨(β (0 : Fin 2)).val, lt_of_lt_of_eq (β (0 : Fin 2)).isLt (show (20480 + 512 - 1) / 512 = 40 from by decide)⟩, rfl⟩
    obtain ⟨b1, h1⟩ : ∃ b : Fin 8, b.val = (β (1 : Fin 2)).val :=
      ⟨⟨(β (1 : Fin 2)).val, lt_of_lt_of_eq (β (1 : Fin 2)).isLt (show (4096 + 512 - 1) / 512 = 8 from by decide)⟩, rfl⟩
    have hN : (cfgM m hO).N = 320 := N_0
    refine ⟨⟨b1.val * 40 + b0.val, lt_of_lt_of_eq (show b1.val * 40 + b0.val < 320 by omega) hN⟩, flushes m hO _, fun (a : Fin 2) => ⟨?_, .inl rfl⟩⟩
    rw [idx3]
    fin_cases a
    · refine Eq.trans ?_ h0
      show (b1.val * 40 + b0.val) % 40 = b0.val
      omega
    · refine Eq.trans ?_ h1
      show (b1.val * 40 + b0.val) / 40 % 8 = b1.val
      omega

/-- The whole result. -/
def whole : S20480x4096.Idx → EReal := fun i => entry m c (i 0) (i 1)

/-- The array after the run. -/
theorem final (hg : Good (expertT m) (inUseT m)) : (dats m hO 0 c).arrAt 3 (cfgM m hO).N = whole m c := by
  refine (dats m hO 0 c).arrAt_eq_of_covers 3 _ (covers m hO) fun t hf y => ?_
  blk_simp
  rw [after_3]
  obtain ⟨r, d, rfl⟩ : ∃ (r : Fin 512) (d : Fin 512), y = ix2 r d := ⟨(show S512x512.Idx from y) 0, (show S512x512.Idx from y) 1, eq_ix2 (show S512x512.Idx from y)⟩
  have hN : t.val < 320 := lt_of_lt_of_eq t.isLt N_0
  obtain ⟨R, hR⟩ : ∃ R : Fin 20480, R.val = t.val % 40 * 512 + r.val := ⟨⟨t.val % 40 * 512 + r.val, by omega⟩, rfl⟩
  obtain ⟨D, hD⟩ : ∃ D : Fin 4096, D.val = t.val / 40 % 8 * 512 + d.val := ⟨⟨t.val / 40 % 8 * 512 + d.val, by omega⟩, rfl⟩
  have hemb : (((cfgM m hO).win 3).blk t).view.emb (ix2 r d) = ix2 R D := by
    blk_ext [idx3 m hO t, hR, hD]
  have hb : row (grid0.coords t) = block R := Fin.ext ((coord1 t).trans (by show t.val % 40 = R.val / 512; omega))
  refine Eq.trans ?_ (congrArg (whole m c) hemb).symm
  show leaves m hO c t (ix2 r d) = entry m c R D
  unfold entry leaves
  rw [← hb]
  by_cases hu : ((row (grid0.coords t)).val : ℤ) < (inUseT m (ix1 0)).toInt
  · rw [if_pos hu, if_pos hu]
    refine Eq.trans (block_at _ _ _ r d) (congrArg₂ (· * ·) (dot_congr (fun k => ?_) fun k => ?_) ?_)
    · blk_ext [rowsAt, iblk, V, idx0 m hO t hu, hR]
    · blk_ext [weightsAt, iblk, V, idx1 m hO hg t, hD]
    · blk_ext [scalesAt, iblk, V, idx2 m hO t hu, hR]
  · rw [if_neg hu, if_neg hu]
    exact zero_at r d

end Cert.MoeDownIdeal.Scaled

end
-- ==== Proof.MoeDownRef.lean ====
/- The reference's expert down products, entry by entry: at a row in use, the product with its expert's weights times the row's scale; else
   zero. -/
module

public import proofs.«01_k».proof.Proof.Gen.MoeDownRefIdeal.Run
public import Idealize.ShloMosaic.Lib.Pointwise
public import proofs.«01_k».proof.Proof.Dense

@[expose] public section

set_option maxRecDepth 16384

noncomputable section

namespace Cert.MoeDownRefIdeal.Scaled

open Cert.MoeDownRefIdeal Cert.MoeDownRefIdeal.Gen Idealize.ShloMosaic Idealize.ShloMosaic.TcCoe Idealize.SL.Sem
open Cert.Dense Facts
open scoped BigOperators

/-- The product of the rows with every expert's weights. -/
def product (x : FVec Ideal S20480x4096 .bf16) (w : FVec Ideal S8x4096x4096 .f32) : FVec Ideal S20480x8x4096 .f32 :=
  Host.dotGeneral dot_S20480x4096_S8x4096x4096_S20480x8x4096_1_1_0_02_n_n none (extf .f32 x bitsLt_bf16_f32) w

/-- An array of zeros. -/
def zeros : FVec Ideal S20480x8x4096 .f32 := broadcastInDim S20480x8x4096 ![] bcast_S_S20480x8x4096 (id (constant S_ .f32 0x00000000#32))

/-- The number of every row's block. -/
def blockOf : IVec S20480 32 := shapeCast _ (broadcastInDim S40x512 ![0] bcast_S40_S40x512_0 (iotaInDim S40 32 0)) shapeCasts_S40x512_S20480
/-- The expert of every row. -/
def expertOf (be : IVec S40 32) : IVec S20480 32 := shapeCast _ (broadcastInDim S40x512 ![0] bcast_S40_S40x512_0 be) shapeCasts_S40x512_S20480

/-- Where an expert is the row's. -/
def mine (be : IVec S40 32) : IVec S20480x8x4096 1 :=
  broadcastInDim S20480x8x4096 ![0, 1, 2] bcast_S20480x8x1_S20480x8x4096_0_1_2 (broadcastInDim S20480x8x1 ![0, 1] bcast_S20480x8_S20480x8x1_0_1
    (cmpi .eq (broadcastInDim S20480x8 ![0, 1] bcast_S20480x1_S20480x8_0_1 (broadcastInDim S20480x1 ![0] bcast_S20480_S20480x1_0 (expertOf be)))
      (broadcastInDim S20480x8 ![0, 1] bcast_S1x8_S20480x8_0_1 (broadcastInDim S1x8 ![1] bcast_S8_S1x8_1 (iotaInDim S8 32 0)))))

/-- Where a row's block is in use. -/
def used (nu : IVec S1 32) : IVec S20480x4096 1 :=
  broadcastInDim S20480x4096 ![0, 1] bcast_S20480x1_S20480x4096_0_1 (broadcastInDim S20480x1 ![0] bcast_S20480_S20480x1_0
    (cmpi .slt blockOf (broadcastInDim S20480 ![0] bcast_S1_S20480_0 nu)))

/-- The sum over the experts of the chosen entries. -/
def chosen (y : FVec Ideal S20480x8x4096 .f32) (be : IVec S40 32) : FVec Ideal S20480x4096 .f32 :=
  Host.reduceAdd (select (mine be) y zeros) (constant S_ .f32 0x00000000#32) reducesTo_S20480x8x4096_S20480x4096_d1 h_S_

/-- The result. -/
def result (x : FVec Ideal S20480x4096 .bf16) (w : FVec Ideal S8x4096x4096 .f32) (g : FVec Ideal S20480x1 .f32) (be : IVec S40 32) (nu : IVec S1 32) :
    FVec Ideal S20480x4096 .f32 :=
  select (used nu) (mulf (broadcastInDim S20480x4096 ![0, 1] bcast_S20480x1_S20480x4096_0_1 g) (chosen (product x w) be))
    (broadcastInDim S20480x4096 ![] bcast_S_S20480x4096 (id (constant S_ .f32 0x00000000#32)))

/-- The block of a row. -/
abbrev block (r : Fin 20480) : Fin 40 := ⟨r.val / 512, by omega⟩

/-- One entry of a product. -/
theorem product_at (x : FVec Ideal S20480x4096 .bf16) (w : FVec Ideal S8x4096x4096 .f32) (r : Fin 20480) (e : Fin 8) (d : Fin 4096) :
    product x w (ix3 r e d) = ∑ k : Fin 4096, x (ix2 r k) * w (ix3 e k d) := by
  pointwise [product]

theorem expertOf_at (be : IVec S40 32) (r : Fin 20480) : expertOf be (ix1 r) = be (ix1 (block r)) := by
  pointwise [expertOf]

theorem blockOf_at (r : Fin 20480) : blockOf (ix1 r) = BitVec.ofNat 32 (block r).val := by
  pointwise [blockOf]

theorem mine_at (be : IVec S40 32) (r : Fin 20480) (e : Fin 8) (d : Fin 4096) :
    mine be (ix3 r e d) = BitVec.ofBool (be (ix1 (block r)) == BitVec.ofNat 32 e.val) := by
  rw [← expertOf_at be r]
  pointwise [mine]
  rfl

theorem used_at (nu : IVec S1 32) (r : Fin 20480) (d : Fin 4096) :
    used nu (ix2 r d) = BitVec.ofBool ((BitVec.ofNat 32 (block r).val).slt (nu (ix1 0))) := by
  rw [← blockOf_at]
  pointwise [used]
  rfl

theorem chosen_at (y : FVec Ideal S20480x8x4096 .f32) (be : IVec S40 32) (r : Fin 20480) (d : Fin 4096) :
    chosen y be (ix2 r d) = ∑ e : Fin 8, (if be (ix1 (block r)) = BitVec.ofNat 32 e.val then y (ix3 r e d) else 0) := by
  pointwise [chosen, mine_at, zeros, id_eq]
  exact Finset.sum_congr rfl fun e _ => if_congr beq_iff_eq rfl rfl

/-- One entry of the result, the experts' numbers being below eight: the scaled product with the row's own expert at a row in use, else zero. -/
theorem result_at (x : FVec Ideal S20480x4096 .bf16) (w : FVec Ideal S8x4096x4096 .f32) (g : FVec Ideal S20480x1 .f32) (be : IVec S40 32)
    (nu : IVec S1 32) (r : Fin 20480) (d : Fin 4096) (e : Fin 8) (he : be (ix1 (block r)) = BitVec.ofNat 32 e.val) :
    result x w g be nu (ix2 r d) = if ((block r).val : ℤ) < (nu (ix1 0)).toInt then
      (∑ k : Fin 4096, x (ix2 r k) * w (ix3 e k d)) * g (ix2 r 0) else 0 := by
  have hn : ∀ n : Fin 40, (BitVec.ofNat 32 n.val).toInt = (n.val : ℤ) := by decide
  have inj : ∀ a b : Fin 8, BitVec.ofNat 32 a.val = BitVec.ofNat 32 b.val ↔ a = b := by decide
  have hc : chosen (product x w) be (ix2 r d) = ∑ k : Fin 4096, x (ix2 r k) * w (ix3 e k d) := by
    rw [chosen_at, he]
    refine (Finset.sum_congr rfl fun e' _ => if_congr (inj e e') rfl rfl).trans ?_
    rw [Finset.sum_ite_eq, if_pos (Finset.mem_univ _), product_at]
  rw [← hc, ← hn, mul_comm]
  refine Eq.trans ?_ (if_congr BitVec.slt_iff_toInt_lt rfl rfl)
  pointwise [result, used_at, id_eq]

end Cert.MoeDownRefIdeal.Scaled

end
-- ==== Proof.MoeDownClaims.lean ====
/- What is claimed of the expert down projection, where the tables meet the precondition: the kernel runs and leaves its arguments as
   they were, and its result, over the extended reals, is the reference's. -/
module

public import proofs.«01_k».proof.Defs
public import proofs.«01_k».proof.Proof.MoeDownOk
public import proofs.«01_k».proof.Proof.MoeDownArray
public import proofs.«01_k».proof.Proof.MoeDownRef
public import Idealize.ShloMosaic.Lib.Quiescent

@[expose] public section

noncomputable section

namespace Cert.Proof

open Idealize.ShloMosaic Idealize.ShloMosaic.TcCoe Idealize.SL.Sem
open Cert.Tables

section
attribute [local instance] Cert.MoeDown.Gen.facts Cert.MoeDownIdeal.Gen.facts Cert.MoeDownRefIdeal.Gen.facts Cert.Tables.down_facts

/-- A memory that meets the precondition holds good tables. -/
theorem good_moedown (m : (ℓ : Loc Cert.MoeDown.nD Cert.MoeDown.τ Cert.MoeDown.sig) → Buf (Elt Bits) ℓ) (h : Cert.Pre_MoeDown m) :
    Good (Cert.MoeDown.Steps.expertT m) (Cert.MoeDown.Steps.inUseT m) := good_of_down _ _ _ _ _ (h 0)
theorem good_moedown_ideal (m : (ℓ : Loc Cert.MoeDownIdeal.nD Cert.MoeDownIdeal.τ Cert.MoeDownIdeal.sig) → Buf (Elt Ideal) ℓ) (h : Cert.Pre_MoeDownIdeal m) :
    Good (Cert.MoeDownIdeal.Steps.expertT m) (Cert.MoeDownIdeal.Steps.inUseT m) := good_of_down _ _ _ _ _ (h 0)

theorem moedown_frame : Cert.quiescent_MoeDown := fun m g h =>
  Cert.MoeDown.Steps.frame_run m g (Cert.MoeDown.Steps.ok_of_good m (good_moedown m h))
theorem moedown_ideal_frame : Cert.quiescent_MoeDownIdeal := fun m g h =>
  Cert.MoeDownIdeal.Steps.frame_run m g (Cert.MoeDownIdeal.Steps.ok_of_good m (good_moedown_ideal m h))
theorem moedown_reference_frame : Cert.quiescent_MoeDownRefIdeal := fun m g _ =>
  (θ_run Cert.MoeDownRefIdeal.defs _ _).mono (fun r h => ⟨fun c => (h c).2, sem_eq_zero_of_no_sems (by decide) r.2⟩)
    (Cert.MoeDownRefIdeal.Value.run (F := Ideal) m g)
theorem moedown_reference_frame_pre : Cert.quiescent_MoeDownRefIdeal_pre_down_tables := fun m g _ => moedown_reference_frame m g trivial

/-- Over the extended reals the expert down kernel's result is its reference's. -/
theorem moedown_value : Cert.algebraic_MoeDownIdeal_MoeDownRefIdeal := by
  intro m g m' g' hpre hagree
  have hg := good_moedown_ideal m hpre
  refine ⟨_, Cert.MoeDownIdeal.Steps.value_run m g (Cert.MoeDownIdeal.Steps.ok_of_good m hg),
    (θ_run Cert.MoeDownRefIdeal.defs _ _).mono (fun r h c => ⟨(h c).1.trans ?_, (h c).2⟩) (Cert.MoeDownRefIdeal.Value.run (F := Ideal) m' g')⟩
  obtain rfl : c = 0 := Subsingleton.elim _ _
  rw [(hagree 0).1, (hagree 0).2.1, (hagree 0).2.2.1, (hagree 0).2.2.2.1, (hagree 0).2.2.2.2, Cert.MoeDownIdeal.Scaled.final m 0 _ hg]
  funext i
  obtain ⟨r, d, rfl⟩ : ∃ (r : Fin 20480) (d : Fin 4096), i = ix2 r d := ⟨i 0, i 1, eq_ix2 i⟩
  refine Cert.MoeDownRefIdeal.Scaled.result_at _ _ _ _ _ r d (Cert.MoeDownIdeal.Scaled.expert m (Cert.MoeDownIdeal.Scaled.block r)) ?_
  obtain ⟨e, he⟩ := hg.1 (Cert.MoeDownIdeal.Scaled.block r)
  have hn : (BitVec.ofNat 32 e.val).toNat = e.val := by rw [BitVec.toNat_ofNat]; omega
  have hx : Cert.MoeDownIdeal.Scaled.expert m (Cert.MoeDownIdeal.Scaled.block r) = e := Fin.ext (by
    show (Cert.MoeDownIdeal.Steps.expertT m (ix1 (Cert.MoeDownIdeal.Scaled.block r))).toNat % 8 = e.val
    rw [he, hn, Nat.mod_eq_of_lt e.isLt])
  rw [hx]
  exact he

end

end Cert.Proof

end
-- ==== Proof.CombineIdealMoves.lean ====
/- The copies one grid point of the last sum makes: for each of its 128 tokens it brings two of the experts' rows, named by the table of
   positions, into its scratch buffer. Copy number `n` fills row `n / 2` of slot `n % 2`. -/
module

public import proofs.«01_k».proof.Proof.Gen.CombineIdeal.Launch
public import proofs.«01_k».proof.Proof.Gen.CombineIdeal.Skeleton
public import Idealize.ShloMosaic.Lib.Batch
public import Idealize.ShloMosaic.Lib.Ring
public import Idealize.ShloMosaic.Lib.Tactic
public import Idealize.ShloMosaic.Lib.ValueLayout
public import Idealize.ShloMosaic.Lib.Pipeline.FrameBody
public import Idealize.ShloMosaic.Lib.Pipeline.Frame
public import Idealize.ShloMosaic.Lib.Pipeline.ValueKit

@[expose] public section

set_option maxRecDepth 16384
set_option Elab.async false

noncomputable section

namespace Cert.CombineIdeal.Moves

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table of positions, the experts' rows, and the scratch buffer, as the body is handed them. -/
abbrev places : Memref sig .tc .smem S16384 .i32 := Memref.whole main_arg2
abbrev rows : Memref sig .tc .hbm S20480x4096 .f32 := Memref.whole main_arg1
abbrev pair : Memref sig .tc .vmem S2x128x4096 .f32 := Memref.whole cc0_scratch0
theorem wholePlaces : places.IsWhole := Memref.isWhole_whole _
theorem wholeRows : rows.IsWhole := Memref.isWhole_whole _
theorem wholePair : pair.IsWhole := Memref.isWhole_whole _

/-- The cell the copies are counted on, and what one copy adds to it. -/
abbrev cell : SemLoc sig := .dma cc0_scratch1.sem
abbrev credit : ℕ := 512

theorem trips1 : k0_t1_loop.trips = 128 := by decide
theorem trips2 : k0_t2_loop.trips = 128 := by decide

/-- The place in the table of copy `n`'s word. -/
def at' (i : grid0.Coords) (n : ℕ) : S16384.Idx := ix1 (Fin.ofNat 16384 (256 * (i 0).val + n))
/-- The word of copy `n`. -/
abbrev word (i : grid0.Coords) (T : S16384.Idx → BitVec 32) (n : ℕ) : BitVec 32 := T (at' i n)

/-- The words as the body loads them, for the first and the second copy of a trip. -/
abbrev loaded1 (i : grid0.Coords) (T : S16384.Idx → BitVec 32) (k : Fin k0_t1_loop.trips) : BitVec 32 :=
  View.readAt (Elt F) places.view (Rect.unit (s := S16384) (k0_off1 i k) S1.size (k0_off1_inb i k)).toLoadRect T
    (Shape.Idx.first (numel1_S1.symm ▸ Nat.one_pos))
abbrev loaded2 (i : grid0.Coords) (T : S16384.Idx → BitVec 32) (k : Fin k0_t1_loop.trips) : BitVec 32 :=
  View.readAt (Elt F) places.view (Rect.unit (s := S16384) (k0_off4 i k) S1.size (k0_off4_inb i k)).toLoadRect T
    (Shape.Idx.first (numel1_S1.symm ▸ Nat.one_pos))

theorem loaded1_eq (i : grid0.Coords) (T : S16384.Idx → BitVec 32) (k : Fin k0_t1_loop.trips) :
    loaded1 (F := F) i T k = word i T (2 * k.val) := by
  refine congrArg T (funext fun a => Fin.ext ?_)
  have hk : k.val < 128 := trips1 ▸ k.isLt
  have hi : (i 0).val < 64 := (i 0).isLt
  fin_cases a
  show k0_off1 i k 0 + 1 * 0 = (256 * (i 0).val + 2 * k.val) % 16384
  rw [k0_off1_eq]
  show 256 * (i 0).val + 2 * k.val + 1 * 0 = _
  omega
theorem loaded2_eq (i : grid0.Coords) (T : S16384.Idx → BitVec 32) (k : Fin k0_t1_loop.trips) :
    loaded2 (F := F) i T k = word i T (2 * k.val + 1) := by
  refine congrArg T (funext fun a => Fin.ext ?_)
  have hk : k.val < 128 := trips1 ▸ k.isLt
  have hi : (i 0).val < 64 := (i 0).isLt
  fin_cases a
  show k0_off4 i k 0 + 1 * 0 = (256 * (i 0).val + (2 * k.val + 1)) % 16384
  rw [k0_off4_eq]
  show 256 * (i 0).val + 2 * k.val + 1 + 1 * 0 = _
  omega

/-- Every word names one of the experts' rows. -/
def InRange (T : S16384.Idx → BitVec 32) : Prop := ∀ y, (T y).toNat < 20480

theorem chk1_of {v : BitVec 32} (h : v.toNat < 20480) : k0_chk1 v := by
  intro a; fin_cases a
  · show v.toNat + 1 ≤ 20480; omega
  · show 0 + 4096 ≤ 4096; omega
theorem chk2_of {v : BitVec 32} (h : v.toNat < 20480) : k0_chk2 v := by
  intro a; fin_cases a
  · show v.toNat + 1 ≤ 20480; omega
  · show 0 + 4096 ≤ 4096; omega

/-- The elements copy `n` fills, and the elements of the row a word names. -/
def filled (n : Fin 256) : Finset S2x128x4096.Idx := Finset.univ.filter fun y => (y 0).val = n.val % 2 ∧ (y 1).val = n.val / 2
def taken (w : BitVec 32) : Finset S20480x4096.Idx := Finset.univ.filter fun y => (y 0).val = w.toNat

theorem mem_filled (n : Fin 256) (y : S2x128x4096.Idx) : y ∈ filled n ↔ (y 0).val = n.val % 2 ∧ (y 1).val = n.val / 2 := by
  simp only [filled, Finset.mem_filter, Finset.mem_univ, true_and]
theorem mem_taken (w : BitVec 32) (y : S20480x4096.Idx) : y ∈ taken w ↔ (y 0).val = w.toNat := by
  simp only [taken, Finset.mem_filter, Finset.mem_univ, true_and]

theorem filled_disjoint : ∀ n n' : Fin 256, n ≠ n' → Disjoint (filled n) (filled n') := fun n n' hne => by
  rw [Finset.disjoint_left]; intro y hy hy'
  rw [mem_filled] at hy hy'
  exact hne (Fin.ext (by omega))
theorem filled_cover : Finset.univ.biUnion filled = Finset.univ := by
  ext y; simp only [Finset.mem_biUnion, Finset.mem_univ, true_and, iff_true]
  have h0 : (y 0).val < 2 := (y 0).isLt
  have h1 : (y 1).val < 128 := (y 1).isLt
  exact ⟨⟨2 * (y 1).val + (y 0).val, by omega⟩, (mem_filled _ _).mpr ⟨by show _ = (2 * (y 1).val + (y 0).val) % 2; omega, by show _ = (2 * (y 1).val + (y 0).val) / 2; omega⟩⟩

/-- The scratch buffer once every copy has landed. -/
def gathered (i : grid0.Coords) (T : S16384.Idx → BitVec 32) (Y : S20480x4096.Idx → Elt F .f32) : S2x128x4096.Idx → Elt F .f32 :=
  fun y => Y (ix2 (Fin.ofNat 20480 (word i T (2 * (y 1).val + (y 0).val)).toNat) (Fin.ofNat 4096 (y 2).val))

/-- Row `r` of slot `s` of the scratch buffer, and one of the experts' rows, as the body spells a copy's two ends. -/
abbrev target (off : Fin 3 → ℕ) (h : ∀ a, off a + S1x1x4096.size a ≤ S2x128x4096.size a) : Memref sig .tc .vmem S1x4096 .f32 :=
  (pair.slice (Rect.unit (s := S2x128x4096) off S1x1x4096.size h) (fun _ => rfl)).squeeze S1x4096 squeezes_S1x1x4096_S1x4096
abbrev source (off : Fin 2 → ℕ) (h : ∀ a, off a + S1x4096.size a ≤ S20480x4096.size a) : Memref sig .tc .hbm S1x4096 .f32 :=
  rows.slice (Rect.unit (s := S20480x4096) off S1x4096.size h) (fun _ => rfl)

theorem target_set (off : Fin 3 → ℕ) (h : ∀ a, off a + S1x1x4096.size a ≤ S2x128x4096.size a) (n : Fin 256)
    (ho : off = ![n.val % 2, n.val / 2, 0]) : (target off h).view.set = filled n := by
  subst ho
  refine ((View.set_reshape _ _).trans (View.set_slice_whole _ _)).trans ?_
  ext y
  rw [Rect.mem_set_unit, mem_filled]
  have h2 : (y 2).val < 4096 := (y 2).isLt
  constructor
  · intro H
    have a0 : n.val % 2 ≤ (y 0).val ∧ (y 0).val < n.val % 2 + 1 := H 0
    have a1 : n.val / 2 ≤ (y 1).val ∧ (y 1).val < n.val / 2 + 1 := H 1
    omega
  · intro H a; fin_cases a
    · show n.val % 2 ≤ (y 0).val ∧ (y 0).val < n.val % 2 + 1; omega
    · show n.val / 2 ≤ (y 1).val ∧ (y 1).val < n.val / 2 + 1; omega
    · show 0 ≤ (y 2).val ∧ (y 2).val < 0 + 4096; omega

theorem source_set (off : Fin 2 → ℕ) (h : ∀ a, off a + S1x4096.size a ≤ S20480x4096.size a) (w : BitVec 32)
    (ho : off = ![w.toNat, 0]) : (source off h).view.set = taken w := by
  subst ho
  refine (View.set_slice_whole _ _).trans ?_
  ext y
  rw [Rect.mem_set_unit, mem_taken]
  have h1 : (y 1).val < 4096 := (y 1).isLt
  constructor
  · intro H
    have a0 : w.toNat ≤ (y 0).val ∧ (y 0).val < w.toNat + 1 := H 0
    omega
  · intro H a; fin_cases a
    · show w.toNat ≤ (y 0).val ∧ (y 0).val < w.toNat + 1; omega
    · show 0 ≤ (y 1).val ∧ (y 1).val < 0 + 4096; omega

/-- What one copy leaves in the scratch buffer, on the elements it fills, is what the buffer holds at the end. -/
theorem landed (i : grid0.Coords) (T : S16384.Idx → BitVec 32) (Y : S20480x4096.Idx → Elt F .f32) (f : S2x128x4096.Idx → Elt F .f32) (n : Fin 256)
    (off : Fin 3 → ℕ) (h : ∀ a, off a + S1x1x4096.size a ≤ S2x128x4096.size a) (ho : off = ![n.val % 2, n.val / 2, 0])
    (off' : Fin 2 → ℕ) (h' : ∀ a, off' a + S1x4096.size a ≤ S20480x4096.size a) (ho' : off' = ![(word i T n.val).toNat, 0])
    (hr : (word i T n.val).toNat < 20480) :
    ∀ y ∈ (target off h).view.set,
      (target off h).view.write (Elt F) f ((source off' h').view.read (Elt F) Y) Finset.univ y = gathered i T Y y := by
  subst ho; subst ho'
  intro y hy
  obtain ⟨j, -, rfl⟩ := Finset.mem_map.mp hy
  rw [View.write_emb_of_mem _ _ (Finset.mem_univ _)]
  obtain ⟨a, b, rfl⟩ : ∃ (a : Fin 1) (b : Fin 4096), j = ix2 a b := ⟨j 0, j 1, by funext t; fin_cases t <;> rfl⟩
  have e : ∀ t, ((target _ h).view.emb (ix2 a b) t).val = (![n.val % 2, n.val / 2, b.val] : Fin 3 → ℕ) t := by
    intro t
    have e0 : Shape.reshapeEquiv squeezes_S1x1x4096_S1x4096.numel_eq (ix2 a b) = ix3 (0 : Fin 1) a b := ValueIdx.reshapeEquiv_ix2_1ab _ _ _
    show ((Rect.unit (s := S2x128x4096) ![n.val % 2, n.val / 2, 0] S1x1x4096.size h).emb
      (Shape.reshapeEquiv squeezes_S1x1x4096_S1x4096.numel_eq (ix2 a b)) t).val = _
    rw [e0]
    have ha : a.val = 0 := by have := a.isLt; omega
    fin_cases t
    · show n.val % 2 + 1 * 0 = n.val % 2; omega
    · show n.val / 2 + 1 * a.val = n.val / 2; omega
    · show 0 + 1 * b.val = b.val; omega
  show Y ((source _ h').view.emb (ix2 a b)) = gathered i T Y ((target _ h).view.emb (ix2 a b))
  unfold gathered
  refine congrArg Y (funext fun t => Fin.ext ?_)
  have ha : a.val = 0 := by have := a.isLt; omega
  have hb : b.val < 4096 := b.isLt
  have hn : 2 * (n.val / 2) + n.val % 2 = n.val := by omega
  fin_cases t
  · show (word i T n.val).toNat + 1 * a.val = (word i T _).toNat % 20480
    rw [e 1, e 0]
    show _ = (word i T (2 * (n.val / 2) + n.val % 2)).toNat % 20480
    rw [hn]; omega
  · show 0 + 1 * b.val = _ % 4096
    rw [e 2]
    show 0 + 1 * b.val = b.val % 4096
    omega

section

variable (c : Dev nD) (i : grid0.Coords) (T : S16384.Idx → BitVec 32) (Y : S20480x4096.Idx → Elt F .f32) (f : S2x128x4096.Idx → Elt F .f32)

/-- What copy `n` hands back: its part of the scratch buffer, filled, and its share of the row it read. -/
def deliver (n : Fin 256) : sProp 𝕄 :=
  iprop((pair.view.loc (c : Thread nD τ) ↦[filled n]{fullShare} gathered i T Y)
    ∗ (rows.view.loc (c : Thread nD τ) ↦[taken (word i T n.val)]{Transfers.shareTokN fullShare n.val} Y))
instance deliver_storable (n : Fin 256) : BI.Storable (upEmb : UEmb _ 𝕄) (deliver (F := F) c i T Y n) := by
  unfold deliver; infer_instance
/-- What copy `n` needs before it is started. -/
def need (n : Fin 256) : sProp 𝕄 :=
  iprop((pair.view.loc (c : Thread nD τ) ↦[filled n]{fullShare} f)
    ∗ (rows.view.loc (c : Thread nD τ) ↦[taken (word i T n.val)]{Transfers.shareTokN fullShare n.val} Y))
/-- The copies: `j` started, `u` units waited for. -/
def copies (j u : ℕ) : sProp 𝕄 :=
  Transfers.Batch (countersEmb (U := Pipeline.UD sig nD τ)) (c : Thread nD τ) cell () credit (deliver (F := F) c i T Y) j u

end

end Cert.CombineIdeal.Moves

end
-- ==== Proof.CombineIdealRun.lean ====
/- The last sum's kernel body, run at one grid point: the loop that starts the copies, the loop that waits for them, and the sum. -/
module

public import proofs.«01_k».proof.Proof.CombineIdealMoves
public import proofs.«01_k».proof.Proof.Store

@[expose] public section

set_option maxRecDepth 16384
set_option Elab.async false

noncomputable section

namespace Cert.CombineIdeal.Steps

open Cert.CombineIdeal Cert.CombineIdeal.Gen Cert.CombineIdeal.Moves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table held at half the full share: the other half stays with the pipeline. -/
abbrev Half (c : Dev nD) (T : S16384.Idx → BitVec 32) : sProp 𝕄 :=
  places.view.loc (c : Thread nD τ) ↦{fullShare.right} (show Buf (Elt F) (places.view.loc (c : Thread nD τ)) from T)

section

variable [∀ e, Nonempty (Elt F e)]
variable (c : Dev nD) (i : grid0.Coords) (a2 : Memref sig .tc .vmem S128x4096 .f32) (h2 : a2.IsWhole) (a4 : Memref sig .tc .vmem S128x4096 .f32) (h4 : a4.IsWhole)
variable (T : S16384.Idx → BitVec 32) (Y : S20480x4096.Idx → Elt F .f32) (f : S2x128x4096.Idx → Elt F .f32)

/-- Before trip `k` of the first loop: the copies of the earlier trips are under way. -/
def starting (k : ℕ) (_ : Unit) : sProp 𝕄 :=
  iprop(copies (F := F) c i T Y (2 * k) 0 ∗ bigSep (Ring.rangeSet 256 (2 * k) 256) (need (F := F) c i T Y f) ∗ Half c T)

/-- Starting copy `n`. -/
theorem start_copy {α : Type} {Q : α → sProp 𝕄} (n : Fin 256)
    (off : Fin 3 → ℕ) (h : ∀ a, off a + S1x1x4096.size a ≤ S2x128x4096.size a) (ho : off = ![n.val % 2, n.val / 2, 0])
    (off' : Fin 2 → ℕ) (h' : ∀ a, off' a + S1x4096.size a ≤ S20480x4096.size a) (ho' : off' = ![(word i T n.val).toNat, 0])
    (hr : (word i T n.val).toNat < 20480)
    {hsrc : (source off' h').view.WordExact} {hdst : (target off h).view.WordExact}
    {hsem : (DmaTarget.here (target off h) : DmaTarget nD τ sig .tc .vmem S1x4096 .f32).Typed .hbm cell}
    {k : PUnit → Prog (TpuEff nD τ sig (Elt F) Λ₀ .tc) α} :
    iprop(copies (F := F) c i T Y n.val 0 ∗ need (F := F) c i T Y f n)
      ⊢ iprop((copies (F := F) c i T Y (n.val + 1) 0 -∗ wp frame (wpE defs₀ Variants.none (c : Thread nD τ) none) Set.univ (k ⟨⟩) Q)
          -∗ wp frame (wpE defs₀ Variants.none (c : Thread nD τ) none) Set.univ (.op (.enqueueDma (source off' h') (DmaTarget.here (target off h) : DmaTarget nD τ sig .tc .vmem S1x4096 .f32) cell hsrc hdst hsem) k) Q) := by
  unfold copies need
  have hD : iprop(((target off h).view.loc (c : Thread nD τ) ↦[filled n]{fullShare} ((target off h).view.write (Elt F) f (ReadAs.same.apply ((source off' h').view.read (Elt F) Y)) Finset.univ))
      ∗ ((source off' h').view.loc (c : Thread nD τ) ↦[(source off' h').view.set]{Transfers.shareTokN fullShare n.val} Y)) ⊢ deliver (F := F) c i T Y n := by
    unfold deliver
    rw [source_set off' h' _ ho']
    refine Laws.sep_mono (Entails.of_eq (pointsTo_congr fun y hy => ?_)) .rfl
    rw [← target_set off h n ho] at hy
    exact landed i T Y f n off h ho off' h' ho' hr y hy
  iintro ⟨HB, Hd, Hs⟩ Hk
  iapply (Transfers.wp_dmaBatch (countersEmb (U := Pipeline.UD sig nD τ)) Variants.none (c : Thread nD τ) none (src := source off' h') (dst := target off h)
    (q := Transfers.shareTokN fullShare n.val) (fs := Y) (Sd := filled n) (fd := f) (D := deliver (F := F) c i T Y) (j := n.val) (u := 0) () credit rfl
    (target_set off h n ho).subset n.isLt (Nat.zero_le _) hD) $$ [HB Hd Hs]
  · rw [source_set off' h' _ ho']
    isplitl [Hs]; · iexact Hs
    isplitl [Hd]; · iexact Hd
    iexact HB
  iexact Hk

theorem start_step (hT : InRange T) (k : Fin k0_t1_loop.trips) (acc : Unit) :
    starting (F := F) c i T Y f k acc ⊢ wp frame (wpE defs₀ Variants.none (c : Thread nD τ) none) Set.univ
      (k0_t1_body i places wholePlaces a2 h2 rows wholeRows a4 h4 pair wholePair cc0_scratch1 k acc)
      (starting (F := F) c i T Y f (k.val + 1)) := by
  have hk : k.val < 128 := trips1 ▸ k.isLt
  have w1 : (loaded1 (F := F) i T k).toNat < 20480 := by rw [loaded1_eq]; exact hT _
  have w2 : (loaded2 (F := F) i T k).toNat < 20480 := by rw [loaded2_eq]; exact hT _
  have c1 : k0_chk1 (loaded1 (F := F) i T k) := chk1_of w1
  have c2 : k0_chk2 (loaded2 (F := F) i T k) := chk2_of w2
  unfold starting
  rw [Ring.bigSep_rangeSet_head (Φ := need (F := F) c i T Y f) (lo := 2 * k.val) (by omega) (by omega),
    Ring.bigSep_rangeSet_head (Φ := need (F := F) c i T Y f) (lo := 2 * k.val + 1) (by omega) (by omega),
    show 2 * (k.val + 1) = 2 * k.val + 1 + 1 by omega]
  iintro ⟨HB, ⟨H0, H1, HR⟩, HT⟩
  unfold k0_t1_body
  sl_exec (disch := first | sl_exact c1 | sl_exact c2)
  iapply (start_copy c i T Y f ⟨2 * k.val, by omega⟩ (k0_off2 k) (k0_off2_inb k)
    (by rw [k0_off2_eq]; show ![0, k.val, 0] = ![2 * k.val % 2, 2 * k.val / 2, 0]; congr 1 <;> [omega; (congr 1; omega)])
    (k0_off3 (loaded1 (F := F) i T k)) (k0_off3_inb _ c1) (by rw [loaded1_eq]; rfl) (by rw [← loaded1_eq (F := F)]; exact w1)) $$ [HB H0]
  · isplitl [HB]; · iexact HB
    iexact H0
  iintro HB
  sl_exec (disch := first | sl_exact c1 | sl_exact c2)
  iapply (start_copy c i T Y f ⟨2 * k.val + 1, by omega⟩ (k0_off5 k) (k0_off5_inb k)
    (by rw [k0_off5_eq]; show ![1, k.val, 0] = ![(2 * k.val + 1) % 2, (2 * k.val + 1) / 2, 0]; congr 1 <;> [omega; (congr 1; omega)])
    (k0_off6 (loaded2 (F := F) i T k)) (k0_off6_inb _ c2) (by rw [loaded2_eq]; rfl) (by rw [← loaded2_eq (F := F)]; exact w2)) $$ [HB H1]
  · isplitl [HB]; · iexact HB
    iexact H1
  iintro HB
  sl_exec
  sl_step
  isplitl [HB]; · iexact HB
  isplitl [HR]; · iexact HR
  iexact HT

/-- Before trip `k` of the second loop: two copies waited for in each earlier trip; after the last, every copy has handed back what it held. -/
def waiting (k : ℕ) (_ : Unit) : sProp 𝕄 :=
  iprop((∃ W, owes (c : Thread nD τ) 0 W)
    ∗ (if k < 128 then copies (F := F) c i T Y 256 (2 * k * credit)
       else iprop(semVal ((c : Thread nD τ), cell) 0 ∗ bigSep Finset.univ (deliver (F := F) c i T Y))))

theorem wait_step (k : Fin k0_t2_loop.trips) (acc : Unit) :
    waiting (F := F) c i T Y k acc ⊢ wp frame (wpE defs₀ Variants.none (c : Thread nD τ) none) Set.univ
      (k0_t2_body i places wholePlaces a2 h2 rows wholeRows a4 h4 pair wholePair cc0_scratch1 k acc)
      (waiting (F := F) c i T Y (k.val + 1)) := by
  have hk : k.val < 128 := trips2 ▸ k.isLt
  unfold waiting
  simp only [if_pos hk]
  unfold copies
  rcases Nat.lt_or_ge (k.val + 1) 128 with h1 | h1
  · simp only [if_pos h1]
    iintro ⟨⟨%W, HO⟩, HB⟩
    unfold k0_t2_body
    sl_exec
    sl_step
    isplitl [HO]; · iexists _; iexact HO
    rw [show 2 * (k.val + 1) * credit = 2 * k.val * credit + credit + credit by simp only [credit]; omega]
    iexact HB
  · simp only [if_neg (Nat.not_lt.mpr h1)]
    iintro ⟨⟨%W, HO⟩, HB⟩
    unfold k0_t2_body
    sl_exec
    sl_step
    isplitl [HO]; · iexists _; iexact HO
    isplitl [HB]; · iexact HB
    iexact HB_all

theorem both (P Q : Fin 256 → sProp 𝕄) :
    bigSep Finset.univ (fun n => iprop(P n ∗ Q n)) = iprop(bigSep Finset.univ P ∗ bigSep Finset.univ Q) := BI.bigSep_sep _ _ _

/-- The part of the experts' rows no copy is handed: what is left of the whole after a share per copy, and of each such share the other rows. -/
def spare : sProp 𝕄 :=
  iprop((rows.view.loc (c : Thread nD τ) ↦{Transfers.shareDrop fullShare 256} Y)
    ∗ bigSep Finset.univ (fun n : Fin 256 => rows.view.loc (c : Thread nD τ) ↦[Finset.univ \ taken (word i T n.val)]{Transfers.shareTokN fullShare n.val} Y))

/-- The experts' rows are one row per copy and the rest, -/
theorem rows_split : (rows.view.loc (c : Thread nD τ) ↦{fullShare} Y : sProp 𝕄)
    ⊣⊢ iprop(spare (F := F) c i T Y ∗ bigSep Finset.univ (fun n : Fin 256 => rows.view.loc (c : Thread nD τ) ↦[taken (word i T n.val)]{Transfers.shareTokN fullShare n.val} Y)) := by
  have e (n : Fin 256) : (rows.view.loc (c : Thread nD τ) ↦{Transfers.shareTokN fullShare n.val} Y : sProp 𝕄)
      ⊣⊢ iprop((rows.view.loc (c : Thread nD τ) ↦[taken (word i T n.val)]{Transfers.shareTokN fullShare n.val} Y)
        ∗ rows.view.loc (c : Thread nD τ) ↦[Finset.univ \ taken (word i T n.val)]{Transfers.shareTokN fullShare n.val} Y) :=
    pointsTo_split_subset (Finset.subset_univ _)
  have hs : (bigSep Finset.univ (fun n : Fin 256 => rows.view.loc (c : Thread nD τ) ↦{Transfers.shareTokN fullShare n.val} Y) : sProp 𝕄)
      ⊢ iprop(bigSep Finset.univ (fun n : Fin 256 => rows.view.loc (c : Thread nD τ) ↦[taken (word i T n.val)]{Transfers.shareTokN fullShare n.val} Y)
        ∗ bigSep Finset.univ (fun n : Fin 256 => rows.view.loc (c : Thread nD τ) ↦[Finset.univ \ taken (word i T n.val)]{Transfers.shareTokN fullShare n.val} Y)) := by
    rw [← both]; exact BI.bigSep_mono fun n _ => (e n).1
  have hj : iprop(bigSep Finset.univ (fun n : Fin 256 => rows.view.loc (c : Thread nD τ) ↦[taken (word i T n.val)]{Transfers.shareTokN fullShare n.val} Y)
        ∗ bigSep Finset.univ (fun n : Fin 256 => rows.view.loc (c : Thread nD τ) ↦[Finset.univ \ taken (word i T n.val)]{Transfers.shareTokN fullShare n.val} Y))
      ⊢ (bigSep Finset.univ (fun n : Fin 256 => rows.view.loc (c : Thread nD τ) ↦{Transfers.shareTokN fullShare n.val} Y) : sProp 𝕄) := by
    rw [← both]; exact BI.bigSep_mono fun n _ => (e n).2
  unfold spare
  constructor
  · refine (Transfers.pointsTo_toks fullShare 256).1.trans ?_
    iintro ⟨HR, HT⟩
    ihave HT' := hs $$ HT
    icases HT' with ⟨HA, HB⟩
    isplitl [HR HB]
    · isplitl [HR]; · iexact HR
      iexact HB
    iexact HA
  · refine BIBase.Entails.trans ?_ (Transfers.pointsTo_toks fullShare 256).2
    iintro ⟨⟨HR, HB⟩, HA⟩
    isplitl [HR]; · iexact HR
    iapply hj
    isplitl [HA]; · iexact HA
    iexact HB

/-- the scratch buffer is the parts the copies fill, -/
theorem pair_split (g : S2x128x4096.Idx → Elt F .f32) : (pair.view.loc (c : Thread nD τ) ↦{fullShare} g : sProp 𝕄)
    = bigSep Finset.univ (fun n : Fin 256 => pair.view.loc (c : Thread nD τ) ↦[filled n]{fullShare} g) :=
  Ring.pointsTo_blocks (ℓ := pair.view.loc (c : Thread nD τ)) filled filled_disjoint filled_cover g

/-- so the two of them are what the copies need and the spare part, -/
theorem prepare : iprop((rows.view.loc (c : Thread nD τ) ↦{fullShare} Y) ∗ (pair.view.loc (c : Thread nD τ) ↦{fullShare} f))
    ⊢ (iprop(spare (F := F) c i T Y ∗ bigSep Finset.univ (need (F := F) c i T Y f)) : sProp 𝕄) := by
  unfold need
  rw [both, pair_split]
  iintro ⟨HR, HP⟩
  ihave HR' := (rows_split (F := F) c i T Y).1 $$ HR
  icases HR' with ⟨HS, HR⟩
  isplitl [HS]; · iexact HS
  isplitl [HP]; · iexact HP
  iexact HR

/-- and what the copies hand back and the spare part are the experts' rows and the scratch buffer filled. -/
theorem collect : (iprop(spare (F := F) c i T Y ∗ bigSep Finset.univ (deliver (F := F) c i T Y)) : sProp 𝕄)
    ⊢ iprop((rows.view.loc (c : Thread nD τ) ↦{fullShare} Y) ∗ (pair.view.loc (c : Thread nD τ) ↦{fullShare} gathered i T Y)) := by
  unfold deliver
  rw [both, pair_split]
  iintro ⟨HS, HP, HR⟩
  isplitr [HP]
  · iapply (rows_split (F := F) c i T Y).2
    isplitl [HS]; · iexact HS
    iexact HR
  iexact HP

/-- The two slots of the filled scratch buffer, as the body loads them. -/
abbrev slot0 : Vec F S1x128x4096 .f32 :=
  View.readAt (Elt F) pair.view (Rect.unit (s := S2x128x4096) ![0, 0, 0] S1x128x4096.size inb_S2x128x4096_S1x128x4096_0_0_0).toLoadRect (gathered i T Y)
abbrev slot1 : Vec F S1x128x4096 .f32 :=
  View.readAt (Elt F) pair.view (Rect.unit (s := S2x128x4096) ![1, 0, 0] S1x128x4096.size inb_S2x128x4096_S1x128x4096_1_0_0).toLoadRect (gathered i T Y)

variable (x : Vec F S128x4096 .f32)

set_option maxHeartbeats 2000000 in
/-- The body's triple: it leaves the sum of the block and the two rows of each token in the output block, and everything else as it was, the
    scratch buffer apart. -/
theorem runs (hT : InRange T) (W : Waits sig Unit) (K : PUnit → sProp 𝕄) :
    iprop(owns (c : Thread nD τ) a2 fullShare x ∗ (∃ d, owns (c : Thread nD τ) a4 fullShare d) ∗ Half c T
        ∗ (rows.view.loc (c : Thread nD τ) ↦{fullShare} Y) ∗ (∃ f, pair.view.loc (c : Thread nD τ) ↦{fullShare} f)
        ∗ semVal ((c : Thread nD τ), cell) 0 ∗ owes (c : Thread nD τ) 0 W
        ∗ (iprop(owns (c : Thread nD τ) a2 fullShare x ∗ owns (c : Thread nD τ) a4 fullShare (k0_pay1 x (slot0 i T Y) (slot1 i T Y)) ∗ Half c T
          ∗ (rows.view.loc (c : Thread nD τ) ↦{fullShare} Y) ∗ (∃ f, pair.view.loc (c : Thread nD τ) ↦{fullShare} f)
          ∗ semVal ((c : Thread nD τ), cell) 0 ∗ (∃ W', owes (c : Thread nD τ) 0 W')) -∗ K ⟨⟩))
      ⊢ wp frame (wpE (defs₀ (F := F)) Variants.none c none) Set.univ
          (cc0_moe_combine i places wholePlaces a2 h2 rows wholeRows a4 h4 pair wholePair cc0_scratch1) K := by
  simp only [cc0_moe_combine_eq_skeleton]; unfold cc0_moe_combine_skel
  unfold owns
  iintro ⟨⟨%f2, %e2, H2⟩, ⟨%d4, %f4, -, H4⟩, HT, HR, ⟨%f, HP⟩, Hc, HO, Hk⟩
  obtain rfl := h2.eq_unread e2
  ihave HN := (prepare (F := F) c i T Y f) $$ [HR HP]
  · isplitl [HR]; · iexact HR
    iexact HP
  icases HN with ⟨HS, HN⟩
  imod (Transfers.batch_alloc' (Lvl := ℕ) (countersEmb (U := Pipeline.UD sig nD τ)) (c : Thread nD τ) () credit (deliver (F := F) c i T Y) (sm := cell) (E := Set.univ)) $$ Hc with HB
  sl_for (starting (F := F) c i T Y f) $$ [HB HN HT]
  · intro k acc; exact start_step c i a2 h2 a4 h4 T Y f hT k acc
  · unfold starting copies
    isplitl [HB]; · iexact HB
    isplitl [HN]; · rw [Ring.rangeSet_univ]; iexact HN
    iexact HT
  iintro %acc HL
  ihave HL' := (show starting (F := F) c i T Y f k0_t1_loop.trips acc ⊢ iprop(copies (F := F) c i T Y 256 0 ∗ Half c T) from by
      unfold starting
      rw [trips1, Ring.rangeSet_empty (by omega)]
      iintro ⟨HB, -, HT⟩
      isplitl [HB]; · iexact HB
      iexact HT) $$ HL
  icases HL' with ⟨HB, HT⟩
  sl_for (waiting (F := F) c i T Y) $$ [HB HO]
  · intro k acc; exact wait_step c i a2 h2 a4 h4 T Y k acc
  · unfold waiting
    rw [if_pos (by omega)]
    isplitl [HO]; · iexists _; iexact HO
    rw [show 2 * 0 * credit = 0 from rfl]
    iexact HB
  iintro %acc' HL
  ihave HL' := (show waiting (F := F) c i T Y k0_t2_loop.trips acc' ⊢ iprop((∃ W, owes (c : Thread nD τ) 0 W) ∗ semVal ((c : Thread nD τ), cell) 0
      ∗ bigSep Finset.univ (deliver (F := F) c i T Y)) from by
      unfold waiting
      rw [trips2, if_neg (Nat.lt_irrefl _)]) $$ HL
  icases HL' with ⟨⟨%W', HO⟩, Hc, HD⟩
  ihave HD' := (collect (F := F) c i T Y) $$ [HS HD]
  · isplitl [HS]; · iexact HS
    iexact HD
  icases HD' with ⟨HR, HP⟩
  sl_exec
  sl_step
  iapply Hk
  isplitl [H2]
  · iexists _; isplitr; · ipureintro; exact h2.read_unread _
    iexact H2
  isplitl [H4]
  · iexists _; isplitr; swap; · iexact H4
    ipureintro
    sl_unfold_words
    rw [Cert.Store.read_stored _ _ _ _ _ (by decide), View.readAt_eq_ld, h2.read_unread, View.ld_unit_lit _ _ (by decide)]
  isplitl [HT]; · iexact HT
  isplitl [HR]; · iexact HR
  isplitl [HP]; · iexists _; iexact HP
  isplitl [Hc]; · iexact Hc
  iexists _; iexact HO

end

end Cert.CombineIdeal.Steps

end
-- ==== Proof.CombineIdealFrame.lean ====
/- The last sum's launch, for any table whose words name the experts' rows: what every grid point finds and leaves, the run of the whole
   kernel, and that the arguments end unchanged with every semaphore at zero. -/
module

public import proofs.«01_k».proof.Proof.CombineIdealRun
public import Idealize.ShloMosaic.Lib.Claim

@[expose] public section

set_option maxRecDepth 16384

noncomputable section

namespace Cert.CombineIdeal.Steps

open Cert.CombineIdeal Cert.CombineIdeal.Gen Cert.CombineIdeal.Moves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers when the kernel starts: as launched, nothing runs before it. -/
abbrev V (c : Dev nD) (b : Ref sig .tc) : Buf (Elt F) ((c : Thread nD τ).loc b) := m ((c : Thread nD τ).loc b)

set_option maxHeartbeats 800000 in
/-- The program up to the kernel. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The table's contents at the kernel's start, the same on every device: there is one. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table at its shape, and the experts' rows. -/
def placeT : S16384.Idx → BitVec 32 := tbl m 0
def rowsV (c : Dev nD) : S20480x4096.Idx → Elt F .f32 := V m c main_arg1

abbrev adm : (pcfg0 (F := F)).Adm := ⟨tbl m, trivial⟩
abbrev cfgM : Pipeline.Cfg sig Λ₀ := cfg0 (adm m)

/-- The table's half. -/
theorem PhiT_eq (c : Dev nD) : (Pipeline.ΦT pre0 (tbl m) c : sProp 𝕄) = Half c (placeT m) := by
  unfold Pipeline.ΦT Pipeline.prefHeld
  rw [show (Finset.univ : Finset (Fin 1)) = {(0 : Fin 1)} from by decide, bigSep_singleton]
  rfl

/-- The semaphore of the copies, and the array they read, which the kernel is handed besides its scratch buffer. -/
abbrev own0 : Fin 1 → SemLoc sig := fun _ => cell
theorem ownFacts : Pipeline.OwnSemFacts spec0 own0 := by decide
theorem own0_eq (c : Dev nD) :
    (Pipeline.ownSems0 (Ix := Unit) (Name := ℕ) (U := Pipeline.UD sig nD τ) (Lvl := ℕ) (Val := Elt F) (τ := τ) own0 c : sProp 𝕄)
      = semVal ((c : Thread nD τ), cell) 0 := by
  rw [Pipeline.ownSems0_eq_of_list c own0 [0] (by decide) (by decide)]; rfl
def handed : Finset (Ref sig .tc) := {main_arg1}
theorem handed_sub : handed ⊆ Pipeline.restRefsP sig pre0 spec0 := by decide
theorem handed_eq (c : Dev nD) :
    (bigSep handed (fun b => ((c : Thread nD τ).loc b) ↦{fullShare} V m c b) : sProp 𝕄)
      = (rows.view.loc (c : Thread nD τ) ↦{fullShare} (show Buf (Elt F) (rows.view.loc (c : Thread nD τ)) from rowsV m c)) := by
  unfold handed; rw [bigSep_singleton]; rfl
theorem PhiD_eq (c : Dev nD) : (Pipeline.ΦD own0 spec0 handed (V m) c : sProp 𝕄)
    = iprop((∃ f : Buf (Elt F) (pair.view.loc (c : Thread nD τ)), pair.view.loc (c : Thread nD τ) ↦{fullShare} f) ∗ (∃ r, prngReg c r)
        ∗ semVal ((c : Thread nD τ), cell) 0 ∗ (rows.view.loc (c : Thread nD τ) ↦{fullShare} (show Buf (Elt F) (rows.view.loc (c : Thread nD τ)) from rowsV m c))) := by
  rw [Pipeline.ΦD_eq, scopedRest0_eq, own0_eq, handed_eq]; try rfl

/-! ## The windows -/

/-- Window `w`'s block at point `t`, as the kernel finds its array. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))
/-- The block of the stream at a point. -/
abbrev streamAt (c : Dev nD) (t : Fin (cfgM m).N) : Vec F S128x4096 .f32 := iblk m c 0 t
/-- The block a point leaves in the result: the stream's block and the two rows of each of its tokens, added. -/
def leaves (c : Dev nD) (t : Fin (cfgM m).N) : Vec F S128x4096 .f32 :=
  k0_pay1 (streamAt m c t) (slot0 (grid0.coords t) (placeT m) (rowsV m c)) (slot1 (grid0.coords t) (placeT m) (rowsV m c))

/-- The proof data: the stream's block stays, the result block is `leaves`; between points the scratch buffer is at anything, the semaphore at
    zero, the experts' rows and the table as they were. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => leaves m c t
  Φ _ := iprop(Pipeline.ΦD own0 spec0 handed (V m) c ∗ Pipeline.ΦT pre0 (tbl m) c)
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = leaves m c t := by dsimp only [dats]; try rfl

/-- The stream's window holds the point's block at every point. -/
theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)

/-! ## Every point's obligation -/

/-- The buffers in use at a point, at their shapes. -/
abbrev ms0 (t : Fin (cfgM m).N) : Memref sig .tc .vmem S128x4096 .f32 := spec0_0.stage ((cfgM m).slots t 0)
abbrev ms1 (t : Fin (cfgM m).N) : Memref sig .tc .vmem S128x4096 .f32 := spec0_1.stage ((cfgM m).slots t 1)

/-- The body as a point runs it. -/
abbrev bodyAt (t : Fin (cfgM m).N) : Prog (TpuEff nD τ sig (Elt F) Λ₀ .tc) PUnit :=
  cc0_moe_combine (grid0.coords t) places wholePlaces (ms0 m t) (hstage0_0 (((cfgM m).slots t 0).cast nbuf0_0)) rows wholeRows
    (ms1 m t) (hstage0_1 (((cfgM m).slots t 1).cast nbuf0_1)) pair wholePair cc0_scratch1

/-- What the body is called with at a point, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))
/-- and what it returns. -/
def bodyPost (c : Dev nD) (t : Fin (cfgM m).N) : sProp 𝕄 :=
  iprop((dats m 0 c).Φ t.succ ∗ (dats m 0 c).owesAt () t.succ ∗ (dats m 0 c).leavesExact 0 t ∗ (dats m 0 c).leavesExact 1 t)

theorem leaves_0 (c : Dev nD) (t : Fin (cfgM m).N) :
    (dats m 0 c).leavesExact 0 t = owns (c : Thread nD τ) (ms0 m t) fullShare (streamAt m c t) := by
  unfold Dat.leavesExact; rw [show (cfgM m).idle 0 (grid0.coords t) = false from rfl]
  exact congrArg (owns (c : Thread nD τ) (ms0 m t) fullShare) (after_0 m c t)
theorem leaves_1 (c : Dev nD) (t : Fin (cfgM m).N) :
    (dats m 0 c).leavesExact 1 t = owns (c : Thread nD τ) (ms1 m t) fullShare (leaves m c t) := by
  unfold Dat.leavesExact; rw [show (cfgM m).idle 1 (grid0.coords t) = false from rfl]
  exact congrArg (owns (c : Thread nD τ) (ms1 m t) fullShare) (after_1 m c t)

set_option maxHeartbeats 1600000 in
/-- The body at any point, the table's words naming the experts' rows. -/
theorem sound_body (hT : InRange (placeT m)) (c : Dev nD) (t : Fin (cfgM m).N) :
    bodyPre m c t ⊢ wp frame (wpE (defs₀ (F := F)) Variants.none c none) Set.univ (bodyAt m t) (fun _ => bodyPost m c t) := by
  unfold bodyPre bodyPost
  simp only [before_0]
  rw [show (dats m 0 c).owesAt () t.succ = (dats m 0 c).owesAt () t.castSucc from rfl, leaves_0, leaves_1,
    show (dats m 0 c).Φ t.succ = iprop(Pipeline.ΦD own0 spec0 handed (V m) c ∗ Pipeline.ΦT pre0 (tbl m) c) from rfl,
    show (dats m 0 c).Φ t.castSucc = iprop(Pipeline.ΦD own0 spec0 handed (V m) c ∗ Pipeline.ΦT pre0 (tbl m) c) from rfl, PhiD_eq, PhiT_eq]
  unfold Dat.owesAt Pipeline.owesWithin
  rw [show (dats m 0 c).owed t.castSucc = 0 from rfl]
  iintro ⟨⟨⟨HP, Hg, Hc, HR⟩, HT⟩, ⟨%W, %hW, HO⟩, ⟨%d0, H0⟩, ⟨%d1, H1⟩⟩
  iapply (runs c (grid0.coords t) _ _ _ _ (placeT m) (rowsV m c) (streamAt m c t) hT W _)
  isplitl [H0]; · iexact H0
  isplitl [H1]; · iexists _; iexact H1
  isplitl [HT]; · iexact HT
  isplitl [HR]; · iexact HR
  isplitl [HP]; · iexact HP
  isplitl [Hc]; · iexact Hc
  isplitl [HO]; · iexact HO
  iintro ⟨H0, H1, HT, HR, HP, Hc, ⟨%W', HO⟩⟩
  isplitl [HP Hg Hc HR HT]
  · isplitl [HP Hg Hc HR]
    · isplitl [HP]; · iexact HP
      isplitl [Hg]; · iexact Hg
      isplitl [Hc]; · iexact Hc
      iexact HR
    iexact HT
  isplitl [HO]
  · iexists W'
    isplitr; · ipureintro; exact fun _ _ => Or.inl trivial
    iexact HO
  isplitl [H0]; · iexact H0
  iexact H1

/-- The pipeline's row of the body table at a point is the body as the point runs it. -/
theorem defs₀_row (t : Fin (cfgM m).N) :
    defs₀ (F := F) .tc (cfgM m).body ((cfgM m).bodyArgs t ((cfgM m).slots t)) = bodyAt m t := by
  unfold defs₀; rw [Defs.onTc_tc]; try rfl

theorem body_obligation (hT : InRange (placeT m)) (c : Dev nD) : BodyObligation (dats (F := F) m 0 c) (defs₀ (F := F)) Variants.none () Set.univ := fun t => by
  rw [bigSep_W0, bigSep_W0, defs₀_row m]
  exact triple_restated (sound_body m hT c t) rfl .rfl fun _ => .rfl

/-! ## The run -/

theorem hin (c : Dev nD) : iprop(Pipeline.ΦD own0 spec0 handed (V m) c ∗ Pipeline.ΦT pre0 (tbl m) c) ⊢ (dats m 0 c).Φ 0 :=
  Idealize.SL.BI.Entails.refl _
theorem hout (c : Dev nD) : (dats m 0 c).Φ (Fin.last (cfgM m).N) ⊢ Pipeline.ΦD own0 spec0 handed (V m) c := by
  rw [show (dats m 0 c).Φ (Fin.last (cfgM m).N) = iprop(Pipeline.ΦD own0 spec0 handed (V m) c ∗ Pipeline.ΦT pre0 (tbl m) c) from rfl]
  iintro ⟨H, -⟩
  iexact H

/-- What a run ends with: every array at the blocks its points left, everything else as it was. -/
abbrev Ends (r : PUnit × MemSt nD τ sig (Elt F)) : Prop :=
  Pipeline.FramePost (Pipeline.pin pcfgs fun _ => adm m) (dats m) 0 (V m) r

set_option backward.isDefEq.respectTransparency.types false in
/-- The whole kernel, from any memory whose table names the experts' rows. -/
theorem run_main (hT : InRange (placeT m)) : θ_run defs (onTc (τ := τ) (main (F := F))) (s₀ m ρ) (fun r => Ends m r ∧ r.2.sem = fun _ => 0) :=
  Pipeline.θ_run_frameP_dma (Q' := _) pcfgs (fun _ => adm m) (dats m) (0 : Fin 1) launch0 own0 defs₀ Variants.none ownFacts handed handed_sub m ρ main
    (hbody := fun c => (body_obligation m hT c).loose) (hshare := fun c => (dats m 0 c).share_full fun _ => rfl)
    (howed := fun _ _ => rfl) (V := V m) (hmain := hmain m Variants.none) (hA := A_eq m) (hpf := V_pre m) (hin := hin m) (hout := hout m)

/-- The arguments at a run's end: unchanged. -/
theorem kept_args (r : PUnit × MemSt nD τ sig (Elt F)) (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).1 0).trans (((dats m 0 c).arrAt_in 0 rfl _).trans (A_eq m c 0)),
    (h c).2 main_arg1 (by decide : main_arg1 ∈ Pipeline.restRefs sig spec0),
    (h c).2 main_arg2 (by decide : main_arg2 ∈ Pipeline.restRefs sig spec0)⟩

/-- The frame: the arguments end unchanged, with every semaphore at zero. -/
theorem frame_run (hT : InRange (placeT m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept_args m r h.1 c, h.2⟩) (run_main m ρ hT)

/-- The value: the result array at a run's end is the blocks the points left in it, and the arguments are unchanged. -/
theorem value_run (hT : InRange (placeT m)) : θ_run defs (onTc (τ := τ) (main (F := F))) ⟨m, fun _ => 0, ρ⟩ (fun r => ∀ c : Dev nD,
      r.2.mem ((c.tc : Thread nD τ).loc main_v0) = (dats m 0 c).arrAt 1 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 1, kept_args m r h.1 c⟩) (run_main m ρ hT)

end Cert.CombineIdeal.Steps

end
-- ==== Proof.CombineArray.lean ====
/- The last sum as the kernel leaves it, entry by entry: the stream's entry and the entries of the token's two rows. -/
module

public import proofs.«01_k».proof.Proof.CombineIdealFrame
public import Idealize.ShloMosaic.Lib.Pointwise

@[expose] public section

set_option maxRecDepth 16384

noncomputable section

namespace Cert.CombineIdeal.Sum

open Cert.CombineIdeal Cert.CombineIdeal.Gen Cert.CombineIdeal.Moves Cert.CombineIdeal.Steps
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- The stream on a device. -/
abbrev stream : FVec Ideal S8192x4096 .f32 := m ((c.tc : Thread nD τ).loc main_arg0)

/-- The row that word `s` of token `t` names. -/
def rowOf (t : Fin 8192) (s : Fin 2) : Fin 20480 := Fin.ofNat 20480 (placeT m (ix1 (⟨2 * t.val + s.val, by omega⟩ : Fin 16384))).toNat

/-- An entry of the result. -/
def entry (t : Fin 8192) (d : Fin 4096) : EReal :=
  stream m c (ix2 t d) + rowsV m c (ix2 (rowOf m t 0) d) + rowsV m c (ix2 (rowOf m t 1) d)

/-- One entry of the block a point leaves. -/
theorem sum_at (x : Vec Ideal S128x4096 .f32) (a b : Vec Ideal S1x128x4096 .f32) (r : Fin 128) (d : Fin 4096) :
    k0_pay1 x a b (ix2 r d) = x (ix2 r d) + a (ix3 0 r d) + b (ix3 0 r d) := by
  pointwise [k0_pay1]

/-! One entry of each slot of the filled scratch buffer. -/

theorem slot0_at (i : grid0.Coords) (T : S16384.Idx → BitVec 32) (Y : S20480x4096.Idx → Elt Ideal .f32) (r : Fin 128) (d : Fin 4096) :
    slot0 i T Y (ix3 0 r d) = Y (ix2 (Fin.ofNat 20480 (word i T (2 * r.val + 0)).toNat) d) := by
  have hy : (Rect.unit (s := S2x128x4096) ![0, 0, 0] S1x128x4096.size inb_S2x128x4096_S1x128x4096_0_0_0).toLoadRect.idx (ix3 0 r d) = ix3 0 r d := by
    funext a; apply Fin.ext; fin_cases a
    · rfl
    · show 0 + 1 * r.val = r.val; omega
    · show 0 + 1 * d.val = d.val; omega
  refine (congrArg (gathered i T Y) hy).trans ?_
  unfold gathered
  rw [show (Fin.ofNat 4096 ((ix3 (0 : Fin 2) r d : S2x128x4096.Idx) 2).val : Fin 4096) = d from Fin.ext (Nat.mod_eq_of_lt d.isLt)]
  rfl
theorem slot1_at (i : grid0.Coords) (T : S16384.Idx → BitVec 32) (Y : S20480x4096.Idx → Elt Ideal .f32) (r : Fin 128) (d : Fin 4096) :
    slot1 i T Y (ix3 0 r d) = Y (ix2 (Fin.ofNat 20480 (word i T (2 * r.val + 1)).toNat) d) := by
  have hy : (Rect.unit (s := S2x128x4096) ![1, 0, 0] S1x128x4096.size inb_S2x128x4096_S1x128x4096_1_0_0).toLoadRect.idx (ix3 0 r d) = ix3 1 r d := by
    funext a; apply Fin.ext; fin_cases a
    · rfl
    · show 0 + 1 * r.val = r.val; omega
    · show 0 + 1 * d.val = d.val; omega
  refine (congrArg (gathered i T Y) hy).trans ?_
  unfold gathered
  rw [show (Fin.ofNat 4096 ((ix3 (1 : Fin 2) r d : S2x128x4096.Idx) 2).val : Fin 4096) = d from Fin.ext (Nat.mod_eq_of_lt d.isLt)]
  rfl

/-! The block each window reads or writes at a grid point. -/

theorem coord0 (t : Fin grid0.N) : (grid0.coords t 0).val = t.val := by
  have h : (grid0.coords t 0).val = t.val / 1 % 64 := Pipeline.Grid.coords_val t 0 (by decide) rfl
  have hN : t.val < 64 := lt_of_lt_of_eq t.isLt N_0
  rw [h]; omega

theorem idx0 (t : Fin (cfgM m).N) : ((cfgM m).win 0).index t = ![t.val, 0] := by
  have h : ∀ i : grid0.Coords, cc0_transform_0 i = ![(i 0).val, 0] := fun i => by
    have h0 := (i 0).isLt
    unfold cc0_transform_0
    dsimp only
    rw [BitVec.toNat_ofNat, Nat.mod_eq_of_lt (lt_trans h0 (by decide))]
    rfl
  refine (h (grid0.coords t)).trans ?_
  rw [coord0 t]
theorem idx1 (t : Fin (cfgM m).N) : ((cfgM m).win 1).index t = ![t.val, 0] := by
  have h : ∀ i : grid0.Coords, cc0_transform_2 i = ![(i 0).val, 0] := fun i => by
    have h0 := (i 0).isLt
    unfold cc0_transform_2
    dsimp only
    rw [BitVec.toNat_ofNat, Nat.mod_eq_of_lt (lt_trans h0 (by decide))]
    rfl
  refine (h (grid0.coords t)).trans ?_
  rw [coord0 t]

/-- Every point's block is written back: the next point's is another. -/
theorem flushes (t : Fin (cfgM m).N) : ((cfgM m).win 1).flush t = true :=
  ((fun t => (Pipeline.Window.flushOf_reads cc0_transform_2 reads0_1 hreads0_1 0 (by decide) (by decide)
    (Pipeline.Window.sep_of_coord cc0_transform_2 0 0 (fun _ => rfl) (by decide)) (P := 1) (m := 0) (by decide) rfl t).mpr (Nat.mod_one _)
    : ∀ t : Fin grid0.N, Pipeline.Window.flushOf grid0 true cc0_transform_2 t = true) t)

/-- The output blocks fill the array. -/
theorem covers : ((cfgM m).win 1).Covers := by
  refine ⟨fun (a : Fin 2) => ?_, fun β => ?_⟩
  · fin_cases a
    · exact (by decide : 0 < 128)
    · exact (by decide : 0 < 4096)
  · obtain ⟨b, hb⟩ : ∃ b : Fin 64, b.val = (β (0 : Fin 2)).val :=
      ⟨⟨(β (0 : Fin 2)).val, lt_of_lt_of_eq (β (0 : Fin 2)).isLt (show (8192 + 128 - 1) / 128 = 64 from by decide)⟩, rfl⟩
    obtain ⟨z, hz⟩ : ∃ z : Fin 1, z.val = (β (1 : Fin 2)).val :=
      ⟨⟨(β (1 : Fin 2)).val, lt_of_lt_of_eq (β (1 : Fin 2)).isLt (show (4096 + 4096 - 1) / 4096 = 1 from by decide)⟩, rfl⟩
    have hN : (cfgM m).N = 64 := N_0
    refine ⟨⟨b.val, lt_of_lt_of_eq b.isLt hN.symm⟩, flushes m _, fun (a : Fin 2) => ⟨?_, .inl rfl⟩⟩
    rw [idx1]
    fin_cases a
    · exact hb
    · refine Eq.trans ?_ hz
      show 0 = z.val
      omega

/-- The whole result. -/
def whole : S8192x4096.Idx → EReal := fun i => entry m c (i 0) (i 1)

/-- The array after the run. -/
theorem final : (dats m 0 c).arrAt 1 (cfgM m).N = whole m c := by
  refine (dats m 0 c).arrAt_eq_of_covers 1 _ (covers m) fun t hf y => ?_
  blk_simp
  rw [after_1]
  obtain ⟨r, d, rfl⟩ : ∃ (r : Fin 128) (d : Fin 4096), y = ix2 r d := ⟨(show S128x4096.Idx from y) 0, (show S128x4096.Idx from y) 1, eq_ix2 (show S128x4096.Idx from y)⟩
  have hN : t.val < 64 := lt_of_lt_of_eq t.isLt N_0
  obtain ⟨R, hR⟩ : ∃ R : Fin 8192, R.val = t.val * 128 + r.val := ⟨⟨t.val * 128 + r.val, by omega⟩, rfl⟩
  have hemb : (((cfgM m).win 1).blk t).view.emb (ix2 r d) = ix2 R d := by
    blk_ext [idx1 m t, hR]
  have hw : ∀ s : Fin 2, at' (grid0.coords t) (2 * r.val + s.val) = ix1 (⟨2 * R.val + s.val, by omega⟩ : Fin 16384) := fun s => by
    unfold at'
    refine congrArg ix1 (Fin.ext ?_)
    show (256 * (grid0.coords t 0).val + (2 * r.val + s.val)) % 16384 = 2 * R.val + s.val
    rw [coord0 t]
    omega
  refine Eq.trans ?_ (congrArg (whole m c) hemb).symm
  show leaves m c t (ix2 r d) = entry m c R d
  unfold entry leaves rowOf
  rw [sum_at, slot0_at, slot1_at]
  have hs : streamAt m c t (ix2 r d) = stream m c (ix2 R d) := by
    blk_ext [streamAt, iblk, V, idx0 m t, hR]
  rw [hs, ← hw 0, ← hw 1]
  rfl

end Cert.CombineIdeal.Sum

end
-- ==== Proof.CombineRef.lean ====
/- The reference's last sum, entry by entry: the stream's entry and the entries of the token's two rows. -/
module

public import proofs.«01_k».proof.Proof.Gen.CombineRefIdeal.Run
public import Idealize.ShloMosaic.Lib.Pointwise

@[expose] public section

set_option maxRecDepth 16384

noncomputable section

namespace Cert.CombineRefIdeal.Sum

open Cert.CombineRefIdeal Cert.CombineRefIdeal.Gen Idealize.ShloMosaic Idealize.ShloMosaic.TcCoe Idealize.SL.Sem
open Facts
open scoped BigOperators

/-- The positions, two to a token. -/
def pairs (T : IVec S16384 32) : IVec S8192x2 32 := shapeCast _ T shapeCasts_S16384_S8192x2

/-- The positions as the indexing reads them: a negative one counts from the end. -/
def wrapped (T : IVec S16384 32) : IVec S8192x2 32 :=
  select (cmpi .slt (pairs T) (broadcastInDim S8192x2 ![] bcast_S_S8192x2 (constantI S_ 32 0#32)))
    (addi (pairs T) (broadcastInDim S8192x2 ![] bcast_S_S8192x2 (constantI S_ 32 20480#32))) (pairs T)

/-- The rows the positions name. -/
def picked (Y : FVec Ideal S20480x4096 .f32) (J : IVec S8192x2 32) : FVec Ideal S8192x2x4096 .f32 :=
  Host.gather gather_S20480x4096_S8192x2x1_S8192x2x4096_2_0_n_n_0_2_14096 Y (broadcastInDim S8192x2x1 ![0, 1] bcast_S8192x2_S8192x2x1_0_1 J)

/-- The result. -/
def result (x : FVec Ideal S8192x4096 .f32) (Y : FVec Ideal S20480x4096 .f32) (T : IVec S16384 32) : FVec Ideal S8192x4096 .f32 :=
  addf x (Host.reduceAdd (picked Y (wrapped T)) (constant S_ .f32 0x00000000#32) reducesTo_S8192x2x4096_S8192x4096_d1 h_S_)

theorem pairs_at (T : IVec S16384 32) (t : Fin 8192) (s : Fin 2) : pairs T (ix2 t s) = T (ix1 (⟨2 * t.val + s.val, by omega⟩ : Fin 16384)) := by
  pointwise [pairs]
  refine congrArg T (congrArg ix1 (Fin.ext ?_))
  show t.val * 2 + s.val = 2 * t.val + s.val
  omega

/-- A position that is a row's number is not negative, and is read as it is. -/
theorem wrapped_at (T : IVec S16384 32) (hT : ∀ y, (T y).toNat < 20480) (t : Fin 8192) (s : Fin 2) :
    wrapped T (ix2 t s) = T (ix1 (⟨2 * t.val + s.val, by omega⟩ : Fin 16384)) := by
  have hn : ∀ b : BitVec 32, b.toNat < 20480 → b.slt 0#32 = false := fun b hb => by
    refine Bool.eq_false_iff.mpr fun h => ?_
    rw [BitVec.slt_iff_toInt_lt, BitVec.toInt_eq_toNat_cond, if_pos (by omega)] at h
    have h0 : ((b.toNat : ℕ) : ℤ) < 0 := h
    omega
  have h := hn (T (ix1 (⟨2 * t.val + s.val, by omega⟩ : Fin 16384))) (hT _)
  rw [← pairs_at T t s] at h ⊢
  unfold wrapped select
  refine if_neg fun hc => ?_
  have hc' : BitVec.ofBool ((pairs T (ix2 t s)).slt 0#32) = 1#1 := hc
  rw [h] at hc'
  exact absurd hc' (by decide)

/-- One entry of the rows picked: a position that is a row's number picks that row. -/
theorem picked_at (Y : FVec Ideal S20480x4096 .f32) (J : IVec S8192x2 32) (t : Fin 8192) (s : Fin 2) (d : Fin 4096) (h : (J (ix2 t s)).toNat < 20480) :
    picked Y J (ix3 t s d) = Y (ix2 (Fin.ofNat 20480 (J (ix2 t s)).toNat) d) := by
  have hi : (J (ix2 t s)).toInt.toNat = (J (ix2 t s)).toNat := by
    rw [BitVec.toInt_eq_toNat_cond, if_pos (by omega)]; rfl
  have hv : ∀ {a b c : ℕ} {v : ℕ}, a = v → b = 0 → c = 0 → a + b + c = v := fun ha hb hc => by omega
  have hw : ∀ {a b c : ℕ} {v : ℕ}, a = 0 → b = 0 → c = v → a + b + c = v := fun ha hb hc => by omega
  unfold picked Host.gather
  refine congrArg Y (funext fun (a : Fin 2) => Fin.ext ?_)
  fin_cases a
  · refine hv ?_ (GatherDims.batchCoord_eq_zero _ _ _ (List.not_mem_nil)) (GatherDims.offCoord_eq_zero _ _ _ fun hm =>
      ((GatherDims.mem_sKept _ _).mp hm).1 (List.mem_singleton.mpr rfl))
    unfold GatherDims.start
    refine (dif_pos (show (0 : Fin 2) ∈ [(0 : Fin 2)] from List.mem_singleton.mpr rfl)).trans ?_
    refine (congrArg₂ min (congrArg (fun b : BitVec 32 => b.toInt.toNat) (congrArg J (?_ : _ = ix2 t s))) rfl).trans ?_
    · funext b
      apply Fin.ext
      fin_cases b <;> rfl
    · dsimp only
      rw [hi]
      show min (J (ix2 t s)).toNat 20479 = (J (ix2 t s)).toNat % 20480
      omega
  · refine hw ?_ (GatherDims.batchCoord_eq_zero _ _ _ (List.not_mem_nil)) ?_
    · unfold GatherDims.start
      exact dif_neg (by decide : (1 : Fin 2) ∉ [(0 : Fin 2)])
    · rfl

/-- One entry of the result, every position naming a row. -/
theorem result_at (x : FVec Ideal S8192x4096 .f32) (Y : FVec Ideal S20480x4096 .f32) (T : IVec S16384 32) (hT : ∀ y, (T y).toNat < 20480)
    (t : Fin 8192) (d : Fin 4096) :
    result x Y T (ix2 t d) = x (ix2 t d) + Y (ix2 (Fin.ofNat 20480 (T (ix1 (⟨2 * t.val + (0 : Fin 2).val, by omega⟩ : Fin 16384))).toNat) d)
      + Y (ix2 (Fin.ofNat 20480 (T (ix1 (⟨2 * t.val + (1 : Fin 2).val, by omega⟩ : Fin 16384))).toNat) d) := by
  have hp : ∀ s : Fin 2, picked Y (wrapped T) (ix3 t s d) = Y (ix2 (Fin.ofNat 20480 (T (ix1 (⟨2 * t.val + s.val, by omega⟩ : Fin 16384))).toNat) d) := fun s => by
    rw [picked_at _ _ _ _ _ (by rw [wrapped_at T hT]; exact hT _), wrapped_at T hT]
  have hr : result x Y T (ix2 t d) = x (ix2 t d) + ∑ s : Fin 2, picked Y (wrapped T) (ix3 t s d) := by
    pointwise [result]
  rw [hr, Fin.sum_univ_two, hp 0, hp 1, add_assoc]

end Cert.CombineRefIdeal.Sum

end
-- ==== Proof.CombineTables.lean ====
/- The precondition on the positions of the last sum: every one names one of the experts' rows. -/
module

public import proofs.«01_k».proof.Pre_row_numbers
public import Idealize.ShloMosaic.Lib.Pointwise

@[expose] public section

set_option maxRecDepth 16384

noncomputable section

namespace Cert.Positions

open Idealize.ShloMosaic

/-- A word between zero and 20479, as signed words, is a row's number. -/
theorem row_of_bits (b : BitVec 32) (h : IntOp.andi (IntOp.cmpi .sge b 0#32) (IntOp.cmpi .slt b 20480#32) = 1#1) : b.toNat < 20480 := by
  have hb : ∀ p q : Bool, BitVec.ofBool p &&& BitVec.ofBool q = 1#1 → p = true ∧ q = true := by decide
  obtain ⟨hlow, hhigh⟩ := hb ((0#32).sle b) (b.slt 20480#32) h
  rw [BitVec.sle_iff_toInt_le] at hlow
  rw [BitVec.slt_iff_toInt_lt] at hhigh
  have hlow' : (0 : ℤ) ≤ b.toInt := hlow
  have hhigh' : b.toInt < 20480 := hhigh
  have hlt := b.isLt
  rw [BitVec.toInt_eq_toNat_cond] at hlow' hhigh'
  split at hlow' <;> omega

variable {F : FTy → Type} [FloatOps F]

theorem facts : Pre_row_numbers.Facts where
  bcast_S_S16384 := by decide

open Pre_row_numbers in
/-- What the precondition says of the positions. -/
theorem rows_of_fn [Pre_row_numbers.Facts] (x : FVec F S8192x4096 .f32) (Y : FVec F S20480x4096 .f32) (T : IVec S16384 32)
    (h : Pre_row_numbers.fn (F := F) x Y T = fun _ => 1#1) (y : S16384.Idx) : (T y).toNat < 20480 :=
  row_of_bits _ (congrFun h y)

end Cert.Positions

end
-- ==== Proof.CombineClaims.lean ====
/- What is claimed of the last sum, where every position names one of the experts' rows: the kernel runs and leaves its arguments as they
   were, and its result, over the extended reals, is the reference's. -/
module

public import proofs.«01_k».proof.Defs
public import proofs.«01_k».proof.Proof.CombineFrame
public import proofs.«01_k».proof.Proof.CombineArray
public import proofs.«01_k».proof.Proof.CombineRef
public import proofs.«01_k».proof.Proof.CombineTables
public import Idealize.ShloMosaic.Lib.Quiescent

@[expose] public section

noncomputable section

namespace Cert.Proof

open Idealize.ShloMosaic Idealize.ShloMosaic.TcCoe Idealize.SL.Sem

section
attribute [local instance] Cert.Combine.Gen.facts Cert.CombineIdeal.Gen.facts Cert.CombineRefIdeal.Gen.facts Cert.Positions.facts

/-- A memory that meets the precondition holds positions of rows. -/
theorem rows_combine (m : (ℓ : Loc Cert.Combine.nD Cert.Combine.τ Cert.Combine.sig) → Buf (Elt Bits) ℓ) (h : Cert.Pre_Combine m) :
    Cert.Combine.Moves.InRange (Cert.Combine.Steps.placeT m) := Cert.Positions.rows_of_fn _ _ _ (h 0)
theorem rows_combine_ideal (m : (ℓ : Loc Cert.CombineIdeal.nD Cert.CombineIdeal.τ Cert.CombineIdeal.sig) → Buf (Elt Ideal) ℓ) (h : Cert.Pre_CombineIdeal m) :
    Cert.CombineIdeal.Moves.InRange (Cert.CombineIdeal.Steps.placeT m) := Cert.Positions.rows_of_fn _ _ _ (h 0)

theorem combine_frame : Cert.quiescent_Combine := fun m g h => Cert.Combine.Steps.frame_run m g (rows_combine m h)
theorem combine_ideal_frame : Cert.quiescent_CombineIdeal := fun m g h => Cert.CombineIdeal.Steps.frame_run m g (rows_combine_ideal m h)
theorem combine_reference_frame : Cert.quiescent_CombineRefIdeal := fun m g _ =>
  (θ_run Cert.CombineRefIdeal.defs _ _).mono (fun r h => ⟨fun c => (h c).2, sem_eq_zero_of_no_sems (by decide) r.2⟩)
    (Cert.CombineRefIdeal.Value.run (F := Ideal) m g)
theorem combine_reference_frame_pre : Cert.quiescent_CombineRefIdeal_pre_row_numbers := fun m g _ => combine_reference_frame m g trivial

/-- Over the extended reals the last sum's kernel leaves what its reference does. -/
theorem combine_value : Cert.algebraic_CombineIdeal_CombineRefIdeal := by
  intro m g m' g' hpre hagree
  have hT := rows_combine_ideal m hpre
  refine ⟨_, Cert.CombineIdeal.Steps.value_run m g hT,
    (θ_run Cert.CombineRefIdeal.defs _ _).mono (fun r h c => ⟨(h c).1.trans ?_, (h c).2⟩) (Cert.CombineRefIdeal.Value.run (F := Ideal) m' g')⟩
  obtain rfl : c = 0 := Subsingleton.elim _ _
  rw [(hagree 0).1, (hagree 0).2.1, (hagree 0).2.2, Cert.CombineIdeal.Sum.final m 0]
  funext i
  obtain ⟨t, d, rfl⟩ : ∃ (t : Fin 8192) (d : Fin 4096), i = ix2 t d := ⟨i 0, i 1, eq_ix2 i⟩
  exact Cert.CombineRefIdeal.Sum.result_at _ _ _ hT t d

end

end Cert.Proof

end
-- ==== Proof.InProjArray.lean ====
/- The even layer's input projection, all but its last 64 columns: the array the kernel leaves. -/
module

public import proofs.«01_k».proof.Proof.Gen.InProjIdeal.Value
public import proofs.«01_k».proof.Proof.Dense
public import Idealize.ShloMosaic.Lib.Pipeline.ValueKit
public import Idealize.ShloMosaic.Lib.Tactic

@[expose] public section

set_option maxRecDepth 16384

noncomputable section

namespace Cert.InProjIdeal.Product

open Cert.InProjIdeal Cert.InProjIdeal.Gen Idealize.ShloMosaic Idealize.ShloMosaic.TcCoe Idealize.SL.Sem
open Idealize.ShloMosaic.Pipeline (Dat)
open Cert.Dense
open scoped BigOperators

/-- One entry of what a grid point leaves: the row of the left block times the column of the weight block. -/
theorem block_at (c : Dev nD) (i : grid0.Coords) (a3 : Memref sig .tc .vmem S1024x4096 .bf16) (h3 : a3.IsWhole) (a4 : Memref sig .tc .vmem S4096x512 .f32)
    (h4 : a4.IsWhole) (a5 : Memref sig .tc .vmem S1024x512 .f32) (h5 : a5.IsWhole)
    (x : Vec Ideal S1024x4096 .bf16) (w : Vec Ideal S4096x512 .f32) (r : Fin 1024) (d : Fin 512) :
    out0_A_2 c i a3 h3 a4 h4 a5 h5 x w (ix2 r d) = ∑ k : Fin 4096, x (ix2 r k) * w (ix2 k d) := by
  have e : out0_A_2 c i a3 h3 a4 h4 a5 h5 x w = k0_pay1 w x := by
    unfold out0_A_2
    rw [View.read_writes_eq_canon _ _ _ (cover0_A_2 c i a3 h3 a4 h4 a5 h5 x w)]
    unfold kernelRun0_A
    dsimp only
    sl_unfold_words
    rw [View.canon_cons_unit_lit _ _ _ (by decide)]
    simp only [View.readAt_eq_ld, h3.read_unread, h4.read_unread]
    rw [View.ld_unit_lit _ _ (by decide), View.ld_unit_lit _ _ (by decide)]
  rw [e]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])

/-- The output blocks fill the array. -/
theorem covers : (cfg0.win 2).Covers := by decide +kernel

variable (m : (ℓ : Loc nD τ sig) → Buf (Elt Ideal) ℓ) (c : Dev nD)

/-- The left factor on a device. -/
abbrev rows : FVec Ideal S8192x4096 .bf16 := m ((c.tc : Thread nD τ).loc main_arg0)
/-- The weights on a device. -/
abbrev weights : FVec Ideal S4096x8256 .f32 := m ((c.tc : Thread nD τ).loc main_arg1)

/-- The array after the run: each entry is a row times a column. -/
theorem final : (dats m 0 c).arrAt 2 cfg0.N = fun i => ∑ k : Fin 4096, rows m c (ix2 (i 0) k) * weights m c (ix2 k (⟨(i 1).val, lt_trans (show (i 1).val < 8192 from (i 1).isLt) (by decide)⟩ : Fin 8256)) := by
  refine (dats m 0 c).arrAt_eq_of_covers 2 _ covers fun t hf y => ?_
  blk_simp
  rw [after0_2]
  obtain ⟨r, d, rfl⟩ : ∃ (r : Fin 1024) (d : Fin 512), y = ix2 r d := ⟨y 0, y 1, eq_ix2 y⟩
  unfold outsAt0
  refine (block_at _ _ _ _ _ _ _ _ _ _ r d).trans (dot_congr (fun k => ?_) fun k => ?_)
  · blk_ext [iblk, V, idx0, idx2]
  · unfold X0_1 Pipeline.Window.fill
    refine (dif_pos (moved0_1 t _)).trans ?_
    blk_ext [iblk, V, idx1, idx2]

end Cert.InProjIdeal.Product

end
-- ==== Proof.InProjRef.lean ====
/- The even layer's input projection, all but its last 64 columns: the reference's result, entry by entry. -/
module

public import proofs.«01_k».proof.Proof.Gen.InProjRefIdeal.Run
public import Idealize.ShloMosaic.Lib.Pointwise

@[expose] public section

set_option maxRecDepth 16384

noncomputable section

namespace Cert.InProjRefIdeal.Product

open Cert.InProjRefIdeal Cert.InProjRefIdeal.Gen Idealize.ShloMosaic Idealize.ShloMosaic.TcCoe Idealize.SL.Sem
open Facts
open scoped BigOperators

/-- One entry of the result: a row times one of the first columns. -/
theorem result_at (x : FVec Ideal S8192x4096 .bf16) (w : FVec Ideal S4096x8256 .f32) (r : Fin 8192) (d : Fin 8192) :
    extractStridedSlice S8192x8192 ![0, 0] (Host.dotGeneral dot_S8192x4096_S4096x8256_S8192x8256_1_0_0_1_n_n none (extf .f32 x bitsLt_bf16_f32) w) slices_S8192x8256_S8192x8192_0_0 (ix2 r d)
      = ∑ k : Fin 4096, x (ix2 r k) * w (ix2 k (⟨d.val, lt_trans d.isLt (by decide)⟩ : Fin 8256)) := by
  pointwise []

end Cert.InProjRefIdeal.Product

end
-- ==== Proof.InProjKrArray.lean ====
/- The even layer's input projection, its last columns widened with zeros to 128: the array the kernel leaves. -/
module

public import proofs.«01_k».proof.Proof.Gen.InProjKrIdeal.Value
public import proofs.«01_k».proof.Proof.Dense
public import Idealize.ShloMosaic.Lib.Pipeline.ValueKit

@[expose] public section

set_option maxRecDepth 16384

noncomputable section

namespace Cert.InProjKrIdeal.Product

open Cert.InProjKrIdeal Cert.InProjKrIdeal.Gen Idealize.ShloMosaic Idealize.ShloMosaic.TcCoe Idealize.SL.Sem
open Idealize.ShloMosaic.Pipeline (Dat)
open Cert.Dense
open scoped BigOperators

/-- One entry of an output block: the row of the left block times the column of the weight block. -/
theorem block_at (x : Vec Ideal S1024x4096 .bf16) (w : Vec Ideal S4096x128 .f32) (r : Fin 1024) (d : Fin 128) :
    out0_2 x w (ix2 r d) = ∑ k : Fin 4096, x (ix2 r k) * w (ix2 k d) := by
  unfold out0_2
  rw [View.canon_cons_unit_lit _ _ _ (by decide), View.ld_unit_lit _ _ (by decide), View.ld_unit_lit _ _ (by decide)]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])

/-- The output blocks fill the array. -/
theorem covers : (cfg0.win 2).Covers := by decide +kernel

variable (m : (ℓ : Loc nD τ sig) → Buf (Elt Ideal) ℓ) (c : Dev nD)

/-- The left factor on a device. -/
abbrev rows : FVec Ideal S8192x4096 .bf16 := m ((c.tc : Thread nD τ).loc main_arg0)
/-- The weights on a device. -/
abbrev weights : FVec Ideal S4096x128 .f32 := m ((c.tc : Thread nD τ).loc main_arg1)

/-- The array after the run: each entry is a row times a column. -/
theorem final : (dats m 0 c).arrAt 2 cfg0.N = fun i => ∑ k : Fin 4096, rows m c (ix2 (i 0) k) * weights m c (ix2 k (i 1)) := by
  refine (dats m 0 c).arrAt_eq_of_covers 2 _ covers fun t hf y => ?_
  blk_simp
  rw [after0_2]
  obtain ⟨r, d, rfl⟩ : ∃ (r : Fin 1024) (d : Fin 128), y = ix2 r d := ⟨y 0, y 1, eq_ix2 y⟩
  refine Eq.trans (block_at _ _ r d) (dot_congr (fun k => ?_) fun k => ?_)
  · blk_ext [iblk, V, idx0, idx2]
  · blk_ext [iblk, V, idx1, idx2]

end Cert.InProjKrIdeal.Product

end
-- ==== Proof.InProjKrRef.lean ====
/- The even layer's input projection, its last columns widened with zeros to 128: the reference's result, entry by entry. -/
module

public import proofs.«01_k».proof.Proof.Gen.InProjKrRefIdeal.Run
public import Idealize.ShloMosaic.Lib.Pointwise

@[expose] public section

set_option maxRecDepth 16384

noncomputable section

namespace Cert.InProjKrRefIdeal.Product

open Cert.InProjKrRefIdeal Cert.InProjKrRefIdeal.Gen Idealize.ShloMosaic Idealize.ShloMosaic.TcCoe Idealize.SL.Sem
open Facts
open scoped BigOperators

/-- One entry of the result: a row times a column. -/
theorem result_at (x : FVec Ideal S8192x4096 .bf16) (w : FVec Ideal S4096x128 .f32) (r : Fin 8192) (d : Fin 128) :
    Host.dotGeneral dot_S8192x4096_S4096x128_S8192x128_1_0_0_1_n_n none (extf .f32 x bitsLt_bf16_f32) w (ix2 r d)
      = ∑ k : Fin 4096, x (ix2 r k) * w (ix2 k d) := by
  pointwise []

end Cert.InProjKrRefIdeal.Product

end
-- ==== Proof.QUpArray.lean ====
/- The queries from their latent rows: the array the kernel leaves. -/
module

public import proofs.«01_k».proof.Proof.Gen.QUpIdeal.Value
public import proofs.«01_k».proof.Proof.Dense
public import Idealize.ShloMosaic.Lib.Pipeline.ValueKit

@[expose] public section

set_option maxRecDepth 16384

noncomputable section

namespace Cert.QUpIdeal.Product

open Cert.QUpIdeal Cert.QUpIdeal.Gen Idealize.ShloMosaic Idealize.ShloMosaic.TcCoe Idealize.SL.Sem
open Idealize.ShloMosaic.Pipeline (Dat)
open Cert.Dense
open scoped BigOperators

/-- One entry of an output block: the row of the left block times the column of the weight block. -/
theorem block_at (x : Vec Ideal S1024x1536 .bf16) (w : Vec Ideal S1536x512 .f32) (r : Fin 1024) (d : Fin 512) :
    out0_2 x w (ix2 r d) = ∑ k : Fin 1536, x (ix2 r k) * w (ix2 k d) := by
  unfold out0_2
  rw [View.canon_cons_unit_lit _ _ _ (by decide), View.ld_unit_lit _ _ (by decide), View.ld_unit_lit _ _ (by decide)]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])

/-- The output blocks fill the array. -/
theorem covers : (cfg0.win 2).Covers := by decide +kernel

variable (m : (ℓ : Loc nD τ sig) → Buf (Elt Ideal) ℓ) (c : Dev nD)

/-- The left factor on a device. -/
abbrev rows : FVec Ideal S8192x1536 .bf16 := m ((c.tc : Thread nD τ).loc main_arg0)
/-- The weights on a device. -/
abbrev weights : FVec Ideal S1536x4096 .f32 := m ((c.tc : Thread nD τ).loc main_arg1)

/-- The array after the run: each entry is a row times a column. -/
theorem final : (dats m 0 c).arrAt 2 cfg0.N = fun i => ∑ k : Fin 1536, rows m c (ix2 (i 0) k) * weights m c (ix2 k (i 1)) := by
  refine (dats m 0 c).arrAt_eq_of_covers 2 _ covers fun t hf y => ?_
  blk_simp
  rw [after0_2]
  obtain ⟨r, d, rfl⟩ : ∃ (r : Fin 1024) (d : Fin 512), y = ix2 r d := ⟨y 0, y 1, eq_ix2 y⟩
  refine Eq.trans (block_at _ _ r d) (dot_congr (fun k => ?_) fun k => ?_)
  · blk_ext [iblk, V, idx0, idx2]
  · blk_ext [iblk, V, idx1, idx2]

end Cert.QUpIdeal.Product

end
-- ==== Proof.QUpRef.lean ====
/- The queries from their latent rows: the reference's result, entry by entry. -/
module

public import proofs.«01_k».proof.Proof.Gen.QUpRefIdeal.Run
public import Idealize.ShloMosaic.Lib.Pointwise

@[expose] public section

set_option maxRecDepth 16384

noncomputable section

namespace Cert.QUpRefIdeal.Product

open Cert.QUpRefIdeal Cert.QUpRefIdeal.Gen Idealize.ShloMosaic Idealize.ShloMosaic.TcCoe Idealize.SL.Sem
open Facts
open scoped BigOperators

/-- One entry of the result: a row times a column. -/
theorem result_at (x : FVec Ideal S8192x1536 .bf16) (w : FVec Ideal S1536x4096 .f32) (r : Fin 8192) (d : Fin 4096) :
    Host.dotGeneral dot_S8192x1536_S1536x4096_S8192x4096_1_0_0_1_n_n none (extf .f32 x bitsLt_bf16_f32) w (ix2 r d)
      = ∑ k : Fin 1536, x (ix2 r k) * w (ix2 k d) := by
  pointwise []

end Cert.QUpRefIdeal.Product

end
-- ==== Proof.KvUpArray.lean ====
/- The keys and values from their latent rows: the array the kernel leaves. -/
module

public import proofs.«01_k».proof.Proof.Gen.KvUpIdeal.Value
public import proofs.«01_k».proof.Proof.Dense
public import Idealize.ShloMosaic.Lib.Pipeline.ValueKit

@[expose] public section

set_option maxRecDepth 16384

noncomputable section

namespace Cert.KvUpIdeal.Product

open Cert.KvUpIdeal Cert.KvUpIdeal.Gen Idealize.ShloMosaic Idealize.ShloMosaic.TcCoe Idealize.SL.Sem
open Idealize.ShloMosaic.Pipeline (Dat)
open Cert.Dense
open scoped BigOperators

/-- One entry of an output block: the row of the left block times the column of the weight block. -/
theorem block_at (x : Vec Ideal S1024x512 .bf16) (w : Vec Ideal S512x512 .f32) (r : Fin 1024) (d : Fin 512) :
    out0_2 x w (ix2 r d) = ∑ k : Fin 512, x (ix2 r k) * w (ix2 k d) := by
  unfold out0_2
  rw [View.canon_cons_unit_lit _ _ _ (by decide), View.ld_unit_lit _ _ (by decide), View.ld_unit_lit _ _ (by decide)]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])

/-- The output blocks fill the array. -/
theorem covers : (cfg0.win 2).Covers := by decide +kernel

variable (m : (ℓ : Loc nD τ sig) → Buf (Elt Ideal) ℓ) (c : Dev nD)

/-- The left factor on a device. -/
abbrev rows : FVec Ideal S8192x512 .bf16 := m ((c.tc : Thread nD τ).loc main_arg0)
/-- The weights on a device. -/
abbrev weights : FVec Ideal S512x4096 .f32 := m ((c.tc : Thread nD τ).loc main_arg1)

/-- The array after the run: each entry is a row times a column. -/
theorem final : (dats m 0 c).arrAt 2 cfg0.N = fun i => ∑ k : Fin 512, rows m c (ix2 (i 0) k) * weights m c (ix2 k (i 1)) := by
  refine (dats m 0 c).arrAt_eq_of_covers 2 _ covers fun t hf y => ?_
  blk_simp
  rw [after0_2]
  obtain ⟨r, d, rfl⟩ : ∃ (r : Fin 1024) (d : Fin 512), y = ix2 r d := ⟨y 0, y 1, eq_ix2 y⟩
  refine Eq.trans (block_at _ _ r d) (dot_congr (fun k => ?_) fun k => ?_)
  · blk_ext [iblk, V, idx0, idx2]
  · blk_ext [iblk, V, idx1, idx2]

end Cert.KvUpIdeal.Product

end
-- ==== Proof.KvUpRef.lean ====
/- The keys and values from their latent rows: the reference's result, entry by entry. -/
module

public import proofs.«01_k».proof.Proof.Gen.KvUpRefIdeal.Run
public import Idealize.ShloMosaic.Lib.Pointwise

@[expose] public section

set_option maxRecDepth 16384

noncomputable section

namespace Cert.KvUpRefIdeal.Product

open Cert.KvUpRefIdeal Cert.KvUpRefIdeal.Gen Idealize.ShloMosaic Idealize.ShloMosaic.TcCoe Idealize.SL.Sem
open Facts
open scoped BigOperators

/-- One entry of the result: a row times a column. -/
theorem result_at (x : FVec Ideal S8192x512 .bf16) (w : FVec Ideal S512x4096 .f32) (r : Fin 8192) (d : Fin 4096) :
    Host.dotGeneral dot_S8192x512_S512x4096_S8192x4096_1_0_0_1_n_n none (extf .f32 x bitsLt_bf16_f32) w (ix2 r d)
      = ∑ k : Fin 512, x (ix2 r k) * w (ix2 k d) := by
  pointwise []

end Cert.KvUpRefIdeal.Product

end
-- ==== Proof.MemKvArray.lean ====
/- The keys and values of the memory: the array the kernel leaves. -/
module

public import proofs.«01_k».proof.Proof.Gen.MemKvIdeal.Value
public import proofs.«01_k».proof.Proof.Dense
public import Idealize.ShloMosaic.Lib.Pipeline.ValueKit

@[expose] public section

set_option maxRecDepth 16384

noncomputable section

namespace Cert.MemKvIdeal.Product

open Cert.MemKvIdeal Cert.MemKvIdeal.Gen Idealize.ShloMosaic Idealize.ShloMosaic.TcCoe Idealize.SL.Sem
open Idealize.ShloMosaic.Pipeline (Dat)
open Cert.Dense
open scoped BigOperators

/-- One entry of an output block: the row of the left block times the column of the weight block. -/
theorem block_at (x : Vec Ideal S1024x4096 .bf16) (w : Vec Ideal S4096x512 .f32) (r : Fin 1024) (d : Fin 512) :
    out0_2 x w (ix2 r d) = ∑ k : Fin 4096, x (ix2 r k) * w (ix2 k d) := by
  unfold out0_2
  rw [View.canon_cons_unit_lit _ _ _ (by decide), View.ld_unit_lit _ _ (by decide), View.ld_unit_lit _ _ (by decide)]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])

/-- The output blocks fill the array. -/
theorem covers : (cfg0.win 2).Covers := by decide +kernel

variable (m : (ℓ : Loc nD τ sig) → Buf (Elt Ideal) ℓ) (c : Dev nD)

/-- The left factor on a device. -/
abbrev rows : FVec Ideal S1024x4096 .bf16 := m ((c.tc : Thread nD τ).loc main_arg0)
/-- The weights on a device. -/
abbrev weights : FVec Ideal S4096x1024 .f32 := m ((c.tc : Thread nD τ).loc main_arg1)

/-- The array after the run: each entry is a row times a column. -/
theorem final : (dats m 0 c).arrAt 2 cfg0.N = fun i => ∑ k : Fin 4096, rows m c (ix2 (i 0) k) * weights m c (ix2 k (i 1)) := by
  refine (dats m 0 c).arrAt_eq_of_covers 2 _ covers fun t hf y => ?_
  blk_simp
  rw [after0_2]
  obtain ⟨r, d, rfl⟩ : ∃ (r : Fin 1024) (d : Fin 512), y = ix2 r d := ⟨y 0, y 1, eq_ix2 y⟩
  refine Eq.trans (block_at _ _ r d) (dot_congr (fun k => ?_) fun k => ?_)
  · blk_ext [iblk, V, idx0, idx2]
  · blk_ext [iblk, V, idx1, idx2]

end Cert.MemKvIdeal.Product

end
-- ==== Proof.MemKvRef.lean ====
/- The keys and values of the memory: the reference's result, entry by entry. -/
module

public import proofs.«01_k».proof.Proof.Gen.MemKvRefIdeal.Run
public import Idealize.ShloMosaic.Lib.Pointwise

@[expose] public section

set_option maxRecDepth 16384

noncomputable section

namespace Cert.MemKvRefIdeal.Product

open Cert.MemKvRefIdeal Cert.MemKvRefIdeal.Gen Idealize.ShloMosaic Idealize.ShloMosaic.TcCoe Idealize.SL.Sem
open Facts
open scoped BigOperators

/-- One entry of the result: a row times a column. -/
theorem result_at (x : FVec Ideal S1024x4096 .bf16) (w : FVec Ideal S4096x1024 .f32) (r : Fin 1024) (d : Fin 1024) :
    Host.dotGeneral dot_S1024x4096_S4096x1024_S1024x1024_1_0_0_1_n_n none (extf .f32 x bitsLt_bf16_f32) w (ix2 r d)
      = ∑ k : Fin 4096, x (ix2 r k) * w (ix2 k d) := by
  pointwise []

end Cert.MemKvRefIdeal.Product

end
-- ==== Proof.CrossQArray.lean ====
/- The queries of the cross-attention: the array the kernel leaves. -/
module

public import proofs.«01_k».proof.Proof.Gen.CrossQIdeal.Value
public import proofs.«01_k».proof.Proof.Dense
public import Idealize.ShloMosaic.Lib.Pipeline.ValueKit

@[expose] public section

set_option maxRecDepth 16384

noncomputable section

namespace Cert.CrossQIdeal.Product

open Cert.CrossQIdeal Cert.CrossQIdeal.Gen Idealize.ShloMosaic Idealize.ShloMosaic.TcCoe Idealize.SL.Sem
open Idealize.ShloMosaic.Pipeline (Dat)
open Cert.Dense
open scoped BigOperators

/-- One entry of an output block: the row of the left block times the column of the weight block. -/
theorem block_at (x : Vec Ideal S1024x4096 .bf16) (w : Vec Ideal S4096x512 .f32) (r : Fin 1024) (d : Fin 512) :
    out0_2 x w (ix2 r d) = ∑ k : Fin 4096, x (ix2 r k) * w (ix2 k d) := by
  unfold out0_2
  rw [View.canon_cons_unit_lit _ _ _ (by decide), View.ld_unit_lit _ _ (by decide), View.ld_unit_lit _ _ (by decide)]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])

/-- The output blocks fill the array. -/
theorem covers : (cfg0.win 2).Covers := by decide +kernel

variable (m : (ℓ : Loc nD τ sig) → Buf (Elt Ideal) ℓ) (c : Dev nD)

/-- The left factor on a device. -/
abbrev rows : FVec Ideal S8192x4096 .bf16 := m ((c.tc : Thread nD τ).loc main_arg0)
/-- The weights on a device. -/
abbrev weights : FVec Ideal S4096x512 .f32 := m ((c.tc : Thread nD τ).loc main_arg1)

/-- The array after the run: each entry is a row times a column. -/
theorem final : (dats m 0 c).arrAt 2 cfg0.N = fun i => ∑ k : Fin 4096, rows m c (ix2 (i 0) k) * weights m c (ix2 k (i 1)) := by
  refine (dats m 0 c).arrAt_eq_of_covers 2 _ covers fun t hf y => ?_
  blk_simp
  rw [after0_2]
  obtain ⟨r, d, rfl⟩ : ∃ (r : Fin 1024) (d : Fin 512), y = ix2 r d := ⟨y 0, y 1, eq_ix2 y⟩
  refine Eq.trans (block_at _ _ r d) (dot_congr (fun k => ?_) fun k => ?_)
  · blk_ext [iblk, V, idx0, idx2]
  · blk_ext [iblk, V, idx1, idx2]

end Cert.CrossQIdeal.Product

end
-- ==== Proof.CrossQRef.lean ====
/- The queries of the cross-attention: the reference's result, entry by entry. -/
module

public import proofs.«01_k».proof.Proof.Gen.CrossQRefIdeal.Run
public import Idealize.ShloMosaic.Lib.Pointwise

@[expose] public section

set_option maxRecDepth 16384

noncomputable section

namespace Cert.CrossQRefIdeal.Product

open Cert.CrossQRefIdeal Cert.CrossQRefIdeal.Gen Idealize.ShloMosaic Idealize.ShloMosaic.TcCoe Idealize.SL.Sem
open Facts
open scoped BigOperators

/-- One entry of the result: a row times a column. -/
theorem result_at (x : FVec Ideal S8192x4096 .bf16) (w : FVec Ideal S4096x512 .f32) (r : Fin 8192) (d : Fin 512) :
    Host.dotGeneral dot_S8192x4096_S4096x512_S8192x512_1_0_0_1_n_n none (extf .f32 x bitsLt_bf16_f32) w (ix2 r d)
      = ∑ k : Fin 4096, x (ix2 r k) * w (ix2 k d) := by
  pointwise []

end Cert.CrossQRefIdeal.Product

end
-- ==== Proof.CrossOArray.lean ====
/- The output projection of the cross-attention: the array the kernel leaves. -/
module

public import proofs.«01_k».proof.Proof.Gen.CrossOIdeal.Value
public import proofs.«01_k».proof.Proof.Dense
public import Idealize.ShloMosaic.Lib.Pipeline.ValueKit

@[expose] public section

set_option maxRecDepth 16384

noncomputable section

namespace Cert.CrossOIdeal.Product

open Cert.CrossOIdeal Cert.CrossOIdeal.Gen Idealize.ShloMosaic Idealize.ShloMosaic.TcCoe Idealize.SL.Sem
open Idealize.ShloMosaic.Pipeline (Dat)
open Cert.Dense
open scoped BigOperators

/-- One entry of an output block: the row of the left block times the column of the weight block, and the residual's entry. -/
theorem block_at (x : Vec Ideal S1024x512 .bf16) (w : Vec Ideal S512x512 .f32) (z : Vec Ideal S1024x512 .f32) (r : Fin 1024) (d : Fin 512) :
    out0_3 x w z (ix2 r d) = (∑ k : Fin 512, x (ix2 r k) * w (ix2 k d)) + z (ix2 r d) := by
  unfold out0_3
  rw [View.canon_cons_unit_lit _ _ _ (by decide), View.ld_unit_lit _ _ (by decide), View.ld_unit_lit _ _ (by decide), View.ld_unit_lit _ _ (by decide)]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])
theorem idx3 : ∀ t : Fin cfg0.N, win0_3.index t = ![(grid0.coords t 0).val, (grid0.coords t 1).val] :=
  (by decide +kernel : ∀ t : Fin grid0.N, win0_3.index t = ![(grid0.coords t 0).val, (grid0.coords t 1).val])

/-- The output blocks fill the array. -/
theorem covers : (cfg0.win 3).Covers := by decide +kernel

variable (m : (ℓ : Loc nD τ sig) → Buf (Elt Ideal) ℓ) (c : Dev nD)

/-- The left factor on a device. -/
abbrev rows : FVec Ideal S8192x512 .bf16 := m ((c.tc : Thread nD τ).loc main_arg0)
/-- The weights on a device. -/
abbrev weights : FVec Ideal S512x4096 .f32 := m ((c.tc : Thread nD τ).loc main_arg1)
/-- The residual on a device. -/
abbrev residual : FVec Ideal S8192x4096 .f32 := m ((c.tc : Thread nD τ).loc main_arg2)

/-- The array after the run: each entry the residual's entry and a row times a column. -/
theorem final : (dats m 0 c).arrAt 3 cfg0.N = fun i => residual m c (ix2 (i 0) (i 1)) + ∑ k : Fin 512, rows m c (ix2 (i 0) k) * weights m c (ix2 k (i 1)) := by
  refine (dats m 0 c).arrAt_eq_of_covers 3 _ covers fun t hf y => ?_
  blk_simp
  rw [after0_3]
  obtain ⟨r, d, rfl⟩ : ∃ (r : Fin 1024) (d : Fin 512), y = ix2 r d := ⟨y 0, y 1, eq_ix2 y⟩
  refine (block_at _ _ _ r d).trans ((add_comm _ _).trans (congrArg₂ (· + ·) ?_ (dot_congr (fun k => ?_) fun k => ?_)))
  · blk_ext [iblk, V, idx2, idx3]
  · blk_ext [iblk, V, idx0, idx3]
  · blk_ext [iblk, V, idx1, idx3]

end Cert.CrossOIdeal.Product

end
-- ==== Proof.CrossORef.lean ====
/- The output projection of the cross-attention: the reference's result, entry by entry. -/
module

public import proofs.«01_k».proof.Proof.Gen.CrossORefIdeal.Run
public import Idealize.ShloMosaic.Lib.Pointwise

@[expose] public section

set_option maxRecDepth 16384

noncomputable section

namespace Cert.CrossORefIdeal.Product

open Cert.CrossORefIdeal Cert.CrossORefIdeal.Gen Idealize.ShloMosaic Idealize.ShloMosaic.TcCoe Idealize.SL.Sem
open Facts
open scoped BigOperators

/-- One entry of the result: the residual's entry and a row times a column. -/
theorem result_at (x : FVec Ideal S8192x512 .bf16) (w : FVec Ideal S512x4096 .f32) (z : FVec Ideal S8192x4096 .f32) (r : Fin 8192) (d : Fin 4096) :
    addf z (Host.dotGeneral dot_S8192x512_S512x4096_S8192x4096_1_0_0_1_n_n none (extf .f32 x bitsLt_bf16_f32) w) (ix2 r d)
      = z (ix2 r d) + ∑ k : Fin 512, x (ix2 r k) * w (ix2 k d) := by
  pointwise []

end Cert.CrossORefIdeal.Product

end
-- ==== Proof.MixOddArray.lean ====
/- The output projection of the odd layer's attention: the array the kernel leaves. -/
module

public import proofs.«01_k».proof.Proof.Gen.MixOddIdeal.Value
public import proofs.«01_k».proof.Proof.Dense
public import Idealize.ShloMosaic.Lib.Pipeline.ValueKit

@[expose] public section

set_option maxRecDepth 16384

noncomputable section

namespace Cert.MixOddIdeal.Product

open Cert.MixOddIdeal Cert.MixOddIdeal.Gen Idealize.ShloMosaic Idealize.ShloMosaic.TcCoe Idealize.SL.Sem
open Idealize.ShloMosaic.Pipeline (Dat)
open Cert.Dense
open scoped BigOperators

/-- One entry of an output block: the row of the left block times the column of the weight block, and the residual's entry. -/
theorem block_at (x : Vec Ideal S1024x4096 .bf16) (w : Vec Ideal S4096x512 .f32) (z : Vec Ideal S1024x512 .f32) (r : Fin 1024) (d : Fin 512) :
    out0_3 x w z (ix2 r d) = (∑ k : Fin 4096, x (ix2 r k) * w (ix2 k d)) + z (ix2 r d) := by
  unfold out0_3
  rw [View.canon_cons_unit_lit _ _ _ (by decide), View.ld_unit_lit _ _ (by decide), View.ld_unit_lit _ _ (by decide), View.ld_unit_lit _ _ (by decide)]
  pointwise [k0_pay1]

/-! The block each window reads or writes at a grid point. -/

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, (grid0.coords t 1).val] :=
  (by decide +kernel : ∀ t : Fin grid0.N, win0_1.index t = ![0, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])
theorem idx3 : ∀ t : Fin cfg0.N, win0_3.index t = ![(grid0.coords t 0).val, (grid0.coords t 1).val] :=
  (by decide +kernel : ∀ t : Fin grid0.N, win0_3.index t = ![(grid0.coords t 0).val, (grid0.coords t 1).val])

/-- The output blocks fill the array. -/
theorem covers : (cfg0.win 3).Covers := by decide +kernel

variable (m : (ℓ : Loc nD τ sig) → Buf (Elt Ideal) ℓ) (c : Dev nD)

/-- The left factor on a device. -/
abbrev rows : FVec Ideal S8192x4096 .bf16 := m ((c.tc : Thread nD τ).loc main_arg0)
/-- The weights on a device. -/
abbrev weights : FVec Ideal S4096x4096 .f32 := m ((c.tc : Thread nD τ).loc main_arg1)
/-- The residual on a device. -/
abbrev residual : FVec Ideal S8192x4096 .f32 := m ((c.tc : Thread nD τ).loc main_arg2)

/-- The array after the run: each entry the residual's entry and a row times a column. -/
theorem final : (dats m 0 c).arrAt 3 cfg0.N = fun i => residual m c (ix2 (i 0) (i 1)) + ∑ k : Fin 4096, rows m c (ix2 (i 0) k) * weights m c (ix2 k (i 1)) := by
  refine (dats m 0 c).arrAt_eq_of_covers 3 _ covers fun t hf y => ?_
  blk_simp
  rw [after0_3]
  obtain ⟨r, d, rfl⟩ : ∃ (r : Fin 1024) (d : Fin 512), y = ix2 r d := ⟨y 0, y 1, eq_ix2 y⟩
  refine (block_at _ _ _ r d).trans ((add_comm _ _).trans (congrArg₂ (· + ·) ?_ (dot_congr (fun k => ?_) fun k => ?_)))
  · blk_ext [iblk, V, idx2, idx3]
  · blk_ext [iblk, V, idx0, idx3]
  · blk_ext [iblk, V, idx1, idx3]

end Cert.MixOddIdeal.Product

end
-- ==== Proof.MixOddRef.lean ====
/- The output projection of the odd layer's attention: the reference's result, entry by entry. -/
module

public import proofs.«01_k».proof.Proof.Gen.MixOddRefIdeal.Run
public import Idealize.ShloMosaic.Lib.Pointwise

@[expose] public section

set_option maxRecDepth 16384

noncomputable section

namespace Cert.MixOddRefIdeal.Product

open Cert.MixOddRefIdeal Cert.MixOddRefIdeal.Gen Idealize.ShloMosaic Idealize.ShloMosaic.TcCoe Idealize.SL.Sem
open Facts
open scoped BigOperators

/-- One entry of the result: the residual's entry and a row times a column. -/
theorem result_at (x : FVec Ideal S8192x4096 .bf16) (w : FVec Ideal S4096x4096 .f32) (z : FVec Ideal S8192x4096 .f32) (r : Fin 8192) (d : Fin 4096) :
    addf z (Host.dotGeneral dot_S8192x4096_S4096x4096_S8192x4096_1_0_0_1_n_n none (extf .f32 x bitsLt_bf16_f32) w) (ix2 r d)
      = z (ix2 r d) + ∑ k : Fin 4096, x (ix2 r k) * w (ix2 k d) := by
  pointwise []

end Cert.MixOddRefIdeal.Product

end
-- ==== Proof.MixEvenArray.lean ====
/- The output projection of an even layer, whose rows come in two halves: the array the kernel leaves. The first step of a block keeps the
   product with the first half, the second adds the product with the second half and the residual. -/
module

public import proofs.«01_k».proof.Proof.Gen.MixEvenIdeal.Value
public import proofs.«01_k».proof.Proof.Dense
public import Idealize.ShloMosaic.Lib.Pipeline.ValueKit
public import Idealize.ShloMosaic.Lib.Tactic

@[expose] public section

set_option maxRecDepth 16384

noncomputable section

namespace Cert.MixEvenIdeal.Product

open Cert.MixEvenIdeal Cert.MixEvenIdeal.Gen Idealize.ShloMosaic Idealize.ShloMosaic.TcCoe Idealize.SL.Sem
open Idealize.ShloMosaic.Pipeline (Dat)
open Cert.Dense
open scoped BigOperators

section
variable {F : FTy → Type} [FloatOps F]
variable (c : Dev nD) (i : grid0.Coords) (a3 : Memref sig .tc .vmem S1024x2048 .bf16) (h3 : a3.IsWhole) (a4 : Memref sig .tc .vmem S1024x2048 .bf16)
  (h4 : a4.IsWhole) (a5 : Memref sig .tc .vmem S2048x512 .f32) (h5 : a5.IsWhole) (a6 : Memref sig .tc .vmem S1024x512 .f32) (h6 : a6.IsWhole)
  (a7 : Memref sig .tc .vmem S1024x512 .f32) (h7 : a7.IsWhole) (a8 : Memref sig .tc .vmem S1024x512 .f32) (h8 : a8.IsWhole)
  (x y : Vec F S1024x2048 .bf16) (w : Vec F S2048x512 .f32) (res acc : Vec F S1024x512 .f32)

/-- The first step keeps the product of the first half. -/
theorem first (hc0 : cond0_0 i) (hc1 : ¬cond0_1 i) :
    sout0_A_0 c i a3 h3 a4 h4 a5 h5 a6 h6 a7 h7 a8 h8 hc0 hc1 x y w res = k0_pay2 w x := by
  unfold sout0_A_0
  rw [View.read_writes_eq_canon _ _ _ (scover0_A_0 c i a3 h3 a4 h4 a5 h5 a6 h6 a7 h7 a8 h8 hc0 hc1 x y w res)]
  unfold kernelRun0_A
  dsimp only
  sl_unfold_words
  rw [View.canon_cons_unit_lit _ _ _ (by decide)]
  simp only [View.readAt_eq_ld, h3.read_unread, h5.read_unread]
  rw [View.ld_unit_lit _ _ (by decide), View.ld_unit_lit _ _ (by decide)]

/-- The second step leaves that, the product of the second half and the residual, added. -/
theorem second (hc0 : ¬cond0_0 i) (hc1 : cond0_1 i) :
    out0_B_4 c i a3 h3 a4 h4 a5 h5 a6 h6 a7 h7 a8 h8 hc0 hc1 x y w res acc = k0_pay3 w acc y res := by
  unfold out0_B_4
  rw [View.read_writes_eq_canon _ _ _ (cover0_B_4 c i a3 h3 a4 h4 a5 h5 a6 h6 a7 h7 a8 h8 hc0 hc1 x y w res acc)]
  unfold kernelRun0_B
  dsimp only
  sl_unfold_words
  rw [View.canon_cons_unit_lit _ _ _ (by decide)]
  simp only [View.readAt_eq_ld, h4.read_unread, h5.read_unread, h6.read_unread, h8.read_unread]
  rw [View.ld_unit_lit _ _ (by decide), View.ld_unit_lit _ _ (by decide), View.ld_unit_lit _ _ (by decide), View.ld_unit_lit _ _ (by decide)]

end

section
variable (x : Vec Ideal S1024x2048 .bf16) (w : Vec Ideal S2048x512 .f32) (res acc : Vec Ideal S1024x512 .f32) (r : Fin 1024) (d : Fin 512)

theorem first_at : k0_pay2 w x (ix2 r d) = ∑ k : Fin 2048, x (ix2 r k) * w (ix2 k d) := by
  pointwise [k0_pay2, k0_pay1]

theorem second_at : k0_pay3 w acc x res (ix2 r d) = acc (ix2 r d) + (∑ k : Fin 2048, x (ix2 r k) * w (ix2 k d)) + res (ix2 r d) := by
  pointwise [k0_pay3, k0_pay1]

end

/-! The block each window reads or writes at a grid point. -/

theorem idx0 : ∀ t : Fin cfg0.N, win0_0.index t = ![t.val / 16, 0] :=
  (by decide +kernel : ∀ t : Fin grid0.N, win0_0.index t = ![t.val / 16, 0])
theorem idx1 : ∀ t : Fin cfg0.N, win0_1.index t = ![t.val / 16, 0] :=
  (by decide +kernel : ∀ t : Fin grid0.N, win0_1.index t = ![t.val / 16, 0])
theorem idx2 : ∀ t : Fin cfg0.N, win0_2.index t = ![t.val % 2, t.val / 2 % 8] :=
  (by decide +kernel : ∀ t : Fin grid0.N, win0_2.index t = ![t.val % 2, t.val / 2 % 8])
theorem idx3 : ∀ t : Fin cfg0.N, win0_3.index t = ![t.val / 16, t.val / 2 % 8] :=
  (by decide +kernel : ∀ t : Fin grid0.N, win0_3.index t = ![t.val / 16, t.val / 2 % 8])
theorem idx4 : ∀ t : Fin cfg0.N, win0_4.index t = ![t.val / 16, t.val / 2 % 8] :=
  (by decide +kernel : ∀ t : Fin grid0.N, win0_4.index t = ![t.val / 16, t.val / 2 % 8])

/-- The output blocks fill the array. -/
theorem covers : (cfg0.win 4).Covers := by decide +kernel

variable (m : (ℓ : Loc nD τ sig) → Buf (Elt Ideal) ℓ) (c : Dev nD)

/-- The first half of the rows on a device. -/
abbrev rowsA : FVec Ideal S8192x2048 .bf16 := m ((c.tc : Thread nD τ).loc main_arg0)
/-- The second half of the rows on a device. -/
abbrev rowsB : FVec Ideal S8192x2048 .bf16 := m ((c.tc : Thread nD τ).loc main_arg1)
/-- The weights on a device. -/
abbrev weights : FVec Ideal S4096x4096 .f32 := m ((c.tc : Thread nD τ).loc main_arg2)
/-- The residual on a device. -/
abbrev residual : FVec Ideal S8192x4096 .f32 := m ((c.tc : Thread nD τ).loc main_arg3)

/-- The array after the run: each entry the residual's entry and the products of both halves. -/
theorem final : (dats m 0 c).arrAt 4 cfg0.N = fun i =>
    residual m c (ix2 (i 0) (i 1))
      + ((∑ k : Fin 2048, rowsA m c (ix2 (i 0) k) * weights m c (ix2 (⟨k.val, by omega⟩ : Fin 4096) (i 1)))
        + ∑ k : Fin 2048, rowsB m c (ix2 (i 0) k) * weights m c (ix2 (⟨2048 + k.val, by omega⟩ : Fin 4096) (i 1))) := by
  refine (dats m 0 c).arrAt_eq_of_covers 4 _ covers fun t hf y => ?_
  have hk : t.val % 2 = 1 := (flush0_4 t).mp hf
  have ht := t.isLt
  have hs : t.val - 1 < cfg0.N := lt_of_le_of_lt (Nat.sub_le _ _) ht
  blk_simp
  rw [after0_4]
  obtain ⟨r, d, rfl⟩ : ∃ (r : Fin 1024) (d : Fin 512), y = ix2 r d := ⟨y 0, y 1, eq_ix2 y⟩
  rw [outsAt0_B m c t (by omega) hk]
  dsimp only
  rw [second]
  refine (second_at _ _ _ _ r d).trans ((add_comm _ _).trans (congrArg₂ (· + ·) ?_ (congrArg₂ (· + ·) ?_ (dot_congr (fun k => ?_) fun k => ?_))))
  · blk_ext [iblk, V, idx3, idx4]
  · rw [show outsAt0 m c (t.val - 1) _ = _ from outsAt0_A m c ⟨t.val - 1, hs⟩ (by dsimp only; omega) (by dsimp only; omega)]
    dsimp only
    rw [first]
    refine (first_at _ _ r d).trans (dot_congr (fun k => ?_) fun k => ?_)
    · blk_ext [iblk, V, idx0, idx4]
    · blk_ext [iblk, V, idx2, idx4]
  · blk_ext [iblk, V, idx1, idx4]
  · blk_ext [iblk, V, idx2, idx4]

end Cert.MixEvenIdeal.Product

end
-- ==== Proof.MixEvenRef.lean ====
/- The output projection of an even layer: the reference's result, entry by entry. The row is the two halves put side by side, so its
   product with a column is the sum of the two halves' products. -/
module

public import proofs.«01_k».proof.Proof.Gen.MixEvenRefIdeal.Run
public import proofs.«01_k».proof.Proof.Dense

@[expose] public section

set_option maxRecDepth 16384

noncomputable section

namespace Cert.MixEvenRefIdeal.Product

open Cert.MixEvenRefIdeal Cert.MixEvenRefIdeal.Gen Idealize.ShloMosaic Idealize.ShloMosaic.TcCoe Idealize.SL.Sem
open Facts
open scoped BigOperators

/-- The two halves of a row side by side. -/
def whole (x y : FVec Ideal S8192x2048 .bf16) (r : Fin 8192) (k : Fin 4096) : EReal :=
  if h : k.val < 2048 then x (ix2 r (⟨k.val, h⟩ : Fin 2048)) else y (ix2 r (⟨k.val - 2048, by omega⟩ : Fin 2048))

/-- A sum over both halves, half by half. -/
theorem halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- One entry of the concatenation. -/
theorem concat_at (x y : FVec Ideal S8192x2048 .bf16) (r : Fin 8192) (k : Fin 4096) :
    concatenate S8192x4096 1 [⟨S8192x2048, x⟩, ⟨S8192x2048, y⟩] concatenates_S8192x2048_S8192x2048_S8192x4096_d1 (ix2 r k) = whole x y r k := by
  unfold whole
  by_cases h : k.val < 2048
  · rw [dif_pos h]
    pointwise []
    exact dif_pos h
  · rw [dif_neg h]
    pointwise []
    exact dif_neg h

/-- One entry of the result: the residual's entry and the products of both halves. -/
theorem result_at (x y : FVec Ideal S8192x2048 .bf16) (w : FVec Ideal S4096x4096 .f32) (z : FVec Ideal S8192x4096 .f32) (r : Fin 8192) (d : Fin 4096) :
    addf z (Host.dotGeneral dot_S8192x4096_S4096x4096_S8192x4096_1_0_0_1_n_n none (extf .f32
        (concatenate S8192x4096 1 [⟨S8192x2048, x⟩, ⟨S8192x2048, y⟩] concatenates_S8192x2048_S8192x2048_S8192x4096_d1) bitsLt_bf16_f32) w) (ix2 r d)
      = z (ix2 r d) + ((∑ k : Fin 2048, x (ix2 r k) * w (ix2 (⟨k.val, by omega⟩ : Fin 4096) d))
        + ∑ k : Fin 2048, y (ix2 r k) * w (ix2 (⟨2048 + k.val, by omega⟩ : Fin 4096) d)) := by
  have e : addf z (Host.dotGeneral dot_S8192x4096_S4096x4096_S8192x4096_1_0_0_1_n_n none (extf .f32
        (concatenate S8192x4096 1 [⟨S8192x2048, x⟩, ⟨S8192x2048, y⟩] concatenates_S8192x2048_S8192x2048_S8192x4096_d1) bitsLt_bf16_f32) w) (ix2 r d)
      = z (ix2 r d) + ∑ k : Fin 4096, whole x y r k * w (ix2 k d) := by
    generalize hc : concatenate S8192x4096 1 [⟨S8192x2048, x⟩, ⟨S8192x2048, y⟩] concatenates_S8192x2048_S8192x2048_S8192x4096_d1 = v
    have hv : ∀ k : Fin 4096, whole x y r k = v (ix2 r k) := fun k => by rw [← hc, concat_at]
    rw [Cert.Dense.dot_congr hv fun _ => rfl]
    pointwise []
  rw [e, halves]
  refine congrArg (_ + ·) (congrArg₂ (· + ·) (Finset.sum_congr rfl fun k _ => ?_) (Finset.sum_congr rfl fun k _ => ?_))
  · unfold whole
    rw [dif_pos k.isLt]
  · unfold whole
    rw [dif_neg (by dsimp only; omega)]
    congr 3
    exact Fin.ext (by dsimp only; omega)

end Cert.MixEvenRefIdeal.Product

end
-- ==== Proof.Scaling.lean ====
/- A row scaled by the reciprocal square root of its mean square. -/
module

public import Idealize.ShloMosaic.Lib.Pointwise

@[expose] public section

set_option maxRecDepth 16384

noncomputable section

namespace Cert.Scaling

open Idealize.ShloMosaic
open scoped BigOperators

/-- The factor of a row: the reciprocal square root of the mean of the squares of its entries, plus a small constant; `n` is the bits of the
    number of entries. -/
def factor (n : BitVec 32) {K : ℕ} (x : Fin K → EReal) : EReal :=
  FloatOps.rsqrt (F := Ideal) (φ := .f32) (FloatOps.addf (F := Ideal) (φ := .f32)
    (FloatOps.divf (F := Ideal) (φ := .f32) (∑ k, x k * x k) (Scalar.ofBits (F := Ideal) .f32 n))
    (Scalar.ofBits (F := Ideal) .f32 0x358637BD#32))

end Cert.Scaling

end
-- ==== Proof.NormArray.lean ====
/- The norm of a layer's rows: the array the kernel leaves. -/
module

public import proofs.«01_k».proof.Proof.Gen.NormIdeal.Value
public import proofs.«01_k».proof.Proof.Scaling
public import Idealize.ShloMosaic.Lib.Pipeline.ValueKit

@[expose] public section

set_option maxRecDepth 16384

noncomputable section

namespace Cert.NormIdeal.Product

open Cert.NormIdeal Cert.NormIdeal.Gen Idealize.ShloMosaic Idealize.ShloMosaic.TcCoe Idealize.SL.Sem
open Idealize.ShloMosaic.Pipeline (Dat)
open Cert.Scaling
open scoped BigOperators

/-- One entry of an output block: the row's entry, scaled by the row's factor and the column's weight. -/
theorem block_at (x : Vec Ideal S256x4096 .f32) (g : Vec Ideal S1x4096 .f32) (r : Fin 256) (d : Fin 4096) :
    out0_2 x g (ix2 r d) = x (ix2 r d) * factor 0x45800000#32 (fun k => x (ix2 r k)) * g (ix2 (0 : Fin 1) d) := by
  unfold out0_2
  rw [View.canon_cons_unit_lit _ _ _ (by decide), View.ld_unit_lit _ _ (by decide), View.ld_unit_lit _ _ (by decide)]
  pointwise [k0_pay1, factor]

/-! The block each window reads or writes at a grid point. -/

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- The output blocks fill the array. -/
theorem covers : (cfg0.win 2).Covers := by decide +kernel

variable (m : (ℓ : Loc nD τ sig) → Buf (Elt Ideal) ℓ) (c : Dev nD)

/-- The rows on a device. -/
abbrev rows : FVec Ideal S8192x4096 .f32 := m ((c.tc : Thread nD τ).loc main_arg0)
/-- The columns' weights on a device. -/
abbrev gains : FVec Ideal S4096 .f32 := m ((c.tc : Thread nD τ).loc main_arg1)

/-- The weights as the kernel finds them: one row. -/
theorem gains_row : V m c main_v0 = shapeCast S1x4096 (gains m c) shapeCasts_S4096_S1x4096 := by
  show StableHlo.after hostOps0 _ _ = _
  after_results
  rfl

/-- One entry of that row. -/
theorem gains_at (g : FVec Ideal S4096 .f32) (d : Fin 4096) : shapeCast S1x4096 g shapeCasts_S4096_S1x4096 (ix2 (0 : Fin 1) d) = g (ix1 d) := by
  pointwise []

/-- The array after the run. -/
theorem final : (dats m 0 c).arrAt 2 cfg0.N = fun i =>
    rows m c (ix2 (i 0) (i 1)) * factor 0x45800000#32 (fun k => rows m c (ix2 (i 0) k)) * gains m c (ix1 (i 1)) := by
  refine (dats m 0 c).arrAt_eq_of_covers 2 _ covers fun t hf y => ?_
  blk_simp
  rw [after0_2]
  obtain ⟨r, d, rfl⟩ : ∃ (r : Fin 256) (d : Fin 4096), y = ix2 r d := ⟨y 0, y 1, eq_ix2 y⟩
  refine (block_at _ _ r d).trans (congrArg₂ (· * ·) (congrArg₂ (· * ·) ?_ (congrArg (factor 0x45800000#32) (funext fun k => ?_))) ?_)
  · unfold iblk
    rw [V_main_arg0]
    blk_ext [idx0, idx2]
  · unfold iblk
    rw [V_main_arg0]
    blk_ext [idx0, idx2]
  · refine Eq.trans ?_ (gains_at (gains m c) _)
    unfold iblk
    rw [gains_row]
    blk_ext [idx1, idx2]

end Cert.NormIdeal.Product

end
-- ==== Proof.NormRef.lean ====
/- The norm of a layer's rows: the reference's result, entry by entry. -/
module

public import proofs.«01_k».proof.Proof.Gen.NormRefIdeal.Run
public import proofs.«01_k».proof.Proof.Scaling

@[expose] public section

set_option maxRecDepth 16384

noncomputable section

namespace Cert.NormRefIdeal.Product

open Cert.NormRefIdeal Cert.NormRefIdeal.Gen Idealize.ShloMosaic Idealize.ShloMosaic.TcCoe Idealize.SL.Sem
open Facts
open Cert.Scaling
open scoped BigOperators

/-- One entry of the result: the row's entry, scaled by the row's factor and the column's weight. -/
theorem result_at (x : FVec Ideal S8192x4096 .f32) (g : FVec Ideal S4096 .f32) (r : Fin 8192) (d : Fin 4096) :
    truncf .bf16 (mulf (mulf x (broadcastInDim S8192x4096 ![0, 1] bcast_S8192x1_S8192x4096_0_1 (Host.rsqrt (addf (Host.divf
        (broadcastInDim S8192x1 ![0] bcast_S8192_S8192x1_0 (Host.reduceAdd (mulf x x) (constant S_ .f32 0x00000000#32) reducesTo_S8192x4096_S8192_d1 h_S_))
        (broadcastInDim S8192x1 ![] bcast_S_S8192x1 (constant S_ .f32 0x45800000#32)))
        (broadcastInDim S8192x1 ![] bcast_S_S8192x1 (constant S_ .f32 0x358637BD#32))))))
        (broadcastInDim S8192x4096 ![0, 1] bcast_S1x4096_S8192x4096_0_1 (broadcastInDim S1x4096 ![1] bcast_S4096_S1x4096_1 g))) bitsLt_bf16_f32 (ix2 r d)
      = x (ix2 r d) * factor 0x45800000#32 (fun k => x (ix2 r k)) * g (ix1 d) := by
  pointwise [factor]

end Cert.NormRefIdeal.Product

end
-- ==== Proof.NormMemArray.lean ====
/- The norm of the memory rows: the array the kernel leaves. -/
module

public import proofs.«01_k».proof.Proof.Gen.NormMemIdeal.Value
public import proofs.«01_k».proof.Proof.Scaling
public import Idealize.ShloMosaic.Lib.Pipeline.ValueKit

@[expose] public section

set_option maxRecDepth 16384

noncomputable section

namespace Cert.NormMemIdeal.Product

open Cert.NormMemIdeal Cert.NormMemIdeal.Gen Idealize.ShloMosaic Idealize.ShloMosaic.TcCoe Idealize.SL.Sem
open Idealize.ShloMosaic.Pipeline (Dat)
open Cert.Scaling
open scoped BigOperators

/-- One entry of an output block: the row's entry, scaled by the row's factor and the column's weight. -/
theorem block_at (x : Vec Ideal S256x4096 .f32) (g : Vec Ideal S1x4096 .f32) (r : Fin 256) (d : Fin 4096) :
    out0_2 x g (ix2 r d) = x (ix2 r d) * factor 0x45800000#32 (fun k => x (ix2 r k)) * g (ix2 (0 : Fin 1) d) := by
  unfold out0_2
  rw [View.canon_cons_unit_lit _ _ _ (by decide), View.ld_unit_lit _ _ (by decide), View.ld_unit_lit _ _ (by decide)]
  pointwise [k0_pay1, factor]

/-! The block each window reads or writes at a grid point. -/

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- The output blocks fill the array. -/
theorem covers : (cfg0.win 2).Covers := by decide +kernel

variable (m : (ℓ : Loc nD τ sig) → Buf (Elt Ideal) ℓ) (c : Dev nD)

/-- The rows on a device. -/
abbrev rows : FVec Ideal S1024x4096 .f32 := m ((c.tc : Thread nD τ).loc main_arg0)
/-- The columns' weights on a device. -/
abbrev gains : FVec Ideal S4096 .f32 := m ((c.tc : Thread nD τ).loc main_arg1)

/-- The weights as the kernel finds them: one row. -/
theorem gains_row : V m c main_v0 = shapeCast S1x4096 (gains m c) shapeCasts_S4096_S1x4096 := by
  show StableHlo.after hostOps0 _ _ = _
  after_results
  rfl

/-- One entry of that row. -/
theorem gains_at (g : FVec Ideal S4096 .f32) (d : Fin 4096) : shapeCast S1x4096 g shapeCasts_S4096_S1x4096 (ix2 (0 : Fin 1) d) = g (ix1 d) := by
  pointwise []

/-- The array after the run. -/
theorem final : (dats m 0 c).arrAt 2 cfg0.N = fun i =>
    rows m c (ix2 (i 0) (i 1)) * factor 0x45800000#32 (fun k => rows m c (ix2 (i 0) k)) * gains m c (ix1 (i 1)) := by
  refine (dats m 0 c).arrAt_eq_of_covers 2 _ covers fun t hf y => ?_
  blk_simp
  rw [after0_2]
  obtain ⟨r, d, rfl⟩ : ∃ (r : Fin 256) (d : Fin 4096), y = ix2 r d := ⟨y 0, y 1, eq_ix2 y⟩
  refine (block_at _ _ r d).trans (congrArg₂ (· * ·) (congrArg₂ (· * ·) ?_ (congrArg (factor 0x45800000#32) (funext fun k => ?_))) ?_)
  · unfold iblk
    rw [V_main_arg0]
    blk_ext [idx0, idx2]
  · unfold iblk
    rw [V_main_arg0]
    blk_ext [idx0, idx2]
  · refine Eq.trans ?_ (gains_at (gains m c) _)
    unfold iblk
    rw [gains_row]
    blk_ext [idx1, idx2]

end Cert.NormMemIdeal.Product

end
-- ==== Proof.NormMemRef.lean ====
/- The norm of the memory rows: the reference's result, entry by entry. -/
module

public import proofs.«01_k».proof.Proof.Gen.NormMemRefIdeal.Run
public import proofs.«01_k».proof.Proof.Scaling

@[expose] public section

set_option maxRecDepth 16384

noncomputable section

namespace Cert.NormMemRefIdeal.Product

open Cert.NormMemRefIdeal Cert.NormMemRefIdeal.Gen Idealize.ShloMosaic Idealize.ShloMosaic.TcCoe Idealize.SL.Sem
open Facts
open Cert.Scaling
open scoped BigOperators

/-- One entry of the result: the row's entry, scaled by the row's factor and the column's weight. -/
theorem result_at (x : FVec Ideal S1024x4096 .f32) (g : FVec Ideal S4096 .f32) (r : Fin 1024) (d : Fin 4096) :
    truncf .bf16 (mulf (mulf x (broadcastInDim S1024x4096 ![0, 1] bcast_S1024x1_S1024x4096_0_1 (Host.rsqrt (addf (Host.divf
        (broadcastInDim S1024x1 ![0] bcast_S1024_S1024x1_0 (Host.reduceAdd (mulf x x) (constant S_ .f32 0x00000000#32) reducesTo_S1024x4096_S1024_d1 h_S_))
        (broadcastInDim S1024x1 ![] bcast_S_S1024x1 (constant S_ .f32 0x45800000#32)))
        (broadcastInDim S1024x1 ![] bcast_S_S1024x1 (constant S_ .f32 0x358637BD#32))))))
        (broadcastInDim S1024x4096 ![0, 1] bcast_S1x4096_S1024x4096_0_1 (broadcastInDim S1x4096 ![1] bcast_S4096_S1x4096_1 g))) bitsLt_bf16_f32 (ix2 r d)
      = x (ix2 r d) * factor 0x45800000#32 (fun k => x (ix2 r k)) * g (ix1 d) := by
  pointwise [factor]

end Cert.NormMemRefIdeal.Product

end
-- ==== Proof.NormQArray.lean ====
/- The norm of the low-rank query rows: the array the kernel leaves. -/
module

public import proofs.«01_k».proof.Proof.Gen.NormQIdeal.Value
public import proofs.«01_k».proof.Proof.Scaling
public import Idealize.ShloMosaic.Lib.Pipeline.ValueKit

@[expose] public section

set_option maxRecDepth 16384

noncomputable section

namespace Cert.NormQIdeal.Product

open Cert.NormQIdeal Cert.NormQIdeal.Gen Idealize.ShloMosaic Idealize.ShloMosaic.TcCoe Idealize.SL.Sem
open Idealize.ShloMosaic.Pipeline (Dat)
open Cert.Scaling
open scoped BigOperators

/-- One entry of an output block: the row's entry, scaled by the row's factor and the column's weight. -/
theorem block_at (c : Dev nD) (i : grid0.Coords) (a1 : Memref sig .tc .vmem S256x1536 .f32) (h1 : a1.IsWhole) (a2 : Memref sig .tc .vmem S1x1536 .f32)
    (h2 : a2.IsWhole) (a3 : Memref sig .tc .vmem S256x1536 .bf16) (h3 : a3.IsWhole)
    (x : Vec Ideal S256x1536 .f32) (g : Vec Ideal S1x1536 .f32) (r : Fin 256) (d : Fin 1536) :
    out0_A_2 c i a1 h1 a2 h2 a3 h3 x g (ix2 r d) = x (ix2 r d) * factor 0x44C00000#32 (fun k => x (ix2 r k)) * g (ix2 (0 : Fin 1) d) := by
  have e : out0_A_2 c i a1 h1 a2 h2 a3 h3 x g = k0_pay1 x g := by
    unfold out0_A_2
    rw [View.read_writes_eq_canon _ _ _ (cover0_A_2 c i a1 h1 a2 h2 a3 h3 x g)]
    unfold kernelRun0_A
    dsimp only
    sl_unfold_words
    rw [View.canon_cons_unit_lit _ _ _ (by decide)]
    simp only [View.readAt_eq_ld, h1.read_unread, h2.read_unread]
    rw [View.ld_unit_lit _ _ (by decide), View.ld_unit_lit _ _ (by decide)]
  rw [e]
  pointwise [k0_pay1, factor]

/-! The block each window reads or writes at a grid point. -/

theorem idx0 : ∀ t : Fin cfg0.N, win0_0.index t = ![t.val, 4] :=
  (by decide +kernel : ∀ t : Fin grid0.N, win0_0.index t = ![t.val, 4])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- A block's columns are the array's. -/
theorem at_column (t : Fin cfg0.N) (r : Fin 256) (d : Fin 1536) : (((cfg0.win 2).blk t).view.emb (ix2 r d) 1).val = d.val := by
  blk_simp [idx2]

/-- The output blocks fill the array. -/
theorem covers : (cfg0.win 2).Covers := by decide +kernel

variable (m : (ℓ : Loc nD τ sig) → Buf (Elt Ideal) ℓ) (c : Dev nD)

/-- The rows on a device. -/
abbrev rows : FVec Ideal S8192x8192 .f32 := m ((c.tc : Thread nD τ).loc main_arg0)
/-- The columns' weights on a device. -/
abbrev gains : FVec Ideal S1536 .f32 := m ((c.tc : Thread nD τ).loc main_arg1)

/-- The weights as the kernel finds them: one row. -/
theorem gains_row : V m c main_v0 = shapeCast S1x1536 (gains m c) shapeCasts_S1536_S1x1536 := by
  show StableHlo.after hostOps0 _ _ = _
  after_results
  rfl

/-- One entry of that row. -/
theorem gains_at (g : FVec Ideal S1536 .f32) (d : Fin 1536) : shapeCast S1x1536 g shapeCasts_S1536_S1x1536 (ix2 (0 : Fin 1) d) = g (ix1 d) := by
  pointwise []

/-- The column of the argument a column of the part is. -/
abbrev column (d : Fin 1536) : Fin 8192 := ⟨6144 + d.val, by omega⟩

/-- The array after the run. -/
theorem final : (dats m 0 c).arrAt 2 cfg0.N = fun i =>
    rows m c (ix2 (i 0) (column (i 1))) * factor 0x44C00000#32 (fun k => rows m c (ix2 (i 0) (column k))) * gains m c (ix1 (i 1)) := by
  refine (dats m 0 c).arrAt_eq_of_covers 2 _ covers fun t hf y => ?_
  blk_simp
  rw [after0_2]
  obtain ⟨r, d, rfl⟩ : ∃ (r : Fin 256) (d : Fin 1536), y = ix2 r d := ⟨y 0, y 1, eq_ix2 y⟩
  unfold outsAt0
  refine (block_at _ _ _ _ _ _ _ _ _ _ r d).trans (congrArg₂ (· * ·) (congrArg₂ (· * ·) ?_ (congrArg (factor 0x44C00000#32) (funext fun k => ?_))) ?_)
  · unfold X0_0 Pipeline.Window.fill
    refine (dif_pos (moved0_0 t _)).trans ?_
    unfold iblk
    rw [V_main_arg0]
    blk_ext [idx0, idx2]
    show 4 * 1536 + d.val = 6144 + (((cfg0.win 2).blk t).view.emb (ix2 r d) 1).val
    rw [at_column t r d]
  · unfold X0_0 Pipeline.Window.fill
    refine (dif_pos (moved0_0 t _)).trans ?_
    unfold iblk
    rw [V_main_arg0]
    blk_ext [idx0, idx2]
  · refine Eq.trans ?_ (gains_at (gains m c) _)
    unfold iblk
    rw [gains_row]
    blk_ext [idx1, idx2]

end Cert.NormQIdeal.Product

end
-- ==== Proof.NormQRef.lean ====
/- The norm of the low-rank query rows: the reference's result, entry by entry. -/
module

public import proofs.«01_k».proof.Proof.Gen.NormQRefIdeal.Run
public import proofs.«01_k».proof.Proof.Scaling

@[expose] public section

set_option maxRecDepth 16384

noncomputable section

namespace Cert.NormQRefIdeal.Product

open Cert.NormQRefIdeal Cert.NormQRefIdeal.Gen Idealize.ShloMosaic Idealize.ShloMosaic.TcCoe Idealize.SL.Sem
open Facts
open Cert.Scaling
open scoped BigOperators

/-- The column of the argument a column of the part is. -/
abbrev column (d : Fin 1536) : Fin 8192 := ⟨6144 + d.val, by omega⟩

/-- One entry of the result: the row's entry, scaled by the row's factor and the column's weight. -/
theorem result_at (x : FVec Ideal S8192x8192 .f32) (g : FVec Ideal S1536 .f32) (r : Fin 8192) (d : Fin 1536) :
    truncf .bf16 (mulf (mulf (extractStridedSlice S8192x1536 ![0, 6144] x slices_S8192x8192_S8192x1536_0_6144) (broadcastInDim S8192x1536 ![0, 1] bcast_S8192x1_S8192x1536_0_1 (Host.rsqrt (addf (Host.divf
        (broadcastInDim S8192x1 ![0] bcast_S8192_S8192x1_0 (Host.reduceAdd (mulf (extractStridedSlice S8192x1536 ![0, 6144] x slices_S8192x8192_S8192x1536_0_6144) (extractStridedSlice S8192x1536 ![0, 6144] x slices_S8192x8192_S8192x1536_0_6144)) (constant S_ .f32 0x00000000#32) reducesTo_S8192x1536_S8192_d1 h_S_))
        (broadcastInDim S8192x1 ![] bcast_S_S8192x1 (constant S_ .f32 0x44C00000#32)))
        (broadcastInDim S8192x1 ![] bcast_S_S8192x1 (constant S_ .f32 0x358637BD#32))))))
        (broadcastInDim S8192x1536 ![0, 1] bcast_S1x1536_S8192x1536_0_1 (broadcastInDim S1x1536 ![1] bcast_S1536_S1x1536_1 g))) bitsLt_bf16_f32 (ix2 r d)
      = x (ix2 r (column d)) * factor 0x44C00000#32 (fun k => x (ix2 r (column k))) * g (ix1 d) := by
  pointwise [factor]

end Cert.NormQRefIdeal.Product

end
-- ==== Proof.NormKvArray.lean ====
/- The norm of the low-rank key and value rows: the array the kernel leaves. -/
module

public import proofs.«01_k».proof.Proof.Gen.NormKvIdeal.Value
public import proofs.«01_k».proof.Proof.Scaling
public import Idealize.ShloMosaic.Lib.Pipeline.ValueKit

@[expose] public section

set_option maxRecDepth 16384

noncomputable section

namespace Cert.NormKvIdeal.Product

open Cert.NormKvIdeal Cert.NormKvIdeal.Gen Idealize.ShloMosaic Idealize.ShloMosaic.TcCoe Idealize.SL.Sem
open Idealize.ShloMosaic.Pipeline (Dat)
open Cert.Scaling
open scoped BigOperators

/-- One entry of an output block: the row's entry, scaled by the row's factor and the column's weight. -/
theorem block_at (x : Vec Ideal S256x512 .f32) (g : Vec Ideal S1x512 .f32) (r : Fin 256) (d : Fin 512) :
    out0_2 x g (ix2 r d) = x (ix2 r d) * factor 0x44000000#32 (fun k => x (ix2 r k)) * g (ix2 (0 : Fin 1) d) := by
  unfold out0_2
  rw [View.canon_cons_unit_lit _ _ _ (by decide), View.ld_unit_lit _ _ (by decide), View.ld_unit_lit _ _ (by decide)]
  pointwise [k0_pay1, factor]

/-! The block each window reads or writes at a grid point. -/

theorem idx0 : ∀ t : Fin cfg0.N, win0_0.index t = ![t.val, 15] :=
  (by decide +kernel : ∀ t : Fin grid0.N, win0_0.index t = ![t.val, 15])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- A block's columns are the array's. -/
theorem at_column (t : Fin cfg0.N) (r : Fin 256) (d : Fin 512) : (((cfg0.win 2).blk t).view.emb (ix2 r d) 1).val = d.val := by
  blk_simp [idx2]

/-- The output blocks fill the array. -/
theorem covers : (cfg0.win 2).Covers := by decide +kernel

variable (m : (ℓ : Loc nD τ sig) → Buf (Elt Ideal) ℓ) (c : Dev nD)

/-- The rows on a device. -/
abbrev rows : FVec Ideal S8192x8192 .f32 := m ((c.tc : Thread nD τ).loc main_arg0)
/-- The columns' weights on a device. -/
abbrev gains : FVec Ideal S512 .f32 := m ((c.tc : Thread nD τ).loc main_arg1)

/-- The weights as the kernel finds them: one row. -/
theorem gains_row : V m c main_v0 = shapeCast S1x512 (gains m c) shapeCasts_S512_S1x512 := by
  show StableHlo.after hostOps0 _ _ = _
  after_results
  rfl

/-- One entry of that row. -/
theorem gains_at (g : FVec Ideal S512 .f32) (d : Fin 512) : shapeCast S1x512 g shapeCasts_S512_S1x512 (ix2 (0 : Fin 1) d) = g (ix1 d) := by
  pointwise []

/-- The column of the argument a column of the part is. -/
abbrev column (d : Fin 512) : Fin 8192 := ⟨7680 + d.val, by omega⟩

/-- The array after the run. -/
theorem final : (dats m 0 c).arrAt 2 cfg0.N = fun i =>
    rows m c (ix2 (i 0) (column (i 1))) * factor 0x44000000#32 (fun k => rows m c (ix2 (i 0) (column k))) * gains m c (ix1 (i 1)) := by
  refine (dats m 0 c).arrAt_eq_of_covers 2 _ covers fun t hf y => ?_
  blk_simp
  rw [after0_2]
  obtain ⟨r, d, rfl⟩ : ∃ (r : Fin 256) (d : Fin 512), y = ix2 r d := ⟨y 0, y 1, eq_ix2 y⟩
  refine (block_at _ _ r d).trans (congrArg₂ (· * ·) (congrArg₂ (· * ·) ?_ (congrArg (factor 0x44000000#32) (funext fun k => ?_))) ?_)
  · unfold iblk
    rw [V_main_arg0]
    blk_ext [idx0, idx2]
    show 15 * 512 + d.val = 7680 + (((cfg0.win 2).blk t).view.emb (ix2 r d) 1).val
    rw [at_column t r d]
  · unfold iblk
    rw [V_main_arg0]
    blk_ext [idx0, idx2]
  · refine Eq.trans ?_ (gains_at (gains m c) _)
    unfold iblk
    rw [gains_row]
    blk_ext [idx1, idx2]

end Cert.NormKvIdeal.Product

end
-- ==== Proof.NormKvRef.lean ====
/- The norm of the low-rank key and value rows: the reference's result, entry by entry. -/
module

public import proofs.«01_k».proof.Proof.Gen.NormKvRefIdeal.Run
public import proofs.«01_k».proof.Proof.Scaling

@[expose] public section

set_option maxRecDepth 16384

noncomputable section

namespace Cert.NormKvRefIdeal.Product

open Cert.NormKvRefIdeal Cert.NormKvRefIdeal.Gen Idealize.ShloMosaic Idealize.ShloMosaic.TcCoe Idealize.SL.Sem
open Facts
open Cert.Scaling
open scoped BigOperators

/-- The column of the argument a column of the part is. -/
abbrev column (d : Fin 512) : Fin 8192 := ⟨7680 + d.val, by omega⟩

/-- One entry of the result: the row's entry, scaled by the row's factor and the column's weight. -/
theorem result_at (x : FVec Ideal S8192x8192 .f32) (g : FVec Ideal S512 .f32) (r : Fin 8192) (d : Fin 512) :
    truncf .bf16 (mulf (mulf (extractStridedSlice S8192x512 ![0, 7680] x slices_S8192x8192_S8192x512_0_7680) (broadcastInDim S8192x512 ![0, 1] bcast_S8192x1_S8192x512_0_1 (Host.rsqrt (addf (Host.divf
        (broadcastInDim S8192x1 ![0] bcast_S8192_S8192x1_0 (Host.reduceAdd (mulf (extractStridedSlice S8192x512 ![0, 7680] x slices_S8192x8192_S8192x512_0_7680) (extractStridedSlice S8192x512 ![0, 7680] x slices_S8192x8192_S8192x512_0_7680)) (constant S_ .f32 0x00000000#32) reducesTo_S8192x512_S8192_d1 h_S_))
        (broadcastInDim S8192x1 ![] bcast_S_S8192x1 (constant S_ .f32 0x44000000#32)))
        (broadcastInDim S8192x1 ![] bcast_S_S8192x1 (constant S_ .f32 0x358637BD#32))))))
        (broadcastInDim S8192x512 ![0, 1] bcast_S1x512_S8192x512_0_1 (broadcastInDim S1x512 ![1] bcast_S512_S1x512_1 g))) bitsLt_bf16_f32 (ix2 r d)
      = x (ix2 r (column d)) * factor 0x44000000#32 (fun k => x (ix2 r (column k))) * g (ix1 d) := by
  pointwise [factor]

end Cert.NormKvRefIdeal.Product

end
-- ==== Proof.Attend.lean ====
/- One entry of the cross-attention, as mathematics over the extended reals. -/
module

public import proofs.«01_k».proof.Proof.Scaling

@[expose] public section

set_option maxRecDepth 16384

noncomputable section

namespace Cert.Attend

open Idealize.ShloMosaic Cert.Scaling
open scoped BigOperators

/-- The score of one memory row: the normed query times the row's key, scaled. -/
def score (q g k : Fin 128 → EReal) : EReal :=
  (∑ d, q d * factor 0x43000000#32 q * g d * k d) * Scalar.ofBits (F := Ideal) .f32 0x3DB504F3#32

/-- The largest of a head's scores. -/
def top (s : Fin 256 → EReal) : EReal :=
  Finset.univ.fold max (Scalar.ofBits (F := Ideal) .f32 0xFF800000#32) s

/-- The weight of one memory row: the softmax of the scores. -/
def weight (s : Fin 256 → EReal) (j : Fin 256) : EReal :=
  FloatOps.divf (F := Ideal) (φ := .f32) (FloatOps.exp (F := Ideal) (φ := .f32) (s j - top s))
    (∑ j', FloatOps.exp (F := Ideal) (φ := .f32) (s j' - top s))

/-- The weighted sum of the memory rows' values. -/
def attend (q g : Fin 128 → EReal) (k : Fin 256 → Fin 128 → EReal) (v : Fin 256 → EReal) : EReal :=
  ∑ j, weight (fun j' => score q g (k j')) j * v j

/-- It depends on the entries alone. -/
theorem attend_congr {q q' g g' : Fin 128 → EReal} {k k' : Fin 256 → Fin 128 → EReal} {v v' : Fin 256 → EReal}
    (hq : ∀ d, q d = q' d) (hg : ∀ d, g d = g' d) (hk : ∀ j d, k j d = k' j d) (hv : ∀ j, v j = v' j) :
    attend q g k v = attend q' g' k' v' := by
  obtain rfl : q = q' := funext hq
  obtain rfl : g = g' := funext hg
  obtain rfl : k = k' := funext fun j => funext (hk j)
  obtain rfl : v = v' := funext hv
  rfl

end Cert.Attend

end
-- ==== Proof.CrossCoreArray.lean ====
/- The cross-attention: the array the kernel leaves. -/
module

public import proofs.«01_k».proof.Proof.Gen.CrossCoreIdeal.Value
public import proofs.«01_k».proof.Proof.Attend
public import Idealize.ShloMosaic.Lib.Pipeline.ValueKit

@[expose] public section

set_option maxRecDepth 16384

noncomputable section

namespace Cert.CrossCoreIdeal.Product

open Cert.CrossCoreIdeal Cert.CrossCoreIdeal.Gen Idealize.ShloMosaic Idealize.ShloMosaic.TcCoe Idealize.SL.Sem
open Idealize.ShloMosaic.Pipeline (Dat)
open Cert.Scaling Cert.Attend
open scoped BigOperators

section Heads
variable (q : Vec Ideal S512x128 .f32) (g : Vec Ideal S1x128 .f32) (k v : Vec Ideal S256x128 .bf16) (r : Fin 512) (d : Fin 128)

/-- One entry of a head's block of outputs, from the head's queries, keys and values. -/
abbrev entry : EReal :=
  attend (fun e => q (ix2 r e)) (fun e => g (ix2 (0 : Fin 1) e)) (fun j e => k (ix2 j e)) (fun j => v (ix2 j d))

/-! The four heads are the same computation. -/

theorem head0 : k0_pay2 q g k v (ix2 r d) = entry q g k v r d := by
  pointwise [k0_pay2, attend, weight, top, score, factor]
theorem head1 : k0_pay4 q (k0_pay3 q) g k v (ix2 r d) = entry q g k v r d := by
  pointwise [k0_pay4, k0_pay3, attend, weight, top, score, factor]
theorem head2 : k0_pay6 q (k0_pay5 q) g k v (ix2 r d) = entry q g k v r d := by
  pointwise [k0_pay6, k0_pay5, attend, weight, top, score, factor]
theorem head3 : k0_pay1 (k0_pay7 q) (k0_pay8 g) k v (ix2 r d) = entry q g k v r d := by
  pointwise [k0_pay1, k0_pay7, k0_pay8, attend, weight, top, score, factor]

end Heads

/-- Entry `e` of the head a column belongs to. -/
abbrev within (d : Fin 512) (e : Fin 128) : Fin 512 := ⟨d.val / 128 * 128 + e.val, by omega⟩

/-- What a block of outputs holds, from the blocks it is made of. -/
def outcome (x0 : Vec Ideal S512x512 .f32) (x1 x2 : Vec Ideal S256x512 .bf16) (x3 : Vec Ideal S1x128 .f32) (y : S512x512.Idx) : EReal :=
  attend (fun e => x0 (ix2 (y 0) (within (y 1) e))) (fun e => x3 (ix2 (0 : Fin 1) e))
    (fun j e => x1 (ix2 j (within (y 1) e))) (fun j => x2 (ix2 j (y 1)))

/-- A head's columns among the queries' columns. -/
theorem rows_emb (o : ℕ) (h : o % 128 = 0) (ho : o + 128 ≤ 512) (inb : ∀ a, (![0, o] : Fin 2 → ℕ) a + S512x128.size a ≤ S512x512.size a)
    (r : Fin 512) (d : Fin 128) :
    (Rect.unit (s := S512x512) ![0, o] S512x128.size inb).emb (ix2 r d) = ix2 r (⟨o + d.val, by omega⟩ : Fin 512) := by
  funext a
  apply Fin.ext
  fin_cases a <;> simp [Rect.emb_apply]

/-- A head's columns among the memory's columns. -/
theorem memory_emb (o : ℕ) (h : o % 128 = 0) (ho : o + 128 ≤ 512) (inb : ∀ a, (![0, o] : Fin 2 → ℕ) a + S256x128.size a ≤ S256x512.size a)
    (r : Fin 256) (d : Fin 128) :
    (Rect.unit (s := S256x512) ![0, o] S256x128.size inb).emb (ix2 r d) = ix2 r (⟨o + d.val, by omega⟩ : Fin 512) := by
  funext a
  apply Fin.ext
  fin_cases a <;> simp [Rect.emb_apply]

/-- A head's entry is the outcome at the entry's column. -/
theorem outcome_at (x0 : Vec Ideal S512x512 .f32) (x1 x2 : Vec Ideal S256x512 .bf16) (x3 : Vec Ideal S1x128 .f32) (o : ℕ) (h : o % 128 = 0) (ho : o + 128 ≤ 512)
    (inb : ∀ a, (![0, o] : Fin 2 → ℕ) a + S512x128.size a ≤ S512x512.size a) (inb' : ∀ a, (![0, o] : Fin 2 → ℕ) a + S256x128.size a ≤ S256x512.size a)
    (r : Fin 512) (d : Fin 128) :
    entry (View.ld x0 (Rect.unit (s := S512x512) ![0, o] S512x128.size inb)) x3
        (View.ld x1 (Rect.unit (s := S256x512) ![0, o] S256x128.size inb')) (View.ld x2 (Rect.unit (s := S256x512) ![0, o] S256x128.size inb')) r d
      = outcome x0 x1 x2 x3 ((Rect.unit (s := S512x512) ![0, o] S512x128.size inb).emb (ix2 r d)) := by
  have e : ∀ k : Fin 128, (⟨o + k.val, by omega⟩ : Fin 512) = within ⟨o + d.val, by omega⟩ k := fun k => Fin.ext (by
    show o + k.val = (o + d.val) / 128 * 128 + k.val
    omega)
  rw [rows_emb o h ho inb r d]
  refine attend_congr (fun k => ?_) (fun k => rfl) (fun j k => ?_) fun j => ?_
  · exact (congrArg x0 (rows_emb o h ho inb r k)).trans (congrArg (fun z => x0 (ix2 r z)) (e k))
  · exact (congrArg x1 (memory_emb o h ho inb' j k)).trans (congrArg (fun z => x1 (ix2 j z)) (e k))
  · exact congrArg x2 (memory_emb o h ho inb' j d)

/-- What a grid point leaves. -/
theorem block_eq (x0 : Vec Ideal S512x512 .f32) (x1 x2 : Vec Ideal S256x512 .bf16) (x3 : Vec Ideal S1x128 .f32) (y : S512x512.Idx) :
    out0_4 x0 x1 x2 x3 y = outcome x0 x1 x2 x3 y := by
  unfold out0_4
  rw [show View.ld x3 r0_1 = x3 from View.ld_unit_lit _ _ (by decide)]
  refine View.canon_apply_of_pieces (Val := Elt Ideal) (outcome x0 x1 x2 x3) _ (fun p hp x => ?_) y (cover0_4 _ _ _ _ y)
  simp only [List.mem_cons, List.not_mem_nil, or_false] at hp
  rcases hp with rfl | rfl | rfl | rfl
  · obtain ⟨r, d, rfl⟩ : ∃ (r : Fin 512) (d : Fin 128), x = ix2 r d := ⟨x 0, x 1, eq_ix2 x⟩
    exact (head3 _ _ _ _ r d).trans (outcome_at x0 x1 x2 x3 384 rfl (by decide) _ _ r d)
  · obtain ⟨r, d, rfl⟩ : ∃ (r : Fin 512) (d : Fin 128), x = ix2 r d := ⟨x 0, x 1, eq_ix2 x⟩
    exact (head2 _ _ _ _ r d).trans (outcome_at x0 x1 x2 x3 256 rfl (by decide) _ _ r d)
  · obtain ⟨r, d, rfl⟩ : ∃ (r : Fin 512) (d : Fin 128), x = ix2 r d := ⟨x 0, x 1, eq_ix2 x⟩
    exact (head1 _ _ _ _ r d).trans (outcome_at x0 x1 x2 x3 128 rfl (by decide) _ _ r d)
  · obtain ⟨r, d, rfl⟩ : ∃ (r : Fin 512) (d : Fin 128), x = ix2 r d := ⟨x 0, x 1, eq_ix2 x⟩
    exact (head0 _ _ _ _ r d).trans (outcome_at x0 x1 x2 x3 0 rfl (by decide) _ _ r d)

/-! The block each window reads or writes at a grid point. -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val / 4, 0] :=
  (by decide +kernel : ∀ t : Fin grid0.N, win0_1.index t = ![t.val / 4, 0])
theorem idx2 : ∀ t : Fin cfg0.N, win0_2.index t = ![t.val / 4, 0] :=
  (by decide +kernel : ∀ t : Fin grid0.N, win0_2.index t = ![t.val / 4, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])

/-- The output blocks fill the array. -/
theorem covers : (cfg0.win 4).Covers := by decide +kernel

variable (m : (ℓ : Loc nD τ sig) → Buf (Elt Ideal) ℓ) (c : Dev nD)

/-- The queries on a device. -/
abbrev queries : FVec Ideal S8192x512 .f32 := m ((c.tc : Thread nD τ).loc main_arg0)
/-- The memory's keys on a device. -/
abbrev keys : FVec Ideal S1024x512 .bf16 := m ((c.tc : Thread nD τ).loc main_arg1)
/-- The memory's values on a device. -/
abbrev values : FVec Ideal S1024x512 .bf16 := m ((c.tc : Thread nD τ).loc main_arg2)
/-- The columns' weights on a device. -/
abbrev gains : FVec Ideal S128 .f32 := m ((c.tc : Thread nD τ).loc main_arg3)

/-- The weights as the kernel finds them: one row. -/
theorem gains_row : V m c main_v0 = shapeCast S1x128 (gains m c) shapeCasts_S128_S1x128 := by
  show StableHlo.after hostOps0 _ _ = _
  after_results
  rfl

/-- One entry of that row. -/
theorem gains_at (g : FVec Ideal S128 .f32) (d : Fin 128) : shapeCast S1x128 g shapeCasts_S128_S1x128 (ix2 (0 : Fin 1) d) = g (ix1 d) := by
  pointwise []

/-- The memory rows of the sequence a row belongs to. -/
abbrev sequence (r : Fin 8192) (j : Fin 256) : Fin 1024 := ⟨r.val / 2048 * 256 + j.val, by omega⟩

/-- The row a block's row is. -/
theorem at_row (t : Fin cfg0.N) (r d : Fin 512) : (((cfg0.win 4).blk t).view.emb (ix2 r d) 0).val = t.val * 512 + r.val := by
  blk_simp [idx4]
/-- A block's columns are the array's. -/
theorem at_column (t : Fin cfg0.N) (r d : Fin 512) : (((cfg0.win 4).blk t).view.emb (ix2 r d) 1).val = d.val := by
  blk_simp [idx4]

/-- The array after the run. -/
theorem final : (dats m 0 c).arrAt 4 cfg0.N = fun i =>
    attend (fun e => queries m c (ix2 (i 0) (within (i 1) e))) (fun e => gains m c (ix1 e))
      (fun j e => keys m c (ix2 (sequence (i 0) j) (within (i 1) e))) (fun j => values m c (ix2 (sequence (i 0) j) (i 1))) := by
  refine (dats m 0 c).arrAt_eq_of_covers 4 _ covers fun t hf y => ?_
  blk_simp
  rw [after0_4]
  obtain ⟨r, d, rfl⟩ : ∃ (r d : Fin 512), y = ix2 r d := ⟨y 0, y 1, eq_ix2 y⟩
  refine (block_eq _ _ _ _ _).trans (attend_congr (fun k => ?_) (fun k => ?_) (fun j k => ?_) fun j => ?_)
  · unfold iblk
    rw [V_main_arg0]
    blk_ext [idx0, idx4]
    show d.val / 128 * 128 + k.val = (((cfg0.win 4).blk t).view.emb (ix2 r d) 1).val / 128 * 128 + k.val
    rw [at_column t r d]
  · refine Eq.trans ?_ (gains_at (gains m c) _)
    unfold iblk
    rw [gains_row]
    blk_ext [idx3, idx4]
  · unfold iblk
    rw [V_main_arg1]
    blk_ext [idx1, idx4]
    · show t.val / 4 * 256 + j.val = (((cfg0.win 4).blk t).view.emb (ix2 r d) 0).val / 2048 * 256 + j.val
      rw [at_row t r d]
      omega
    · show d.val / 128 * 128 + k.val = (((cfg0.win 4).blk t).view.emb (ix2 r d) 1).val / 128 * 128 + k.val
      rw [at_column t r d]
  · unfold iblk
    rw [V_main_arg2]
    blk_ext [idx2, idx4]
    show t.val / 4 * 256 + j.val = (((cfg0.win 4).blk t).view.emb (ix2 r d) 0).val / 2048 * 256 + j.val
    rw [at_row t r d]
    omega

end Cert.CrossCoreIdeal.Product

end
-- ==== Proof.CrossCoreRef.lean ====
/- The cross-attention: the reference's result, entry by entry. -/
module

public import proofs.«01_k».proof.Proof.Gen.CrossCoreRefIdeal.Run
public import proofs.«01_k».proof.Proof.Attend

@[expose] public section

set_option maxRecDepth 16384

noncomputable section

namespace Cert.CrossCoreRefIdeal.Product

open Cert.CrossCoreRefIdeal Cert.CrossCoreRefIdeal.Gen Idealize.ShloMosaic Idealize.ShloMosaic.TcCoe Idealize.SL.Sem
open Facts
open Cert.Scaling Cert.Attend
open scoped BigOperators

/-! The reference in four steps: the norm of each head's queries, the scores, the softmax, the weighted sums. -/

/-- Each head's queries, normed. -/
abbrev normed (x : FVec Ideal S4x2048x4x128 .f32) (g : FVec Ideal S128 .f32) : FVec Ideal S4x2048x4x128 .f32 :=
  extf .f32 (truncf .bf16 (mulf (mulf x (broadcastInDim S4x2048x4x128 ![0, 1, 2, 3] bcast_S4x2048x4x1_S4x2048x4x128_0_1_2_3
    (Host.rsqrt (addf (Host.divf (broadcastInDim S4x2048x4x1 ![0, 1, 2] bcast_S4x2048x4_S4x2048x4x1_0_1_2
      (Host.reduceAdd (mulf x x) (constant S_ .f32 0x00000000#32) reducesTo_S4x2048x4x128_S4x2048x4_d3 h_S_))
      (broadcastInDim S4x2048x4x1 ![] bcast_S_S4x2048x4x1 (constant S_ .f32 0x43000000#32)))
      (broadcastInDim S4x2048x4x1 ![] bcast_S_S4x2048x4x1 (constant S_ .f32 0x358637BD#32))))))
    (broadcastInDim S4x2048x4x128 ![0, 1, 2, 3] bcast_S1x1x1x128_S4x2048x4x128_0_1_2_3
      (broadcastInDim S1x1x1x128 ![3] bcast_S128_S1x1x1x128_3 g))) bitsLt_bf16_f32) bitsLt_bf16_f32

/-- The scores. -/
abbrev scores (q : FVec Ideal S4x2048x4x128 .f32) (k : FVec Ideal S4x256x4x128 .f32) : FVec Ideal S4x4x2048x256 .f32 :=
  mulf (Host.dotGeneral dot_S4x2048x4x128_S4x256x4x128_S4x4x2048x256_3_3_1_1_02_02 none q k)
    (broadcastInDim S4x4x2048x256 ![] bcast_S_S4x4x2048x256 (constant S_ .f32 0x3DB504F3#32))

/-- The exponentials of the scores, each row's largest score taken off. -/
abbrev powers (s : FVec Ideal S4x4x2048x256 .f32) : FVec Ideal S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2
      (maximumf (broadcastInDim S4x4x2048 ![] bcast_S_S4x4x2048 (constant S_ .f32 0xFF800000#32))
        (Host.reduce FloatOps.maximumf s (constant S_ .f32 0xFF800000#32) reducesTo_S4x4x2048x256_S4x4x2048_d3 h_S_)))))

/-- The softmax of the scores. -/
abbrev weights (s : FVec Ideal S4x4x2048x256 .f32) : FVec Ideal S4x4x2048x256 .f32 :=
  Host.divf (powers s) (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd (powers s) (constant S_ .f32 0x00000000#32) reducesTo_S4x4x2048x256_S4x4x2048_d3 h_S_)))

/-- The weighted sums. -/
abbrev sums (w : FVec Ideal S4x4x2048x256 .f32) (v : FVec Ideal S4x256x4x128 .f32) : FVec Ideal S4x2048x4x128 .f32 :=
  transpose S4x2048x4x128 [0, 3, 1, 2] (Host.dotGeneral dot_S4x256x4x128_S4x4x2048x256_S4x4x128x2048_1_3_3_2_02_01 none v w)
    transposes_S4x4x128x2048_S4x2048x4x128_0_3_1_2

/-- The sums of the squares of each head's queries. -/
theorem squares_at (x : FVec Ideal S4x2048x4x128 .f32) (b : Fin 4) (t : Fin 2048) (h : Fin 4) :
    Host.reduceAdd (mulf x x) (constant S_ .f32 0x00000000#32) reducesTo_S4x2048x4x128_S4x2048x4_d3 h_S_ (ix3 b t h)
      = ∑ e, x (ix4 b t h e) * x (ix4 b t h e) := by
  pointwise []

/-- The factors, from those sums. -/
theorem factors_at (p : FVec Ideal S4x2048x4 .f32) (b : Fin 4) (t : Fin 2048) (h : Fin 4) (d : Fin 128) :
    broadcastInDim S4x2048x4x128 ![0, 1, 2, 3] bcast_S4x2048x4x1_S4x2048x4x128_0_1_2_3
      (Host.rsqrt (addf (Host.divf (broadcastInDim S4x2048x4x1 ![0, 1, 2] bcast_S4x2048x4_S4x2048x4x1_0_1_2 p)
        (broadcastInDim S4x2048x4x1 ![] bcast_S_S4x2048x4x1 (constant S_ .f32 0x43000000#32)))
        (broadcastInDim S4x2048x4x1 ![] bcast_S_S4x2048x4x1 (constant S_ .f32 0x358637BD#32)))) (ix4 b t h d)
      = FloatOps.rsqrt (F := Ideal) (φ := .f32) (FloatOps.addf (F := Ideal) (φ := .f32)
    (FloatOps.divf (F := Ideal) (φ := .f32) (p (ix3 b t h)) (Scalar.ofBits (F := Ideal) .f32 0x43000000#32))
    (Scalar.ofBits (F := Ideal) .f32 0x358637BD#32)) := by
  pointwise []

/-- The products with a factor and a weight. -/
theorem scaled_at (x f : FVec Ideal S4x2048x4x128 .f32) (g : FVec Ideal S128 .f32) (b : Fin 4) (t : Fin 2048) (h : Fin 4) (d : Fin 128) :
    extf .f32 (truncf .bf16 (mulf (mulf x f) (broadcastInDim S4x2048x4x128 ![0, 1, 2, 3] bcast_S1x1x1x128_S4x2048x4x128_0_1_2_3
      (broadcastInDim S1x1x1x128 ![3] bcast_S128_S1x1x1x128_3 g))) bitsLt_bf16_f32) bitsLt_bf16_f32 (ix4 b t h d)
      = x (ix4 b t h d) * f (ix4 b t h d) * g (ix1 d) := by
  pointwise []

theorem normed_at (x : FVec Ideal S4x2048x4x128 .f32) (g : FVec Ideal S128 .f32) (b : Fin 4) (t : Fin 2048) (h : Fin 4) (d : Fin 128) :
    normed x g (ix4 b t h d) = x (ix4 b t h d) * factor 0x43000000#32 (fun e => x (ix4 b t h e)) * g (ix1 d) := by
  refine (scaled_at x _ g b t h d).trans ?_
  rw [factors_at, squares_at, factor]

theorem scores_at (q : FVec Ideal S4x2048x4x128 .f32) (k : FVec Ideal S4x256x4x128 .f32) (b h : Fin 4) (t : Fin 2048) (j : Fin 256) :
    scores q k (ix4 b h t j) = (∑ d, q (ix4 b t h d) * k (ix4 b j h d)) * Scalar.ofBits (F := Ideal) .f32 0x3DB504F3#32 := by
  pointwise [scores]

/-- Taking the larger with where the maximum starts changes nothing. -/
theorem top_start (s : Fin 256 → EReal) : max (Scalar.ofBits (F := Ideal) .f32 0xFF800000#32) (top s) = top s :=
  max_eq_right ((Finset.le_fold_max _).2 (Or.inl le_rfl))

/-- The exponentials, from the largest scores. -/
theorem shifted_at (s : FVec Ideal S4x4x2048x256 .f32) (p : FVec Ideal S4x4x2048 .f32) (b h : Fin 4) (t : Fin 2048) (j : Fin 256) :
    Host.exp (subf s (broadcastInDim S4x4x2048x256 ![0, 1, 2, 3] bcast_S4x4x2048x1_S4x4x2048x256_0_1_2_3
      (broadcastInDim S4x4x2048x1 ![0, 1, 2] bcast_S4x4x2048_S4x4x2048x1_0_1_2 p))) (ix4 b h t j)
      = FloatOps.exp (F := Ideal) (φ := .f32) (s (ix4 b h t j) - p (ix3 b h t)) := by
  pointwise []

/-- The largest scores. -/
theorem largest_at (s : FVec Ideal S4x4x2048x256 .f32) (b h : Fin 4) (t : Fin 2048) :
    Host.reduce FloatOps.maximumf s (constant S_ .f32 0xFF800000#32) reducesTo_S4x4x2048x256_S4x4x2048_d3 h_S_ (ix3 b h t)
      = top (fun j' => s (ix4 b h t j')) := by
  pointwise [top]

/-- Taking the larger with a constant. -/
theorem larger_at (p : FVec Ideal S4x4x2048 .f32) (b h : Fin 4) (t : Fin 2048) :
    maximumf (broadcastInDim S4x4x2048 ![] bcast_S_S4x4x2048 (constant S_ .f32 0xFF800000#32)) p (ix3 b h t)
      = max (Scalar.ofBits (F := Ideal) .f32 0xFF800000#32) (p (ix3 b h t)) := by
  pointwise []

theorem powers_at (s : FVec Ideal S4x4x2048x256 .f32) (b h : Fin 4) (t : Fin 2048) (j : Fin 256) :
    powers s (ix4 b h t j) = FloatOps.exp (F := Ideal) (φ := .f32) (s (ix4 b h t j) - top (fun j' => s (ix4 b h t j'))) := by
  refine (shifted_at s _ b h t j).trans ?_
  rw [larger_at, largest_at, top_start]

theorem weights_at (s : FVec Ideal S4x4x2048x256 .f32) (b h : Fin 4) (t : Fin 2048) (j : Fin 256) :
    weights s (ix4 b h t j) = weight (fun j' => s (ix4 b h t j')) j := by
  have e : ∀ p : FVec Ideal S4x4x2048x256 .f32, Host.divf p (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd p (constant S_ .f32 0x00000000#32) reducesTo_S4x4x2048x256_S4x4x2048_d3 h_S_))) (ix4 b h t j)
      = FloatOps.divf (F := Ideal) (φ := .f32) (p (ix4 b h t j)) (∑ j', p (ix4 b h t j')) := by
    intro p
    pointwise []
  refine (e (powers s)).trans ?_
  unfold weight
  exact congrArg₂ _ (powers_at s b h t j) (Finset.sum_congr rfl fun j' _ => powers_at s b h t j')

theorem sums_at (w : FVec Ideal S4x4x2048x256 .f32) (v : FVec Ideal S4x256x4x128 .f32) (b : Fin 4) (t : Fin 2048) (h : Fin 4) (d : Fin 128) :
    sums w v (ix4 b t h d) = ∑ j, v (ix4 b j h d) * w (ix4 b h t j) := by
  pointwise [sums]

/-! A head's entry of a row of a sequence, in the array of rows and columns. -/

/-- The row. -/
abbrev row (b : Fin 4) (t : Fin 2048) : Fin 8192 := ⟨b.val * 2048 + t.val, by omega⟩
/-- The memory's row. -/
abbrev memory (b : Fin 4) (j : Fin 256) : Fin 1024 := ⟨b.val * 256 + j.val, by omega⟩
/-- The column. -/
abbrev col (h : Fin 4) (d : Fin 128) : Fin 512 := ⟨h.val * 128 + d.val, by omega⟩

theorem split_rows (x : FVec Ideal S8192x512 .f32) (b : Fin 4) (t : Fin 2048) (h : Fin 4) (d : Fin 128) :
    shapeCast S4x2048x4x128 x shapeCasts_S8192x512_S4x2048x4x128 (ix4 b t h d) = x (ix2 (row b t) (col h d)) := by
  pointwise []

theorem split_memory (x : FVec Ideal S1024x512 .bf16) (b : Fin 4) (j : Fin 256) (h : Fin 4) (d : Fin 128) :
    extf .f32 (shapeCast S4x256x4x128 x shapeCasts_S1024x512_S4x256x4x128) bitsLt_bf16_f32 (ix4 b j h d) = x (ix2 (memory b j) (col h d)) := by
  pointwise []

theorem join_rows (y : FVec Ideal S4x2048x4x128 .f32) (r : Fin 8192) (d : Fin 512) :
    truncf .bf16 (shapeCast S8192x512 y shapeCasts_S4x2048x4x128_S8192x512) bitsLt_bf16_f32 (ix2 r d)
      = y (ix4 (⟨r.val / 2048, by omega⟩ : Fin 4) (⟨r.val % 2048, by omega⟩ : Fin 2048) (⟨d.val / 128, by omega⟩ : Fin 4) (⟨d.val % 128, by omega⟩ : Fin 128)) := by
  pointwise []

/-- The reference's result, from its arguments. -/
def result (x : FVec Ideal S8192x512 .f32) (k v : FVec Ideal S1024x512 .bf16) (g : FVec Ideal S128 .f32) : FVec Ideal S8192x512 .bf16 :=
  truncf .bf16 (shapeCast S8192x512 (sums
    (weights (scores (normed (shapeCast S4x2048x4x128 x shapeCasts_S8192x512_S4x2048x4x128) g)
      (extf .f32 (shapeCast S4x256x4x128 k shapeCasts_S1024x512_S4x256x4x128) bitsLt_bf16_f32)))
    (extf .f32 (shapeCast S4x256x4x128 v shapeCasts_S1024x512_S4x256x4x128) bitsLt_bf16_f32)) shapeCasts_S4x2048x4x128_S8192x512) bitsLt_bf16_f32

/-- It is what the reference leaves. -/
theorem result_eq (m : (ℓ : Loc nD τ sig) → Buf (Elt Ideal) ℓ) (c : Dev nD) :
    Value.res_main_v37 (F := Ideal) m c = result (m ((c.tc : Thread nD τ).loc main_arg0)) (m ((c.tc : Thread nD τ).loc main_arg1))
      (m ((c.tc : Thread nD τ).loc main_arg2)) (m ((c.tc : Thread nD τ).loc main_arg3)) := rfl

/-- Entry `e` of the head a column belongs to. -/
abbrev within (d : Fin 512) (e : Fin 128) : Fin 512 := ⟨d.val / 128 * 128 + e.val, by omega⟩
/-- The memory rows of the sequence a row belongs to. -/
abbrev sequence (r : Fin 8192) (j : Fin 256) : Fin 1024 := ⟨r.val / 2048 * 256 + j.val, by omega⟩

/-- One entry of the result: the weighted sum of the values of its sequence's memory rows. -/
theorem result_at (x : FVec Ideal S8192x512 .f32) (k v : FVec Ideal S1024x512 .bf16) (g : FVec Ideal S128 .f32) (r : Fin 8192) (d : Fin 512) :
    result x k v g (ix2 r d) = attend (fun e => x (ix2 r (within d e))) (fun e => g (ix1 e))
      (fun j e => k (ix2 (sequence r j) (within d e))) (fun j => v (ix2 (sequence r j) d)) := by
  have hr : row ⟨r.val / 2048, by omega⟩ ⟨r.val % 2048, by omega⟩ = r := Fin.ext (by
    show r.val / 2048 * 2048 + r.val % 2048 = r.val
    omega)
  have hd : col ⟨d.val / 128, by omega⟩ ⟨d.val % 128, by omega⟩ = d := Fin.ext (by
    show d.val / 128 * 128 + d.val % 128 = d.val
    omega)
  unfold result
  rw [join_rows, sums_at]
  unfold attend
  refine Finset.sum_congr rfl fun j _ => (mul_comm _ _).trans (congrArg₂ (· * ·) ?_ ?_)
  · refine (weights_at _ _ _ _ j).trans (congrArg (fun s => weight s j) (funext fun j' => (scores_at _ _ _ _ _ j').trans ?_))
    unfold score
    refine congrArg (· * _) (Finset.sum_congr rfl fun e _ => congrArg₂ (· * ·) ?_ (split_memory k _ j' _ e))
    refine (normed_at _ g _ _ _ e).trans ?_
    simp only [split_rows, hr]
  · refine (split_memory v _ j _ _).trans ?_
    rw [hd]

end Cert.CrossCoreRefIdeal.Product

end
-- ==== Proof.ProductClaims.lean ====
/- The projections, the norms and the cross-attention of a layer: each reference leaves its arguments as they were, and each kernel's result, over the extended
   reals, is its reference's. -/
module

public import proofs.«01_k».proof.Defs
public import proofs.«01_k».proof.Proof.Gen.InProj.Frame
public import proofs.«01_k».proof.Proof.InProjArray
public import proofs.«01_k».proof.Proof.InProjRef
public import proofs.«01_k».proof.Proof.Gen.InProjKr.Frame
public import proofs.«01_k».proof.Proof.InProjKrArray
public import proofs.«01_k».proof.Proof.InProjKrRef
public import proofs.«01_k».proof.Proof.Gen.QUp.Frame
public import proofs.«01_k».proof.Proof.QUpArray
public import proofs.«01_k».proof.Proof.QUpRef
public import proofs.«01_k».proof.Proof.Gen.KvUp.Frame
public import proofs.«01_k».proof.Proof.KvUpArray
public import proofs.«01_k».proof.Proof.KvUpRef
public import proofs.«01_k».proof.Proof.Gen.MemKv.Frame
public import proofs.«01_k».proof.Proof.MemKvArray
public import proofs.«01_k».proof.Proof.MemKvRef
public import proofs.«01_k».proof.Proof.Gen.CrossQ.Frame
public import proofs.«01_k».proof.Proof.CrossQArray
public import proofs.«01_k».proof.Proof.CrossQRef
public import proofs.«01_k».proof.Proof.Gen.CrossO.Frame
public import proofs.«01_k».proof.Proof.CrossOArray
public import proofs.«01_k».proof.Proof.CrossORef
public import proofs.«01_k».proof.Proof.Gen.MixOdd.Frame
public import proofs.«01_k».proof.Proof.MixOddArray
public import proofs.«01_k».proof.Proof.MixOddRef
public import proofs.«01_k».proof.Proof.Gen.MixEven.Frame
public import proofs.«01_k».proof.Proof.MixEvenArray
public import proofs.«01_k».proof.Proof.MixEvenRef
public import proofs.«01_k».proof.Proof.Gen.Norm.Frame
public import proofs.«01_k».proof.Proof.NormArray
public import proofs.«01_k».proof.Proof.NormRef
public import proofs.«01_k».proof.Proof.Gen.NormMem.Frame
public import proofs.«01_k».proof.Proof.NormMemArray
public import proofs.«01_k».proof.Proof.NormMemRef
public import proofs.«01_k».proof.Proof.Gen.NormQ.Frame
public import proofs.«01_k».proof.Proof.NormQArray
public import proofs.«01_k».proof.Proof.NormQRef
public import proofs.«01_k».proof.Proof.Gen.NormKv.Frame
public import proofs.«01_k».proof.Proof.NormKvArray
public import proofs.«01_k».proof.Proof.NormKvRef
public import proofs.«01_k».proof.Proof.Gen.CrossCore.Frame
public import proofs.«01_k».proof.Proof.CrossCoreArray
public import proofs.«01_k».proof.Proof.CrossCoreRef
public import Idealize.ShloMosaic.Lib.Quiescent

@[expose] public section

noncomputable section

namespace Cert.Proof

open Idealize.ShloMosaic Idealize.ShloMosaic.TcCoe Idealize.SL.Sem

section
attribute [local instance] Cert.InProj.Gen.facts Cert.InProjIdeal.Gen.facts Cert.InProjRefIdeal.Gen.facts
  Cert.InProjKr.Gen.facts Cert.InProjKrIdeal.Gen.facts Cert.InProjKrRefIdeal.Gen.facts
  Cert.QUp.Gen.facts Cert.QUpIdeal.Gen.facts Cert.QUpRefIdeal.Gen.facts
  Cert.KvUp.Gen.facts Cert.KvUpIdeal.Gen.facts Cert.KvUpRefIdeal.Gen.facts
  Cert.MemKv.Gen.facts Cert.MemKvIdeal.Gen.facts Cert.MemKvRefIdeal.Gen.facts
  Cert.CrossQ.Gen.facts Cert.CrossQIdeal.Gen.facts Cert.CrossQRefIdeal.Gen.facts
  Cert.CrossO.Gen.facts Cert.CrossOIdeal.Gen.facts Cert.CrossORefIdeal.Gen.facts
  Cert.MixOdd.Gen.facts Cert.MixOddIdeal.Gen.facts Cert.MixOddRefIdeal.Gen.facts
  Cert.MixEven.Gen.facts Cert.MixEvenIdeal.Gen.facts Cert.MixEvenRefIdeal.Gen.facts
  Cert.Norm.Gen.facts Cert.NormIdeal.Gen.facts Cert.NormRefIdeal.Gen.facts
  Cert.NormMem.Gen.facts Cert.NormMemIdeal.Gen.facts Cert.NormMemRefIdeal.Gen.facts
  Cert.NormQ.Gen.facts Cert.NormQIdeal.Gen.facts Cert.NormQRefIdeal.Gen.facts
  Cert.NormKv.Gen.facts Cert.NormKvIdeal.Gen.facts Cert.NormKvRefIdeal.Gen.facts
  Cert.CrossCore.Gen.facts Cert.CrossCoreIdeal.Gen.facts Cert.CrossCoreRefIdeal.Gen.facts

/-! Each reference leaves its arguments as they were. -/

theorem inproj_reference_frame : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

theorem inprojkr_reference_frame : Cert.quiescent_InProjKrRefIdeal := fun m g _ =>
  (θ_run Cert.InProjKrRefIdeal.defs _ _).mono (fun r h => ⟨fun c => (h c).2, sem_eq_zero_of_no_sems (by decide) r.2⟩)
    (Cert.InProjKrRefIdeal.Value.run (F := Ideal) m g)

theorem qup_reference_frame : Cert.quiescent_QUpRefIdeal := fun m g _ =>
  (θ_run Cert.QUpRefIdeal.defs _ _).mono (fun r h => ⟨fun c => (h c).2, sem_eq_zero_of_no_sems (by decide) r.2⟩)
    (Cert.QUpRefIdeal.Value.run (F := Ideal) m g)

theorem kvup_reference_frame : Cert.quiescent_KvUpRefIdeal := fun m g _ =>
  (θ_run Cert.KvUpRefIdeal.defs _ _).mono (fun r h => ⟨fun c => (h c).2, sem_eq_zero_of_no_sems (by decide) r.2⟩)
    (Cert.KvUpRefIdeal.Value.run (F := Ideal) m g)

theorem memkv_reference_frame : Cert.quiescent_MemKvRefIdeal := fun m g _ =>
  (θ_run Cert.MemKvRefIdeal.defs _ _).mono (fun r h => ⟨fun c => (h c).2, sem_eq_zero_of_no_sems (by decide) r.2⟩)
    (Cert.MemKvRefIdeal.Value.run (F := Ideal) m g)

theorem crossq_reference_frame : Cert.quiescent_CrossQRefIdeal := fun m g _ =>
  (θ_run Cert.CrossQRefIdeal.defs _ _).mono (fun r h => ⟨fun c => (h c).2, sem_eq_zero_of_no_sems (by decide) r.2⟩)
    (Cert.CrossQRefIdeal.Value.run (F := Ideal) m g)

theorem crosso_reference_frame : Cert.quiescent_CrossORefIdeal := fun m g _ =>
  (θ_run Cert.CrossORefIdeal.defs _ _).mono (fun r h => ⟨fun c => (h c).2, sem_eq_zero_of_no_sems (by decide) r.2⟩)
    (Cert.CrossORefIdeal.Value.run (F := Ideal) m g)

theorem mixodd_reference_frame : Cert.quiescent_MixOddRefIdeal := fun m g _ =>
  (θ_run Cert.MixOddRefIdeal.defs _ _).mono (fun r h => ⟨fun c => (h c).2, sem_eq_zero_of_no_sems (by decide) r.2⟩)
    (Cert.MixOddRefIdeal.Value.run (F := Ideal) m g)

theorem mixeven_reference_frame : Cert.quiescent_MixEvenRefIdeal := fun m g _ =>
  (θ_run Cert.MixEvenRefIdeal.defs _ _).mono (fun r h => ⟨fun c => (h c).2, sem_eq_zero_of_no_sems (by decide) r.2⟩)
    (Cert.MixEvenRefIdeal.Value.run (F := Ideal) m g)

theorem norm_reference_frame : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

theorem normmem_reference_frame : Cert.quiescent_NormMemRefIdeal := fun m g _ =>
  (θ_run Cert.NormMemRefIdeal.defs _ _).mono (fun r h => ⟨fun c => (h c).2, sem_eq_zero_of_no_sems (by decide) r.2⟩)
    (Cert.NormMemRefIdeal.Value.run (F := Ideal) m g)

theorem normq_reference_frame : Cert.quiescent_NormQRefIdeal := fun m g _ =>
  (θ_run Cert.NormQRefIdeal.defs _ _).mono (fun r h => ⟨fun c => (h c).2, sem_eq_zero_of_no_sems (by decide) r.2⟩)
    (Cert.NormQRefIdeal.Value.run (F := Ideal) m g)

theorem normkv_reference_frame : Cert.quiescent_NormKvRefIdeal := fun m g _ =>
  (θ_run Cert.NormKvRefIdeal.defs _ _).mono (fun r h => ⟨fun c => (h c).2, sem_eq_zero_of_no_sems (by decide) r.2⟩)
    (Cert.NormKvRefIdeal.Value.run (F := Ideal) m g)

theorem crosscore_reference_frame : Cert.quiescent_CrossCoreRefIdeal := fun m g _ =>
  (θ_run Cert.CrossCoreRefIdeal.defs _ _).mono (fun r h => ⟨fun c => (h c).2, sem_eq_zero_of_no_sems (by decide) r.2⟩)
    (Cert.CrossCoreRefIdeal.Value.run (F := Ideal) m g)

/-! Each kernel's result is its reference's. -/

/-- Over the extended reals the even layer's input projection is its reference's. -/
theorem inproj_value : Cert.algebraic_InProjIdeal_InProjRefIdeal := by
  intro m g m' g' _ hagree
  refine ⟨_, Cert.InProjIdeal.Value.run_blocks (F := Ideal) m g,
    (θ_run Cert.InProjRefIdeal.defs _ _).mono (fun r h c => ⟨(h c).1.trans ?_, (h c).2⟩) (Cert.InProjRefIdeal.Value.run (F := Ideal) m' g')⟩
  rw [(hagree c).1, (hagree c).2, Cert.InProjIdeal.Product.final m c]
  funext i
  rw [eq_ix2 i]
  exact Cert.InProjRefIdeal.Product.result_at _ _ _ _

/-- Over the extended reals the projection to the rotary keys is its reference's. -/
theorem inprojkr_value : Cert.algebraic_InProjKrIdeal_InProjKrRefIdeal := by
  intro m g m' g' _ hagree
  refine ⟨_, Cert.InProjKrIdeal.Value.run_blocks (F := Ideal) m g,
    (θ_run Cert.InProjKrRefIdeal.defs _ _).mono (fun r h c => ⟨(h c).1.trans ?_, (h c).2⟩) (Cert.InProjKrRefIdeal.Value.run (F := Ideal) m' g')⟩
  rw [(hagree c).1, (hagree c).2, Cert.InProjKrIdeal.Product.final m c]
  funext i
  rw [eq_ix2 i]
  exact Cert.InProjKrRefIdeal.Product.result_at _ _ _ _

/-- Over the extended reals the even layer's projection of the queries is its reference's. -/
theorem qup_value : Cert.algebraic_QUpIdeal_QUpRefIdeal := by
  intro m g m' g' _ hagree
  refine ⟨_, Cert.QUpIdeal.Value.run_blocks (F := Ideal) m g,
    (θ_run Cert.QUpRefIdeal.defs _ _).mono (fun r h c => ⟨(h c).1.trans ?_, (h c).2⟩) (Cert.QUpRefIdeal.Value.run (F := Ideal) m' g')⟩
  rw [(hagree c).1, (hagree c).2, Cert.QUpIdeal.Product.final m c]
  funext i
  rw [eq_ix2 i]
  exact Cert.QUpRefIdeal.Product.result_at _ _ _ _

/-- Over the extended reals the even layer's projection of the keys and values is its reference's. -/
theorem kvup_value : Cert.algebraic_KvUpIdeal_KvUpRefIdeal := by
  intro m g m' g' _ hagree
  refine ⟨_, Cert.KvUpIdeal.Value.run_blocks (F := Ideal) m g,
    (θ_run Cert.KvUpRefIdeal.defs _ _).mono (fun r h c => ⟨(h c).1.trans ?_, (h c).2⟩) (Cert.KvUpRefIdeal.Value.run (F := Ideal) m' g')⟩
  rw [(hagree c).1, (hagree c).2, Cert.KvUpIdeal.Product.final m c]
  funext i
  rw [eq_ix2 i]
  exact Cert.KvUpRefIdeal.Product.result_at _ _ _ _

/-- Over the extended reals the projection of the memory rows is its reference's. -/
theorem memkv_value : Cert.algebraic_MemKvIdeal_MemKvRefIdeal := by
  intro m g m' g' _ hagree
  refine ⟨_, Cert.MemKvIdeal.Value.run_blocks (F := Ideal) m g,
    (θ_run Cert.MemKvRefIdeal.defs _ _).mono (fun r h c => ⟨(h c).1.trans ?_, (h c).2⟩) (Cert.MemKvRefIdeal.Value.run (F := Ideal) m' g')⟩
  rw [(hagree c).1, (hagree c).2, Cert.MemKvIdeal.Product.final m c]
  funext i
  rw [eq_ix2 i]
  exact Cert.MemKvRefIdeal.Product.result_at _ _ _ _

/-- Over the extended reals the query projection of the cross-attention is its reference's. -/
theorem crossq_value : Cert.algebraic_CrossQIdeal_CrossQRefIdeal := by
  intro m g m' g' _ hagree
  refine ⟨_, Cert.CrossQIdeal.Value.run_blocks (F := Ideal) m g,
    (θ_run Cert.CrossQRefIdeal.defs _ _).mono (fun r h c => ⟨(h c).1.trans ?_, (h c).2⟩) (Cert.CrossQRefIdeal.Value.run (F := Ideal) m' g')⟩
  rw [(hagree c).1, (hagree c).2, Cert.CrossQIdeal.Product.final m c]
  funext i
  rw [eq_ix2 i]
  exact Cert.CrossQRefIdeal.Product.result_at _ _ _ _

/-- Over the extended reals the output projection of the cross-attention is its reference's. -/
theorem crosso_value : Cert.algebraic_CrossOIdeal_CrossORefIdeal := by
  intro m g m' g' _ hagree
  refine ⟨_, Cert.CrossOIdeal.Value.run_blocks (F := Ideal) m g,
    (θ_run Cert.CrossORefIdeal.defs _ _).mono (fun r h c => ⟨(h c).1.trans ?_, (h c).2⟩) (Cert.CrossORefIdeal.Value.run (F := Ideal) m' g')⟩
  rw [(hagree c).1, (hagree c).2.1, (hagree c).2.2, Cert.CrossOIdeal.Product.final m c]
  funext i
  rw [eq_ix2 i]
  exact Cert.CrossORefIdeal.Product.result_at _ _ _ _ _

/-- Over the extended reals the output projection of an odd layer is its reference's. -/
theorem mixodd_value : Cert.algebraic_MixOddIdeal_MixOddRefIdeal := by
  intro m g m' g' _ hagree
  refine ⟨_, Cert.MixOddIdeal.Value.run_blocks (F := Ideal) m g,
    (θ_run Cert.MixOddRefIdeal.defs _ _).mono (fun r h c => ⟨(h c).1.trans ?_, (h c).2⟩) (Cert.MixOddRefIdeal.Value.run (F := Ideal) m' g')⟩
  rw [(hagree c).1, (hagree c).2.1, (hagree c).2.2, Cert.MixOddIdeal.Product.final m c]
  funext i
  rw [eq_ix2 i]
  exact Cert.MixOddRefIdeal.Product.result_at _ _ _ _ _

/-- Over the extended reals the output projection of an even layer is its reference's. -/
theorem mixeven_value : Cert.algebraic_MixEvenIdeal_MixEvenRefIdeal := by
  intro m g m' g' _ hagree
  refine ⟨_, Cert.MixEvenIdeal.Value.run_blocks (F := Ideal) m g,
    (θ_run Cert.MixEvenRefIdeal.defs _ _).mono (fun r h c => ⟨(h c).1.trans ?_, (h c).2⟩) (Cert.MixEvenRefIdeal.Value.run (F := Ideal) m' g')⟩
  rw [(hagree c).1, (hagree c).2.1, (hagree c).2.2.1, (hagree c).2.2.2, Cert.MixEvenIdeal.Product.final m c]
  funext i
  rw [eq_ix2 i]
  exact Cert.MixEvenRefIdeal.Product.result_at _ _ _ _ _ _

/-- Over the extended reals the norm of the rows is its reference's. -/
theorem norm_value : Cert.algebraic_NormIdeal_NormRefIdeal := by
  intro m g m' g' _ hagree
  refine ⟨_, Cert.NormIdeal.Value.run_blocks (F := Ideal) m g,
    (θ_run Cert.NormRefIdeal.defs _ _).mono (fun r h c => ⟨(h c).1.trans ?_, (h c).2⟩) (Cert.NormRefIdeal.Value.run (F := Ideal) m' g')⟩
  rw [(hagree c).1, (hagree c).2, Cert.NormIdeal.Product.final m c]
  funext i
  rw [eq_ix2 i]
  exact Cert.NormRefIdeal.Product.result_at _ _ _ _

/-- Over the extended reals the norm of the memory rows is its reference's. -/
theorem normmem_value : Cert.algebraic_NormMemIdeal_NormMemRefIdeal := by
  intro m g m' g' _ hagree
  refine ⟨_, Cert.NormMemIdeal.Value.run_blocks (F := Ideal) m g,
    (θ_run Cert.NormMemRefIdeal.defs _ _).mono (fun r h c => ⟨(h c).1.trans ?_, (h c).2⟩) (Cert.NormMemRefIdeal.Value.run (F := Ideal) m' g')⟩
  rw [(hagree c).1, (hagree c).2, Cert.NormMemIdeal.Product.final m c]
  funext i
  rw [eq_ix2 i]
  exact Cert.NormMemRefIdeal.Product.result_at _ _ _ _

/-- Over the extended reals the norm of the low-rank query rows is its reference's. -/
theorem normq_value : Cert.algebraic_NormQIdeal_NormQRefIdeal := by
  intro m g m' g' _ hagree
  refine ⟨_, Cert.NormQIdeal.Value.run_blocks (F := Ideal) m g,
    (θ_run Cert.NormQRefIdeal.defs _ _).mono (fun r h c => ⟨(h c).1.trans ?_, (h c).2⟩) (Cert.NormQRefIdeal.Value.run (F := Ideal) m' g')⟩
  rw [(hagree c).1, (hagree c).2, Cert.NormQIdeal.Product.final m c]
  funext i
  rw [eq_ix2 i]
  exact Cert.NormQRefIdeal.Product.result_at _ _ _ _

/-- Over the extended reals the norm of the low-rank key and value rows is its reference's. -/
theorem normkv_value : Cert.algebraic_NormKvIdeal_NormKvRefIdeal := by
  intro m g m' g' _ hagree
  refine ⟨_, Cert.NormKvIdeal.Value.run_blocks (F := Ideal) m g,
    (θ_run Cert.NormKvRefIdeal.defs _ _).mono (fun r h c => ⟨(h c).1.trans ?_, (h c).2⟩) (Cert.NormKvRefIdeal.Value.run (F := Ideal) m' g')⟩
  rw [(hagree c).1, (hagree c).2, Cert.NormKvIdeal.Product.final m c]
  funext i
  rw [eq_ix2 i]
  exact Cert.NormKvRefIdeal.Product.result_at _ _ _ _

/-- Over the extended reals the cross-attention of the heads is its reference's. -/
theorem crosscore_value : Cert.algebraic_CrossCoreIdeal_CrossCoreRefIdeal := by
  intro m g m' g' _ hagree
  refine ⟨_, Cert.CrossCoreIdeal.Value.run_blocks (F := Ideal) m g,
    (θ_run Cert.CrossCoreRefIdeal.defs _ _).mono (fun r h c => ⟨(h c).1.trans ?_, (h c).2⟩) (Cert.CrossCoreRefIdeal.Value.run (F := Ideal) m' g')⟩
  rw [Cert.CrossCoreRefIdeal.Product.result_eq, (hagree c).1, (hagree c).2.1, (hagree c).2.2.1, (hagree c).2.2.2, Cert.CrossCoreIdeal.Product.final m c]
  funext i
  rw [eq_ix2 i]
  exact Cert.CrossCoreRefIdeal.Product.result_at _ _ _ _ _ _

end

end Cert.Proof

end
-- ==== Proof.lean ====
/- Twenty-one calls of the layer: each kernel runs and leaves its arguments as they were, and its result, over the extended reals, is the
   reference's. -/
module

public import proofs.«01_k».proof.Defs
public import proofs.«01_k».proof.Proof.Gen.Kernel.Frame
public import proofs.«01_k».proof.Proof.Gen.GateUp.Frame
public import proofs.«01_k».proof.Proof.Gen.Down.Frame
public import proofs.«01_k».proof.Proof.Gen.Qkv.Frame
public import proofs.«01_k».proof.Proof.Array
public import proofs.«01_k».proof.Proof.Ref
public import proofs.«01_k».proof.Proof.Pre
public import proofs.«01_k».proof.Proof.GateUpArray
public import proofs.«01_k».proof.Proof.GateUpRef
public import proofs.«01_k».proof.Proof.DownArray
public import proofs.«01_k».proof.Proof.DownRef
public import proofs.«01_k».proof.Proof.QkvArray
public import proofs.«01_k».proof.Proof.QkvRef
public import proofs.«01_k».proof.Proof.MoeUpClaims
public import proofs.«01_k».proof.Proof.MoeDownClaims
public import proofs.«01_k».proof.Proof.CombineClaims
public import proofs.«01_k».proof.Proof.ProductClaims
public import Idealize.ShloMosaic.Lib.Quiescent

@[expose] public section

noncomputable section

namespace Cert.Proof

open Idealize.ShloMosaic Idealize.ShloMosaic.TcCoe Idealize.SL.Sem

section
attribute [local instance] Cert.Kernel.Gen.facts Cert.KernelIdeal.Gen.facts Cert.ReferenceIdeal.Gen.facts Cert.Pre_finite_qk.facts
  Cert.GateUp.Gen.facts Cert.GateUpIdeal.Gen.facts Cert.GateUpRefIdeal.Gen.facts
  Cert.Down.Gen.facts Cert.DownIdeal.Gen.facts Cert.DownRefIdeal.Gen.facts
  Cert.Qkv.Gen.facts Cert.QkvIdeal.Gen.facts Cert.QkvRefIdeal.Gen.facts

/-! Each reference leaves its arguments as they were. -/

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem gateup_reference_frame : Cert.quiescent_GateUpRefIdeal := fun m g _ =>
  (θ_run Cert.GateUpRefIdeal.defs _ _).mono (fun r h => ⟨fun c => (h c).2, sem_eq_zero_of_no_sems (by decide) r.2⟩)
    (Cert.GateUpRefIdeal.Value.run (F := Ideal) m g)

theorem down_reference_frame : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

theorem qkv_reference_frame : Cert.quiescent_QkvRefIdeal := fun m g _ =>
  (θ_run Cert.QkvRefIdeal.defs _ _).mono (fun r h => ⟨fun c => (h c).2, sem_eq_zero_of_no_sems (by decide) r.2⟩)
    (Cert.QkvRefIdeal.Value.run (F := Ideal) m g)

/-- Over the extended reals the stick-breaking kernel's result is its reference's. -/
theorem stick_value : Cert.algebraic_KernelIdeal_ReferenceIdeal_pre_finite_qk := by
  intro m g m' g' hpre hagree
  have hX : ∀ (c : Dev Cert.KernelIdeal.nD) (r : Fin 8192) (k : Fin 12288), k.val < 8192 →
      ∃ a : ℝ, Cert.KernelIdeal.Array.packed m c (ix2 r k) = (a : EReal) :=
    fun c r k hk => Cert.Pre_finite_qk.real_of_fn _ (hpre c) r k hk
  refine ⟨_, Cert.KernelIdeal.Value.run_blocks (F := Ideal) m g,
    (θ_run Cert.ReferenceIdeal.defs _ _).mono (fun r h c => ⟨(h c).1.trans ?_, (h c).2⟩) (Cert.ReferenceIdeal.Value.run (F := Ideal) m' g')⟩
  rw [Cert.ReferenceIdeal.Stick.result_eq, hagree c, Cert.KernelIdeal.Array.final m c (hX c)]
  funext i
  rw [eq_ix2 i]
  exact Cert.ReferenceIdeal.Stick.result_at _ (hX c) _ _

/-- Over the extended reals the gate and up kernel's result is its reference's. -/
theorem gateup_value : Cert.algebraic_GateUpIdeal_GateUpRefIdeal := by
  intro m g m' g' _ hagree
  refine ⟨_, Cert.GateUpIdeal.Value.run_blocks (F := Ideal) m g,
    (θ_run Cert.GateUpRefIdeal.defs _ _).mono (fun r h c => ⟨(h c).1.trans ?_, (h c).2⟩) (Cert.GateUpRefIdeal.Value.run (F := Ideal) m' g')⟩
  rw [(hagree c).1, (hagree c).2.1, (hagree c).2.2, Cert.GateUpIdeal.Gated.final m c]
  funext i
  rw [eq_ix2 i]
  exact Cert.GateUpRefIdeal.Gated.result_at _ _ _ _ _

/-- Over the extended reals the down projection's result is its reference's. -/
theorem down_value : Cert.algebraic_DownIdeal_DownRefIdeal := by
  intro m g m' g' _ hagree
  refine ⟨_, Cert.DownIdeal.Value.run_blocks (F := Ideal) m g,
    (θ_run Cert.DownRefIdeal.defs _ _).mono (fun r h c => ⟨(h c).1.trans ?_, (h c).2⟩) (Cert.DownRefIdeal.Value.run (F := Ideal) m' g')⟩
  rw [(hagree c).1, (hagree c).2.1, (hagree c).2.2, Cert.DownIdeal.Array.final m c]
  funext i
  rw [eq_ix2 i]
  exact Cert.DownRefIdeal.Product.result_at _ _ _ _ _

/-- Over the extended reals the packed projection's result is its reference's. -/
theorem qkv_value : Cert.algebraic_QkvIdeal_QkvRefIdeal := by
  intro m g m' g' _ hagree
  refine ⟨_, Cert.QkvIdeal.Value.run_blocks (F := Ideal) m g,
    (θ_run Cert.QkvRefIdeal.defs _ _).mono (fun r h c => ⟨(h c).1.trans ?_, (h c).2⟩) (Cert.QkvRefIdeal.Value.run (F := Ideal) m' g')⟩
  rw [(hagree c).1, (hagree c).2, Cert.QkvIdeal.Product.final m c]
  funext i
  rw [eq_ix2 i]
  exact Cert.QkvRefIdeal.Product.result_at _ _ _ _

end

theorem claim : Cert.Claim :=
  ⟨Cert.Kernel.Gen.facts, Cert.KernelIdeal.Gen.facts, Cert.ReferenceIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts,
    Cert.Qkv.Gen.facts, Cert.QkvIdeal.Gen.facts, Cert.QkvRefIdeal.Gen.facts,
    Cert.MoeUp.Gen.facts, Cert.MoeUpIdeal.Gen.facts, Cert.MoeUpRefIdeal.Gen.facts,
    Cert.MoeDown.Gen.facts, Cert.MoeDownIdeal.Gen.facts, Cert.MoeDownRefIdeal.Gen.facts,
    Cert.Combine.Gen.facts, Cert.CombineIdeal.Gen.facts, Cert.CombineRefIdeal.Gen.facts,
    Cert.InProj.Gen.facts, Cert.InProjIdeal.Gen.facts, Cert.InProjRefIdeal.Gen.facts,
    Cert.InProjKr.Gen.facts, Cert.InProjKrIdeal.Gen.facts, Cert.InProjKrRefIdeal.Gen.facts,
    Cert.QUp.Gen.facts, Cert.QUpIdeal.Gen.facts, Cert.QUpRefIdeal.Gen.facts,
    Cert.KvUp.Gen.facts, Cert.KvUpIdeal.Gen.facts, Cert.KvUpRefIdeal.Gen.facts,
    Cert.MemKv.Gen.facts, Cert.MemKvIdeal.Gen.facts, Cert.MemKvRefIdeal.Gen.facts,
    Cert.CrossQ.Gen.facts, Cert.CrossQIdeal.Gen.facts, Cert.CrossQRefIdeal.Gen.facts,
    Cert.CrossO.Gen.facts, Cert.CrossOIdeal.Gen.facts, Cert.CrossORefIdeal.Gen.facts,
    Cert.MixOdd.Gen.facts, Cert.MixOddIdeal.Gen.facts, Cert.MixOddRefIdeal.Gen.facts,
    Cert.MixEven.Gen.facts, Cert.MixEvenIdeal.Gen.facts, Cert.MixEvenRefIdeal.Gen.facts,
    Cert.Norm.Gen.facts, Cert.NormIdeal.Gen.facts, Cert.NormRefIdeal.Gen.facts,
    Cert.NormMem.Gen.facts, Cert.NormMemIdeal.Gen.facts, Cert.NormMemRefIdeal.Gen.facts,
    Cert.NormQ.Gen.facts, Cert.NormQIdeal.Gen.facts, Cert.NormQRefIdeal.Gen.facts,
    Cert.NormKv.Gen.facts, Cert.NormKvIdeal.Gen.facts, Cert.NormKvRefIdeal.Gen.facts,
    Cert.CrossCore.Gen.facts, Cert.CrossCoreIdeal.Gen.facts, Cert.CrossCoreRefIdeal.Gen.facts,
    Cert.Pre_finite_qk.facts, Cert.Tables.up_facts, Cert.Tables.down_facts, Cert.Positions.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.GateUp.Gen.frame m g, fun m g _ => Cert.GateUpIdeal.Gen.frame m g, gateup_reference_frame,
    fun m g _ => Cert.Down.Gen.frame m g, fun m g _ => Cert.DownIdeal.Gen.frame m g, down_reference_frame,
    fun m g _ => Cert.Qkv.Gen.frame m g, fun m g _ => Cert.QkvIdeal.Gen.frame m g, qkv_reference_frame,
    moeup_frame, moeup_ideal_frame, moeup_reference_frame, moeup_reference_frame_pre,
    moedown_frame, moedown_ideal_frame, moedown_reference_frame, moedown_reference_frame_pre,
    combine_frame, combine_ideal_frame, combine_reference_frame, combine_reference_frame_pre,
    fun m g _ => Cert.InProj.Gen.frame m g, fun m g _ => Cert.InProjIdeal.Gen.frame m g, inproj_reference_frame,
    fun m g _ => Cert.InProjKr.Gen.frame m g, fun m g _ => Cert.InProjKrIdeal.Gen.frame m g, inprojkr_reference_frame,
    fun m g _ => Cert.QUp.Gen.frame m g, fun m g _ => Cert.QUpIdeal.Gen.frame m g, qup_reference_frame,
    fun m g _ => Cert.KvUp.Gen.frame m g, fun m g _ => Cert.KvUpIdeal.Gen.frame m g, kvup_reference_frame,
    fun m g _ => Cert.MemKv.Gen.frame m g, fun m g _ => Cert.MemKvIdeal.Gen.frame m g, memkv_reference_frame,
    fun m g _ => Cert.CrossQ.Gen.frame m g, fun m g _ => Cert.CrossQIdeal.Gen.frame m g, crossq_reference_frame,
    fun m g _ => Cert.CrossO.Gen.frame m g, fun m g _ => Cert.CrossOIdeal.Gen.frame m g, crosso_reference_frame,
    fun m g _ => Cert.MixOdd.Gen.frame m g, fun m g _ => Cert.MixOddIdeal.Gen.frame m g, mixodd_reference_frame,
    fun m g _ => Cert.MixEven.Gen.frame m g, fun m g _ => Cert.MixEvenIdeal.Gen.frame m g, mixeven_reference_frame,
    fun m g _ => Cert.Norm.Gen.frame m g, fun m g _ => Cert.NormIdeal.Gen.frame m g, norm_reference_frame,
    fun m g _ => Cert.NormMem.Gen.frame m g, fun m g _ => Cert.NormMemIdeal.Gen.frame m g, normmem_reference_frame,
    fun m g _ => Cert.NormQ.Gen.frame m g, fun m g _ => Cert.NormQIdeal.Gen.frame m g, normq_reference_frame,
    fun m g _ => Cert.NormKv.Gen.frame m g, fun m g _ => Cert.NormKvIdeal.Gen.frame m g, normkv_reference_frame,
    fun m g _ => Cert.CrossCore.Gen.frame m g, fun m g _ => Cert.CrossCoreIdeal.Gen.frame m g, crosscore_reference_frame,
    trivial, stick_value, trivial, gateup_value, trivial, down_value, trivial, qkv_value, trivial, moeup_value, trivial, moedown_value,
    trivial, combine_value,
    trivial, inproj_value, trivial, inprojkr_value, trivial, qup_value, trivial, kvup_value, trivial, memkv_value,
    trivial, crossq_value, trivial, crosso_value, trivial, mixodd_value, trivial, mixeven_value, trivial, norm_value,
    trivial, normmem_value, trivial, normq_value, trivial, normkv_value, trivial, crosscore_value⟩

end Cert.Proof

end
